-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v22_5)) (v6 : (c : Dev Cert.KernelIdeal.nD) → Buf (Elt Ideal) ((c.tc : Thread Cert.KernelIdeal.nD Cert.KernelIdeal.τ).loc Cert.KernelIdeal.main_v22_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v22_5) = v5 c
          ∧ r.2.mem ((c.tc : Thread Cert.KernelIdeal.nD Cert.KernelIdeal.τ).loc Cert.KernelIdeal.main_v22_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_v50) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_v28) = v3 c
          ∧ r.2.mem ((c.tc : Thread Cert.Reference6Ideal.nD Cert.Reference6Ideal.τ).loc Cert.Reference6Ideal.main_v29) = v4 c
          ∧ r.2.mem ((c.tc : Thread Cert.Reference6Ideal.nD Cert.Reference6Ideal.τ).loc Cert.Reference6Ideal.main_v30) = v5 c
          ∧ r.2.mem ((c.tc : Thread Cert.Reference6Ideal.nD Cert.Reference6Ideal.τ).loc Cert.Reference6Ideal.main_v31) = v6 c
          ∧ r.2.mem ((c.tc : Thread Cert.Reference6Ideal.nD Cert.Reference6Ideal.τ).loc Cert.Reference6Ideal.main_v21) = v7 c
          ∧ r.2.mem ((c.tc : Thread Cert.Reference6Ideal.nD Cert.Reference6Ideal.τ).loc Cert.Reference6Ideal.main_v22) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v65) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_v67) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v77) = v0 c
          ∧ r.2.mem ((c.tc : Thread Cert.Reference12Ideal.nD Cert.Reference12Ideal.τ).loc Cert.Reference12Ideal.main_v96) = v1 c
          ∧ r.2.mem ((c.tc : Thread Cert.Reference12Ideal.nD Cert.Reference12Ideal.τ).loc Cert.Reference12Ideal.main_v97) = v2 c
          ∧ r.2.mem ((c.tc : Thread Cert.Reference12Ideal.nD Cert.Reference12Ideal.τ).loc Cert.Reference12Ideal.main_v98) = v3 c
          ∧ r.2.mem ((c.tc : Thread Cert.Reference12Ideal.nD Cert.Reference12Ideal.τ).loc Cert.Reference12Ideal.main_v99) = v4 c
          ∧ r.2.mem ((c.tc : Thread Cert.Reference12Ideal.nD Cert.Reference12Ideal.τ).loc Cert.Reference12Ideal.main_v100) = v5 c
          ∧ r.2.mem ((c.tc : Thread Cert.Reference12Ideal.nD Cert.Reference12Ideal.τ).loc Cert.Reference12Ideal.main_v61) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_v47) = v1 c
          ∧ r.2.mem ((c.tc : Thread Cert.Reference13Ideal.nD Cert.Reference13Ideal.τ).loc Cert.Reference13Ideal.main_v48) = v2 c
          ∧ r.2.mem ((c.tc : Thread Cert.Reference13Ideal.nD Cert.Reference13Ideal.τ).loc Cert.Reference13Ideal.main_v49) = v3 c
          ∧ r.2.mem ((c.tc : Thread Cert.Reference13Ideal.nD Cert.Reference13Ideal.τ).loc Cert.Reference13Ideal.main_v50) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel7 : Cert.Kernel7.Facts) (hKernel7Ideal : Cert.Kernel7Ideal.Facts) (hReference7Ideal : Cert.Reference7Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel7_Kernel7Ideal
    ∧ algebraic_Kernel7Ideal_Reference7Ideal (hKernel7Ideal := hKernel7Ideal) (hReference7Ideal := hReference7Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S2816x1024 .f32) (main_cst_4 : FVec F S_ .f32) : IVec S_ 1 :=
  let main_v17 : FVec F S2816x1024 .f32 := broadcastInDim S2816x1024 ![] bcast_S_S2816x1024 main_cst_4
  let main_v18 : IVec S2816x1024 1 := cmpf .olt main_v16 main_v17
  let main_c_5 : IVec S_ 1 := constantI S_ 1 1#1
  let main_v19 : IVec S_ 1 := (fun x v => Host.reduce IntOp.andi x v reducesTo_S2816x1024_S_d0_1 h_S_) main_v18 main_c_5
  let main_v20 : IVec S_ 1 := andi main_v14 main_v19
  main_v20

def fn {F : FTy → Type} [FloatOps F] (main_arg0 : FVec F S8192x1024 .f32) (main_arg1 : FVec F S8192x1024 .f32) (main_arg2 : FVec F S1x1024 .f32) (main_arg3 : FVec F S2816x1024 .bf16) (main_arg4 : FVec F S2816x1024 .bf16) (main_arg5 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2816x1024 .f32 := (extf .f32 · bitsLt_bf16_f32) main_arg4
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S2816x1024 .f32 := (extf .f32 · bitsLt_bf16_f32) main_arg5
  let main_v16 : FVec F S2816x1024 .f32 := Host.absf main_v15
  let main_cst_4 : FVec F S_ .f32 := constant S_ .f32 0x7F800000#32
  fn_part1 (F := F) main_v14 main_v16 main_cst_4
-- ==== Kernel.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩
abbrev S512x512 : Shape := ⟨2, ![512, 512]⟩

abbrev nBuf : Space → Nat
  | .hbm => 41
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x512, .bf16⟩
  | .hbm, ⟨35, _⟩ => ⟨S8192x512, .bf16⟩
  | .hbm, ⟨36, _⟩ => ⟨S8192x1024, .bf16⟩
  | .hbm, ⟨37, _⟩ => ⟨S8192x1024, .bf16⟩
  | .hbm, ⟨38, _⟩ => ⟨S1024x1024, .bf16⟩
  | .hbm, ⟨39, _⟩ => ⟨S512x1024, .bf16⟩
  | .hbm, ⟨40, _⟩ => ⟨S512x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v65 : BitVec 1 := Scalar.cmpi .eq arg0 c15_i32
  let v66 : BitVec 32 := Scalar.extui v65
  let c0_i32_55 : BitVec 32 := 0#32
  let v67 : BitVec 1 := Scalar.cmpi .ne v66 c0_i32_55
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x512, .f32⟩
  | .hbm, ⟨49, _⟩ => ⟨S512x1024, .f32⟩
  | .hbm, ⟨50, _⟩ => ⟨S8192x512, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1024x512, .f32⟩
  | .hbm, ⟨55, _⟩ => ⟨S512x1024, .f32⟩
  | .hbm, ⟨56, _⟩ => ⟨S8192x512, .f32⟩
  | .hbm, ⟨57, _⟩ => ⟨S8192x1024, .f32⟩
  | .hbm, ⟨58, _⟩ => ⟨S8192x512, .bf16⟩
  | .hbm, ⟨59, _⟩ => ⟨S8192x512, .bf16⟩
  | .hbm, ⟨60, _⟩ => ⟨S8192x1024, .bf16⟩
  | .hbm, ⟨61, _⟩ => ⟨S8192x1024, .bf16⟩
  | .hbm, ⟨62, _⟩ => ⟨S1024x1024, .bf16⟩
  | .hbm, ⟨63, _⟩ => ⟨S512x1024, .bf16⟩
  | .hbm, ⟨64, _⟩ => ⟨S512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Kernel2.lean ====
abbrev S11x8192x256 : Shape := ⟨3, ![11, 8192, 256]⟩
abbrev S8192x1024 : Shape := ⟨2, ![8192, 1024]⟩
abbrev S2816x1024 : Shape := ⟨2, ![2816, 1024]⟩
abbrev S11x512x256 : Shape := ⟨3, ![11, 512, 256]⟩
abbrev S512x1024 : Shape := ⟨2, ![512, 1024]⟩
abbrev S256x1024 : Shape := ⟨2, ![256, 1024]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S11x8192x256, .bf16⟩
  | .hbm, ⟨1, _⟩ => ⟨S8192x1024, .bf16⟩
  | .hbm, ⟨2, _⟩ => ⟨S2816x1024, .bf16⟩
  | .local _ .vmem, ⟨0, _⟩ => ⟨S11x512x256, .bf16⟩
  | .local _ .vmem, ⟨1, _⟩ => ⟨S11x512x256, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S11x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v92 : BitVec 1 := Scalar.cmpi .eq arg0 c15_i32
  let v93 : BitVec 32 := Scalar.extui v92
  let c0_i32_69 : BitVec 32 := 0#32
  let v94 : BitVec 1 := Scalar.cmpi .ne v93 c0_i32_69
  v94

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S11x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S11x8192x256 : Shape := ⟨3, ![11, 8192, 256]⟩
abbrev S8192x1024 : Shape := ⟨2, ![8192, 1024]⟩
abbrev S8192x11x256 : Shape := ⟨3, ![8192, 11, 256]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S11x8192x256, .bf16⟩
  | .hbm, ⟨1, _⟩ => ⟨S8192x1024, .bf16⟩
  | .hbm, ⟨2, _⟩ => ⟨S11x8192x256, .f32⟩
  | .hbm, ⟨3, _⟩ => ⟨S8192x1024, .f32⟩
  | .hbm, ⟨4, _⟩ => ⟨S8192x11x256, .f32⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | _, _ => ⟨S11x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x544x1024 : Shape := ⟨3, ![8, 544, 1024]⟩
abbrev S544x1024 : Shape := ⟨2, ![544, 1024]⟩
abbrev S8x272x1024 : Shape := ⟨3, ![8, 272, 1024]⟩
abbrev S272x1024 : Shape := ⟨2, ![272, 1024]⟩
abbrev S1x272x1024 : Shape := ⟨3, ![1, 272, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x544x1024, .bf16⟩
  | .hbm, ⟨1, _⟩ => ⟨S544x1024, .f32⟩
  | .hbm, ⟨2, _⟩ => ⟨S544x1024, .f32⟩
  | .hbm, ⟨3, _⟩ => ⟨S544x1024, .f32⟩
  | .hbm, ⟨4, _⟩ => ⟨S544x1024, .f32⟩
  | .hbm, ⟨5, _⟩ => ⟨S544x1024, .f32⟩
  | .hbm, ⟨6, _⟩ => ⟨S544x1024, .f32⟩
  | .hbm, ⟨7, _⟩ => ⟨S544x1024, .f32⟩
  | .local _ .vmem, ⟨0, _⟩ => ⟨S8x272x1024, .bf16⟩
  | .local _ .vmem, ⟨1, _⟩ => ⟨S8x272x1024, .bf16⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | _, _ => ⟨S8x544x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S8x544x1024 : Shape := ⟨3, ![8, 544, 1024]⟩
abbrev S544x1024 : Shape := ⟨2, ![544, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x544x1024, .bf16⟩
  | .hbm, ⟨1, _⟩ => ⟨S544x1024, .f32⟩
  | .hbm, ⟨2, _⟩ => ⟨S544x1024, .f32⟩
  | .hbm, ⟨3, _⟩ => ⟨S544x1024, .f32⟩
  | .hbm, ⟨4, _⟩ => ⟨S8x544x1024, .f32⟩
  | .hbm, ⟨5, _⟩ => ⟨S_, .f32⟩
  | .hbm, ⟨6, _⟩ => ⟨S544x1024, .f32⟩
  | .hbm, ⟨7, _⟩ => ⟨S_, .f32⟩
  | .hbm, ⟨8, _⟩ => ⟨S544x1024, .f32⟩
  | .hbm, ⟨9, _⟩ => ⟨S544x1024, .f32⟩
  | .hbm, ⟨10, _⟩ => ⟨S_, .f32⟩
  | .hbm, ⟨11, _⟩ => ⟨S544x1024, .f32⟩
  | .hbm, ⟨12, _⟩ => ⟨S544x1024, .f32⟩
  | .hbm, ⟨13, _⟩ => ⟨S544x1024, .f32⟩
  | .hbm, ⟨14, _⟩ => ⟨S_, .f32⟩
  | .hbm, ⟨15, _⟩ => ⟨S544x1024, .f32⟩
  | .hbm, ⟨16, _⟩ => ⟨S544x1024, .f32⟩
  | .hbm, ⟨17, _⟩ => ⟨S544x1024, .f32⟩
  | .hbm, ⟨18, _⟩ => ⟨S_, .f32⟩
  | .hbm, ⟨19, _⟩ => ⟨S544x1024, .f32⟩
  | .hbm, ⟨20, _⟩ => ⟨S544x1024, .f32⟩
  | .hbm, ⟨21, _⟩ => ⟨S544x1024, .f32⟩
  | .hbm, ⟨22, _⟩ => ⟨S_, .f32⟩
  | .hbm, ⟨23, _⟩ => ⟨S544x1024, .f32⟩
  | .hbm, ⟨24, _⟩ => ⟨S544x1024, .f32⟩
  | .hbm, ⟨25, _⟩ => ⟨S_, .f32⟩
  | .hbm, ⟨26, _⟩ => ⟨S544x1024, .f32⟩
  | .hbm, ⟨27, _⟩ => ⟨S544x1024, .f32⟩
  | .hbm, ⟨28, _⟩ => ⟨S544x1024, .f32⟩
  | .hbm, ⟨29, _⟩ => ⟨S_, .f32⟩
  | .hbm, ⟨30, _⟩ => ⟨S544x1024, .f32⟩
  | .hbm, ⟨31, _⟩ => ⟨S544x1024, .f32⟩
  | .hbm, ⟨32, _⟩ => ⟨S544x1024, .f32⟩
  | .hbm, ⟨33, _⟩ => ⟨S_, .f32⟩
  | .hbm, ⟨34, _⟩ => ⟨S544x1024, .f32⟩
  | .hbm, ⟨35, _⟩ => ⟨S544x1024, .f32⟩
  | .hbm, ⟨36, _⟩ => ⟨S544x1024, .f32⟩
  | .hbm, ⟨37, _⟩ => ⟨S_, .f32⟩
  | .hbm, ⟨38, _⟩ => ⟨S544x1024, .f32⟩
  | .hbm, ⟨39, _⟩ => ⟨S544x1024, .f32⟩
  | _, _ => ⟨S8x544x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x64x1024, .bf16⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S8x64x1024, .bf16⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S8x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x64x1024 : Shape := ⟨3, ![8, 64, 1024]⟩
abbrev S64x1024 : Shape := ⟨2, ![64, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x1024, .bf16⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x64x1024, .f32⟩
  | .hbm, ⟨5, _⟩ => ⟨S_, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024, .f32⟩
  | .hbm, ⟨14, _⟩ => ⟨S_, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S_, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S_, .f32⟩
  | .hbm, ⟨30, _⟩ => ⟨S64x1024, .f32⟩
  | .hbm, ⟨31, _⟩ => ⟨S64x1024, .f32⟩
  | .hbm, ⟨32, _⟩ => ⟨S64x1024, .f32⟩
  | .hbm, ⟨33, _⟩ => ⟨S_, .f32⟩
  | .hbm, ⟨34, _⟩ => ⟨S64x1024, .f32⟩
  | .hbm, ⟨35, _⟩ => ⟨S64x1024, .f32⟩
  | .hbm, ⟨36, _⟩ => ⟨S64x1024, .f32⟩
  | .hbm, ⟨37, _⟩ => ⟨S_, .f32⟩
  | .hbm, ⟨38, _⟩ => ⟨S64x1024, .f32⟩
  | .hbm, ⟨39, _⟩ => ⟨S64x1024, .f32⟩
  | _, _ => ⟨S8x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x1024, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel4.lean ====
abbrev S8192x512 : Shape := ⟨2, ![8192, 512]⟩
abbrev S8192x128 : Shape := ⟨2, ![8192, 128]⟩
abbrev S8192x1024 : Shape := ⟨2, ![8192, 1024]⟩
abbrev S4352x1024 : Shape := ⟨2, ![4352, 1024]⟩
abbrev S256x512 : Shape := ⟨2, ![256, 512]⟩
abbrev S256x128 : Shape := ⟨2, ![256, 128]⟩
abbrev S256x1024 : Shape := ⟨2, ![256, 1024]⟩
abbrev S512x1024 : Shape := ⟨2, ![512, 1024]⟩
abbrev S128x1024 : Shape := ⟨2, ![128, 1024]⟩
abbrev S1024x1024 : Shape := ⟨2, ![1024, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S4352x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S4352x1024, .bf16⟩
  | .local _ .vmem, ⟨19, _⟩ => ⟨S4352x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_50 : BitVec 32 := 0#32
  let v62 : BitVec 1 := Scalar.cmpi .ne v61 c0_i32_50
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4352x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x512 : Shape := ⟨2, ![8192, 512]⟩
abbrev S8192x128 : Shape := ⟨2, ![8192, 128]⟩
abbrev S8192x1024 : Shape := ⟨2, ![8192, 1024]⟩
abbrev S_ : Shape := ⟨0, ![]⟩
abbrev S1024x4352 : Shape := ⟨2, ![1024, 4352]⟩
abbrev S8192x4352 : Shape := ⟨2, ![8192, 4352]⟩
abbrev S4352x1024 : Shape := ⟨2, ![4352, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x512, .f32⟩
  | .hbm, ⟨11, _⟩ => ⟨S8192x128, .f32⟩
  | .hbm, ⟨12, _⟩ => ⟨S8192x128, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S1024x4352, .f32⟩
  | .hbm, ⟨20, _⟩ => ⟨S8192x4352, .f32⟩
  | .hbm, ⟨21, _⟩ => ⟨S8192x512, .f32⟩
  | .hbm, ⟨22, _⟩ => ⟨S8192x128, .f32⟩
  | .hbm, ⟨23, _⟩ => ⟨S8192x128, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x1024, .f32⟩
  | .hbm, ⟨28, _⟩ => ⟨S8192x1024, .f32⟩
  | .hbm, ⟨29, _⟩ => ⟨S8192x4352, .f32⟩
  | .hbm, ⟨30, _⟩ => ⟨S4352x1024, .f32⟩
  | .hbm, ⟨31, _⟩ => ⟨S1024x4352, .f32⟩
  | .hbm, ⟨32, _⟩ => ⟨S4352x1024, .f32⟩
  | .hbm, ⟨33, _⟩ => ⟨S4352x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel5.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S4352x1024 : Shape := ⟨2, ![4352, 1024]⟩
abbrev S512x512 : Shape := ⟨2, ![512, 512]⟩
abbrev S512x128 : Shape := ⟨2, ![512, 128]⟩
abbrev S512x1024 : Shape := ⟨2, ![512, 1024]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S4352x1024, .bf16⟩
  | .hbm, ⟨12, _⟩ => ⟨S8192x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S4352x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4352x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference5Ideal.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S4352x1024 : Shape := ⟨2, ![4352, 1024]⟩
abbrev S_ : Shape := ⟨0, ![]⟩
abbrev S8192 : Shape := ⟨1, ![8192]⟩
abbrev S8192x1 : Shape := ⟨2, ![8192, 1]⟩
abbrev S1024x4352 : Shape := ⟨2, ![1024, 4352]⟩
abbrev S8192x4352 : Shape := ⟨2, ![8192, 4352]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S8192x128, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S4352x1024, .bf16⟩
  | .hbm, ⟨12, _⟩ => ⟨S4352x1024, .f32⟩
  | .hbm, ⟨13, _⟩ => ⟨S8192x512, .f32⟩
  | .hbm, ⟨14, _⟩ => ⟨S8192x128, .f32⟩
  | .hbm, ⟨15, _⟩ => ⟨S8192x128, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x4352, .f32⟩
  | .hbm, ⟨41, _⟩ => ⟨S8192x4352, .f32⟩
  | .hbm, ⟨42, _⟩ => ⟨S8192x512, .f32⟩
  | .hbm, ⟨43, _⟩ => ⟨S8192x128, .f32⟩
  | .hbm, ⟨44, _⟩ => ⟨S8192x128, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x1024, .f32⟩
  | .hbm, ⟨49, _⟩ => ⟨S8192x1024, .f32⟩
  | .hbm, ⟨50, _⟩ => ⟨S8192x4352, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4352x1024 : Shape := ⟨2, ![4352, 1024]⟩
abbrev S8192x512 : Shape := ⟨2, ![8192, 512]⟩
abbrev S8192x128 : Shape := ⟨2, ![8192, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩
abbrev S1024x1024 : Shape := ⟨2, ![1024, 1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4352x1024, .bf16⟩
  | .hbm, ⟨3, _⟩ => ⟨S8192x1024, .bf16⟩
  | .hbm, ⟨4, _⟩ => ⟨S8192x512, .bf16⟩
  | .hbm, ⟨5, _⟩ => ⟨S8192x128, .bf16⟩
  | .hbm, ⟨6, _⟩ => ⟨S8192x128, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1024, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S8192x1024 : Shape := ⟨2, ![8192, 1024]⟩
abbrev S1x1024 : Shape := ⟨2, ![1, 1024]⟩
abbrev S4352x1024 : Shape := ⟨2, ![4352, 1024]⟩
abbrev S_ : Shape := ⟨0, ![]⟩
abbrev S8192 : Shape := ⟨1, ![8192]⟩
abbrev S8192x1 : Shape := ⟨2, ![8192, 1]⟩
abbrev S1024x4352 : Shape := ⟨2, ![1024, 4352]⟩
abbrev S8192x4352 : Shape := ⟨2, ![8192, 4352]⟩
abbrev S8192x512 : Shape := ⟨2, ![8192, 512]⟩
abbrev S8192x128 : Shape := ⟨2, ![8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4352x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4352x1024, .f32⟩
  | .hbm, ⟨19, _⟩ => ⟨S1024x4352, .f32⟩
  | .hbm, ⟨20, _⟩ => ⟨S8192x4352, .f32⟩
  | .hbm, ⟨21, _⟩ => ⟨S8192x512, .f32⟩
  | .hbm, ⟨22, _⟩ => ⟨S8192x128, .f32⟩
  | .hbm, ⟨23, _⟩ => ⟨S8192x128, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x1024, .bf16⟩
  | .hbm, ⟨33, _⟩ => ⟨S8192x512, .bf16⟩
  | .hbm, ⟨34, _⟩ => ⟨S8192x128, .bf16⟩
  | .hbm, ⟨35, _⟩ => ⟨S8192x128, .bf16⟩
  | .hbm, ⟨36, _⟩ => ⟨S8192x512, .bf16⟩
  | .hbm, ⟨37, _⟩ => ⟨S8192x512, .bf16⟩
  | .hbm, ⟨38, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x11x256 : Shape := ⟨3, ![8192, 11, 256]⟩
abbrev S11x8192x256 : Shape := ⟨3, ![11, 8192, 256]⟩
abbrev S1024x1024 : Shape := ⟨2, ![1024, 1024]⟩
abbrev S1x1024x256 : Shape := ⟨3, ![1, 1024, 256]⟩
abbrev S256x1024 : Shape := ⟨2, ![256, 1024]⟩
abbrev S512x1024 : Shape := ⟨2, ![512, 1024]⟩
abbrev S512x256 : Shape := ⟨2, ![512, 256]⟩
abbrev S1x512x256 : Shape := ⟨3, ![1, 512, 256]⟩
abbrev S1024 : Shape := ⟨1, ![1024]⟩
abbrev S1024x1 : Shape := ⟨2, ![1024, 1]⟩

abbrev nBuf : Space → Nat
  | .hbm => 38
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S1024x2816, .bf16⟩
  | .hbm, ⟨7, _⟩ => ⟨S1024x2816, .bf16⟩
  | .hbm, ⟨8, _⟩ => ⟨S1024x2816, .f32⟩
  | .hbm, ⟨9, _⟩ => ⟨S1024x2816, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .bf16⟩
  | .hbm, ⟨28, _⟩ => ⟨S8192x2816, .bf16⟩
  | .hbm, ⟨29, _⟩ => ⟨S8192x11x256, .bf16⟩
  | .hbm, ⟨30, _⟩ => ⟨S11x8192x256, .bf16⟩
  | .hbm, ⟨31, _⟩ => ⟨S8192x11x256, .bf16⟩
  | .hbm, ⟨32, _⟩ => ⟨S11x8192x256, .bf16⟩
  | .hbm, ⟨33, _⟩ => ⟨S8192x1024, .f32⟩
  | .hbm, ⟨34, _⟩ => ⟨S1x1024, .f32⟩
  | .hbm, ⟨35, _⟩ => ⟨S11x8192x256, .bf16⟩
  | .hbm, ⟨36, _⟩ => ⟨S11x8192x256, .bf16⟩
  | .hbm, ⟨37, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg1 : BitVec 32 := BitVec.ofNat 32 (i 1).val
  let c10_i32 : BitVec 32 := 10#32
  let v80 : BitVec 1 := Scalar.cmpi .eq arg1 c10_i32
  let v81 : BitVec 32 := Scalar.extui v80
  let c0_i32_57 : BitVec 32 := 0#32
  let v82 : BitVec 1 := Scalar.cmpi .ne v81 c0_i32_57
  v82

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192x2816 : Shape := ⟨2, ![8192, 2816]⟩
abbrev S1024x2816 : Shape := ⟨2, ![1024, 2816]⟩
abbrev S8192 : Shape := ⟨1, ![8192]⟩
abbrev S8192x1 : Shape := ⟨2, ![8192, 1]⟩
abbrev S1024 : Shape := ⟨1, ![1024]⟩
abbrev S8192x11x256 : Shape := ⟨3, ![8192, 11, 256]⟩
abbrev S11x8192x256 : Shape := ⟨3, ![11, 8192, 256]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S_, .f32⟩
  | .hbm, ⟨10, _⟩ => ⟨S8192x2816, .f32⟩
  | .hbm, ⟨11, _⟩ => ⟨S1024x2816, .f32⟩
  | .hbm, ⟨12, _⟩ => ⟨S1024x2816, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x11x256, .f32⟩
  | .hbm, ⟨94, _⟩ => ⟨S11x8192x256, .f32⟩
  | .hbm, ⟨95, _⟩ => ⟨S8192x11x256, .f32⟩
  | .hbm, ⟨96, _⟩ => ⟨S11x8192x256, .f32⟩
  | .hbm, ⟨97, _⟩ => ⟨S11x8192x256, .bf16⟩
  | .hbm, ⟨98, _⟩ => ⟨S11x8192x256, .bf16⟩
  | .hbm, ⟨99, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S2816x1024 : Shape := ⟨2, ![2816, 1024]⟩
abbrev S11x8192x256 : Shape := ⟨3, ![11, 8192, 256]⟩
abbrev S1x1 : Shape := ⟨2, ![1, 1]⟩
abbrev S1024x1024 : Shape := ⟨2, ![1024, 1024]⟩
abbrev S256x1024 : Shape := ⟨2, ![256, 1024]⟩
abbrev S1x1024x256 : Shape := ⟨3, ![1, 1024, 256]⟩
abbrev S1024 : Shape := ⟨1, ![1024]⟩
abbrev S1024x1 : Shape := ⟨2, ![1024, 1]⟩
abbrev S512x1024 : Shape := ⟨2, ![512, 1024]⟩
abbrev S512x256 : Shape := ⟨2, ![512, 256]⟩
abbrev S1x512x256 : Shape := ⟨3, ![1, 512, 256]⟩
abbrev S1 : Shape := ⟨1, ![1]⟩

abbrev nBuf : Space → Nat
  | .hbm => 14
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S11x8192x256, .bf16⟩
  | .hbm, ⟨10, _⟩ => ⟨S11x8192x256, .bf16⟩
  | .hbm, ⟨11, _⟩ => ⟨S11x8192x256, .bf16⟩
  | .hbm, ⟨12, _⟩ => ⟨S1x1, .f32⟩
  | .hbm, ⟨13, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x256, .bf16⟩
  | .local _ .vmem, ⟨22, _⟩ => ⟨S1x1, .f32⟩
  | .local _ .vmem, ⟨23, _⟩ => ⟨S1x1024, .f32⟩
  | .local _ .vmem, ⟨24, _⟩ => ⟨S1024x1024, .f32⟩
  | .local _ .vmem, ⟨25, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg1 : BitVec 32 := BitVec.ofNat 32 (i 1).val
  let c10_i32 : BitVec 32 := 10#32
  let v66 : BitVec 1 := Scalar.cmpi .eq arg1 c10_i32
  let v67 : BitVec 32 := Scalar.extui v66
  let c0_i32_51 : BitVec 32 := 0#32
  let v68 : BitVec 1 := Scalar.cmpi .ne v67 c0_i32_51
  v68

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_48 : BitVec 32 := 0#32
  let v61 : BitVec 1 := Scalar.cmpi .eq arg0 c0_i32_48
  let arg1 : BitVec 32 := BitVec.ofNat 32 (i 1).val
  let c0_i32_49 : BitVec 32 := 0#32
  let v62 : BitVec 1 := Scalar.cmpi .eq arg1 c0_i32_49
  let v63 : BitVec 1 := Scalar.andi v61 v62
  let v64 : BitVec 32 := Scalar.extui v63
  let c0_i32_50 : BitVec 32 := 0#32
  let v65 : BitVec 1 := Scalar.cmpi .ne v64 c0_i32_50
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference12Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S8192x11x256 : Shape := ⟨3, ![8192, 11, 256]⟩
abbrev S11x8192x256 : Shape := ⟨3, ![11, 8192, 256]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S1x1024, .f32⟩
  | 2 => ⟨S2816x1024, .bf16⟩
  | 3 => ⟨S2816x1024, .bf16⟩
  | 4 => ⟨S2816x1024, .bf16⟩
  | 5 => ⟨S8192x1024, .f32⟩
  | 6 => ⟨S1x1024, .f32⟩
  | 7 => ⟨S1024x2816, .bf16⟩
  | 8 => ⟨S1024x2816, .bf16⟩
  | 9 => ⟨S1024x2816, .f32⟩
  | 10 => ⟨S1024x2816, .f32⟩
  | 11 => ⟨S2816x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x2816, .f32⟩
  | 28 => ⟨S8192x2816, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S8192x2816, .f32⟩
  | 51 => ⟨S8192x2816, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192, .f32⟩
  | 83 => ⟨S_, .f32⟩
  | 84 => ⟨S8192, .f32⟩
  | 85 => ⟨S8192, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8192, .f32⟩
  | 94 => ⟨S_, .f32⟩
  | 95 => ⟨S8192, .f32⟩
  | 96 => ⟨S8192, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S8192x1024, .f32⟩
  | 104 => ⟨S8192x1024, .f32⟩
  | 105 => ⟨S8192x1024, .f32⟩
  | 106 => ⟨S_, .f32⟩
  | 107 => ⟨S8192, .f32⟩
  | 108 => ⟨S8192x1, .f32⟩
  | 109 => ⟨S8192x1024, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1024, .f32⟩
  | 6 => ⟨S8192x1024, .f32⟩
  | 7 => ⟨S8192x1024, .f32⟩
  | 8 => ⟨S8192x1024, .f32⟩
  | 9 => ⟨S8192x11x256, .f32⟩
  | 10 => ⟨S11x8192x256, .f32⟩
  | 11 => ⟨S8192x11x256, .f32⟩
  | 12 => ⟨S11x8192x256, .f32⟩
  | 13 => ⟨S8192x11x256, .f32⟩
  | 14 => ⟨S11x8192x256, .f32⟩
  | 15 => ⟨S8192x1024, .bf16⟩
  | 16 => ⟨S11x8192x256, .bf16⟩
  | 17 => ⟨S11x8192x256, .bf16⟩
  | 18 => ⟨S11x8192x256, .bf16⟩
  | 19 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_8 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_cst_11 : Ref sig .tc := ⟨.hbm, 86, rfl⟩
abbrev main_v51 : Ref sig .tc := ⟨.hbm, 87, rfl⟩
abbrev main_cst_12 : Ref sig .tc := ⟨.hbm, 88, rfl⟩
abbrev main_v52 : Ref sig .tc := ⟨.hbm, 89, rfl⟩
abbrev main_cst_13 : Ref sig .tc := ⟨.hbm, 90, rfl⟩
abbrev main_cst_14 : Ref sig .tc := ⟨.hbm, 91, rfl⟩
abbrev main_v53 : Ref sig .tc := ⟨.hbm, 92, rfl⟩
abbrev main_v54 : Ref sig .tc := ⟨.hbm, 93, rfl⟩
abbrev main_cst_15 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_16 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_17 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_v71 : Ref sig .tc := ⟨.hbm, 114, rfl⟩
abbrev main_cst_19 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_20 : Ref sig .tc := ⟨.hbm, 123, rfl⟩
abbrev main_v79 : Ref sig .tc := ⟨.hbm, 124, rfl⟩
abbrev main_v80 : Ref sig .tc := ⟨.hbm, 125, rfl⟩
abbrev main_cst_21 : Ref sig .tc := ⟨.hbm, 126, rfl⟩
abbrev main_v81 : Ref sig .tc := ⟨.hbm, 127, rfl⟩
abbrev main_v82 : Ref sig .tc := ⟨.hbm, 128, rfl⟩
abbrev main_cst_22 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S2816x1024 : Shape := ⟨2, ![2816, 1024]⟩
abbrev S11x8192x256 : Shape := ⟨3, ![11, 8192, 256]⟩
abbrev S1024x1024 : Shape := ⟨2, ![1024, 1024]⟩
abbrev S256x1024 : Shape := ⟨2, ![256, 1024]⟩
abbrev S1x1024x256 : Shape := ⟨3, ![1, 1024, 256]⟩
abbrev S1024 : Shape := ⟨1, ![1024]⟩
abbrev S1024x1 : Shape := ⟨2, ![1024, 1]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 10
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S11x8192x256, .bf16⟩
  | .hbm, ⟨8, _⟩ => ⟨S11x8192x256, .bf16⟩
  | .hbm, ⟨9, _⟩ => ⟨S11x8192x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1024x1024, .f32⟩
  | .local _ .vmem, ⟨20, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v61 : BitVec 1 := Scalar.cmpi .eq arg1 c10_i32
  let v62 : BitVec 32 := Scalar.extui v61
  let c0_i32_48 : BitVec 32 := 0#32
  let v63 : BitVec 1 := Scalar.cmpi .ne v62 c0_i32_48
  v63

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference13Ideal.lean ====
abbrev S8192x1024 : Shape := ⟨2, ![8192, 1024]⟩
abbrev S1x1024 : Shape := ⟨2, ![1, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x11x256 : Shape := ⟨3, ![8192, 11, 256]⟩
abbrev S11x8192x256 : Shape := ⟨3, ![11, 8192, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S1024x2816, .bf16⟩
  | .hbm, ⟨6, _⟩ => ⟨S1024x2816, .bf16⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x11x256, .f32⟩
  | .hbm, ⟨71, _⟩ => ⟨S11x8192x256, .f32⟩
  | .hbm, ⟨72, _⟩ => ⟨S8192x11x256, .f32⟩
  | .hbm, ⟨73, _⟩ => ⟨S11x8192x256, .f32⟩
  | .hbm, ⟨74, _⟩ => ⟨S8192x11x256, .f32⟩
  | .hbm, ⟨75, _⟩ => ⟨S11x8192x256, .f32⟩
  | .hbm, ⟨76, _⟩ => ⟨S8192x1024, .bf16⟩
  | .hbm, ⟨77, _⟩ => ⟨S11x8192x256, .bf16⟩
  | .hbm, ⟨78, _⟩ => ⟨S11x8192x256, .bf16⟩
  | .hbm, ⟨79, _⟩ => ⟨S11x8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Proof.MergeRef.lean ====
module

public import proofs.«01_k».proof.Proof.Gen.ReferenceIdeal.Run
public import Idealize.ShloMosaic.Lib.Pipeline.ValueKit

/-!
# What the derivative of the gated merge holds

The seven gradients of the merge as functions of the argument arrays.
-/

@[expose] public section

noncomputable section

open Idealize.ShloMosaic Idealize.ShloMosaic.TcCoe Idealize.SL.Sem

namespace Cert.ReferenceIdeal.RefValue

open Cert.ReferenceIdeal Cert.ReferenceIdeal.Gen

/-- The gradient of the first mixer's output. -/
abbrev doa (x0 : FVec Ideal S8192x1024 .f32) (x3 : FVec Ideal S8192x1024 .f32) (x5 : FVec Ideal S512x1024 .bf16) (x7 : FVec Ideal S1024x1024 .bf16) : FVec Ideal S8192x512 .bf16 :=
  truncf .bf16 (Host.dotGeneral dot_S8192x1024_S512x1024_S8192x512_1_1_0_0_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (Host.dotGeneral dot_S8192x1024_S1024x1024_S8192x1024_1_1_0_0_n_n none x0 (extf .f32 x7 bitsLt_bf16_f32))) (extf .f32 x5 bitsLt_bf16_f32)) bitsLt_bf16_f32

/-- The gradient of the second mixer's output. -/
abbrev dob (x0 : FVec Ideal S8192x1024 .f32) (x4 : FVec Ideal S8192x1024 .f32) (x6 : FVec Ideal S512x1024 .bf16) (x7 : FVec Ideal S1024x1024 .bf16) : FVec Ideal S8192x512 .bf16 :=
  truncf .bf16 (Host.dotGeneral dot_S8192x1024_S512x1024_S8192x512_1_1_0_0_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (Host.dotGeneral dot_S8192x1024_S1024x1024_S8192x1024_1_1_0_0_n_n none x0 (extf .f32 x7 bitsLt_bf16_f32))) (extf .f32 x6 bitsLt_bf16_f32)) bitsLt_bf16_f32

/-- The gradient of the first gate's logits. -/
abbrev dga (x0 : FVec Ideal S8192x1024 .f32) (x1 : FVec Ideal S8192x512 .bf16) (x3 : FVec Ideal S8192x1024 .f32) (x5 : FVec Ideal S512x1024 .bf16) (x7 : FVec Ideal S1024x1024 .bf16) : FVec Ideal S8192x1024 .bf16 :=
  truncf .bf16 (mulf (mulf (Host.dotGeneral dot_S8192x1024_S1024x1024_S8192x1024_1_1_0_0_n_n none x0 (extf .f32 x7 bitsLt_bf16_f32)) (Host.dotGeneral dot_S8192x512_S512x1024_S8192x1024_1_0_0_1_n_n none (extf .f32 x1 bitsLt_bf16_f32) (extf .f32 x5 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3))))))) bitsLt_bf16_f32

/-- The gradient of the second gate's logits. -/
abbrev dgb (x0 : FVec Ideal S8192x1024 .f32) (x2 : FVec Ideal S8192x512 .bf16) (x4 : FVec Ideal S8192x1024 .f32) (x6 : FVec Ideal S512x1024 .bf16) (x7 : FVec Ideal S1024x1024 .bf16) : FVec Ideal S8192x1024 .bf16 :=
  truncf .bf16 (mulf (mulf (Host.dotGeneral dot_S8192x1024_S1024x1024_S8192x1024_1_1_0_0_n_n none x0 (extf .f32 x7 bitsLt_bf16_f32)) (Host.dotGeneral dot_S8192x512_S512x1024_S8192x1024_1_0_0_1_n_n none (extf .f32 x2 bitsLt_bf16_f32) (extf .f32 x6 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (subf (broadcastInDim S8192x1024 ![] bcast_S_S8192x1024 (constant S_ .f32 0x3F800000#32)) (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4))))))) bitsLt_bf16_f32

/-- The gradient of the output weight. -/
abbrev dwo (x0 : FVec Ideal S8192x1024 .f32) (x1 : FVec Ideal S8192x512 .bf16) (x2 : FVec Ideal S8192x512 .bf16) (x3 : FVec Ideal S8192x1024 .f32) (x4 : FVec Ideal S8192x1024 .f32) (x5 : FVec Ideal S512x1024 .bf16) (x6 : FVec Ideal S512x1024 .bf16) : FVec Ideal S1024x1024 .bf16 :=
  truncf .bf16 (transpose S1024x1024 [1, 0] (Host.dotGeneral dot_S8192x1024_S8192x1024_S1024x1024_0_0_1_1_n_n none x0 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (Host.dotGeneral dot_S8192x512_S512x1024_S8192x1024_1_0_0_1_n_n none (extf .f32 x1 bitsLt_bf16_f32) (extf .f32 x5 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (Host.dotGeneral dot_S8192x512_S512x1024_S8192x1024_1_0_0_1_n_n none (extf .f32 x2 bitsLt_bf16_f32) (extf .f32 x6 bitsLt_bf16_f32))))) transposes_S1024x1024_S1024x1024_1_0) bitsLt_bf16_f32

/-- The gradient of the first mixer's weight. -/
abbrev dwa (x0 : FVec Ideal S8192x1024 .f32) (x1 : FVec Ideal S8192x512 .bf16) (x3 : FVec Ideal S8192x1024 .f32) (x7 : FVec Ideal S1024x1024 .bf16) : FVec Ideal S512x1024 .bf16 :=
  truncf .bf16 (transpose S512x1024 [1, 0] (Host.dotGeneral dot_S8192x1024_S8192x512_S1024x512_0_0_1_1_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (Host.dotGeneral dot_S8192x1024_S1024x1024_S8192x1024_1_1_0_0_n_n none x0 (extf .f32 x7 bitsLt_bf16_f32))) (extf .f32 x1 bitsLt_bf16_f32)) transposes_S1024x512_S512x1024_1_0) bitsLt_bf16_f32

/-- The gradient of the second mixer's weight. -/
abbrev dwb (x0 : FVec Ideal S8192x1024 .f32) (x2 : FVec Ideal S8192x512 .bf16) (x4 : FVec Ideal S8192x1024 .f32) (x7 : FVec Ideal S1024x1024 .bf16) : FVec Ideal S512x1024 .bf16 :=
  truncf .bf16 (transpose S512x1024 [1, 0] (Host.dotGeneral dot_S8192x1024_S8192x512_S1024x512_0_0_1_1_n_n none (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (Host.dotGeneral dot_S8192x1024_S1024x1024_S8192x1024_1_1_0_0_n_n none x0 (extf .f32 x7 bitsLt_bf16_f32))) (extf .f32 x2 bitsLt_bf16_f32)) transposes_S1024x512_S512x1024_1_0) bitsLt_bf16_f32

end Cert.ReferenceIdeal.RefValue

end
-- ==== Proof.MergeTiles.lean ====
module

public import proofs.«01_k».proof.Proof.Gen.KernelIdeal.Frame
public import proofs.«01_k».proof.Proof.MergeRef
public import Idealize.ShloMosaic.Lib.Pipeline.ValueKit

/-!
# The row tiles of the merge's backward pass

Each of the sixteen grid points takes 512 rows and writes the same rows of four gradients: of the two mixers' outputs and of the
two gates' logits. Here every such array is shown to hold what the derivative holds.
-/

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-- Where the blocks lie: row block `t` at point `t`, and the weights and their gradients whole. -/
theorem idx : ∀ t : Fin cfg0.N,
    win0_0.index t = ![t.val, 0] ∧ win0_1.index t = ![t.val, 0] ∧ win0_2.index t = ![t.val, 0]
      ∧ win0_3.index t = ![t.val, 0] ∧ win0_4.index t = ![t.val, 0] ∧ win0_5.index t = ![t.val, 0]
      ∧ win0_6.index t = ![0, 0] ∧ win0_7.index t = ![0, 0] ∧ win0_8.index t = ![0, 0]
      ∧ win0_9.index t = ![t.val, 0] ∧ win0_10.index t = ![t.val, 0] ∧ win0_11.index t = ![t.val, 0]
      ∧ win0_12.index t = ![t.val, 0] ∧ win0_13.index t = ![0, 0] ∧ win0_14.index t = ![0, 0]
      ∧ win0_15.index t = ![0, 0] := (by decide +kernel : ∀ t : Fin grid0.N, _)

/-- What a point leaves in its block of the first mixer's gradient. -/
theorem out_doa (c : Dev nD) (t : Fin cfg0.N) :
    (outsAt0 m c t.val t.isLt).1 = k0_pay16 (k0_pay13 (iblk m c 0 t) (iblk m c 8 t) (iblk m c 3 t)) (iblk m c 6 t) := by
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- An element of the first mixer's gradient at one point. -/
theorem point_doa (c : Dev nD) (t : Fin cfg0.N) (y) :
    k0_pay16 (k0_pay13 (iblk m c 0 t) (iblk m c 8 t) (iblk m c 3 t)) (iblk m c 6 t) y
      = Cert.ReferenceIdeal.RefValue.doa (m ((c : Thread nD τ).loc main_arg0)) (m ((c : Thread nD τ).loc main_arg3)) (m ((c : Thread nD τ).loc main_arg5)) (m ((c : Thread nD τ).loc main_arg7)) (((cfg0.win 9).blk t).view.emb y) := by
  pointwise [k0_pay16, k0_pay13, k0_pay12, k0_pay10, k0_pay8, Cert.ReferenceIdeal.RefValue.doa]
  simp only [Ideal.logistic, mul_comm (Ideal.div _ _)]
  blk_point [iblk, V, idx t]

/-- The first mixer's gradient, whole. -/
theorem final_doa (c : Dev nD) :
    (dats m 0 c).arrAt 9 (cfgs 0).N = Cert.ReferenceIdeal.RefValue.doa (m ((c : Thread nD τ).loc main_arg0)) (m ((c : Thread nD τ).loc main_arg3)) (m ((c : Thread nD τ).loc main_arg5)) (m ((c : Thread nD τ).loc main_arg7)) := by
  refine (dats m 0 c).arrAt_eq_of_covers 9 _ (by decide +kernel) fun t hf y => ?_
  blk_simp
  rw [after0_9, out_doa]
  exact point_doa m c t y

/-- What a point leaves in its block of the second mixer's gradient. -/
theorem out_dob (c : Dev nD) (t : Fin cfg0.N) :
    (outsAt0 m c t.val t.isLt).2.1 = k0_pay1 (k0_pay18 (k0_pay10 (iblk m c 0 t) (iblk m c 8 t)) (iblk m c 4 t)) (iblk m c 7 t) := by
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- An element of the second mixer's gradient at one point. -/
theorem point_dob (c : Dev nD) (t : Fin cfg0.N) (y) :
    k0_pay1 (k0_pay18 (k0_pay10 (iblk m c 0 t) (iblk m c 8 t)) (iblk m c 4 t)) (iblk m c 7 t) y
      = Cert.ReferenceIdeal.RefValue.dob (m ((c : Thread nD τ).loc main_arg0)) (m ((c : Thread nD τ).loc main_arg4)) (m ((c : Thread nD τ).loc main_arg6)) (m ((c : Thread nD τ).loc main_arg7)) (((cfg0.win 10).blk t).view.emb y) := by
  pointwise [k0_pay1, k0_pay18, k0_pay17, k0_pay10, k0_pay8, Cert.ReferenceIdeal.RefValue.dob]
  simp only [Ideal.logistic, mul_comm (Ideal.div _ _)]
  blk_point [iblk, V, idx t]

/-- The second mixer's gradient, whole. -/
theorem final_dob (c : Dev nD) :
    (dats m 0 c).arrAt 10 (cfgs 0).N = Cert.ReferenceIdeal.RefValue.dob (m ((c : Thread nD τ).loc main_arg0)) (m ((c : Thread nD τ).loc main_arg4)) (m ((c : Thread nD τ).loc main_arg6)) (m ((c : Thread nD τ).loc main_arg7)) := by
  refine (dats m 0 c).arrAt_eq_of_covers 10 _ (by decide +kernel) fun t hf y => ?_
  blk_simp
  rw [after0_10, out_dob]
  exact point_dob m c t y

/-- What a point leaves in its block of the gradient of the first gate's logits. -/
theorem out_dga (c : Dev nD) (t : Fin cfg0.N) :
    (outsAt0 m c t.val t.isLt).2.2.1 = k0_pay15 (k0_pay10 (iblk m c 0 t) (iblk m c 8 t)) (k0_pay11 (iblk m c 1 t) (iblk m c 6 t)) (k0_pay12 (iblk m c 3 t)) := by
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- An element of the gradient of the first gate's logits at one point. -/
theorem point_dga (c : Dev nD) (t : Fin cfg0.N) (y) :
    k0_pay15 (k0_pay10 (iblk m c 0 t) (iblk m c 8 t)) (k0_pay11 (iblk m c 1 t) (iblk m c 6 t)) (k0_pay12 (iblk m c 3 t)) y
      = Cert.ReferenceIdeal.RefValue.dga (m ((c : Thread nD τ).loc main_arg0)) (m ((c : Thread nD τ).loc main_arg1)) (m ((c : Thread nD τ).loc main_arg3)) (m ((c : Thread nD τ).loc main_arg5)) (m ((c : Thread nD τ).loc main_arg7)) (((cfg0.win 11).blk t).view.emb y) := by
  pointwise [k0_pay15, k0_pay12, k0_pay11, k0_pay10, k0_pay8, Cert.ReferenceIdeal.RefValue.dga, mul_assoc]
  simp only [Ideal.logistic, mul_comm (Ideal.div _ _)]
  blk_point [iblk, V, idx t]

/-- The gradient of the first gate's logits, whole. -/
theorem final_dga (c : Dev nD) :
    (dats m 0 c).arrAt 11 (cfgs 0).N = Cert.ReferenceIdeal.RefValue.dga (m ((c : Thread nD τ).loc main_arg0)) (m ((c : Thread nD τ).loc main_arg1)) (m ((c : Thread nD τ).loc main_arg3)) (m ((c : Thread nD τ).loc main_arg5)) (m ((c : Thread nD τ).loc main_arg7)) := by
  refine (dats m 0 c).arrAt_eq_of_covers 11 _ (by decide +kernel) fun t hf y => ?_
  blk_simp
  rw [after0_11, out_dga]
  exact point_dga m c t y

/-- What a point leaves in its block of the gradient of the second gate's logits. -/
theorem out_dgb (c : Dev nD) (t : Fin cfg0.N) :
    (outsAt0 m c t.val t.isLt).2.2.2.1 = k0_pay20 (k0_pay10 (iblk m c 0 t) (iblk m c 8 t)) (iblk m c 2 t) (iblk m c 7 t) (iblk m c 4 t) := by
  by_cases h0 : t.val % 16 = 0
  · rw [outsAt0_A m c t h0 (by omega)]; frame_out
  · by_cases h1 : t.val % 16 = 15
    · rw [outsAt0_C m c t h0 h1]; frame_out
    · rw [outsAt0_B m c t h0 h1]; frame_out

/-- An element of the gradient of the second gate's logits at one point. -/
theorem point_dgb (c : Dev nD) (t : Fin cfg0.N) (y) :
    k0_pay20 (k0_pay10 (iblk m c 0 t) (iblk m c 8 t)) (iblk m c 2 t) (iblk m c 7 t) (iblk m c 4 t) y
      = Cert.ReferenceIdeal.RefValue.dgb (m ((c : Thread nD τ).loc main_arg0)) (m ((c : Thread nD τ).loc main_arg2)) (m ((c : Thread nD τ).loc main_arg4)) (m ((c : Thread nD τ).loc main_arg6)) (m ((c : Thread nD τ).loc main_arg7)) (((cfg0.win 12).blk t).view.emb y) := by
  pointwise [k0_pay20, k0_pay17, k0_pay10, k0_pay8, Cert.ReferenceIdeal.RefValue.dgb, mul_assoc]
  simp only [Ideal.logistic, mul_comm (Ideal.div _ _)]
  blk_point [iblk, V, idx t]

/-- The gradient of the second gate's logits, whole. -/
theorem final_dgb (c : Dev nD) :
    (dats m 0 c).arrAt 12 (cfgs 0).N = Cert.ReferenceIdeal.RefValue.dgb (m ((c : Thread nD τ).loc main_arg0)) (m ((c : Thread nD τ).loc main_arg2)) (m ((c : Thread nD τ).loc main_arg4)) (m ((c : Thread nD τ).loc main_arg6)) (m ((c : Thread nD τ).loc main_arg7)) := by
  refine (dats m 0 c).arrAt_eq_of_covers 12 _ (by decide +kernel) fun t hf y => ?_
  blk_simp
  rw [after0_12, out_dgb]
  exact point_dgb m c t y

end Cert.KernelIdeal.RefValue

end
-- ==== Proof.MergeSums.lean ====
module

public import proofs.«01_k».proof.Proof.MergeTiles
public import Idealize.ShloMosaic.Lib.Pipeline.ReadBack

/-!
# The weight gradients of the merge's backward pass

The three weights' gradients are sums over all the rows. A grid point adds its 512 rows to sums kept between the points; the first
point starts from zero and the last writes the sums out.
-/

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-- The output weight's gradient: a point adds its rows to the sums of the point before. -/
theorem step_dwo (c : Dev nD) (t : Fin cfg0.N) (h0 : ¬t.val % 16 = 0) :
    (outsAt0 m c t.val t.isLt).2.2.2.2.2.2.2.1 = k0_pay9 (iblk m c 0 t) ((outsAt0 m c (t.val - 1) (by omega)).2.2.2.2.2.2.2.1) (iblk m c 5 t) := by
  by_cases h1 : t.val % 16 = 15
  · rw [outsAt0_C m c t h0 h1]; frame_out; rw [read_unread_whole]
  · rw [outsAt0_B m c t h0 h1]; frame_out; rw [read_unread_whole]

/-- The first point starts from zero. -/
theorem start_dwo (c : Dev nD) (t : Fin cfg0.N) (h0 : t.val % 16 = 0) :
    (outsAt0 m c t.val t.isLt).2.2.2.2.2.2.2.1 = k0_pay9 (iblk m c 0 t) (k0_pay5 (F := Ideal)) (iblk m c 5 t) := by
  rw [outsAt0_A m c t h0 (by omega)]; frame_out

/-- The last point writes the sums out, rounded. -/
theorem out_dwo (c : Dev nD) (t : Fin cfg0.N) (h1 : t.val % 16 = 15) :
    (outsAt0 m c t.val t.isLt).2.2.2.2.1 = k0_pay2 ((outsAt0 m c t.val t.isLt).2.2.2.2.2.2.2.1) := by
  rw [outsAt0_C m c t (by omega) h1]; frame_out

/-- The output weight's gradient, whole. -/
theorem final_dwo (c : Dev nD) :
    (dats m 0 c).arrAt 13 (cfgs 0).N = Cert.ReferenceIdeal.RefValue.dwo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 13 t0_15 (by decide +kernel) _ fun j => ?_
  blk_simp
  rw [after0_13, out_dwo m c t0_15 (by decide)]
  have hw : ∀ X, k0_pay2 (F := Ideal) X j = X j := fun X => by pointwise [k0_pay2]
  have hstep : ∀ (t : Fin cfg0.N) X j, k0_pay9 (iblk m c 0 t) (X) (iblk m c 5 t) j = X j + (k0_pay9 (iblk m c 0 t) (k0_pay5 (F := Ideal)) (iblk m c 5 t)) j := fun t X j => by
    pointwise [k0_pay9, k0_pay8, k0_pay5]
  rw [hw, Pipeline.eq_sum_fin_of_reset_step_apply_last (fun n h => (outsAt0 m c n h).2.2.2.2.2.2.2.1) 16 (fun _ => 0)
      (fun t j => (k0_pay9 (iblk m c 0 t) (k0_pay5 (F := Ideal)) (iblk m c 5 t)) j)
      (fun t h j => by rw [start_dwo m c t h, zero_add])
      (fun t h j => by rw [step_dwo m c t h, hstep]) (le_of_eq N_0) t0_15 rfl j, zero_add]
  pointwise [k0_pay9, k0_pay8, k0_pay5, Cert.ReferenceIdeal.RefValue.dwo]
  refine Fin.sum_mul_add_congr fun s k hl => ?_
  simp only [Ideal.logistic, mul_comm (Ideal.div _ _)]
  rw [mul_comm]
  blk_point [iblk, V, idx]
  entry_read
  pointwise
  simp only [Ideal.logistic, mul_comm (Ideal.div _ _)]
  blk_point [idx]

/-- The first mixer weight's gradient: a point adds its rows to the sums of the point before. -/
theorem step_dwa (c : Dev nD) (t : Fin cfg0.N) (h0 : ¬t.val % 16 = 0) :
    (outsAt0 m c t.val t.isLt).2.2.2.2.2.2.2.2.1 = k0_pay14 (iblk m c 0 t) (iblk m c 8 t) (iblk m c 3 t) ((outsAt0 m c (t.val - 1) (by omega)).2.2.2.2.2.2.2.2.1) (iblk m c 1 t) := by
  by_cases h1 : t.val % 16 = 15
  · rw [outsAt0_C m c t h0 h1]; frame_out; rw [read_unread_whole]
  · rw [outsAt0_B m c t h0 h1]; frame_out; rw [read_unread_whole]

/-- The first point starts from zero. -/
theorem start_dwa (c : Dev nD) (t : Fin cfg0.N) (h0 : t.val % 16 = 0) :
    (outsAt0 m c t.val t.isLt).2.2.2.2.2.2.2.2.1 = k0_pay14 (iblk m c 0 t) (iblk m c 8 t) (iblk m c 3 t) (k0_pay6 (F := Ideal)) (iblk m c 1 t) := by
  rw [outsAt0_A m c t h0 (by omega)]; frame_out

/-- The last point writes the sums out, rounded. -/
theorem out_dwa (c : Dev nD) (t : Fin cfg0.N) (h1 : t.val % 16 = 15) :
    (outsAt0 m c t.val t.isLt).2.2.2.2.2.1 = k0_pay3 ((outsAt0 m c t.val t.isLt).2.2.2.2.2.2.2.2.1) := by
  rw [outsAt0_C m c t (by omega) h1]; frame_out

/-- The first mixer weight's gradient, whole. -/
theorem final_dwa (c : Dev nD) :
    (dats m 0 c).arrAt 14 (cfgs 0).N = Cert.ReferenceIdeal.RefValue.dwa (m ((c : Thread nD τ).loc main_arg0)) (m ((c : Thread nD τ).loc main_arg1)) (m ((c : Thread nD τ).loc main_arg3)) (m ((c : Thread nD τ).loc main_arg7)) := by
  refine (dats m 0 c).arrAt_eq_of_after_last 14 t0_15 (by decide +kernel) _ fun j => ?_
  blk_simp
  rw [after0_14, out_dwa m c t0_15 (by decide)]
  have hw : ∀ X, k0_pay3 (F := Ideal) X j = X j := fun X => by pointwise [k0_pay3]
  have hstep : ∀ (t : Fin cfg0.N) X j, k0_pay14 (iblk m c 0 t) (iblk m c 8 t) (iblk m c 3 t) (X) (iblk m c 1 t) j = X j + (k0_pay14 (iblk m c 0 t) (iblk m c 8 t) (iblk m c 3 t) (k0_pay6 (F := Ideal)) (iblk m c 1 t)) j := fun t X j => by
    pointwise [k0_pay14, k0_pay13, k0_pay12, k0_pay10, k0_pay8, k0_pay6]
  rw [hw, Pipeline.eq_sum_fin_of_reset_step_apply_last (fun n h => (outsAt0 m c n h).2.2.2.2.2.2.2.2.1) 16 (fun _ => 0)
      (fun t j => (k0_pay14 (iblk m c 0 t) (iblk m c 8 t) (iblk m c 3 t) (k0_pay6 (F := Ideal)) (iblk m c 1 t)) j)
      (fun t h j => by rw [start_dwa m c t h, zero_add])
      (fun t h j => by rw [step_dwa m c t h, hstep]) (le_of_eq N_0) t0_15 rfl j, zero_add]
  pointwise [k0_pay14, k0_pay13, k0_pay12, k0_pay10, k0_pay8, k0_pay6, Cert.ReferenceIdeal.RefValue.dwa]
  refine Fin.sum_mul_add_congr fun s k hl => ?_
  simp only [Ideal.logistic, mul_comm (Ideal.div _ _)]
  rw [mul_comm]
  blk_point [iblk, V, idx]

/-- The second mixer weight's gradient: a point adds its rows to the sums of the point before. -/
theorem step_dwb (c : Dev nD) (t : Fin cfg0.N) (h0 : ¬t.val % 16 = 0) :
    (outsAt0 m c t.val t.isLt).2.2.2.2.2.2.2.2.2 = k0_pay19 (k0_pay10 (iblk m c 0 t) (iblk m c 8 t)) (iblk m c 4 t) ((outsAt0 m c (t.val - 1) (by omega)).2.2.2.2.2.2.2.2.2) (iblk m c 2 t) := by
  by_cases h1 : t.val % 16 = 15
  · rw [outsAt0_C m c t h0 h1]; frame_out; rw [read_unread_whole]
  · rw [outsAt0_B m c t h0 h1]; frame_out; rw [read_unread_whole]

/-- The first point starts from zero. -/
theorem start_dwb (c : Dev nD) (t : Fin cfg0.N) (h0 : t.val % 16 = 0) :
    (outsAt0 m c t.val t.isLt).2.2.2.2.2.2.2.2.2 = k0_pay19 (k0_pay10 (iblk m c 0 t) (iblk m c 8 t)) (iblk m c 4 t) (k0_pay7 (F := Ideal)) (iblk m c 2 t) := by
  rw [outsAt0_A m c t h0 (by omega)]; frame_out

/-- The last point writes the sums out, rounded. -/
theorem out_dwb (c : Dev nD) (t : Fin cfg0.N) (h1 : t.val % 16 = 15) :
    (outsAt0 m c t.val t.isLt).2.2.2.2.2.2.1 = k0_pay4 ((outsAt0 m c t.val t.isLt).2.2.2.2.2.2.2.2.2) := by
  rw [outsAt0_C m c t (by omega) h1]; frame_out

/-- The second mixer weight's gradient, whole. -/
theorem final_dwb (c : Dev nD) :
    (dats m 0 c).arrAt 15 (cfgs 0).N = Cert.ReferenceIdeal.RefValue.dwb (m ((c : Thread nD τ).loc main_arg0)) (m ((c : Thread nD τ).loc main_arg2)) (m ((c : Thread nD τ).loc main_arg4)) (m ((c : Thread nD τ).loc main_arg7)) := by
  refine (dats m 0 c).arrAt_eq_of_after_last 15 t0_15 (by decide +kernel) _ fun j => ?_
  blk_simp
  rw [after0_15, out_dwb m c t0_15 (by decide)]
  have hw : ∀ X, k0_pay4 (F := Ideal) X j = X j := fun X => by pointwise [k0_pay4]
  have hstep : ∀ (t : Fin cfg0.N) X j, k0_pay19 (k0_pay10 (iblk m c 0 t) (iblk m c 8 t)) (iblk m c 4 t) (X) (iblk m c 2 t) j = X j + (k0_pay19 (k0_pay10 (iblk m c 0 t) (iblk m c 8 t)) (iblk m c 4 t) (k0_pay7 (F := Ideal)) (iblk m c 2 t)) j := fun t X j => by
    pointwise [k0_pay19, k0_pay18, k0_pay17, k0_pay10, k0_pay8, k0_pay7]
  rw [hw, Pipeline.eq_sum_fin_of_reset_step_apply_last (fun n h => (outsAt0 m c n h).2.2.2.2.2.2.2.2.2) 16 (fun _ => 0)
      (fun t j => (k0_pay19 (k0_pay10 (iblk m c 0 t) (iblk m c 8 t)) (iblk m c 4 t) (k0_pay7 (F := Ideal)) (iblk m c 2 t)) j)
      (fun t h j => by rw [start_dwb m c t h, zero_add])
      (fun t h j => by rw [step_dwb m c t h, hstep]) (le_of_eq N_0) t0_15 rfl j, zero_add]
  pointwise [k0_pay19, k0_pay18, k0_pay17, k0_pay10, k0_pay8, k0_pay7, Cert.ReferenceIdeal.RefValue.dwb]
  refine Fin.sum_mul_add_congr fun s k hl => ?_
  simp only [Ideal.logistic, mul_comm (Ideal.div _ _)]
  rw [mul_comm]
  blk_point [iblk, V, idx]

end Cert.KernelIdeal.RefValue

end
-- ==== Proof.MergeClaim.lean ====
module

public import proofs.«01_k».proof.Defs
public import proofs.«01_k».proof.Proof.Gen.ReferenceIdeal.Run
public import proofs.«01_k».proof.Proof.MergeSums
public import Idealize.ShloMosaic.Adequacy
public import Idealize.ShloMosaic.Init
public import Idealize.ShloMosaic.Lib.Claim

/-!
# The claim of the gated merge's backward pass
-/

@[expose] public section

set_option maxRecDepth 16384

noncomputable section

namespace Cert.Proof

open Idealize.ShloMosaic Idealize.SL.Sem

/-- The derivative of the merge runs and leaves its arguments; it has no counters. -/
theorem frame_reference : Cert.quiescent_ReferenceIdeal := by
  intro m ρ _
  exact (θ_run Cert.ReferenceIdeal.defs _ _).mono (fun r h => ⟨fun c => (h c).2.2.2.2.2.2.2,
    sem_eq_zero_of_no_sems (by decide) r.2⟩) (Cert.ReferenceIdeal.Value.run m ρ)

set_option maxHeartbeats 1600000 in
/-- The gated merge's backward pass computes the derivative of the merge. -/
theorem value : Cert.algebraic_KernelIdeal_ReferenceIdeal := by
  pair_intro
  · run_from Cert.KernelIdeal.Gen.run_main m g
  · run_from Cert.ReferenceIdeal.Value.run m' g'
    · exact (Cert.KernelIdeal.RefValue.final_doa m c).symm
    · exact (Cert.KernelIdeal.RefValue.final_dob m c).symm
    · exact (Cert.KernelIdeal.RefValue.final_dga m c).symm
    · exact (Cert.KernelIdeal.RefValue.final_dgb m c).symm
    · exact (Cert.KernelIdeal.RefValue.final_dwo m c).symm
    · exact (Cert.KernelIdeal.RefValue.final_dwa m c).symm
    · exact (Cert.KernelIdeal.RefValue.final_dwb m c).symm

end Cert.Proof

end
-- ==== Proof.TnRef.lean ====
module

public import proofs.«01_k».proof.Proof.Gen.Reference2Ideal.Run
public import Idealize.ShloMosaic.Lib.Pipeline.ValueKit

/-!
# What the derivative of a product by its weight holds
-/

@[expose] public section

noncomputable section

open Idealize.ShloMosaic Idealize.ShloMosaic.TcCoe Idealize.SL.Sem

namespace Cert.Reference2Ideal.RefValue

open Cert.Reference2Ideal Cert.Reference2Ideal.Gen

/-- The transposed gradient of the weight, of the cotangent's column tiles and the input rows. -/
abbrev dw (x0 : FVec Ideal S11x8192x256 .bf16) (x1 : FVec Ideal S8192x1024 .bf16) : FVec Ideal S2816x1024 .bf16 :=
  truncf .bf16 (transpose S2816x1024 [1, 0] (transpose S1024x2816 [1, 0] (Host.dotGeneral dot_S8192x2816_S8192x1024_S2816x1024_0_0_1_1_n_n none (shapeCast _ (transpose S8192x11x256 [1, 0, 2] (extf .f32 x0 bitsLt_bf16_f32) transposes_S11x8192x256_S8192x11x256_1_0_2) shapeCasts_S8192x11x256_S8192x2816) (extf .f32 x1 bitsLt_bf16_f32)) transposes_S2816x1024_S1024x2816_1_0) transposes_S1024x2816_S2816x1024_1_0) bitsLt_bf16_f32

end Cert.Reference2Ideal.RefValue

end
-- ==== Proof.TnValue.lean ====
module

public import proofs.«01_k».proof.Proof.Gen.Kernel2Ideal.Frame
public import proofs.«01_k».proof.Proof.TnRef
public import Idealize.ShloMosaic.Lib.Pipeline.ValueKit
public import Idealize.ShloMosaic.Lib.Pipeline.ReadBack

/-!
# The gradient of a feed-forward weight
-/

@[expose] public section

set_option maxRecDepth 16384

noncomputable section

open Idealize.ShloMosaic Idealize.ShloMosaic.TcCoe Idealize.SL.Sem
open Idealize.ShloMosaic.Pipeline (Dat)

namespace Cert.Kernel2Ideal.RefValue

open Cert.Kernel2Ideal Cert.Kernel2Ideal.Gen

variable (m : (ℓ : Loc nD τ sig) → Buf (Elt Ideal) ℓ)

/-- Where the blocks lie: row block `t` of the cotangent's tiles and of the rows, and the gradient whole. -/
theorem idx : ∀ t : Fin cfg0.N,
    win0_0.index t = ![0, t.val, 0] ∧ win0_1.index t = ![t.val, 0] ∧ win0_2.index t = ![0, 0] :=
  (by decide +kernel : ∀ t : Fin grid0.N, _)

/-- What one point adds: the products over its 512 rows. -/
def part (h : Vec Ideal S512x1024 .bf16) (ct : Vec Ideal S11x512x256 .bf16) (j : S2816x1024.Idx) : EReal :=
  ∑ k : Fin 512, ct (ix3 ⟨(j 0).val / 256, Nat.div_lt_of_lt_mul (j 0).isLt⟩ k ⟨(j 0).val % 256, Nat.mod_lt _ (by decide)⟩)
    * h (ix2 k (j 1))

/-- One point's step: the sums carried so far, plus what the point adds. -/
def step (h : Vec Ideal S512x1024 .bf16) (ct : Vec Ideal S11x512x256 .bf16) (acc : Vec Ideal S2816x1024 .f32) :
    Vec Ideal S2816x1024 .f32 := fun j => acc j + part h ct j

theorem scr_B (c : Dev nD) (t : Fin cfg0.N) (p0 : ¬t.val % 16 = 0) (p1 : ¬t.val % 16 = 15) (j) :
    (outsAt0 m c t.val t.isLt).2 j = step (iblk m c 1 t) (iblk m c 0 t) (outsAt0 m c (t.val - 1) (by omega)).2 j := by
  rw [outsAt0_B m c t p0 p1]; frame_out
  simp only [read_unread_whole]
  canon_tiles x h
  all_goals
    pointwise [k0_pay1, k0_pay3, k0_pay4, k0_pay5, k0_pay6, k0_pay7, k0_pay8, k0_pay9, k0_pay10, k0_pay11, k0_pay12, k0_pay13, k0_pay14, step, part, h0, h1]
    blk_point [h0, h1]

theorem scr_C (c : Dev nD) (t : Fin cfg0.N) (p0 : ¬t.val % 16 = 0) (p1 : t.val % 16 = 15) (j) :
    (outsAt0 m c t.val t.isLt).2 j = step (iblk m c 1 t) (iblk m c 0 t) (outsAt0 m c (t.val - 1) (by omega)).2 j := by
  rw [outsAt0_C m c t p0 p1]; frame_out
  simp only [read_unread_whole]
  canon_tiles x h
  all_goals
    pointwise [k0_pay1, k0_pay3, k0_pay4, k0_pay5, k0_pay6, k0_pay7, k0_pay8, k0_pay9, k0_pay10, k0_pay11, k0_pay12, k0_pay13, k0_pay14, step, part, h0, h1]
    blk_point [h0, h1]

theorem scr_A (c : Dev nD) (t : Fin cfg0.N) (p0 : t.val % 16 = 0) (p1 : ¬t.val % 16 = 15) (j) :
    (outsAt0 m c t.val t.isLt).2 j = step (iblk m c 1 t) (iblk m c 0 t) (fun _ => 0) j := by
  rw [outsAt0_A m c t p0 p1]; frame_open
  simp (discharger := first | decide | rfl) only [↓View.readCov_skip, ↓View.readCov_fill]
  frame_out
  refine View.canon_append_of_piecesOf (step (iblk m c 1 t) (iblk m c 0 t) (fun _ => 0)) [⟨_, _⟩]
    [⟨_, _⟩, ⟨_, _⟩, ⟨_, _⟩, ⟨_, _⟩, ⟨_, _⟩, ⟨_, _⟩, ⟨_, _⟩, ⟨_, _⟩, ⟨_, _⟩, ⟨_, _⟩, ⟨_, _⟩] ⟨?_, ?_, ?_, ?_, ?_, ?_, ?_, ?_, ?_, ?_, ?_, trivial⟩ j
    (View.cover_of_tiled_head _ _ _ rfl j)
  all_goals
    intro x
    pointwise [k0_pay1, k0_pay3, k0_pay4, k0_pay5, k0_pay6, k0_pay7, k0_pay8, k0_pay9, k0_pay10, k0_pay11, k0_pay12, k0_pay13, k0_pay14, step, part]
    blk_point []

/-- What the last point writes out: the sums, rounded. -/
theorem out_C (c : Dev nD) (t : Fin cfg0.N) (p0 : ¬t.val % 16 = 0) (p1 : t.val % 16 = 15) (j) :
    (outsAt0 m c t.val t.isLt).1 j = (outsAt0 m c t.val t.isLt).2 j := by
  rw [outsAt0_C m c t p0 p1]; frame_out
  have hw : ∀ X : Vec Ideal S2816x1024 .f32, k0_pay2 X j = X j := fun X => by pointwise [k0_pay2]
  rw [hw, View.readCov_eq_canon']
  refine congrArg _ (funext fun a => Fin.ext ?_)
  match a with
  | 0 => show 0 + 1 * (j 0).val = (j 0).val; omega
  | 1 => show 0 + 1 * (j 1).val = (j 1).val; omega

theorem href (x0 x1 j) : Cert.Reference2Ideal.RefValue.dw x0 x1 j
    = ∑ l : Fin 8192, x0 (ix3 ⟨(j 0).val / 256, Nat.div_lt_of_lt_mul (j 0).isLt⟩ l ⟨(j 0).val % 256, Nat.mod_lt _ (by decide)⟩) * x1 (ix2 l (j 1)) := by
  pointwise [Cert.Reference2Ideal.RefValue.dw]

/-- The result array holds the gradient. -/
theorem final (c : Dev nD) :
    (dats m 0 c).arrAt 2 (cfgs 0).N = Cert.Reference2Ideal.RefValue.dw (m ((c : Thread nD τ).loc main_arg0))
      (m ((c : Thread nD τ).loc main_arg1)) := by
  refine (dats m 0 c).arrAt_eq_of_after_last 2 t0_15 (by decide +kernel) _ fun j => ?_
  blk_simp
  rw [after0_2, out_C m c t0_15 (by decide) (by decide),
    Pipeline.eq_sum_fin_of_reset_step_apply_last (fun n h => (outsAt0 m c n h).2) 16 (fun _ => 0)
      (fun t j => part (iblk m c 1 t) (iblk m c 0 t) j)
      (fun t h j => by rw [scr_A m c t h (by omega), step])
      (fun t h j => by
        by_cases h1 : t.val % 16 = 15
        · rw [scr_C m c t h h1, step]
        · rw [scr_B m c t h h1, step]) (le_of_eq N_0) t0_15 rfl j, zero_add, href]
  refine Fin.sum_mul_add_congr fun s k hl => ?_
  blk_point [iblk, V, idx]

end Cert.Kernel2Ideal.RefValue

end
-- ==== Proof.TnClaim.lean ====
module

public import proofs.«01_k».proof.Defs
public import proofs.«01_k».proof.Proof.Gen.Reference2Ideal.Run
public import proofs.«01_k».proof.Proof.TnValue
public import Idealize.ShloMosaic.Adequacy
public import Idealize.ShloMosaic.Init
public import Idealize.ShloMosaic.Lib.Claim

/-!
# The claim of a weight's gradient
-/

@[expose] public section

set_option maxRecDepth 16384

noncomputable section

namespace Cert.Proof

open Idealize.ShloMosaic Idealize.SL.Sem

/-- The derivative of the product runs and leaves its arguments; it has no counters. -/
theorem frame_reference2 : Cert.quiescent_Reference2Ideal := by
  intro m ρ _
  exact (θ_run Cert.Reference2Ideal.defs _ _).mono (fun r h => ⟨fun c => (h c).2,
    sem_eq_zero_of_no_sems (by decide) r.2⟩) (Cert.Reference2Ideal.Value.run m ρ)

/-- The tiled product computes the gradient of a feed-forward weight. -/
theorem value2 : Cert.algebraic_Kernel2Ideal_Reference2Ideal := by
  pair_intro
  · run_from Cert.Kernel2Ideal.Gen.run_main m g
  · run_from Cert.Reference2Ideal.Value.run m' g'
    exact (Cert.Kernel2Ideal.RefValue.final m c).symm

end Cert.Proof

end
-- ==== Proof.Adam8Ref.lean ====
module

public import proofs.«01_k».proof.Proof.Gen.Reference8Ideal.Run
public import Idealize.ShloMosaic.Lib.Pipeline.ValueKit

/-!
# What the sum of the gradients and the AdamW update hold
-/

@[expose] public section

noncomputable section

open Idealize.ShloMosaic Idealize.ShloMosaic.TcCoe Idealize.SL.Sem

namespace Cert.Reference8Ideal.RefValue

open Cert.Reference8Ideal Cert.Reference8Ideal.Gen

/-- The sum of the devices' gradients. -/
abbrev sumg (x0 : FVec Ideal S8x352x1024 .bf16) : FVec Ideal S352x1024 .f32 :=
  Host.reduceAdd (extf .f32 x0 bitsLt_bf16_f32) (constant S_ .f32 0x00000000#32) reducesTo_S8x352x1024_S352x1024_d0 h_S_

/-- The change of the weight. -/
abbrev delta (x0 : FVec Ideal S8x352x1024 .bf16) (x1 : FVec Ideal S352x1024 .f32) (x2 : FVec Ideal S352x1024 .f32) (x3 : FVec Ideal S352x1024 .f32) : FVec Ideal S352x1024 .f32 :=
  mulf (broadcastInDim S352x1024 ![] bcast_S_S352x1024 (constant S_ .f32 0xBA83126F#32)) (addf (Host.divf (Host.divf (addf (mulf (broadcastInDim S352x1024 ![] bcast_S_S352x1024 (constant S_ .f32 0x3F666666#32)) x2) (mulf (broadcastInDim S352x1024 ![] bcast_S_S352x1024 (constant S_ .f32 0x3DCCCCCD#32)) (Host.reduceAdd (extf .f32 x0 bitsLt_bf16_f32) (constant S_ .f32 0x00000000#32) reducesTo_S8x352x1024_S352x1024_d0 h_S_))) (broadcastInDim S352x1024 ![] bcast_S_S352x1024 (constant S_ .f32 0x3F26BD02#32))) (addf (Host.sqrt (Host.divf (addf (mulf (broadcastInDim S352x1024 ![] bcast_S_S352x1024 (constant S_ .f32 0x3F7FBE77#32)) x3) (mulf (broadcastInDim S352x1024 ![] bcast_S_S352x1024 (constant S_ .f32 0x3A83126F#32)) (mulf (Host.reduceAdd (extf .f32 x0 bitsLt_bf16_f32) (constant S_ .f32 0x00000000#32) reducesTo_S8x352x1024_S352x1024_d0 h_S_) (Host.reduceAdd (extf .f32 x0 bitsLt_bf16_f32) (constant S_ .f32 0x00000000#32) reducesTo_S8x352x1024_S352x1024_d0 h_S_)))) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) x1))

/-- The new first moment. -/
abbrev newm (x0 : FVec Ideal S8x352x1024 .bf16) (x2 : FVec Ideal S352x1024 .f32) : FVec Ideal S352x1024 .f32 :=
  addf (mulf (broadcastInDim S352x1024 ![] bcast_S_S352x1024 (constant S_ .f32 0x3F666666#32)) x2) (mulf (broadcastInDim S352x1024 ![] bcast_S_S352x1024 (constant S_ .f32 0x3DCCCCCD#32)) (Host.reduceAdd (extf .f32 x0 bitsLt_bf16_f32) (constant S_ .f32 0x00000000#32) reducesTo_S8x352x1024_S352x1024_d0 h_S_))

/-- The new second moment. -/
abbrev newv (x0 : FVec Ideal S8x352x1024 .bf16) (x3 : FVec Ideal S352x1024 .f32) : FVec Ideal S352x1024 .f32 :=
  addf (mulf (broadcastInDim S352x1024 ![] bcast_S_S352x1024 (constant S_ .f32 0x3F7FBE77#32)) x3) (mulf (broadcastInDim S352x1024 ![] bcast_S_S352x1024 (constant S_ .f32 0x3A83126F#32)) (mulf (Host.reduceAdd (extf .f32 x0 bitsLt_bf16_f32) (constant S_ .f32 0x00000000#32) reducesTo_S8x352x1024_S352x1024_d0 h_S_) (Host.reduceAdd (extf .f32 x0 bitsLt_bf16_f32) (constant S_ .f32 0x00000000#32) reducesTo_S8x352x1024_S352x1024_d0 h_S_)))

end Cert.Reference8Ideal.RefValue

end
-- ==== Proof.Adam8Value.lean ====
module

public import proofs.«01_k».proof.Proof.Gen.Kernel8Ideal.Frame
public import proofs.«01_k».proof.Proof.Adam8Ref
public import Idealize.ShloMosaic.Lib.Pipeline.ValueKit

/-!
# The sum of the gradients and the AdamW update of a feed-forward weight

A grid point takes some of the rows: it adds the eight devices' gradients of them and updates the moments and the weight.
-/

@[expose] public section

set_option maxRecDepth 16384

noncomputable section

open Idealize.ShloMosaic Idealize.ShloMosaic.TcCoe Idealize.SL.Sem
open Idealize.ShloMosaic.Pipeline (Dat)

namespace Cert.Kernel8Ideal.RefValue

open Cert.Kernel8Ideal Cert.Kernel8Ideal.Gen

variable (m : (ℓ : Loc nD τ sig) → Buf (Elt Ideal) ℓ)

/-- Where the blocks lie: row block `t` at point `t`, of the parts on every device. -/
theorem idx : ∀ t : Fin cfg0.N,
    win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] := (by decide +kernel : ∀ t : Fin grid0.N, _)

/-- The sum of the gradients, whole. -/
theorem final_sumg (c : Dev nD) :
    (dats m 0 c).arrAt 4 (cfgs 0).N = Cert.Reference8Ideal.RefValue.sumg (m ((c : Thread nD τ).loc main_arg0)) := by
  refine (dats m 0 c).arrAt_eq_of_covers 4 _ (by decide +kernel) fun t hf y => ?_
  blk_simp
  rw [after0_4]; frame_out
  pointwise [k0_pay1, k0_pay2, k0_pay3, k0_pay4, k0_pay5, Cert.Reference8Ideal.RefValue.sumg]
  simp only [Fin.sum_univ_eight, zero_add]
  blk_point [iblk, V, idx t]

/-- The change of the weight, whole. -/
theorem final_delta (c : Dev nD) :
    (dats m 0 c).arrAt 5 (cfgs 0).N = Cert.Reference8Ideal.RefValue.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, k0_pay3, k0_pay4, k0_pay5, Cert.Reference8Ideal.RefValue.delta]
  simp only [Fin.sum_univ_eight, zero_add]
  blk_point [iblk, V, idx t]

/-- The new first moment, whole. -/
theorem final_newm (c : Dev nD) :
    (dats m 0 c).arrAt 6 (cfgs 0).N = Cert.Reference8Ideal.RefValue.newm (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay1, k0_pay2, k0_pay3, k0_pay4, k0_pay5, Cert.Reference8Ideal.RefValue.newm]
  simp only [Fin.sum_univ_eight, zero_add]
  blk_point [iblk, V, idx t]

/-- The new second moment, whole. -/
theorem final_newv (c : Dev nD) :
    (dats m 0 c).arrAt 7 (cfgs 0).N = Cert.Reference8Ideal.RefValue.newv (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay1, k0_pay2, k0_pay3, k0_pay4, k0_pay5, Cert.Reference8Ideal.RefValue.newv]
  simp only [Fin.sum_univ_eight, zero_add]
  blk_point [iblk, V, idx t]

end Cert.Kernel8Ideal.RefValue

end
-- ==== Proof.Adam8Claim.lean ====
module

public import proofs.«01_k».proof.Defs
public import proofs.«01_k».proof.Proof.Gen.Reference8Ideal.Run
public import proofs.«01_k».proof.Proof.Adam8Value
public import Idealize.ShloMosaic.Adequacy
public import Idealize.ShloMosaic.Init
public import Idealize.ShloMosaic.Lib.Claim

/-!
# The claim of the update of a feed-forward weight
-/

@[expose] public section

set_option maxRecDepth 16384

noncomputable section

namespace Cert.Proof

open Idealize.ShloMosaic Idealize.SL.Sem

/-- The AdamW update runs and leaves its arguments; it has no counters. -/
theorem frame_reference8 : Cert.quiescent_Reference8Ideal := by
  intro m ρ _
  exact (θ_run Cert.Reference8Ideal.defs _ _).mono (fun r h => ⟨fun c => (h c).2.2.2.2,
    sem_eq_zero_of_no_sems (by decide) r.2⟩) (Cert.Reference8Ideal.Value.run m ρ)

set_option maxHeartbeats 1600000 in
/-- The update of a feed-forward weight computes the sum of the gradients and the AdamW step. -/
theorem value8 : Cert.algebraic_Kernel8Ideal_Reference8Ideal := by
  pair_intro
  · run_from Cert.Kernel8Ideal.Gen.run_main m g
  · refine Idealize.ShloMosaic.θ_run_mono (Cert.Reference8Ideal.Value.run m' g') ?_
    intro r hr c
    obtain ⟨h0, h1, h2, h3, ha⟩ := hr c
    obtain ⟨a0, a1, a2, a3⟩ := hagree c
    refine ⟨h0.trans ?_, h1.trans ?_, h2.trans ?_, h3.trans ?_, ha⟩
    · rw [a0]
      exact (Cert.Kernel8Ideal.RefValue.final_sumg m c).symm
    · rw [a0, a1, a2, a3]
      exact (Cert.Kernel8Ideal.RefValue.final_delta m c).symm
    · rw [a0, a2]
      exact (Cert.Kernel8Ideal.RefValue.final_newm m c).symm
    · rw [a0, a3]
      exact (Cert.Kernel8Ideal.RefValue.final_newv m c).symm

end Cert.Proof

end
-- ==== Proof.Adam9Ref.lean ====
module

public import proofs.«01_k».proof.Proof.Gen.Reference9Ideal.Run
public import Idealize.ShloMosaic.Lib.Pipeline.ValueKit

/-!
# What the sum of the gradients and the AdamW update hold
-/

@[expose] public section

noncomputable section

open Idealize.ShloMosaic Idealize.ShloMosaic.TcCoe Idealize.SL.Sem

namespace Cert.Reference9Ideal.RefValue

open Cert.Reference9Ideal Cert.Reference9Ideal.Gen

/-- The sum of the devices' gradients. -/
abbrev sumg (x0 : FVec Ideal S8x544x1024 .bf16) : FVec Ideal S544x1024 .f32 :=
  Host.reduceAdd (extf .f32 x0 bitsLt_bf16_f32) (constant S_ .f32 0x00000000#32) reducesTo_S8x544x1024_S544x1024_d0 h_S_

/-- The change of the weight. -/
abbrev delta (x0 : FVec Ideal S8x544x1024 .bf16) (x1 : FVec Ideal S544x1024 .f32) (x2 : FVec Ideal S544x1024 .f32) (x3 : FVec Ideal S544x1024 .f32) : FVec Ideal S544x1024 .f32 :=
  mulf (broadcastInDim S544x1024 ![] bcast_S_S544x1024 (constant S_ .f32 0xBA83126F#32)) (addf (Host.divf (Host.divf (addf (mulf (broadcastInDim S544x1024 ![] bcast_S_S544x1024 (constant S_ .f32 0x3F666666#32)) x2) (mulf (broadcastInDim S544x1024 ![] bcast_S_S544x1024 (constant S_ .f32 0x3DCCCCCD#32)) (Host.reduceAdd (extf .f32 x0 bitsLt_bf16_f32) (constant S_ .f32 0x00000000#32) reducesTo_S8x544x1024_S544x1024_d0 h_S_))) (broadcastInDim S544x1024 ![] bcast_S_S544x1024 (constant S_ .f32 0x3F26BD02#32))) (addf (Host.sqrt (Host.divf (addf (mulf (broadcastInDim S544x1024 ![] bcast_S_S544x1024 (constant S_ .f32 0x3F7FBE77#32)) x3) (mulf (broadcastInDim S544x1024 ![] bcast_S_S544x1024 (constant S_ .f32 0x3A83126F#32)) (mulf (Host.reduceAdd (extf .f32 x0 bitsLt_bf16_f32) (constant S_ .f32 0x00000000#32) reducesTo_S8x544x1024_S544x1024_d0 h_S_) (Host.reduceAdd (extf .f32 x0 bitsLt_bf16_f32) (constant S_ .f32 0x00000000#32) reducesTo_S8x544x1024_S544x1024_d0 h_S_)))) (broadcastInDim S544x1024 ![] bcast_S_S544x1024 (constant S_ .f32 0x3C231ACC#32)))) (broadcastInDim S544x1024 ![] bcast_S_S544x1024 (constant S_ .f32 0x322BCC77#32)))) (mulf (broadcastInDim S544x1024 ![] bcast_S_S544x1024 (constant S_ .f32 0x3C23D70A#32)) x1))

/-- The new first moment. -/
abbrev newm (x0 : FVec Ideal S8x544x1024 .bf16) (x2 : FVec Ideal S544x1024 .f32) : FVec Ideal S544x1024 .f32 :=
  addf (mulf (broadcastInDim S544x1024 ![] bcast_S_S544x1024 (constant S_ .f32 0x3F666666#32)) x2) (mulf (broadcastInDim S544x1024 ![] bcast_S_S544x1024 (constant S_ .f32 0x3DCCCCCD#32)) (Host.reduceAdd (extf .f32 x0 bitsLt_bf16_f32) (constant S_ .f32 0x00000000#32) reducesTo_S8x544x1024_S544x1024_d0 h_S_))

/-- The new second moment. -/
abbrev newv (x0 : FVec Ideal S8x544x1024 .bf16) (x3 : FVec Ideal S544x1024 .f32) : FVec Ideal S544x1024 .f32 :=
  addf (mulf (broadcastInDim S544x1024 ![] bcast_S_S544x1024 (constant S_ .f32 0x3F7FBE77#32)) x3) (mulf (broadcastInDim S544x1024 ![] bcast_S_S544x1024 (constant S_ .f32 0x3A83126F#32)) (mulf (Host.reduceAdd (extf .f32 x0 bitsLt_bf16_f32) (constant S_ .f32 0x00000000#32) reducesTo_S8x544x1024_S544x1024_d0 h_S_) (Host.reduceAdd (extf .f32 x0 bitsLt_bf16_f32) (constant S_ .f32 0x00000000#32) reducesTo_S8x544x1024_S544x1024_d0 h_S_)))

end Cert.Reference9Ideal.RefValue

end
-- ==== Proof.Adam9Value.lean ====
module

public import proofs.«01_k».proof.Proof.Gen.Kernel9Ideal.Frame
public import proofs.«01_k».proof.Proof.Adam9Ref
public import Idealize.ShloMosaic.Lib.Pipeline.ValueKit

/-!
# The sum of the gradients and the AdamW update of the input projection's weight

A grid point takes some of the rows: it adds the eight devices' gradients of them and updates the moments and the weight.
-/

@[expose] public section

set_option maxRecDepth 16384

noncomputable section

open Idealize.ShloMosaic Idealize.ShloMosaic.TcCoe Idealize.SL.Sem
open Idealize.ShloMosaic.Pipeline (Dat)

namespace Cert.Kernel9Ideal.RefValue

open Cert.Kernel9Ideal Cert.Kernel9Ideal.Gen

variable (m : (ℓ : Loc nD τ sig) → Buf (Elt Ideal) ℓ)

/-- Where the blocks lie: row block `t` at point `t`, of the parts on every device. -/
theorem idx : ∀ t : Fin cfg0.N,
    win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] := (by decide +kernel : ∀ t : Fin grid0.N, _)

/-- The sum of the gradients, whole. -/
theorem final_sumg (c : Dev nD) :
    (dats m 0 c).arrAt 4 (cfgs 0).N = Cert.Reference9Ideal.RefValue.sumg (m ((c : Thread nD τ).loc main_arg0)) := by
  refine (dats m 0 c).arrAt_eq_of_covers 4 _ (by decide +kernel) fun t hf y => ?_
  blk_simp
  rw [after0_4]; frame_out
  pointwise [k0_pay1, k0_pay2, k0_pay3, k0_pay4, k0_pay5, Cert.Reference9Ideal.RefValue.sumg]
  simp only [Fin.sum_univ_eight, zero_add]
  blk_point [iblk, V, idx t]

/-- The change of the weight, whole. -/
theorem final_delta (c : Dev nD) :
    (dats m 0 c).arrAt 5 (cfgs 0).N = Cert.Reference9Ideal.RefValue.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, k0_pay3, k0_pay4, k0_pay5, Cert.Reference9Ideal.RefValue.delta]
  simp only [Fin.sum_univ_eight, zero_add]
  blk_point [iblk, V, idx t]

/-- The new first moment, whole. -/
theorem final_newm (c : Dev nD) :
    (dats m 0 c).arrAt 6 (cfgs 0).N = Cert.Reference9Ideal.RefValue.newm (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay1, k0_pay2, k0_pay3, k0_pay4, k0_pay5, Cert.Reference9Ideal.RefValue.newm]
  simp only [Fin.sum_univ_eight, zero_add]
  blk_point [iblk, V, idx t]

/-- The new second moment, whole. -/
theorem final_newv (c : Dev nD) :
    (dats m 0 c).arrAt 7 (cfgs 0).N = Cert.Reference9Ideal.RefValue.newv (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay1, k0_pay2, k0_pay3, k0_pay4, k0_pay5, Cert.Reference9Ideal.RefValue.newv]
  simp only [Fin.sum_univ_eight, zero_add]
  blk_point [iblk, V, idx t]

end Cert.Kernel9Ideal.RefValue

end
-- ==== Proof.Adam9Claim.lean ====
module

public import proofs.«01_k».proof.Defs
public import proofs.«01_k».proof.Proof.Gen.Reference9Ideal.Run
public import proofs.«01_k».proof.Proof.Adam9Value
public import Idealize.ShloMosaic.Adequacy
public import Idealize.ShloMosaic.Init
public import Idealize.ShloMosaic.Lib.Claim

/-!
# The claim of the update of the input projection's weight
-/

@[expose] public section

set_option maxRecDepth 16384

noncomputable section

namespace Cert.Proof

open Idealize.ShloMosaic Idealize.SL.Sem

/-- The AdamW update runs and leaves its arguments; it has no counters. -/
theorem frame_reference9 : Cert.quiescent_Reference9Ideal := by
  intro m ρ _
  exact (θ_run Cert.Reference9Ideal.defs _ _).mono (fun r h => ⟨fun c => (h c).2.2.2.2,
    sem_eq_zero_of_no_sems (by decide) r.2⟩) (Cert.Reference9Ideal.Value.run m ρ)

set_option maxHeartbeats 1600000 in
/-- The update of the input projection's weight computes the sum of the gradients and the AdamW step. -/
theorem value9 : Cert.algebraic_Kernel9Ideal_Reference9Ideal := by
  pair_intro
  · run_from Cert.Kernel9Ideal.Gen.run_main m g
  · refine Idealize.ShloMosaic.θ_run_mono (Cert.Reference9Ideal.Value.run m' g') ?_
    intro r hr c
    obtain ⟨h0, h1, h2, h3, ha⟩ := hr c
    obtain ⟨a0, a1, a2, a3⟩ := hagree c
    refine ⟨h0.trans ?_, h1.trans ?_, h2.trans ?_, h3.trans ?_, ha⟩
    · rw [a0]
      exact (Cert.Kernel9Ideal.RefValue.final_sumg m c).symm
    · rw [a0, a1, a2, a3]
      exact (Cert.Kernel9Ideal.RefValue.final_delta m c).symm
    · rw [a0, a2]
      exact (Cert.Kernel9Ideal.RefValue.final_newm m c).symm
    · rw [a0, a3]
      exact (Cert.Kernel9Ideal.RefValue.final_newv m c).symm

end Cert.Proof

end
-- ==== Proof.Adam10Ref.lean ====
module

public import proofs.«01_k».proof.Proof.Gen.Reference10Ideal.Run
public import Idealize.ShloMosaic.Lib.Pipeline.ValueKit

/-!
# What the sum of the gradients and the AdamW update hold
-/

@[expose] public section

noncomputable section

open Idealize.ShloMosaic Idealize.ShloMosaic.TcCoe Idealize.SL.Sem

namespace Cert.Reference10Ideal.RefValue

open Cert.Reference10Ideal Cert.Reference10Ideal.Gen

/-- The sum of the devices' gradients. -/
abbrev sumg (x0 : FVec Ideal S8x64x1024 .bf16) : FVec Ideal S64x1024 .f32 :=
  Host.reduceAdd (extf .f32 x0 bitsLt_bf16_f32) (constant S_ .f32 0x00000000#32) reducesTo_S8x64x1024_S64x1024_d0 h_S_

/-- The change of the weight. -/
abbrev delta (x0 : FVec Ideal S8x64x1024 .bf16) (x1 : FVec Ideal S64x1024 .f32) (x2 : FVec Ideal S64x1024 .f32) (x3 : FVec Ideal S64x1024 .f32) : FVec Ideal S64x1024 .f32 :=
  mulf (broadcastInDim S64x1024 ![] bcast_S_S64x1024 (constant S_ .f32 0xBA83126F#32)) (addf (Host.divf (Host.divf (addf (mulf (broadcastInDim S64x1024 ![] bcast_S_S64x1024 (constant S_ .f32 0x3F666666#32)) x2) (mulf (broadcastInDim S64x1024 ![] bcast_S_S64x1024 (constant S_ .f32 0x3DCCCCCD#32)) (Host.reduceAdd (extf .f32 x0 bitsLt_bf16_f32) (constant S_ .f32 0x00000000#32) reducesTo_S8x64x1024_S64x1024_d0 h_S_))) (broadcastInDim S64x1024 ![] bcast_S_S64x1024 (constant S_ .f32 0x3F26BD02#32))) (addf (Host.sqrt (Host.divf (addf (mulf (broadcastInDim S64x1024 ![] bcast_S_S64x1024 (constant S_ .f32 0x3F7FBE77#32)) x3) (mulf (broadcastInDim S64x1024 ![] bcast_S_S64x1024 (constant S_ .f32 0x3A83126F#32)) (mulf (Host.reduceAdd (extf .f32 x0 bitsLt_bf16_f32) (constant S_ .f32 0x00000000#32) reducesTo_S8x64x1024_S64x1024_d0 h_S_) (Host.reduceAdd (extf .f32 x0 bitsLt_bf16_f32) (constant S_ .f32 0x00000000#32) reducesTo_S8x64x1024_S64x1024_d0 h_S_)))) (broadcastInDim S64x1024 ![] bcast_S_S64x1024 (constant S_ .f32 0x3C231ACC#32)))) (broadcastInDim S64x1024 ![] bcast_S_S64x1024 (constant S_ .f32 0x322BCC77#32)))) (mulf (broadcastInDim S64x1024 ![] bcast_S_S64x1024 (constant S_ .f32 0x3C23D70A#32)) x1))

/-- The new first moment. -/
abbrev newm (x0 : FVec Ideal S8x64x1024 .bf16) (x2 : FVec Ideal S64x1024 .f32) : FVec Ideal S64x1024 .f32 :=
  addf (mulf (broadcastInDim S64x1024 ![] bcast_S_S64x1024 (constant S_ .f32 0x3F666666#32)) x2) (mulf (broadcastInDim S64x1024 ![] bcast_S_S64x1024 (constant S_ .f32 0x3DCCCCCD#32)) (Host.reduceAdd (extf .f32 x0 bitsLt_bf16_f32) (constant S_ .f32 0x00000000#32) reducesTo_S8x64x1024_S64x1024_d0 h_S_))

/-- The new second moment. -/
abbrev newv (x0 : FVec Ideal S8x64x1024 .bf16) (x3 : FVec Ideal S64x1024 .f32) : FVec Ideal S64x1024 .f32 :=
  addf (mulf (broadcastInDim S64x1024 ![] bcast_S_S64x1024 (constant S_ .f32 0x3F7FBE77#32)) x3) (mulf (broadcastInDim S64x1024 ![] bcast_S_S64x1024 (constant S_ .f32 0x3A83126F#32)) (mulf (Host.reduceAdd (extf .f32 x0 bitsLt_bf16_f32) (constant S_ .f32 0x00000000#32) reducesTo_S8x64x1024_S64x1024_d0 h_S_) (Host.reduceAdd (extf .f32 x0 bitsLt_bf16_f32) (constant S_ .f32 0x00000000#32) reducesTo_S8x64x1024_S64x1024_d0 h_S_)))

end Cert.Reference10Ideal.RefValue

end
-- ==== Proof.Adam10Value.lean ====
module

public import proofs.«01_k».proof.Proof.Gen.Kernel10Ideal.Frame
public import proofs.«01_k».proof.Proof.Adam10Ref
public import Idealize.ShloMosaic.Lib.Pipeline.ValueKit

/-!
# The sum of the gradients and the AdamW update of a branch's weight

A grid point takes some of the rows: it adds the eight devices' gradients of them and updates the moments and the weight.
-/

@[expose] public section

set_option maxRecDepth 16384

noncomputable section

open Idealize.ShloMosaic Idealize.ShloMosaic.TcCoe Idealize.SL.Sem
open Idealize.ShloMosaic.Pipeline (Dat)

namespace Cert.Kernel10Ideal.RefValue

open Cert.Kernel10Ideal Cert.Kernel10Ideal.Gen

variable (m : (ℓ : Loc nD τ sig) → Buf (Elt Ideal) ℓ)

/-- Where the blocks lie: row block `t` at point `t`, of the parts on every device. -/
theorem idx : ∀ t : Fin cfg0.N,
    win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] := (by decide +kernel : ∀ t : Fin grid0.N, _)

/-- The sum of the gradients, whole. -/
theorem final_sumg (c : Dev nD) :
    (dats m 0 c).arrAt 4 (cfgs 0).N = Cert.Reference10Ideal.RefValue.sumg (m ((c : Thread nD τ).loc main_arg0)) := by
  refine (dats m 0 c).arrAt_eq_of_covers 4 _ (by decide +kernel) fun t hf y => ?_
  blk_simp
  rw [after0_4]; frame_out
  pointwise [k0_pay1, k0_pay2, k0_pay3, k0_pay4, k0_pay5, Cert.Reference10Ideal.RefValue.sumg]
  simp only [Fin.sum_univ_eight, zero_add]
  blk_point [iblk, V, idx t]

/-- The change of the weight, whole. -/
theorem final_delta (c : Dev nD) :
    (dats m 0 c).arrAt 5 (cfgs 0).N = Cert.Reference10Ideal.RefValue.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, k0_pay3, k0_pay4, k0_pay5, Cert.Reference10Ideal.RefValue.delta]
  simp only [Fin.sum_univ_eight, zero_add]
  blk_point [iblk, V, idx t]

/-- The new first moment, whole. -/
theorem final_newm (c : Dev nD) :
    (dats m 0 c).arrAt 6 (cfgs 0).N = Cert.Reference10Ideal.RefValue.newm (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay1, k0_pay2, k0_pay3, k0_pay4, k0_pay5, Cert.Reference10Ideal.RefValue.newm]
  simp only [Fin.sum_univ_eight, zero_add]
  blk_point [iblk, V, idx t]

/-- The new second moment, whole. -/
theorem final_newv (c : Dev nD) :
    (dats m 0 c).arrAt 7 (cfgs 0).N = Cert.Reference10Ideal.RefValue.newv (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay1, k0_pay2, k0_pay3, k0_pay4, k0_pay5, Cert.Reference10Ideal.RefValue.newv]
  simp only [Fin.sum_univ_eight, zero_add]
  blk_point [iblk, V, idx t]

end Cert.Kernel10Ideal.RefValue

end
-- ==== Proof.Adam10Claim.lean ====
module

public import proofs.«01_k».proof.Defs
public import proofs.«01_k».proof.Proof.Gen.Reference10Ideal.Run
public import proofs.«01_k».proof.Proof.Adam10Value
public import Idealize.ShloMosaic.Adequacy
public import Idealize.ShloMosaic.Init
public import Idealize.ShloMosaic.Lib.Claim

/-!
# The claim of the update of a branch's weight
-/

@[expose] public section

set_option maxRecDepth 16384

noncomputable section

namespace Cert.Proof

open Idealize.ShloMosaic Idealize.SL.Sem

/-- The AdamW update runs and leaves its arguments; it has no counters. -/
theorem frame_reference10 : Cert.quiescent_Reference10Ideal := by
  intro m ρ _
  exact (θ_run Cert.Reference10Ideal.defs _ _).mono (fun r h => ⟨fun c => (h c).2.2.2.2,
    sem_eq_zero_of_no_sems (by decide) r.2⟩) (Cert.Reference10Ideal.Value.run m ρ)

set_option maxHeartbeats 1600000 in
/-- The update of a branch's weight computes the sum of the gradients and the AdamW step. -/
theorem value10 : Cert.algebraic_Kernel10Ideal_Reference10Ideal := by
  pair_intro
  · run_from Cert.Kernel10Ideal.Gen.run_main m g
  · refine Idealize.ShloMosaic.θ_run_mono (Cert.Reference10Ideal.Value.run m' g') ?_
    intro r hr c
    obtain ⟨h0, h1, h2, h3, ha⟩ := hr c
    obtain ⟨a0, a1, a2, a3⟩ := hagree c
    refine ⟨h0.trans ?_, h1.trans ?_, h2.trans ?_, h3.trans ?_, ha⟩
    · rw [a0]
      exact (Cert.Kernel10Ideal.RefValue.final_sumg m c).symm
    · rw [a0, a1, a2, a3]
      exact (Cert.Kernel10Ideal.RefValue.final_delta m c).symm
    · rw [a0, a2]
      exact (Cert.Kernel10Ideal.RefValue.final_newm m c).symm
    · rw [a0, a3]
      exact (Cert.Kernel10Ideal.RefValue.final_newv m c).symm

end Cert.Proof

end
-- ==== Proof.Adam11Ref.lean ====
module

public import proofs.«01_k».proof.Proof.Gen.Reference11Ideal.Run
public import Idealize.ShloMosaic.Lib.Pipeline.ValueKit

/-!
# What the sum of the gradients and the AdamW update hold
-/

@[expose] public section

noncomputable section

open Idealize.ShloMosaic Idealize.ShloMosaic.TcCoe Idealize.SL.Sem

namespace Cert.Reference11Ideal.RefValue

open Cert.Reference11Ideal Cert.Reference11Ideal.Gen

/-- The sum of the devices' gradients. -/
abbrev sumg (x0 : FVec Ideal S8x128x1024 .bf16) : FVec Ideal S128x1024 .f32 :=
  Host.reduceAdd (extf .f32 x0 bitsLt_bf16_f32) (constant S_ .f32 0x00000000#32) reducesTo_S8x128x1024_S128x1024_d0 h_S_

/-- The change of the weight. -/
abbrev delta (x0 : FVec Ideal S8x128x1024 .bf16) (x1 : FVec Ideal S128x1024 .f32) (x2 : FVec Ideal S128x1024 .f32) (x3 : FVec Ideal S128x1024 .f32) : FVec Ideal S128x1024 .f32 :=
  mulf (broadcastInDim S128x1024 ![] bcast_S_S128x1024 (constant S_ .f32 0xBA83126F#32)) (addf (Host.divf (Host.divf (addf (mulf (broadcastInDim S128x1024 ![] bcast_S_S128x1024 (constant S_ .f32 0x3F666666#32)) x2) (mulf (broadcastInDim S128x1024 ![] bcast_S_S128x1024 (constant S_ .f32 0x3DCCCCCD#32)) (Host.reduceAdd (extf .f32 x0 bitsLt_bf16_f32) (constant S_ .f32 0x00000000#32) reducesTo_S8x128x1024_S128x1024_d0 h_S_))) (broadcastInDim S128x1024 ![] bcast_S_S128x1024 (constant S_ .f32 0x3F26BD02#32))) (addf (Host.sqrt (Host.divf (addf (mulf (broadcastInDim S128x1024 ![] bcast_S_S128x1024 (constant S_ .f32 0x3F7FBE77#32)) x3) (mulf (broadcastInDim S128x1024 ![] bcast_S_S128x1024 (constant S_ .f32 0x3A83126F#32)) (mulf (Host.reduceAdd (extf .f32 x0 bitsLt_bf16_f32) (constant S_ .f32 0x00000000#32) reducesTo_S8x128x1024_S128x1024_d0 h_S_) (Host.reduceAdd (extf .f32 x0 bitsLt_bf16_f32) (constant S_ .f32 0x00000000#32) reducesTo_S8x128x1024_S128x1024_d0 h_S_)))) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) x1))

/-- The new first moment. -/
abbrev newm (x0 : FVec Ideal S8x128x1024 .bf16) (x2 : FVec Ideal S128x1024 .f32) : FVec Ideal S128x1024 .f32 :=
  addf (mulf (broadcastInDim S128x1024 ![] bcast_S_S128x1024 (constant S_ .f32 0x3F666666#32)) x2) (mulf (broadcastInDim S128x1024 ![] bcast_S_S128x1024 (constant S_ .f32 0x3DCCCCCD#32)) (Host.reduceAdd (extf .f32 x0 bitsLt_bf16_f32) (constant S_ .f32 0x00000000#32) reducesTo_S8x128x1024_S128x1024_d0 h_S_))

/-- The new second moment. -/
abbrev newv (x0 : FVec Ideal S8x128x1024 .bf16) (x3 : FVec Ideal S128x1024 .f32) : FVec Ideal S128x1024 .f32 :=
  addf (mulf (broadcastInDim S128x1024 ![] bcast_S_S128x1024 (constant S_ .f32 0x3F7FBE77#32)) x3) (mulf (broadcastInDim S128x1024 ![] bcast_S_S128x1024 (constant S_ .f32 0x3A83126F#32)) (mulf (Host.reduceAdd (extf .f32 x0 bitsLt_bf16_f32) (constant S_ .f32 0x00000000#32) reducesTo_S8x128x1024_S128x1024_d0 h_S_) (Host.reduceAdd (extf .f32 x0 bitsLt_bf16_f32) (constant S_ .f32 0x00000000#32) reducesTo_S8x128x1024_S128x1024_d0 h_S_)))

end Cert.Reference11Ideal.RefValue

end
-- ==== Proof.Adam11Value.lean ====
module

public import proofs.«01_k».proof.Proof.Gen.Kernel11Ideal.Frame
public import proofs.«01_k».proof.Proof.Adam11Ref
public import Idealize.ShloMosaic.Lib.Pipeline.ValueKit

/-!
# The sum of the gradients and the AdamW update of the output weight

A grid point takes some of the rows: it adds the eight devices' gradients of them and updates the moments and the weight.
-/

@[expose] public section

set_option maxRecDepth 16384

noncomputable section

open Idealize.ShloMosaic Idealize.ShloMosaic.TcCoe Idealize.SL.Sem
open Idealize.ShloMosaic.Pipeline (Dat)

namespace Cert.Kernel11Ideal.RefValue

open Cert.Kernel11Ideal Cert.Kernel11Ideal.Gen

variable (m : (ℓ : Loc nD τ sig) → Buf (Elt Ideal) ℓ)

/-- Where the blocks lie: row block `t` at point `t`, of the parts on every device. -/
theorem idx : ∀ t : Fin cfg0.N,
    win0_0.index t = ![0, t.val, 0] ∧ win0_1.index t = ![t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] := (by decide +kernel : ∀ t : Fin grid0.N, _)

/-- The sum of the gradients, whole. -/
theorem final_sumg (c : Dev nD) :
    (dats m 0 c).arrAt 4 (cfgs 0).N = Cert.Reference11Ideal.RefValue.sumg (m ((c : Thread nD τ).loc main_arg0)) := by
  refine (dats m 0 c).arrAt_eq_of_covers 4 _ (by decide +kernel) fun t hf y => ?_
  blk_simp
  rw [after0_4]; frame_out
  pointwise [k0_pay1, k0_pay2, k0_pay3, k0_pay4, k0_pay5, Cert.Reference11Ideal.RefValue.sumg]
  simp only [Fin.sum_univ_eight, zero_add]
  blk_point [iblk, V, idx t]

/-- The change of the weight, whole. -/
theorem final_delta (c : Dev nD) :
    (dats m 0 c).arrAt 5 (cfgs 0).N = Cert.Reference11Ideal.RefValue.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay1, k0_pay2, k0_pay3, k0_pay4, k0_pay5, Cert.Reference11Ideal.RefValue.delta]
  simp only [Fin.sum_univ_eight, zero_add]
  blk_point [iblk, V, idx t]

/-- The new first moment, whole. -/
theorem final_newm (c : Dev nD) :
    (dats m 0 c).arrAt 6 (cfgs 0).N = Cert.Reference11Ideal.RefValue.newm (m ((c : Thread nD τ).loc main_arg0)) (m ((c : Thread nD τ).loc main_arg2)) := by
  refine (dats m 0 c).arrAt_eq_of_covers 6 _ (by decide +kernel) fun t hf y => ?_
  blk_simp
  rw [after0_6]; frame_out
  pointwise [k0_pay1, k0_pay2, k0_pay3, k0_pay4, k0_pay5, Cert.Reference11Ideal.RefValue.newm]
  simp only [Fin.sum_univ_eight, zero_add]
  blk_point [iblk, V, idx t]

/-- The new second moment, whole. -/
theorem final_newv (c : Dev nD) :
    (dats m 0 c).arrAt 7 (cfgs 0).N = Cert.Reference11Ideal.RefValue.newv (m ((c : Thread nD τ).loc main_arg0)) (m ((c : Thread nD τ).loc main_arg3)) := by
  refine (dats m 0 c).arrAt_eq_of_covers 7 _ (by decide +kernel) fun t hf y => ?_
  blk_simp
  rw [after0_7]; frame_out
  pointwise [k0_pay1, k0_pay2, k0_pay3, k0_pay4, k0_pay5, Cert.Reference11Ideal.RefValue.newv]
  simp only [Fin.sum_univ_eight, zero_add]
  blk_point [iblk, V, idx t]

end Cert.Kernel11Ideal.RefValue

end
-- ==== Proof.Adam11Claim.lean ====
module

public import proofs.«01_k».proof.Defs
public import proofs.«01_k».proof.Proof.Gen.Reference11Ideal.Run
public import proofs.«01_k».proof.Proof.Adam11Value
public import Idealize.ShloMosaic.Adequacy
public import Idealize.ShloMosaic.Init
public import Idealize.ShloMosaic.Lib.Claim

/-!
# The claim of the update of the output weight
-/

@[expose] public section

set_option maxRecDepth 16384

noncomputable section

namespace Cert.Proof

open Idealize.ShloMosaic Idealize.SL.Sem

/-- The AdamW update runs and leaves its arguments; it has no counters. -/
theorem frame_reference11 : Cert.quiescent_Reference11Ideal := by
  intro m ρ _
  exact (θ_run Cert.Reference11Ideal.defs _ _).mono (fun r h => ⟨fun c => (h c).2.2.2.2,
    sem_eq_zero_of_no_sems (by decide) r.2⟩) (Cert.Reference11Ideal.Value.run m ρ)

set_option maxHeartbeats 1600000 in
/-- The update of the output weight computes the sum of the gradients and the AdamW step. -/
theorem value11 : Cert.algebraic_Kernel11Ideal_Reference11Ideal := by
  pair_intro
  · run_from Cert.Kernel11Ideal.Gen.run_main m g
  · refine Idealize.ShloMosaic.θ_run_mono (Cert.Reference11Ideal.Value.run m' g') ?_
    intro r hr c
    obtain ⟨h0, h1, h2, h3, ha⟩ := hr c
    obtain ⟨a0, a1, a2, a3⟩ := hagree c
    refine ⟨h0.trans ?_, h1.trans ?_, h2.trans ?_, h3.trans ?_, ha⟩
    · rw [a0]
      exact (Cert.Kernel11Ideal.RefValue.final_sumg m c).symm
    · rw [a0, a1, a2, a3]
      exact (Cert.Kernel11Ideal.RefValue.final_delta m c).symm
    · rw [a0, a2]
      exact (Cert.Kernel11Ideal.RefValue.final_newm m c).symm
    · rw [a0, a3]
      exact (Cert.Kernel11Ideal.RefValue.final_newv m c).symm

end Cert.Proof

end
-- ==== Proof.FwdMergeRef.lean ====
module

public import proofs.«01_k».proof.Proof.Gen.Reference7Ideal.Run
public import Idealize.ShloMosaic.Lib.Pipeline.ValueKit

/-!
# What the gated merge and the output projection hold
-/

@[expose] public section

noncomputable section

open Idealize.ShloMosaic Idealize.ShloMosaic.TcCoe Idealize.SL.Sem

namespace Cert.Reference7Ideal.RefValue

open Cert.Reference7Ideal Cert.Reference7Ideal.Gen

/-- The half-step's output. -/
abbrev out (x0 : FVec Ideal S8192x1024 .f32) (x1 : FVec Ideal S8192x512 .bf16) (x2 : FVec Ideal S8192x512 .bf16) (x3 : FVec Ideal S8192x1024 .f32) (x4 : FVec Ideal S8192x1024 .f32) (x5 : FVec Ideal S512x1024 .bf16) (x6 : FVec Ideal S512x1024 .bf16) (x7 : FVec Ideal S1024x1024 .bf16) : FVec Ideal S8192x1024 .f32 :=
  addf x0 (Host.dotGeneral dot_S8192x1024_S1024x1024_S8192x1024_1_0_0_1_n_n none (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (Host.dotGeneral dot_S8192x512_S512x1024_S8192x1024_1_0_0_1_n_n none (extf .f32 x1 bitsLt_bf16_f32) (extf .f32 x5 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (Host.dotGeneral dot_S8192x512_S512x1024_S8192x1024_1_0_0_1_n_n none (extf .f32 x2 bitsLt_bf16_f32) (extf .f32 x6 bitsLt_bf16_f32)))) (extf .f32 x7 bitsLt_bf16_f32))

/-- The merged rows. -/
abbrev mg (x1 : FVec Ideal S8192x512 .bf16) (x2 : FVec Ideal S8192x512 .bf16) (x3 : FVec Ideal S8192x1024 .f32) (x4 : FVec Ideal S8192x1024 .f32) (x5 : FVec Ideal S512x1024 .bf16) (x6 : FVec Ideal S512x1024 .bf16) : FVec Ideal S8192x1024 .bf16 :=
  truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x3)))) (Host.dotGeneral dot_S8192x512_S512x1024_S8192x1024_1_0_0_1_n_n none (extf .f32 x1 bitsLt_bf16_f32) (extf .f32 x5 bitsLt_bf16_f32))) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf x4)))) (Host.dotGeneral dot_S8192x512_S512x1024_S8192x1024_1_0_0_1_n_n none (extf .f32 x2 bitsLt_bf16_f32) (extf .f32 x6 bitsLt_bf16_f32)))) bitsLt_bf16_f32

end Cert.Reference7Ideal.RefValue

end
-- ==== Proof.FwdMergeValue.lean ====
module

public import proofs.«01_k».proof.Proof.Gen.Kernel7Ideal.Frame
public import proofs.«01_k».proof.Proof.FwdMergeRef
public import Idealize.ShloMosaic.Lib.Pipeline.ValueKit

/-!
# The gated merge and the output projection

Each of the sixteen grid points takes 512 rows: it merges the two mixers' outputs and projects them.
-/

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen

variable (m : (ℓ : Loc nD τ sig) → Buf (Elt Ideal) ℓ)

/-- Where the blocks lie: row block `t` at point `t`, and the weights whole. -/
theorem idx : ∀ t : Fin cfg0.N,
    win0_0.index t = ![t.val, 0] ∧ win0_1.index t = ![t.val, 0] ∧ win0_2.index t = ![t.val, 0]
      ∧ win0_3.index t = ![t.val, 0] ∧ win0_4.index t = ![t.val, 0] ∧ win0_5.index t = ![0, 0]
      ∧ win0_6.index t = ![0, 0] ∧ win0_7.index t = ![0, 0] ∧ win0_8.index t = ![t.val, 0]
      ∧ win0_9.index t = ![t.val, 0] := (by decide +kernel : ∀ t : Fin grid0.N, _)

/-- The half-step's output, whole. -/
theorem final_out (c : Dev nD) :
    (dats m 0 c).arrAt 8 (cfgs 0).N = Cert.Reference7Ideal.RefValue.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]; frame_out
  pointwise [k0_pay2, k0_pay1, Cert.Reference7Ideal.RefValue.out]
  simp only [Ideal.logistic]
  blk_point [iblk, V, idx t]

/-- The merged rows, whole. -/
theorem final_mg (c : Dev nD) :
    (dats m 0 c).arrAt 9 (cfgs 0).N = Cert.Reference7Ideal.RefValue.mg (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]; frame_out
  pointwise [k0_pay2, k0_pay1, Cert.Reference7Ideal.RefValue.mg]
  simp only [Ideal.logistic]
  blk_point [iblk, V, idx t]

end Cert.Kernel7Ideal.RefValue

end
-- ==== Proof.FwdMergeClaim.lean ====
module

public import proofs.«01_k».proof.Defs
public import proofs.«01_k».proof.Proof.Gen.Reference7Ideal.Run
public import proofs.«01_k».proof.Proof.FwdMergeValue
public import Idealize.ShloMosaic.Adequacy
public import Idealize.ShloMosaic.Init
public import Idealize.ShloMosaic.Lib.Claim

/-!
# The claim of the gated merge
-/

@[expose] public section

set_option maxRecDepth 16384

noncomputable section

namespace Cert.Proof

open Idealize.ShloMosaic Idealize.SL.Sem

/-- The gated merge runs and leaves its arguments; it has no counters. -/
theorem frame_reference7 : Cert.quiescent_Reference7Ideal := by
  intro m ρ _
  exact (θ_run Cert.Reference7Ideal.defs _ _).mono (fun r h => ⟨fun c => (h c).2.2,
    sem_eq_zero_of_no_sems (by decide) r.2⟩) (Cert.Reference7Ideal.Value.run m ρ)

/-- The kernel computes the gated merge and its projection. -/
theorem value7 : Cert.algebraic_Kernel7Ideal_Reference7Ideal := by
  pair_intro
  · run_from Cert.Kernel7Ideal.Gen.run_main m g
  · run_from Cert.Reference7Ideal.Value.run m' g'
    · exact (Cert.Kernel7Ideal.RefValue.final_out m c).symm
    · exact (Cert.Kernel7Ideal.RefValue.final_mg m c).symm

end Cert.Proof

end
-- ==== Proof.StackRef.lean ====
module

public import proofs.«01_k».proof.Proof.Gen.Reference4Ideal.Run
public import Idealize.ShloMosaic.Lib.Pipeline.ValueKit

/-!
# What the gradient of the input projection's weight holds
-/

@[expose] public section

noncomputable section

open Idealize.ShloMosaic Idealize.ShloMosaic.TcCoe Idealize.SL.Sem

namespace Cert.Reference4Ideal.RefValue

open Cert.Reference4Ideal Cert.Reference4Ideal.Gen

/-- The gradient of the weight, transposed. -/
abbrev dw (x0 : FVec Ideal S8192x512 .bf16) (x1 : FVec Ideal S8192x128 .bf16) (x2 : FVec Ideal S8192x128 .bf16) (x3 : FVec Ideal S8192x512 .bf16) (x4 : FVec Ideal S8192x512 .bf16) (x5 : FVec Ideal S8192x512 .bf16) (x6 : FVec Ideal S8192x1024 .bf16) (x7 : FVec Ideal S8192x1024 .bf16) (x8 : FVec Ideal S8192x1024 .bf16) : FVec Ideal S4352x1024 .bf16 :=
  truncf .bf16 (transpose S4352x1024 [1, 0] (transpose S1024x4352 [1, 0] (Host.dotGeneral dot_S8192x4352_S8192x1024_S4352x1024_0_0_1_1_n_n none ((concatenate S8192x4352 1 [⟨S8192x512, ((extf .f32 x0 bitsLt_bf16_f32) : FVec Ideal S8192x512 .f32)⟩, ⟨S8192x128, ((extf .f32 x1 bitsLt_bf16_f32) : FVec Ideal S8192x128 .f32)⟩, ⟨S8192x128, ((extf .f32 x2 bitsLt_bf16_f32) : FVec Ideal S8192x128 .f32)⟩, ⟨S8192x512, ((extf .f32 x3 bitsLt_bf16_f32) : FVec Ideal S8192x512 .f32)⟩, ⟨S8192x512, ((extf .f32 x4 bitsLt_bf16_f32) : FVec Ideal S8192x512 .f32)⟩, ⟨S8192x512, ((extf .f32 x5 bitsLt_bf16_f32) : FVec Ideal S8192x512 .f32)⟩, ⟨S8192x1024, ((extf .f32 x6 bitsLt_bf16_f32) : FVec Ideal S8192x1024 .f32)⟩, ⟨S8192x1024, ((extf .f32 x7 bitsLt_bf16_f32) : FVec Ideal S8192x1024 .f32)⟩] concatenates_S8192x512_S8192x128_S8192x128_S8192x512_S8192x512_S8192x512_S8192x1024_S8192x1024_S8192x4352_d1 : FVec Ideal S8192x4352 .f32)) (extf .f32 x8 bitsLt_bf16_f32)) transposes_S4352x1024_S1024x4352_1_0) transposes_S1024x4352_S4352x1024_1_0) bitsLt_bf16_f32

end Cert.Reference4Ideal.RefValue

end
-- ==== Proof.StackSteps.lean ====
module

public import proofs.«01_k».proof.Proof.Gen.Kernel4Ideal.Frame
public import proofs.«01_k».proof.Proof.StackRef
public import Idealize.ShloMosaic.Lib.Pipeline.ValueKit
public import Idealize.ShloMosaic.Lib.Pipeline.ReadBack

/-!
# The gradient of the input projection's weight

The eight groups of columns lie one after another in the gradient's rows. A grid point takes 256 rows of the eight cotangents and of
the normalised rows, and adds each group's product to its rows of the sums kept between the points. The first of the 32 points starts
from zero and the last writes the sums out, rounded.
-/

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

/-- Where the blocks lie: row block `t` of the cotangents and of the rows, and the gradient whole. -/
theorem idx : ∀ t : Fin cfg0.N,
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] ∧ win0_9.index t = ![0, 0] :=
  (by decide +kernel : ∀ t : Fin grid0.N, _)

/-- The last point. -/
def t0_31 : Fin cfg0.N := ⟨31, lt_of_lt_of_eq (by decide) N_0.symm⟩

/-- The row a strip's row `x` is. -/
theorem row_val (o n : ℕ) (p) (x : (Rect.unit (s := S4352x1024) ![o, 0] ![n, 1024] p).shape.Idx) :
    ((Rect.unit (s := S4352x1024) ![o, 0] ![n, 1024] p).emb x 0).val = o + (x 0).val := by
  show o + 1 * (x 0).val = _
  omega

/-- Column `l` of one row of the eight groups laid side by side. -/
def pick (c0 : Fin 512 → EReal) (c1 c2 : Fin 128 → EReal) (c3 c4 c5 : Fin 512 → EReal) (c6 c7 : Fin 1024 → EReal)
    (l : ℕ) (hl : l < 4352) : EReal :=
  if h : l < 512 then c0 ⟨l, h⟩ else
  if h : l - 512 < 128 then c1 ⟨l - 512, h⟩ else
  if h : l - 512 - 128 < 128 then c2 ⟨l - 512 - 128, h⟩ else
  if h : l - 512 - 128 - 128 < 512 then c3 ⟨l - 512 - 128 - 128, h⟩ else
  if h : l - 512 - 128 - 128 - 512 < 512 then c4 ⟨l - 512 - 128 - 128 - 512, h⟩ else
  if h : l - 512 - 128 - 128 - 512 - 512 < 512 then c5 ⟨l - 512 - 128 - 128 - 512 - 512, h⟩ else
  if h : l - 512 - 128 - 128 - 512 - 512 - 512 < 1024 then c6 ⟨l - 512 - 128 - 128 - 512 - 512 - 512, h⟩ else
  c7 ⟨l - 512 - 128 - 128 - 512 - 512 - 512 - 1024, by omega⟩

/-- What one point adds: the products over its 256 rows. -/
def part (c0 : Vec Ideal S256x512 .bf16) (c1 : Vec Ideal S256x128 .bf16) (c2 : Vec Ideal S256x128 .bf16) (c3 : Vec Ideal S256x512 .bf16) (c4 : Vec Ideal S256x512 .bf16) (c5 : Vec Ideal S256x512 .bf16) (c6 : Vec Ideal S256x1024 .bf16) (c7 : Vec Ideal S256x1024 .bf16) (h : Vec Ideal S256x1024 .bf16)
    (j : S4352x1024.Idx) : EReal :=
  ∑ k : Fin 256, pick (fun x => c0 (ix2 k x)) (fun x => c1 (ix2 k x)) (fun x => c2 (ix2 k x)) (fun x => c3 (ix2 k x)) (fun x => c4 (ix2 k x)) (fun x => c5 (ix2 k x)) (fun x => c6 (ix2 k x)) (fun x => c7 (ix2 k x)) (j 0).val (j 0).isLt * h (ix2 k (j 1))

/-- One point's step: the sums carried so far, plus what the point adds. -/
def step (c0 : Vec Ideal S256x512 .bf16) (c1 : Vec Ideal S256x128 .bf16) (c2 : Vec Ideal S256x128 .bf16) (c3 : Vec Ideal S256x512 .bf16) (c4 : Vec Ideal S256x512 .bf16) (c5 : Vec Ideal S256x512 .bf16) (c6 : Vec Ideal S256x1024 .bf16) (c7 : Vec Ideal S256x1024 .bf16) (h : Vec Ideal S256x1024 .bf16)
    (acc : Vec Ideal S4352x1024 .f32) : Vec Ideal S4352x1024 .f32 := fun j => acc j + part c0 c1 c2 c3 c4 c5 c6 c7 h j

theorem scr_B (c : Dev nD) (t : Fin cfg0.N) (p0 : ¬t.val % 32 = 0) (p1 : ¬t.val % 32 = 31) (j) :
    (outsAt0 m c t.val t.isLt).2 j = step (iblk m c 0 t) (iblk m c 1 t) (iblk m c 2 t) (iblk m c 3 t) (iblk m c 4 t) (iblk m c 5 t) (iblk m c 6 t) (iblk m c 7 t) (iblk m c 8 t) (outsAt0 m c (t.val - 1) (by omega)).2 j := by
  rw [outsAt0_B m c t p0 p1]; frame_out
  simp only [read_unread_whole]
  canon_tiles x h using (View.cover_of_tiledBy _ ![128, 1024] (by sl_kernel_rfl) j)
  all_goals
    pointwise [k0_pay1, k0_pay3, k0_pay4, k0_pay5, k0_pay6, k0_pay7, k0_pay8, k0_pay9, k0_pay10, step, part, pick, h0, h1]
    blk_point [h0, h1]
    all_goals
      exfalso
      omega

theorem scr_C (c : Dev nD) (t : Fin cfg0.N) (p0 : ¬t.val % 32 = 0) (p1 : t.val % 32 = 31) (j) :
    (outsAt0 m c t.val t.isLt).2 j = step (iblk m c 0 t) (iblk m c 1 t) (iblk m c 2 t) (iblk m c 3 t) (iblk m c 4 t) (iblk m c 5 t) (iblk m c 6 t) (iblk m c 7 t) (iblk m c 8 t) (outsAt0 m c (t.val - 1) (by omega)).2 j := by
  rw [outsAt0_C m c t p0 p1]; frame_out
  simp only [read_unread_whole]
  canon_tiles x h using (View.cover_of_tiledBy _ ![128, 1024] (by sl_kernel_rfl) j)
  all_goals
    pointwise [k0_pay1, k0_pay3, k0_pay4, k0_pay5, k0_pay6, k0_pay7, k0_pay8, k0_pay9, k0_pay10, step, part, pick, h0, h1]
    blk_point [h0, h1]
    all_goals
      exfalso
      omega

theorem scr_A (c : Dev nD) (t : Fin cfg0.N) (p0 : t.val % 32 = 0) (p1 : ¬t.val % 32 = 31) (j) :
    (outsAt0 m c t.val t.isLt).2 j = step (iblk m c 0 t) (iblk m c 1 t) (iblk m c 2 t) (iblk m c 3 t) (iblk m c 4 t) (iblk m c 5 t) (iblk m c 6 t) (iblk m c 7 t) (iblk m c 8 t) (fun _ => 0) j := by
  rw [outsAt0_A m c t p0 p1]; frame_open
  simp (discharger := first | decide | rfl) only [↓View.readCov_skip, ↓View.readCov_fill]
  frame_out
  refine View.canon_append_of_piecesOf (step (iblk m c 0 t) (iblk m c 1 t) (iblk m c 2 t) (iblk m c 3 t) (iblk m c 4 t) (iblk m c 5 t) (iblk m c 6 t) (iblk m c 7 t) (iblk m c 8 t) (fun _ => 0)) [⟨_, _⟩]
    [⟨_, _⟩, ⟨_, _⟩, ⟨_, _⟩, ⟨_, _⟩, ⟨_, _⟩, ⟨_, _⟩, ⟨_, _⟩, ⟨_, _⟩] ⟨?_, ?_, ?_, ?_, ?_, ?_, ?_, ?_, trivial⟩ j
    (View.cover_of_tiledBy _ ![128, 1024] (by sl_kernel_rfl) j)
  all_goals
    intro x
    pointwise [k0_pay1, k0_pay3, k0_pay4, k0_pay5, k0_pay6, k0_pay7, k0_pay8, k0_pay9, k0_pay10, step, part, pick]
    blk_point []
    all_goals
      exfalso
      simp only [row_val] at *
      omega

/-- What the last point writes out: the sums, rounded. -/
theorem out_C (c : Dev nD) (t : Fin cfg0.N) (p0 : ¬t.val % 32 = 0) (p1 : t.val % 32 = 31) (j) :
    (outsAt0 m c t.val t.isLt).1 j = (outsAt0 m c t.val t.isLt).2 j := by
  rw [outsAt0_C m c t p0 p1]; frame_out
  have hw : ∀ X : Vec Ideal S4352x1024 .f32, k0_pay2 X j = X j := fun X => by pointwise [k0_pay2]
  rw [hw, View.readCov_eq_canon']
  refine congrArg _ (funext fun a => Fin.ext ?_)
  match a with
  | 0 => show 0 + 1 * (j 0).val = (j 0).val; omega
  | 1 => show 0 + 1 * (j 1).val = (j 1).val; omega

theorem href (x0 x1 x2 x3 x4 x5 x6 x7 x8 j) : Cert.Reference4Ideal.RefValue.dw x0 x1 x2 x3 x4 x5 x6 x7 x8 j
    = ∑ k : Fin 8192, pick (fun x => x0 (ix2 k x)) (fun x => x1 (ix2 k x)) (fun x => x2 (ix2 k x)) (fun x => x3 (ix2 k x)) (fun x => x4 (ix2 k x)) (fun x => x5 (ix2 k x)) (fun x => x6 (ix2 k x)) (fun x => x7 (ix2 k x)) (j 0).val (j 0).isLt * x8 (ix2 k (j 1)) := by
  pointwise [Cert.Reference4Ideal.RefValue.dw, pick]

end Cert.Kernel4Ideal.RefValue

end
-- ==== Proof.StackValue.lean ====
module

public import proofs.«01_k».proof.Proof.StackSteps

/-!
# The gradient of the input projection's weight, whole
-/

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

set_option maxHeartbeats 1600000 in
/-- The result array holds the gradient. -/
theorem final (c : Dev nD) :
    (dats m 0 c).arrAt 9 (cfgs 0).N = Cert.Reference4Ideal.RefValue.dw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 9 t0_31 (by decide +kernel) _ fun j => ?_
  blk_simp
  rw [after0_9, out_C m c t0_31 (by decide) (by decide),
    Pipeline.eq_sum_fin_of_reset_step_apply_last (fun n h => (outsAt0 m c n h).2) 32 (fun _ => 0)
      (fun t j => part (iblk m c 0 t) (iblk m c 1 t) (iblk m c 2 t) (iblk m c 3 t) (iblk m c 4 t) (iblk m c 5 t) (iblk m c 6 t) (iblk m c 7 t) (iblk m c 8 t) j)
      (fun t h j => by rw [scr_A m c t h (by omega), step])
      (fun t h j => by
        by_cases h1 : t.val % 32 = 31
        · rw [scr_C m c t h h1, step]
        · rw [scr_B m c t h h1, step]) (le_of_eq N_0) t0_31 rfl j, zero_add, href]
  refine Fin.sum_mul_add_congr fun s k hl => ?_
  unfold pick
  split_ifs <;> (blk_point [iblk, V, idx]; refine congrArg₂ (· * ·) ?_ rfl; blk_ext [V, idx])

end Cert.Kernel4Ideal.RefValue

end
-- ==== Proof.StackClaim.lean ====
module

public import proofs.«01_k».proof.Defs
public import proofs.«01_k».proof.Proof.Gen.Reference4Ideal.Run
public import proofs.«01_k».proof.Proof.StackValue
public import Idealize.ShloMosaic.Adequacy
public import Idealize.ShloMosaic.Init
public import Idealize.ShloMosaic.Lib.Claim

/-!
# The claim of the input projection's weight gradient
-/

@[expose] public section

set_option maxRecDepth 16384

noncomputable section

namespace Cert.Proof

open Idealize.ShloMosaic Idealize.SL.Sem

/-- The derivative of the projection in its weight runs and leaves its arguments; it has no counters. -/
theorem frame_reference4 : Cert.quiescent_Reference4Ideal := by
  intro m ρ _
  exact (θ_run Cert.Reference4Ideal.defs _ _).mono (fun r h => ⟨fun c => (h c).2,
    sem_eq_zero_of_no_sems (by decide) r.2⟩) (Cert.Reference4Ideal.Value.run m ρ)

/-- The stacked products compute the gradient of the input projection's weight. -/
theorem value4 : Cert.algebraic_Kernel4Ideal_Reference4Ideal := by
  pair_intro
  · run_from Cert.Kernel4Ideal.Gen.run_main m g
  · refine Idealize.ShloMosaic.θ_run_mono (Cert.Reference4Ideal.Value.run m' g') ?_
    intro r hr c
    obtain ⟨h0, ha⟩ := hr c
    obtain ⟨a0, a1, a2, a3, a4, a5, a6, a7, a8⟩ := hagree c
    refine ⟨h0.trans ?_, ha⟩
    rw [a0, a1, a2, a3, a4, a5, a6, a7, a8]
    exact (Cert.Kernel4Ideal.RefValue.final m c).symm

end Cert.Proof

end
-- ==== Proof.ProjBackRef.lean ====
module

public import proofs.«01_k».proof.Proof.Gen.Reference5Ideal.Run
public import Idealize.ShloMosaic.Lib.Pipeline.ValueKit

/-!
# What the gradients of the input projection and its norm hold

Named step by step: the gradient of the normalised rows, which comes back through the projection, and then what the norm makes of it.
-/

@[expose] public section

set_option maxRecDepth 16384

noncomputable section

open Idealize.ShloMosaic Idealize.ShloMosaic.TcCoe Idealize.SL.Sem

namespace Cert.Reference5Ideal.RefValue

open Cert.Reference5Ideal Cert.Reference5Ideal.Gen

/-- The gradient of the normalised rows. -/
abbrev dh (x0 : FVec Ideal S8192x512 .bf16) (x1 : FVec Ideal S8192x128 .bf16) (x2 : FVec Ideal S8192x128 .bf16) (x3 : FVec Ideal S8192x512 .bf16) (x4 : FVec Ideal S8192x512 .bf16) (x5 : FVec Ideal S8192x512 .bf16) (x6 : FVec Ideal S8192x1024 .bf16) (x7 : FVec Ideal S8192x1024 .bf16) (x11 : FVec Ideal S4352x1024 .bf16) : FVec Ideal S8192x1024 .f32 :=
  Host.dotGeneral (φ₁ := .f32) (φ₂ := .f32) dot_S8192x4352_S1024x4352_S8192x1024_1_1_0_0_n_n none
    ((concatenate S8192x4352 1 [⟨S8192x512, ((extf .f32 x0 bitsLt_bf16_f32) : FVec Ideal S8192x512 .f32)⟩, ⟨S8192x128, ((extf .f32 x1 bitsLt_bf16_f32) : FVec Ideal S8192x128 .f32)⟩, ⟨S8192x128, ((extf .f32 x2 bitsLt_bf16_f32) : FVec Ideal S8192x128 .f32)⟩, ⟨S8192x512, ((extf .f32 x3 bitsLt_bf16_f32) : FVec Ideal S8192x512 .f32)⟩, ⟨S8192x512, ((extf .f32 x4 bitsLt_bf16_f32) : FVec Ideal S8192x512 .f32)⟩, ⟨S8192x512, ((extf .f32 x5 bitsLt_bf16_f32) : FVec Ideal S8192x512 .f32)⟩, ⟨S8192x1024, ((extf .f32 x6 bitsLt_bf16_f32) : FVec Ideal S8192x1024 .f32)⟩, ⟨S8192x1024, ((extf .f32 x7 bitsLt_bf16_f32) : FVec Ideal S8192x1024 .f32)⟩] concatenates_S8192x512_S8192x128_S8192x128_S8192x512_S8192x512_S8192x512_S8192x1024_S8192x1024_S8192x4352_d1 : FVec Ideal S8192x4352 .f32))
    (transpose S1024x4352 [1, 0] (extf .f32 x11 bitsLt_bf16_f32) transposes_S4352x1024_S1024x4352_1_0)

/-- The mean square of a row, and the small constant. -/
abbrev ms (x9 : FVec Ideal S8192x1024 .f32) : FVec Ideal S8192x1 .f32 :=
  addf (Host.divf (broadcastInDim S8192x1 ![0] bcast_S8192_S8192x1_0 (Host.reduceAdd (mulf x9 x9) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The cotangent of a row's mean of squares, spread over the row. -/
abbrev dms (u x9 : FVec Ideal S8192x1024 .f32) (x10 : FVec Ideal S1x1024 .f32) : FVec Ideal S8192x1024 .f32 :=
  broadcastInDim S8192x1024 ![0] bcast_S8192_S8192x1024_0 (Host.reduceAdd (Host.divf (mulf (shapeCast S8192x1 (Host.reduceAdd (mulf x9 (mulf u (broadcastInDim S8192x1024 ![0, 1] bcast_S1x1024_S8192x1024_0_1 x10))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (ms x9)) (ms x9)))) (broadcastInDim S8192x1 ![] bcast_S_S8192x1 (constant S_ .f32 0x44800000#32))) (constant S_ .f32 0x00000000#32) reducesTo_S8192x1_S8192_d1 h_S_)

/-- The gradient of the norm's rows, beside the gradient that reaches them past the norm. -/
abbrev dxOf (u x8 x9 : FVec Ideal S8192x1024 .f32) (x10 : FVec Ideal S1x1024 .f32) : FVec Ideal S8192x1024 .f32 :=
  addf (addf (addf x8 (mulf (mulf u (broadcastInDim S8192x1024 ![0, 1] bcast_S1x1024_S8192x1024_0_1 x10)) (broadcastInDim S8192x1024 ![0, 1] bcast_S8192x1_S8192x1024_0_1 (Host.rsqrt (ms x9))))) (mulf x9 (dms u x9 x10))) (mulf (dms u x9 x10) x9)

/-- The gradient of the norm's gain. -/
abbrev dgOf (u x9 : FVec Ideal S8192x1024 .f32) : FVec Ideal S1x1024 .f32 :=
  shapeCast S1x1024 (Host.reduceAdd (mulf (mulf x9 (broadcastInDim S8192x1024 ![0, 1] bcast_S8192x1_S8192x1024_0_1 (Host.rsqrt (ms x9)))) u) (constant S_ .f32 0x00000000#32) reducesTo_S8192x1024_S1024_d0 h_S_) shapeCasts_S1024_S1x1024

variable (m : (ℓ : Loc nD τ sig) → Buf (Elt Ideal) ℓ) (ρ : Dev nD → PrngReg)

/-- The gradient of the normalised rows, of the arguments. -/
abbrev dhAt (c : Dev nD) : FVec Ideal S8192x1024 .f32 :=
  dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11))

/-- The reference ends holding these gradients, with its arguments unchanged. -/
theorem run : θ_run (defs (F := Ideal)) (onTc (τ := τ) (main (F := Ideal))) ⟨m, fun _ => 0, ρ⟩ fun r => ∀ c : Dev nD,
    r.2.mem ((c.tc : Thread nD τ).loc main_v55) = dxOf (dhAt m c) (m ((c.tc : Thread nD τ).loc main_arg8)) (m ((c.tc : Thread nD τ).loc main_arg9)) (m ((c.tc : Thread nD τ).loc main_arg10))
      ∧ r.2.mem ((c.tc : Thread nD τ).loc main_v38) = dgOf (dhAt m c) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (by unfold Value.res_main_v55; rfl), (h c).2.1.trans rfl, (h c).2.2⟩) (Value.run m ρ)

end Cert.Reference5Ideal.RefValue

end
-- ==== Proof.RmsBack.lean ====
module

public import Idealize.ShloMosaic.Lib.IdealHost

/-!
# The derivative of the RMS norm, in two forms

A row `x` is divided by the root `1 / R` of its mean square plus a positive constant. With `e` the cotangent of the normalised row, the
chain rule gives `e * R` and a part that comes through the mean of the squares, `D * x` twice. The other form multiplies by `R` at the
end and takes the mean of `e` against the normalised row. They agree for all extended reals: where the mean square is infinite `R` is
zero, and otherwise `R` is a positive real, over which sums distribute.
-/

@[expose] public section

noncomputable section

open Idealize.ShloMosaic

namespace Cert.Rms

/-- A sum times a nonnegative real. -/
theorem sum_mul_real {ι : Type} (t : Finset ι) (f : ι → EReal) (s : ℝ) (hs : 0 ≤ s) :
    ∑ i ∈ t, f i * (s : EReal) = (∑ i ∈ t, f i) * (s : EReal) := by
  classical
  induction t using Finset.induction_on with
  | empty => simp
  | insert a t ha ih =>
    rw [Finset.sum_insert ha, Finset.sum_insert ha, ih,
      EReal.right_distrib_of_nonneg_of_ne_top (by exact_mod_cast hs) (EReal.coe_ne_top s)]

/-- The number of columns. -/
theorem cols : Ideal.ofBits .f32 0x44800000#32 = ((1024 : ℝ) : EReal) := by
  simp [Ideal.ofBits, Ideal.ieee, -EReal.coe_mul]; norm_num

/-- Minus one half. -/
theorem neg_half : Ideal.ofBits .f32 0xBF000000#32 = ((-(1 / 2) : ℝ) : EReal) := by
  simp [Ideal.ofBits, Ideal.ieee, -EReal.coe_mul, -EReal.coe_neg]; norm_num

/-- The small constant is a positive real. -/
theorem eps : ∃ ε : ℝ, 0 < ε ∧ Ideal.ofBits .f32 0x358637BD#32 = (ε : EReal) := by
  refine ⟨8796093 / 2 ^ 43, by norm_num, ?_⟩
  simp [Ideal.ofBits, Ideal.ieee, -EReal.coe_mul]; norm_num

/-- A row's mean square, plus the small constant. -/
def ms (x : Fin 1024 → EReal) : EReal :=
  Ideal.div (∑ i, x i * x i) (Ideal.ofBits .f32 0x44800000#32) + Ideal.ofBits .f32 0x358637BD#32

/-- The norm's factor. -/
def R (x : Fin 1024 → EReal) : EReal := Ideal.rsqrt (ms x)

/-- The mean square's cotangent, by the chain rule. -/
def D (x e : Fin 1024 → EReal) : EReal :=
  Ideal.div ((∑ i, x i * e i) * (Ideal.ofBits .f32 0xBF000000#32 * Ideal.div (R x) (ms x))) (Ideal.ofBits .f32 0x44800000#32)

/-- The closed form. -/
def closed (x e : Fin 1024 → EReal) (k : Fin 1024) : EReal :=
  R x * (e k - x k * R x * Ideal.div (∑ i, e i * (x i * R x)) (Ideal.ofBits .f32 0x44800000#32))

theorem ms_pos (x : Fin 1024 → EReal) : 0 < ms x := by
  obtain ⟨ε, hε, he⟩ := eps
  have hS : 0 ≤ ∑ i, x i * x i := Finset.sum_nonneg fun i _ => by
    rcases le_total 0 (x i) with h | h
    · exact EReal.mul_nonneg h h
    · rw [← neg_mul_neg]
      have h' : 0 ≤ -x i := by simpa using EReal.neg_le_neg_iff.mpr h
      exact EReal.mul_nonneg h' h'
  rw [ms, he, cols, Ideal.div_coe (by norm_num)]
  have h1 : (0 : EReal) ≤ (∑ i, x i * x i) * ((1 / 1024 : ℝ) : EReal) :=
    EReal.mul_nonneg hS (by exact_mod_cast (by norm_num : (0 : ℝ) ≤ 1 / 1024))
  calc (0 : EReal) < (ε : EReal) := by exact_mod_cast hε
    _ = 0 + (ε : EReal) := (zero_add _).symm
    _ ≤ _ := add_le_add h1 le_rfl

/-- The two forms agree. -/
theorem closed_eq (x e : Fin 1024 → EReal) (k : Fin 1024) :
    closed x e k = e k * R x + (x k * D x e + D x e * x k) := by
  have hpos := ms_pos x
  rw [closed, D, R]
  generalize ms x = M at hpos ⊢
  have hT : ∑ i, x i * e i = ∑ i, e i * x i := Finset.sum_congr rfl fun i _ => mul_comm _ _
  rw [hT, neg_half, cols, Ideal.div_coe (by norm_num), Ideal.div_coe (by norm_num)]
  induction M using EReal.rec with
  | bot => exact absurd hpos (by simp)
  | top => simp [Ideal.div]
  | coe r =>
    have hr : 0 < r := by exact_mod_cast hpos
    rw [Ideal.rsqrt_coe, if_neg (not_lt.mpr hr.le), if_neg hr.ne', Ideal.div_coe hr.ne']
    set s : ℝ := (Real.sqrt r)⁻¹ with hs
    have hs0 : 0 ≤ s := inv_nonneg.mpr (Real.sqrt_nonneg r)
    have hss : s * s = 1 / r := by
      rw [hs, ← mul_inv, Real.mul_self_sqrt hr.le, one_div]
    have hsum : ∑ i, e i * (x i * (s : EReal)) = (∑ i, e i * x i) * (s : EReal) := by
      rw [← sum_mul_real _ _ s hs0]
      exact Finset.sum_congr rfl fun i _ => (mul_assoc _ _ _).symm
    rw [hsum]
    generalize (∑ i, e i * x i) = T
    have h1 : (s : EReal) * (x k * (s : EReal) * (T * (s : EReal) * ((1 / 1024 : ℝ) : EReal)))
        = ((s * s * s * (1 / 1024) : ℝ) : EReal) * (x k * T) := by
      rw [EReal.coe_mul, EReal.coe_mul, EReal.coe_mul]; ac_rfl
    have h2 : x k * (T * (((-(1 / 2) : ℝ) : EReal) * ((s : EReal) * ((1 / r : ℝ) : EReal))) * ((1 / 1024 : ℝ) : EReal))
        = ((-(1 / 2) * (s * (1 / r)) * (1 / 1024) : ℝ) : EReal) * (x k * T) := by
      rw [EReal.coe_mul, EReal.coe_mul, EReal.coe_mul]; ac_rfl
    have h3 : ∀ y : EReal, y + y = ((2 : ℝ) : EReal) * y := fun y => by
      have h := EReal.right_distrib_of_nonneg (a := 1) (b := 1) (c := y) zero_le_one zero_le_one
      rw [one_mul] at h
      rw [← h]
      congr 1
      norm_num
      rfl
    rw [mul_comm _ (x k), h2, h3, ← mul_assoc ((2 : ℝ) : EReal), ← EReal.coe_mul 2, sub_eq_add_neg,
      EReal.left_distrib_of_nonneg_of_ne_top (by exact_mod_cast hs0) (EReal.coe_ne_top s), mul_neg, h1,
      ← neg_mul, ← EReal.coe_neg, mul_comm (s : EReal) (e k)]
    congr 3
    rw [← hss]
    ring

end Cert.Rms

end
-- ==== Proof.Pieces.lean ====
module

public import proofs.«01_k».proof.Proof.StackSteps

/-!
# A sum over the columns of the eight pieces

The input projection's columns fall into eight pieces. A sum over all the columns is the sum of the pieces' sums.
-/

@[expose] public section

noncomputable section

open Idealize.ShloMosaic

namespace Cert.Pieces

open Cert.Kernel4Ideal.RefValue (pick)

/-- A sum falls into its first `n` terms and its last `k`. -/
theorem split (n k : ℕ) {N : ℕ} (h : N = n + k) (f : Fin N → EReal) :
    ∑ l, f l = ∑ l : Fin n, f ⟨l.val, by omega⟩ + ∑ l : Fin k, f ⟨n + l.val, by omega⟩ := by
  subst h
  exact Fin.sum_univ_add f

/-- The sum over all the columns, piece by piece. -/
theorem sum (c0 : Fin 512 → EReal) (c1 c2 : Fin 128 → EReal) (c3 c4 c5 : Fin 512 → EReal) (c6 c7 : Fin 1024 → EReal)
    (w : Fin 4352 → EReal) :
    ∑ l : Fin 4352, pick c0 c1 c2 c3 c4 c5 c6 c7 l.val l.isLt * w l
      = ∑ k : Fin 512, c0 k * w ⟨k.val, by omega⟩ + ∑ k : Fin 128, c1 k * w ⟨512 + k.val, by omega⟩
        + ∑ k : Fin 128, c2 k * w ⟨640 + k.val, by omega⟩ + ∑ k : Fin 512, c3 k * w ⟨768 + k.val, by omega⟩
        + ∑ k : Fin 512, c4 k * w ⟨1280 + k.val, by omega⟩ + ∑ k : Fin 512, c5 k * w ⟨1792 + k.val, by omega⟩
        + ∑ k : Fin 1024, c6 k * w ⟨2304 + k.val, by omega⟩ + ∑ k : Fin 1024, c7 k * w ⟨3328 + k.val, by omega⟩ := by
  rw [split 3328 1024 rfl, split 2304 1024 (N := 3328) rfl, split 1792 512 (N := 2304) rfl, split 1280 512 (N := 1792) rfl,
    split 768 512 (N := 1280) rfl, split 640 128 (N := 768) rfl, split 512 128 (N := 640) rfl]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine Finset.sum_congr rfl fun k _ => ?_
    have hk := k.isLt
    simp only [pick]
    repeat rw [dif_neg (by omega)]
    try rw [dif_pos (by omega)]
    all_goals
      refine congrArg₂ (· * ·) (congrArg _ (Fin.ext ?_)) rfl
      dsimp only
      omega

end Cert.Pieces

end
-- ==== Proof.ProjBackValue.lean ====
module

public import proofs.«01_k».proof.Proof.Gen.Kernel5Ideal.Frame
public import proofs.«01_k».proof.Proof.ProjBackRef
public import proofs.«01_k».proof.Proof.RmsBack
public import proofs.«01_k».proof.Proof.Pieces
public import Idealize.ShloMosaic.Lib.Pipeline.ValueKit
public import Idealize.ShloMosaic.Lib.Pipeline.ReadBack

/-!
# The input projection's backward pass and its norm's

A grid point takes 512 rows. It brings the eight pieces' cotangents back through the weight, which gives the gradient of the normalised
rows, and from that makes the gradient of the rows and adds to the gradient of the gain, which the first point starts from zero.
-/

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

variable (m : (ℓ : Loc nD τ sig) → Buf (Elt Ideal) ℓ)

/-- Where the blocks lie: row block `t` of the pieces and the rows, the gain and the weight whole. -/
theorem idx : ∀ t : Fin cfg0.N,
    win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 0] ∧ win0_7.index t = ![t.val, 0] ∧ win0_8.index t = ![t.val, 0] ∧
    win0_9.index t = ![t.val, 0] ∧ win0_10.index t = ![0, 0] ∧ win0_11.index t = ![0, 0] ∧ win0_12.index t = ![t.val, 0]
      ∧ win0_13.index t = ![0, 0] :=
  (by decide +kernel : ∀ t : Fin grid0.N, _)

/-- The block of gradients of the normalised rows that point `t` makes. -/
abbrev dhBlk (c : Dev nD) (t : Fin cfg0.N) : FVec Ideal S512x1024 .f32 :=
  k0_pay4 (k0_pay3 (iblk m c 0 t) (View.ld (iblk m c 11 t) (Rect.unit ![0, 0] ![512, 1024] inb_S4352x1024_S512x1024_0_0)) (iblk m c 1 t) (View.ld (iblk m c 11 t) (Rect.unit ![512, 0] ![128, 1024] inb_S4352x1024_S128x1024_512_0)) (iblk m c 2 t) (View.ld (iblk m c 11 t) (Rect.unit ![640, 0] ![128, 1024] inb_S4352x1024_S128x1024_640_0)) (iblk m c 3 t) (View.ld (iblk m c 11 t) (Rect.unit ![768, 0] ![512, 1024] inb_S4352x1024_S512x1024_768_0)) (iblk m c 4 t) (View.ld (iblk m c 11 t) (Rect.unit ![1280, 0] ![512, 1024] inb_S4352x1024_S512x1024_1280_0)) (iblk m c 5 t) (View.ld (iblk m c 11 t) (Rect.unit ![1792, 0] ![512, 1024] inb_S4352x1024_S512x1024_1792_0))) (iblk m c 6 t) (View.ld (iblk m c 11 t) (Rect.unit ![2304, 0] ![1024, 1024] inb_S4352x1024_S1024x1024_2304_0)) (iblk m c 7 t) (View.ld (iblk m c 11 t) (Rect.unit ![3328, 0] ![1024, 1024] inb_S4352x1024_S1024x1024_3328_0))

/-- Row `a` of point `t`'s block. -/
def row (t : Fin cfg0.N) (a : Fin 512) : Fin 8192 := ⟨t.val * 512 + a.val, by have := t.isLt; have : cfg0.N = 16 := N_0; omega⟩

set_option maxHeartbeats 1600000 in
/-- That block is the reference's rows. -/
theorem dh_point (c : Dev nD) (t : Fin cfg0.N) (a : Fin 512) (b : Fin 1024) :
    dhBlk m c t (ix2 a b) = Cert.Reference5Ideal.RefValue.dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (ix2 (row t a) b) := by
  have href : Cert.Reference5Ideal.RefValue.dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (ix2 (row t a) b)
      = ∑ l : Fin 4352, Cert.Kernel4Ideal.RefValue.pick (fun k => (m ((c : Thread nD τ).loc main_arg0)) (ix2 (row t a) k)) (fun k => (m ((c : Thread nD τ).loc main_arg1)) (ix2 (row t a) k)) (fun k => (m ((c : Thread nD τ).loc main_arg2)) (ix2 (row t a) k)) (fun k => (m ((c : Thread nD τ).loc main_arg3)) (ix2 (row t a) k)) (fun k => (m ((c : Thread nD τ).loc main_arg4)) (ix2 (row t a) k)) (fun k => (m ((c : Thread nD τ).loc main_arg5)) (ix2 (row t a) k)) (fun k => (m ((c : Thread nD τ).loc main_arg6)) (ix2 (row t a) k)) (fun k => (m ((c : Thread nD τ).loc main_arg7)) (ix2 (row t a) k)) l.val l.isLt
          * (m ((c : Thread nD τ).loc main_arg11)) (ix2 l b) := by
    pointwise [Cert.Reference5Ideal.RefValue.dh, Cert.Kernel4Ideal.RefValue.pick]
  rw [href, Cert.Pieces.sum]
  unfold dhBlk
  pointwise [k0_pay4, k0_pay3]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine Finset.sum_congr rfl fun k _ => ?_
    refine congrArg₂ (· * ·) ?_ ?_ <;> blk_ext [iblk, V, idx t, row]

/-- What a point writes of the rows' gradient. -/
theorem pay_dx (u x : FVec Ideal S512x1024 .f32) (v25 v26 v27 v30 v31) (g v61) (hu : k0_pay4 v25 v26 v27 v30 v31 = u) (p : Fin 512) (q : Fin 1024) :
    k0_pay8 (F := Ideal) v25 v26 v27 v30 v31 x g v61 (ix2 p q)
      = v61 (ix2 p q) + Cert.Rms.closed (fun i => x (ix2 p i)) (fun i => u (ix2 p i) * g (ix2 0 i)) q := by
  subst hu
  pointwise [k0_pay8, k0_pay5, k0_pay6, Cert.Rms.closed, Cert.Rms.R, Cert.Rms.ms]

/-- What the reference makes of a row. -/
theorem ref_dx (u x8 x9 x10) (p : Fin 8192) (q : Fin 1024) :
    Cert.Reference5Ideal.RefValue.dxOf u x8 x9 x10 (ix2 p q)
      = x8 (ix2 p q) + Cert.Rms.closed (fun i => x9 (ix2 p i)) (fun i => u (ix2 p i) * x10 (ix2 0 i)) q := by
  rw [Cert.Rms.closed_eq]
  pointwise [Cert.Reference5Ideal.RefValue.dxOf, Cert.Rms.D, Cert.Rms.R, Cert.Rms.ms]
  simp only [Fin.sum_univ_one, Finset.univ_unique, Finset.sum_singleton]
  simp only [add_assoc]

/-- A point's part of the gain's gradient. -/
def gain (x u : FVec Ideal S512x1024 .f32) (j : S1x1024.Idx) : EReal :=
  ∑ k : Fin 512, x (ix2 k (j 1)) * Cert.Rms.R (fun i => x (ix2 k i)) * u (ix2 k (j 1))

/-- What a point adds to the gain's gradient. -/
theorem pay_dg (u x : FVec Ideal S512x1024 .f32) (v25 v26 v27 v30 v31) (acc) (hu : k0_pay4 v25 v26 v27 v30 v31 = u) (j) :
    k0_pay1 (F := Ideal) (k0_pay7 v25 v26 v27 v30 v31 x) acc j
      = acc j + gain x u j := by
  subst hu
  pointwise [gain, k0_pay7, k0_pay5, k0_pay6, k0_pay1, Cert.Rms.R, Cert.Rms.ms]
  refine congrArg _ (Finset.sum_congr rfl fun k _ => mul_comm _ _)

/-- The reference's gain gradient. -/
theorem ref_dg (u x9 j) : Cert.Reference5Ideal.RefValue.dgOf u x9 j
    = ∑ k : Fin 8192, x9 (ix2 k (j 1)) * Cert.Rms.R (fun i => x9 (ix2 k i)) * u (ix2 k (j 1)) := by
  pointwise [Cert.Reference5Ideal.RefValue.dgOf, Cert.Rms.R, Cert.Rms.ms]

/-- The rows' gradient at a point, whichever case. -/
theorem out_dx (c : Dev nD) (t : Fin cfg0.N) :
    (outsAt0 m c t.val t.isLt).1 = k0_pay8 (k0_pay3 (iblk m c 0 t) (View.ld (iblk m c 11 t) (Rect.unit ![0, 0] ![512, 1024] inb_S4352x1024_S512x1024_0_0)) (iblk m c 1 t) (View.ld (iblk m c 11 t) (Rect.unit ![512, 0] ![128, 1024] inb_S4352x1024_S128x1024_512_0)) (iblk m c 2 t) (View.ld (iblk m c 11 t) (Rect.unit ![640, 0] ![128, 1024] inb_S4352x1024_S128x1024_640_0)) (iblk m c 3 t) (View.ld (iblk m c 11 t) (Rect.unit ![768, 0] ![512, 1024] inb_S4352x1024_S512x1024_768_0)) (iblk m c 4 t) (View.ld (iblk m c 11 t) (Rect.unit ![1280, 0] ![512, 1024] inb_S4352x1024_S512x1024_1280_0)) (iblk m c 5 t) (View.ld (iblk m c 11 t) (Rect.unit ![1792, 0] ![512, 1024] inb_S4352x1024_S512x1024_1792_0))) (iblk m c 6 t) (View.ld (iblk m c 11 t) (Rect.unit ![2304, 0] ![1024, 1024] inb_S4352x1024_S1024x1024_2304_0)) (iblk m c 7 t) (View.ld (iblk m c 11 t) (Rect.unit ![3328, 0] ![1024, 1024] inb_S4352x1024_S1024x1024_3328_0)) (iblk m c 9 t) (iblk m c 10 t) (iblk m c 8 t) := by
  by_cases h0 : t.val % 16 = 0
  · rw [outsAt0_A m c t h0]; frame_out; rfl
  · rw [outsAt0_B m c t h0]; frame_out; rfl

/-- The gain's gradient goes on from the point before. -/
theorem step_dg (c : Dev nD) (t : Fin cfg0.N) (h0 : ¬t.val % 16 = 0) :
    (outsAt0 m c t.val t.isLt).2 = k0_pay1 (k0_pay7 (k0_pay3 (iblk m c 0 t) (View.ld (iblk m c 11 t) (Rect.unit ![0, 0] ![512, 1024] inb_S4352x1024_S512x1024_0_0)) (iblk m c 1 t) (View.ld (iblk m c 11 t) (Rect.unit ![512, 0] ![128, 1024] inb_S4352x1024_S128x1024_512_0)) (iblk m c 2 t) (View.ld (iblk m c 11 t) (Rect.unit ![640, 0] ![128, 1024] inb_S4352x1024_S128x1024_640_0)) (iblk m c 3 t) (View.ld (iblk m c 11 t) (Rect.unit ![768, 0] ![512, 1024] inb_S4352x1024_S512x1024_768_0)) (iblk m c 4 t) (View.ld (iblk m c 11 t) (Rect.unit ![1280, 0] ![512, 1024] inb_S4352x1024_S512x1024_1280_0)) (iblk m c 5 t) (View.ld (iblk m c 11 t) (Rect.unit ![1792, 0] ![512, 1024] inb_S4352x1024_S512x1024_1792_0))) (iblk m c 6 t) (View.ld (iblk m c 11 t) (Rect.unit ![2304, 0] ![1024, 1024] inb_S4352x1024_S1024x1024_2304_0)) (iblk m c 7 t) (View.ld (iblk m c 11 t) (Rect.unit ![3328, 0] ![1024, 1024] inb_S4352x1024_S1024x1024_3328_0)) (iblk m c 9 t)) (outsAt0 m c (t.val - 1) (by omega)).2 := by
  rw [outsAt0_B m c t h0]; frame_out; rfl

/-- The first point starts it from zero. -/
theorem start_dg (c : Dev nD) (t : Fin cfg0.N) (h0 : t.val % 16 = 0) :
    (outsAt0 m c t.val t.isLt).2 = k0_pay1 (k0_pay7 (k0_pay3 (iblk m c 0 t) (View.ld (iblk m c 11 t) (Rect.unit ![0, 0] ![512, 1024] inb_S4352x1024_S512x1024_0_0)) (iblk m c 1 t) (View.ld (iblk m c 11 t) (Rect.unit ![512, 0] ![128, 1024] inb_S4352x1024_S128x1024_512_0)) (iblk m c 2 t) (View.ld (iblk m c 11 t) (Rect.unit ![640, 0] ![128, 1024] inb_S4352x1024_S128x1024_640_0)) (iblk m c 3 t) (View.ld (iblk m c 11 t) (Rect.unit ![768, 0] ![512, 1024] inb_S4352x1024_S512x1024_768_0)) (iblk m c 4 t) (View.ld (iblk m c 11 t) (Rect.unit ![1280, 0] ![512, 1024] inb_S4352x1024_S512x1024_1280_0)) (iblk m c 5 t) (View.ld (iblk m c 11 t) (Rect.unit ![1792, 0] ![512, 1024] inb_S4352x1024_S512x1024_1792_0))) (iblk m c 6 t) (View.ld (iblk m c 11 t) (Rect.unit ![2304, 0] ![1024, 1024] inb_S4352x1024_S1024x1024_2304_0)) (iblk m c 7 t) (View.ld (iblk m c 11 t) (Rect.unit ![3328, 0] ![1024, 1024] inb_S4352x1024_S1024x1024_3328_0)) (iblk m c 9 t)) (k0_pay2 (F := Ideal)) := by
  rw [outsAt0_A m c t h0]; frame_out; rfl

/-- The rows' gradient, whole. -/
theorem final_dx (c : Dev nD) :
    (dats m 0 c).arrAt 12 (cfgs 0).N = Cert.Reference5Ideal.RefValue.dxOf (Cert.Reference5Ideal.RefValue.dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12, out_dx]
  obtain ⟨p, q, rfl⟩ : ∃ (p : Fin 512) (q : Fin 1024), y = ix2 p q := ⟨y 0, y 1, eq_ix2 y⟩
  have hj : (win0_12.blk t).view.emb (ix2 p q) = ix2 (row t p) q := by
    blk_ext [idx t, row]
  rw [pay_dx (dhBlk m c t) _ _ _ _ _ _ _ _ rfl]
  refine Eq.trans ?_ (congrArg _ hj.symm)
  rw [ref_dx]
  refine congrArg₂ (· + ·) ?_ (congrArg₂ (fun x e => Cert.Rms.closed x e q) (funext fun i => ?_) (funext fun i => ?_))
  · blk_ext [iblk, V, idx t, row]
  · blk_ext [iblk, V, idx t, row]
  · rw [dh_point]
    refine congrArg (_ * ·) ?_
    blk_ext [iblk, V, idx t, row]

/-- The gain's gradient, whole. -/
theorem final_dg (c : Dev nD) :
    (dats m 0 c).arrAt 13 (cfgs 0).N = Cert.Reference5Ideal.RefValue.dgOf (Cert.Reference5Ideal.RefValue.dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11))) (m ((c : Thread nD τ).loc main_arg9)) := by
  refine (dats m 0 c).arrAt_eq_of_after_last 13 t0_15 (by decide +kernel) _ fun j => ?_
  blk_simp
  rw [after0_13, Pipeline.eq_sum_fin_of_reset_step_apply_last (fun n h => (outsAt0 m c n h).2) 16 (fun _ => 0)
      (fun t j => gain (iblk m c 9 t) (dhBlk m c t) j)
      (fun t h j => by rw [start_dg m c t h, pay_dg (dhBlk m c t) _ _ _ _ _ _ _ rfl]; congr 1; pointwise [k0_pay2])
      (fun t h j => by rw [step_dg m c t h, pay_dg (dhBlk m c t) _ _ _ _ _ _ _ rfl]) (le_of_eq N_0) t0_15 rfl j, zero_add, ref_dg]
  simp only [gain]
  refine Fin.sum_mul_add_congr fun s k hl => ?_
  refine congrArg₂ (· * ·) (congrArg₂ (· * ·) ?_ (congrArg Cert.Rms.R (funext fun i => ?_))) ?_
  · blk_ext [iblk, V, idx s]
  · blk_ext [iblk, V, idx s]
  · exact dh_point m c s k (j 1)

end Cert.Kernel5Ideal.RefValue

end
-- ==== Proof.ProjBackClaim.lean ====
module

public import proofs.«01_k».proof.Defs
public import proofs.«01_k».proof.Proof.Gen.Reference5Ideal.Run
public import proofs.«01_k».proof.Proof.ProjBackValue
public import Idealize.ShloMosaic.Adequacy
public import Idealize.ShloMosaic.Init
public import Idealize.ShloMosaic.Lib.Claim

/-!
# The claim of the input projection's backward pass
-/

@[expose] public section

set_option maxRecDepth 16384

noncomputable section

namespace Cert.Proof

open Idealize.ShloMosaic Idealize.SL.Sem

/-- The derivative of the projection and its norm runs and leaves its arguments; it has no counters. -/
theorem frame_reference5 : Cert.quiescent_Reference5Ideal := by
  intro m ρ _
  exact (θ_run Cert.Reference5Ideal.defs _ _).mono (fun r h => ⟨fun c => (h c).2.2,
    sem_eq_zero_of_no_sems (by decide) r.2⟩) (Cert.Reference5Ideal.RefValue.run m ρ)

set_option maxHeartbeats 4000000 in
/-- The kernel computes the gradients of the rows and of the norm's gain. -/
theorem value5 : Cert.algebraic_Kernel5Ideal_Reference5Ideal := by
  pair_intro
  · run_from Cert.Kernel5Ideal.Gen.run_main m g
  · refine Idealize.ShloMosaic.θ_run_mono (Cert.Reference5Ideal.RefValue.run m' g') ?_
    intro r hr c
    obtain ⟨h0, h1, ha⟩ := hr c
    obtain ⟨a0, a1, a2, a3, a4, a5, a6, a7, a8, a9, a10, a11⟩ := hagree c
    refine ⟨h0.trans ?_, h1.trans ?_, ha⟩
    · unfold Cert.Reference5Ideal.RefValue.dhAt
      rw [a0, a1, a2, a3, a4, a5, a6, a7, a8, a9, a10, a11]
      exact (Cert.Kernel5Ideal.RefValue.final_dx m c).symm
    · unfold Cert.Reference5Ideal.RefValue.dhAt
      rw [a0, a1, a2, a3, a4, a5, a6, a7, a9, a11]
      exact (Cert.Kernel5Ideal.RefValue.final_dg m c).symm

end Cert.Proof

end
-- ==== Proof.FwdProjRef.lean ====
module

public import proofs.«01_k».proof.Proof.Gen.Reference6Ideal.Run
public import Idealize.ShloMosaic.Lib.Pipeline.ValueKit

/-!
# What the input projection and its norm hold
-/

@[expose] public section

noncomputable section

open Idealize.ShloMosaic Idealize.ShloMosaic.TcCoe Idealize.SL.Sem

namespace Cert.Reference6Ideal.RefValue

open Cert.Reference6Ideal Cert.Reference6Ideal.Gen

/-- The normalised rows. -/
abbrev h (x0 : FVec Ideal S8192x1024 .f32) (x1 : FVec Ideal S1x1024 .f32) : FVec Ideal S8192x1024 .bf16 :=
  truncf .bf16 (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) bitsLt_bf16_f32

/-- The first mixer's queries. -/
abbrev qa (x0 : FVec Ideal S8192x1024 .f32) (x1 : FVec Ideal S1x1024 .f32) (x2 : FVec Ideal S4352x1024 .bf16) : FVec Ideal S8192x512 .bf16 :=
  truncf .bf16 (extractStridedSlice S8192x512 ![0, 0] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x512_0_0) bitsLt_bf16_f32

/-- The first mixer's keys. -/
abbrev ka (x0 : FVec Ideal S8192x1024 .f32) (x1 : FVec Ideal S1x1024 .f32) (x2 : FVec Ideal S4352x1024 .bf16) : FVec Ideal S8192x128 .bf16 :=
  truncf .bf16 (extractStridedSlice S8192x128 ![0, 512] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x128_0_512) bitsLt_bf16_f32

/-- The first mixer's values. -/
abbrev va (x0 : FVec Ideal S8192x1024 .f32) (x1 : FVec Ideal S1x1024 .f32) (x2 : FVec Ideal S4352x1024 .bf16) : FVec Ideal S8192x128 .bf16 :=
  truncf .bf16 (extractStridedSlice S8192x128 ![0, 640] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x128_0_640) bitsLt_bf16_f32

/-- The second mixer's queries. -/
abbrev qb (x0 : FVec Ideal S8192x1024 .f32) (x1 : FVec Ideal S1x1024 .f32) (x2 : FVec Ideal S4352x1024 .bf16) : FVec Ideal S8192x512 .bf16 :=
  truncf .bf16 (mulf (extractStridedSlice S8192x512 ![0, 768] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x512_0_768) (broadcastInDim S8192x512 ![] bcast_S_S8192x512 (constant S_ .f32 0x3E000000#32))) bitsLt_bf16_f32

/-- The second mixer's keys. -/
abbrev kb (x0 : FVec Ideal S8192x1024 .f32) (x1 : FVec Ideal S1x1024 .f32) (x2 : FVec Ideal S4352x1024 .bf16) : FVec Ideal S8192x512 .bf16 :=
  truncf .bf16 (extractStridedSlice S8192x512 ![0, 1280] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x512_0_1280) bitsLt_bf16_f32

/-- The second mixer's values. -/
abbrev vb (x0 : FVec Ideal S8192x1024 .f32) (x1 : FVec Ideal S1x1024 .f32) (x2 : FVec Ideal S4352x1024 .bf16) : FVec Ideal S8192x512 .bf16 :=
  truncf .bf16 (extractStridedSlice S8192x512 ![0, 1792] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x512_0_1792) bitsLt_bf16_f32

/-- The first gate's logits. -/
abbrev ga (x0 : FVec Ideal S8192x1024 .f32) (x1 : FVec Ideal S1x1024 .f32) (x2 : FVec Ideal S4352x1024 .bf16) : FVec Ideal S8192x1024 .f32 :=
  extractStridedSlice S8192x1024 ![0, 2304] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x1024_0_2304

/-- The second gate's logits. -/
abbrev gb (x0 : FVec Ideal S8192x1024 .f32) (x1 : FVec Ideal S1x1024 .f32) (x2 : FVec Ideal S4352x1024 .bf16) : FVec Ideal S8192x1024 .f32 :=
  extractStridedSlice S8192x1024 ![0, 3328] (Host.dotGeneral dot_S8192x1024_S1024x4352_S8192x4352_1_0_0_1_n_n none (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (transpose S1024x4352 [1, 0] (extf .f32 x2 bitsLt_bf16_f32) transposes_S4352x1024_S1024x4352_1_0)) slices_S8192x4352_S8192x1024_0_3328

end Cert.Reference6Ideal.RefValue

end
-- ==== Proof.FwdProjValue.lean ====
module

public import proofs.«01_k».proof.Proof.Gen.Kernel6Ideal.Frame
public import proofs.«01_k».proof.Proof.FwdProjRef
public import Idealize.ShloMosaic.Lib.Pipeline.ValueKit

/-!
# The input projection and its norm

Each of the sixteen grid points takes 512 rows: it normalises them and projects them onto the eight groups of columns.
-/

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

variable (m : (ℓ : Loc nD τ sig) → Buf (Elt Ideal) ℓ)

/-- Where the blocks lie: row block `t` at point `t`, and the gain and the weight whole. -/
theorem idx : ∀ t : Fin cfg0.N,
    win0_0.index t = ![t.val, 0] ∧ win0_1.index t = ![0, 0] ∧ win0_2.index t = ![0, 0]
      ∧ win0_3.index t = ![t.val, 0] ∧ win0_4.index t = ![t.val, 0] ∧ win0_5.index t = ![t.val, 0]
      ∧ win0_6.index t = ![t.val, 0] ∧ win0_7.index t = ![t.val, 0] ∧ win0_8.index t = ![t.val, 0]
      ∧ win0_9.index t = ![t.val, 0] ∧ win0_10.index t = ![t.val, 0] ∧ win0_11.index t = ![t.val, 0] := (by decide +kernel : ∀ t : Fin grid0.N, _)

/-- The normalised rows, whole. -/
theorem final_h (c : Dev nD) :
    (dats m 0 c).arrAt 3 (cfgs 0).N = Cert.Reference6Ideal.RefValue.h (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay1, k0_pay2, k0_pay3, k0_pay4, k0_pay5, k0_pay6, k0_pay7, k0_pay8, k0_pay9, k0_pay10, Cert.Reference6Ideal.RefValue.h]
  blk_point [iblk, V, idx t]

/-- The first mixer's queries, whole. -/
theorem final_qa (c : Dev nD) :
    (dats m 0 c).arrAt 4 (cfgs 0).N = Cert.Reference6Ideal.RefValue.qa (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  pointwise [k0_pay1, k0_pay2, k0_pay3, k0_pay4, k0_pay5, k0_pay6, k0_pay7, k0_pay8, k0_pay9, k0_pay10, Cert.Reference6Ideal.RefValue.qa]
  blk_point [iblk, V, idx t]

/-- The first mixer's keys, whole. -/
theorem final_ka (c : Dev nD) :
    (dats m 0 c).arrAt 5 (cfgs 0).N = Cert.Reference6Ideal.RefValue.ka (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  pointwise [k0_pay1, k0_pay2, k0_pay3, k0_pay4, k0_pay5, k0_pay6, k0_pay7, k0_pay8, k0_pay9, k0_pay10, Cert.Reference6Ideal.RefValue.ka]
  blk_point [iblk, V, idx t]

/-- The first mixer's values, whole. -/
theorem final_va (c : Dev nD) :
    (dats m 0 c).arrAt 6 (cfgs 0).N = Cert.Reference6Ideal.RefValue.va (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]; frame_out
  pointwise [k0_pay1, k0_pay2, k0_pay3, k0_pay4, k0_pay5, k0_pay6, k0_pay7, k0_pay8, k0_pay9, k0_pay10, Cert.Reference6Ideal.RefValue.va]
  blk_point [iblk, V, idx t]

/-- The second mixer's queries, whole. -/
theorem final_qb (c : Dev nD) :
    (dats m 0 c).arrAt 7 (cfgs 0).N = Cert.Reference6Ideal.RefValue.qb (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]; frame_out
  pointwise [k0_pay1, k0_pay2, k0_pay3, k0_pay4, k0_pay5, k0_pay6, k0_pay7, k0_pay8, k0_pay9, k0_pay10, Cert.Reference6Ideal.RefValue.qb]
  blk_point [iblk, V, idx t]

/-- The second mixer's keys, whole. -/
theorem final_kb (c : Dev nD) :
    (dats m 0 c).arrAt 8 (cfgs 0).N = Cert.Reference6Ideal.RefValue.kb (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]; frame_out
  pointwise [k0_pay1, k0_pay2, k0_pay3, k0_pay4, k0_pay5, k0_pay6, k0_pay7, k0_pay8, k0_pay9, k0_pay10, Cert.Reference6Ideal.RefValue.kb]
  blk_point [iblk, V, idx t]

/-- The second mixer's values, whole. -/
theorem final_vb (c : Dev nD) :
    (dats m 0 c).arrAt 9 (cfgs 0).N = Cert.Reference6Ideal.RefValue.vb (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]; frame_out
  pointwise [k0_pay1, k0_pay2, k0_pay3, k0_pay4, k0_pay5, k0_pay6, k0_pay7, k0_pay8, k0_pay9, k0_pay10, Cert.Reference6Ideal.RefValue.vb]
  blk_point [iblk, V, idx t]

/-- The first gate's logits, whole. -/
theorem final_ga (c : Dev nD) :
    (dats m 0 c).arrAt 10 (cfgs 0).N = Cert.Reference6Ideal.RefValue.ga (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]; frame_out
  pointwise [k0_pay1, k0_pay2, k0_pay3, k0_pay4, k0_pay5, k0_pay6, k0_pay7, k0_pay8, k0_pay9, k0_pay10, Cert.Reference6Ideal.RefValue.ga]
  blk_point [iblk, V, idx t]

/-- The second gate's logits, whole. -/
theorem final_gb (c : Dev nD) :
    (dats m 0 c).arrAt 11 (cfgs 0).N = Cert.Reference6Ideal.RefValue.gb (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]; frame_out
  pointwise [k0_pay1, k0_pay2, k0_pay3, k0_pay4, k0_pay5, k0_pay6, k0_pay7, k0_pay8, k0_pay9, k0_pay10, Cert.Reference6Ideal.RefValue.gb]
  blk_point [iblk, V, idx t]

end Cert.Kernel6Ideal.RefValue

end
-- ==== Proof.FwdProjClaim.lean ====
module

public import proofs.«01_k».proof.Defs
public import proofs.«01_k».proof.Proof.Gen.Reference6Ideal.Run
public import proofs.«01_k».proof.Proof.FwdProjValue
public import Idealize.ShloMosaic.Adequacy
public import Idealize.ShloMosaic.Init
public import Idealize.ShloMosaic.Lib.Claim

/-!
# The claim of the input projection
-/

@[expose] public section

set_option maxRecDepth 16384

noncomputable section

namespace Cert.Proof

open Idealize.ShloMosaic Idealize.SL.Sem

/-- The input projection runs and leaves its arguments; it has no counters. -/
theorem frame_reference6 : Cert.quiescent_Reference6Ideal := by
  intro m ρ _
  exact (θ_run Cert.Reference6Ideal.defs _ _).mono (fun r h => ⟨fun c => (h c).2.2.2.2.2.2.2.2.2,
    sem_eq_zero_of_no_sems (by decide) r.2⟩) (Cert.Reference6Ideal.Value.run m ρ)

set_option maxHeartbeats 1600000 in
/-- The kernel computes the norm and the eight projections. -/
theorem value6 : Cert.algebraic_Kernel6Ideal_Reference6Ideal := by
  pair_intro
  · run_from Cert.Kernel6Ideal.Gen.run_main m g
  · run_from Cert.Reference6Ideal.Value.run m' g'
    · exact (Cert.Kernel6Ideal.RefValue.final_h m c).symm
    · exact (Cert.Kernel6Ideal.RefValue.final_qa m c).symm
    · exact (Cert.Kernel6Ideal.RefValue.final_ka m c).symm
    · exact (Cert.Kernel6Ideal.RefValue.final_va m c).symm
    · exact (Cert.Kernel6Ideal.RefValue.final_qb m c).symm
    · exact (Cert.Kernel6Ideal.RefValue.final_kb m c).symm
    · exact (Cert.Kernel6Ideal.RefValue.final_vb m c).symm
    · exact (Cert.Kernel6Ideal.RefValue.final_ga m c).symm
    · exact (Cert.Kernel6Ideal.RefValue.final_gb m c).symm

end Cert.Proof

end
-- ==== Proof.FfnReal.lean ====
module

public import proofs.«01_k».proof.Proof.RmsBack
public import Idealize.ShloMosaic.Lib.Pipeline.ValueKit

/-!
# Where the SwiGLU half-step's gradient stays among the reals

A row divided by its root mean square is real whatever the row holds: where the mean square is infinite the factor is zero. So the
products of the normalised row with finite weights are real, the logistic function of anything is real, and the derivative of the gate,
written as one product or as the chain rule's two, is the same.
-/

@[expose] public section

noncomputable section

open Idealize.ShloMosaic

namespace Cert.Ffn

/-- A value that is neither infinity. -/
def IsReal (v : EReal) : Prop := ∃ r : ℝ, v = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.zero : IsReal 0 := ⟨0, rfl⟩

theorem IsReal.sum {n : ℕ} (f : Fin n → EReal) (h : ∀ i, IsReal (f i)) : IsReal (∑ i, f i) := by
  classical
  suffices H : ∀ t : Finset (Fin n), IsReal (∑ i ∈ t, f i) from H _
  intro t
  induction t using Finset.induction_on with
  | empty => rw [Finset.sum_empty]; exact IsReal.zero
  | insert a t ha ih => rw [Finset.sum_insert ha]; exact (h a).add ih

/-- What is below infinity in size is real. -/
theorem isReal_of_abs {v : EReal} (h : max v (-v) < ⊤) : IsReal v := by
  induction v using EReal.rec with
  | bot => exact absurd h (by simp)
  | top => exact absurd h (by simp)
  | coe r => exact ⟨r, rfl⟩

/-- One half. -/
theorem half_eq : Ideal.ofBits .f32 0x3F000000#32 = ((1 / 2 : ℝ) : EReal) := by
  simp [Ideal.ofBits, Ideal.ieee, -EReal.coe_mul]; norm_num

/-- One half, in the shorter format. -/
theorem half_bf16 : Ideal.ofBits .bf16 0x3F00#16 = Ideal.ofBits .f32 0x3F000000#32 := by
  rw [half_eq]; simp [Ideal.ofBits, Ideal.ieee, -EReal.coe_mul]; norm_num

theorem half : IsReal (Ideal.ofBits .f32 0x3F000000#32) := ⟨_, half_eq⟩

/-- A row divided by its root mean square is real. -/
theorem real_norm (x : Fin 1024 → EReal) (k : Fin 1024) : IsReal (x k * Cert.Rms.R x) := by
  have hsq : ∀ i, 0 ≤ x i * x i := fun i => by
    rcases le_total 0 (x i) with h | h
    · exact EReal.mul_nonneg h h
    · rw [← neg_mul_neg]
      have h' : 0 ≤ -x i := by simpa using EReal.neg_le_neg_iff.mpr h
      exact EReal.mul_nonneg h' h'
  have hpos := Cert.Rms.ms_pos x
  by_cases hS : ∑ i, x i * x i = ⊤
  · have : Cert.Rms.R x = 0 := by
      obtain ⟨ε, hε, he⟩ := Cert.Rms.eps
      rw [Cert.Rms.R, Cert.Rms.ms, hS, he, Cert.Rms.cols, Ideal.div_coe (by norm_num)]
      rw [EReal.top_mul_coe_of_pos (by norm_num), EReal.top_add_coe]
      rfl
    rw [this, mul_zero]; exact IsReal.zero
  · have hk : x k * x k ≠ ⊤ := fun h => hS (top_le_iff.mp (h ▸ Finset.single_le_sum (f := fun i => x i * x i) (fun i _ => hsq i) (Finset.mem_univ k)))
    have hxk : IsReal (x k) := by
      generalize x k = v at hk
      induction v using EReal.rec with
      | bot => exact absurd rfl hk
      | top => exact absurd rfl hk
      | coe r => exact ⟨r, rfl⟩
    refine hxk.mul ?_
    rw [Cert.Rms.R]
    generalize Cert.Rms.ms x = M at hpos
    induction M using EReal.rec with
    | bot => exact absurd hpos (by simp)
    | top => exact IsReal.zero
    | coe r =>
      have hr : 0 < r := by exact_mod_cast hpos
      rw [Ideal.rsqrt_coe, if_neg (not_lt.mpr hr.le), if_neg hr.ne']
      exact ⟨_, rfl⟩

/-- The logistic function is the quotient it stands for. -/
theorem logistic_eq (a : EReal) : Ideal.logistic a = Ideal.div 1 (1 + Ideal.exp (-a)) := rfl

/-- What the derivative of the gate adds is real. -/
theorem real_slope (a : EReal) : IsReal (Ideal.logistic a) ∧ IsReal (a * Ideal.logistic a * (1 - Ideal.logistic a)) := by
  rw [logistic_eq]
  induction a using EReal.rec with
  | bot =>
    have h : Ideal.div 1 (1 + Ideal.exp (-(⊥ : EReal))) = 0 := by
      rw [EReal.neg_bot, Ideal.exp_top, ← EReal.coe_one, EReal.coe_add_top]; simp [Ideal.div]
    rw [h]; simp only [mul_zero, zero_mul]; exact ⟨IsReal.zero, IsReal.zero⟩
  | top =>
    have h : Ideal.div 1 (1 + Ideal.exp (-(⊤ : EReal))) = ((1 : ℝ) : EReal) := by
      rw [EReal.neg_top, Ideal.exp_bot, add_zero, ← EReal.coe_one, Ideal.div_coe one_ne_zero]; norm_num
    have h1 : (1 : EReal) - ((1 : ℝ) : EReal) = 0 := by rw [← EReal.coe_one, ← EReal.coe_sub, sub_self, EReal.coe_zero]
    rw [h, h1, mul_zero]; exact ⟨⟨1, rfl⟩, IsReal.zero⟩
  | coe r =>
    have hp : (0 : ℝ) < 1 + Real.exp (-r) := by positivity
    have h : Ideal.div 1 (1 + Ideal.exp (-(r : EReal))) = ((1 / (1 + Real.exp (-r)) : ℝ) : EReal) := by
      rw [← EReal.coe_neg, Ideal.exp_coe, ← EReal.coe_one, ← EReal.coe_add,
        Ideal.div_coe hp.ne', ← EReal.coe_mul, one_mul]
    rw [h]
    refine ⟨⟨_, rfl⟩, ?_⟩
    rw [← EReal.coe_one, ← EReal.coe_sub, ← EReal.coe_mul, ← EReal.coe_mul]
    exact ⟨_, rfl⟩

/-- The gate's derivative as one product, and by the chain rule. -/
theorem gate_eq (u b a : EReal) (h : IsReal (u * b)) :
    u * b * (Ideal.logistic a + a * Ideal.logistic a * (1 - Ideal.logistic a))
      = u * b * Ideal.logistic a + a * (u * b) * (Ideal.logistic a * (1 - Ideal.logistic a)) := by
  have h2 : a * (u * b) * (Ideal.logistic a * (1 - Ideal.logistic a)) = u * b * (a * Ideal.logistic a * (1 - Ideal.logistic a)) := by ac_rfl
  rw [h2]
  obtain ⟨⟨l, hl⟩, ⟨s, hs⟩⟩ := real_slope a
  obtain ⟨c, hc⟩ := h
  rw [hs, hl, hc, ← EReal.coe_add, ← EReal.coe_mul, ← EReal.coe_mul, ← EReal.coe_mul, ← EReal.coe_add, mul_add]

end Cert.Ffn

end
-- ==== Proof.FfnBackSkel.lean ====
/-
The body of the SwiGLU backward kernel with its pure values named: each load, store and branch of the printed function, in order, over
named payloads, and the equation that says the printed function is this text.
-/
module

public import proofs.«01_k».proof.Proof.Gen.Kernel3Ideal

@[expose] public section

set_option synthInstance.maxSize 4096

noncomputable section

namespace Cert.Kernel3Ideal.Gen

open Idealize.ShloMosaic Idealize.SL.Sem

variable {F : FTy → Type} [FloatOps F]
/-! ## `cc0_ffn_bwd_2` -/

noncomputable def k0_pay1 (v30 : FVec F S512x256 .bf16) (v60 : Vec F S512x1024 .f32) (v62 : FVec F S512x1024 .f32) (v63 : Vec F S256x1024 .bf16) : FVec F S512x1024 .f32 :=
  have cst_44 : FVec F S512x1024 .f32 := constant S512x1024 .f32 0x00000000#32
  have v64 : FVec F S512x1024 .f32 := matmul dot_S512x256_S256x1024_S512x1024_1_0_0_1_n_n none v30 v63 cst_44
  have v65 : FVec F S512x1024 .f32 := addf v62 v64
  have v66 : FVec F S512x1024 .f32 := addf v60 v65
  have v69 : FVec F S512x1024 .f32 := shapeCast S512x1024 v66 shapeCasts_S512x1024_S512x1024
  v69

noncomputable def k0_pay2 (v51 : FVec F S512x256 .bf16) (v53 : FVec F S512x256 .bf16) (v70 : Vec F S512x1024 .f32) (v71 : Vec F S256x1024 .bf16) (v73 : Vec F S256x1024 .bf16) : FVec F S512x1024 .f32 :=
  have cst_51 : FVec F S512x1024 .f32 := constant S512x1024 .f32 0x00000000#32
  have v72 : FVec F S512x1024 .f32 := matmul dot_S512x256_S256x1024_S512x1024_1_0_0_1_n_n none v51 v71 cst_51
  have cst_54 : FVec F S512x1024 .f32 := constant S512x1024 .f32 0x00000000#32
  have v74 : FVec F S512x1024 .f32 := matmul dot_S512x256_S256x1024_S512x1024_1_0_0_1_n_n none v53 v73 cst_54
  have v75 : FVec F S512x1024 .f32 := addf v72 v74
  have v76 : FVec F S512x1024 .f32 := addf v70 v75
  have v79 : FVec F S512x1024 .f32 := shapeCast S512x1024 v76 shapeCasts_S512x1024_S512x1024
  v79

noncomputable def k0_pay3 (v83 : Vec F S1024x1024 .f32) : FVec F S1024x1 .f32 :=
  have v85 : FVec F S1024x1024 .f32 := mulf v83 v83
  have v86 : FVec F S1024 .f32 := multiReduction .add [1] S1024 v85 0x00000000#32 reduces_S1024x1024_S1024 (.inl rfl) rfl
  have v87 : FVec F S1024x1 .f32 := shapeCast S1024x1 v86 shapeCasts_S1024_S1024x1
  have cst_63 : F .f32 := Scalar.ofBits .f32 0x44800000#32
  have v88 : FVec F S1024x1 .f32 := broadcast S1024x1 cst_63
  have v89 : FVec F S1024x1 .f32 := divf v87 v88
  have cst_64 : F .f32 := Scalar.ofBits .f32 0x358637BD#32
  have v90 : FVec F S1024x1 .f32 := broadcast S1024x1 cst_64
  have v91 : FVec F S1024x1 .f32 := addf v89 v90
  have v92 : FVec F S1024x1 .f32 := rsqrt v91
  v92

noncomputable def k0_pay4 (v83 : Vec F S1024x1024 .f32) : FVec F S1024x1024 .f32 :=
  have v94 : FVec F S1024x1024 .f32 := broadcastTo S1024x1024 (k0_pay3 v83) broadcasts_S1024x1_S1024x1024
  have v95 : FVec F S1024x1024 .f32 := mulf v83 v94
  v95

noncomputable def k0_pay5 (v83 : Vec F S1024x1024 .f32) (v84 : Vec F S1024x1024 .f32) (v93 : Vec F S1x1024 .f32) (v111 : Vec F S1024x1024 .f32) : FVec F S1024x1024 .f32 :=
  have v99 : FVec F S1024x1024 .f32 := broadcastTo S1024x1024 v93 broadcasts_S1x1024_S1024x1024
  have v100 : FVec F S1024x1024 .f32 := mulf v84 v99
  have v101 : FVec F S1024x1024 .f32 := mulf v100 (k0_pay4 v83)
  have v102 : FVec F S1024 .f32 := multiReduction .add [1] S1024 v101 0x00000000#32 reduces_S1024x1024_S1024 (.inl rfl) rfl
  have v103 : FVec F S1024x1 .f32 := shapeCast S1024x1 v102 shapeCasts_S1024_S1024x1
  have cst_69 : F .f32 := Scalar.ofBits .f32 0x44800000#32
  have v104 : FVec F S1024x1 .f32 := broadcast S1024x1 cst_69
  have v105 : FVec F S1024x1 .f32 := divf v103 v104
  have v106 : FVec F S1024x1024 .f32 := broadcastTo S1024x1024 v105 broadcasts_S1024x1_S1024x1024
  have v107 : FVec F S1024x1024 .f32 := mulf (k0_pay4 v83) v106
  have v108 : FVec F S1024x1024 .f32 := subf v100 v107
  have v109 : FVec F S1024x1024 .f32 := broadcastTo S1024x1024 (k0_pay3 v83) broadcasts_S1024x1_S1024x1024
  have v110 : FVec F S1024x1024 .f32 := mulf v109 v108
  have v112 : FVec F S1024x1024 .f32 := addf v111 v110
  v112

noncomputable def k0_pay6 (v83 : Vec F S1024x1024 .f32) (v84 : Vec F S1024x1024 .f32) (v114 : Vec F S1x1024 .f32) : FVec F S1x1024 .f32 :=
  have v96 : FVec F S1024x1024 .f32 := mulf v84 (k0_pay4 v83)
  have v97 : FVec F S1024 .f32 := multiReduction .add [0] S1024 v96 0x00000000#32 reduces_S1024x1024_S1024_2 (.inl rfl) rfl
  have v98 : FVec F S1x1024 .f32 := shapeCast S1x1024 v97 shapeCasts_S1024_S1x1024
  have v115 : FVec F S1x1024 .f32 := shapeCast S1x1024 v114 shapeCasts_S1x1024_S1x1024
  have v116 : FVec F S1x1024 .f32 := addf v115 v98
  v116

noncomputable def k0_pay7 (v83 : Vec F S1024x1024 .f32) : FVec F S1024x1024 .bf16 :=
  have v84 : FVec F S1024x1024 .bf16 := truncf .bf16 v83 bitsLt_bf16_f32
  v84

noncomputable def k0_pay8 (v83 : Vec F S1024x1024 .f32) : FVec F S1024x1024 .bf16 :=
  have cst_60 : F .bf16 := Scalar.ofBits .bf16 0x3F00#16
  have v85 : FVec F S1024x1024 .bf16 := broadcast S1024x1024 cst_60
  have v86 : FVec F S1024x1024 .bf16 := mulf v85 (k0_pay7 v83)
  have v89 : FVec F S1024x1024 .bf16 := shapeCast S1024x1024 v86 shapeCasts_S1024x1024_S1024x1024
  v89

noncomputable def k0_pay9 : FVec F S1024x1024 .f32 :=
  have cst_65 : F .f32 := Scalar.ofBits .f32 0x00000000#32
  have v91 : FVec F S1024x1024 .f32 := broadcast S1024x1024 cst_65
  have v94 : FVec F S1024x1024 .f32 := shapeCast S1024x1024 v91 shapeCasts_S1024x1024_S1024x1024
  v94

noncomputable def k0_pay10 : FVec F S1x1024 .f32 :=
  have cst_58 : F .f32 := Scalar.ofBits .f32 0x00000000#32
  have v83 : FVec F S1x1024 .f32 := broadcast S1x1024 cst_58
  v83

noncomputable def k0_pay11 (v8 : Vec F S512x1024 .bf16) (v9 : Vec F S256x1024 .bf16) : FVec F S512x256 .f32 :=
  have cst : FVec F S512x256 .f32 := constant S512x256 .f32 0x00000000#32
  have v10 : FVec F S512x256 .f32 := matmul dot_S512x1024_S256x1024_S512x256_1_1_0_0_n_n none v8 v9 cst
  v10

noncomputable def k0_pay12 (v11 : Vec F S512x1024 .bf16) (v12 : Vec F S256x1024 .bf16) : FVec F S512x256 .f32 :=
  have cst_10 : FVec F S512x256 .f32 := constant S512x256 .f32 0x00000000#32
  have v13 : FVec F S512x256 .f32 := matmul dot_S512x1024_S256x1024_S512x256_1_1_0_0_n_n none v11 v12 cst_10
  v13

noncomputable def k0_pay13 (v14 : Vec F S1x512x256 .bf16) : FVec F S512x256 .f32 :=
  have v15 : FVec F S512x256 .bf16 := shapeCast S512x256 v14 shapeCasts_S1x512x256_S512x256
  have v16 : FVec F S512x256 .f32 := extf .f32 v15 bitsLt_bf16_f32
  v16

noncomputable def k0_pay14 (v14 : Vec F S1x512x256 .bf16) : FVec F S512x256 .f32 :=
  have v20 : FVec F S512x256 .f32 := logistic (k0_pay13 v14)
  v20

noncomputable def k0_pay15 (v14 : Vec F S1x512x256 .bf16) : FVec F S512x256 .f32 :=
  have v21 : FVec F S512x256 .f32 := mulf (k0_pay13 v14) (k0_pay14 v14)
  v21

noncomputable def k0_pay16 (v8 : Vec F S512x1024 .bf16) (v9 : Vec F S256x1024 .bf16) (v14 : Vec F S1x512x256 .bf16) (v17 : Vec F S1x512x256 .bf16) : FVec F S512x256 .bf16 :=
  have v18 : FVec F S512x256 .bf16 := shapeCast S512x256 v17 shapeCasts_S1x512x256_S512x256
  have v19 : FVec F S512x256 .f32 := extf .f32 v18 bitsLt_bf16_f32
  have v22 : FVec F S512x256 .f32 := mulf (k0_pay11 v8 v9) v19
  have cst_17 : F .f32 := Scalar.ofBits .f32 0x3F800000#32
  have v23 : FVec F S512x256 .f32 := broadcast S512x256 cst_17
  have v24 : FVec F S512x256 .f32 := subf v23 (k0_pay14 v14)
  have v25 : FVec F S512x256 .f32 := mulf (k0_pay15 v14) v24
  have v26 : FVec F S512x256 .f32 := addf (k0_pay14 v14) v25
  have v27 : FVec F S512x256 .f32 := mulf v22 v26
  have v28 : FVec F S512x256 .bf16 := truncf .bf16 v27 bitsLt_bf16_f32
  v28

noncomputable def k0_pay17 (v8 : Vec F S512x1024 .bf16) (v9 : Vec F S256x1024 .bf16) (v14 : Vec F S1x512x256 .bf16) : FVec F S512x256 .bf16 :=
  have v29 : FVec F S512x256 .f32 := mulf (k0_pay11 v8 v9) (k0_pay15 v14)
  have v30 : FVec F S512x256 .bf16 := truncf .bf16 v29 bitsLt_bf16_f32
  v30

noncomputable def k0_pay18 (v28 : FVec F S512x256 .bf16) : FVec F S1x512x256 .bf16 :=
  have v33 : FVec F S1x512x256 .bf16 := shapeCast S1x512x256 v28 shapeCasts_S512x256_S1x512x256
  v33

noncomputable def k0_pay19 (v30 : FVec F S512x256 .bf16) : FVec F S1x512x256 .bf16 :=
  have v36 : FVec F S1x512x256 .bf16 := shapeCast S1x512x256 v30 shapeCasts_S512x256_S1x512x256
  v36

noncomputable def k0_pay20 (v37 : Vec F S1x512x256 .bf16) : FVec F S512x256 .f32 :=
  have v38 : FVec F S512x256 .bf16 := shapeCast S512x256 v37 shapeCasts_S1x512x256_S512x256
  have v39 : FVec F S512x256 .f32 := extf .f32 v38 bitsLt_bf16_f32
  v39

noncomputable def k0_pay21 (v37 : Vec F S1x512x256 .bf16) : FVec F S512x256 .f32 :=
  have v43 : FVec F S512x256 .f32 := logistic (k0_pay20 v37)
  v43

noncomputable def k0_pay22 (v37 : Vec F S1x512x256 .bf16) : FVec F S512x256 .f32 :=
  have v44 : FVec F S512x256 .f32 := mulf (k0_pay20 v37) (k0_pay21 v37)
  v44

noncomputable def k0_pay23 (v13 : FVec F S512x256 .f32) (v37 : Vec F S1x512x256 .bf16) (v40 : Vec F S1x512x256 .bf16) : FVec F S512x256 .bf16 :=
  have v41 : FVec F S512x256 .bf16 := shapeCast S512x256 v40 shapeCasts_S1x512x256_S512x256
  have v42 : FVec F S512x256 .f32 := extf .f32 v41 bitsLt_bf16_f32
  have v45 : FVec F S512x256 .f32 := mulf v13 v42
  have cst_30 : F .f32 := Scalar.ofBits .f32 0x3F800000#32
  have v46 : FVec F S512x256 .f32 := broadcast S512x256 cst_30
  have v47 : FVec F S512x256 .f32 := subf v46 (k0_pay21 v37)
  have v48 : FVec F S512x256 .f32 := mulf (k0_pay22 v37) v47
  have v49 : FVec F S512x256 .f32 := addf (k0_pay21 v37) v48
  have v50 : FVec F S512x256 .f32 := mulf v45 v49
  have v51 : FVec F S512x256 .bf16 := truncf .bf16 v50 bitsLt_bf16_f32
  v51

noncomputable def k0_pay24 (v13 : FVec F S512x256 .f32) (v37 : Vec F S1x512x256 .bf16) : FVec F S512x256 .bf16 :=
  have v52 : FVec F S512x256 .f32 := mulf v13 (k0_pay22 v37)
  have v53 : FVec F S512x256 .bf16 := truncf .bf16 v52 bitsLt_bf16_f32
  v53

noncomputable def k0_pay25 (v13 : FVec F S512x256 .f32) (v37 : Vec F S1x512x256 .bf16) (v40 : Vec F S1x512x256 .bf16) : FVec F S1x512x256 .bf16 :=
  have v56 : FVec F S1x512x256 .bf16 := shapeCast S1x512x256 (k0_pay23 v13 v37 v40) shapeCasts_S512x256_S1x512x256
  v56

noncomputable def k0_pay26 (v13 : FVec F S512x256 .f32) (v37 : Vec F S1x512x256 .bf16) : FVec F S1x512x256 .bf16 :=
  have v59 : FVec F S1x512x256 .bf16 := shapeCast S1x512x256 (k0_pay24 v13 v37) shapeCasts_S512x256_S1x512x256
  v59

noncomputable def k0_pay27 (v28 : FVec F S512x256 .bf16) (v61 : Vec F S256x1024 .bf16) : FVec F S512x1024 .f32 :=
  have cst_41 : FVec F S512x1024 .f32 := constant S512x1024 .f32 0x00000000#32
  have v62 : FVec F S512x1024 .f32 := matmul dot_S512x256_S256x1024_S512x1024_1_0_0_1_n_n none v28 v61 cst_41
  v62

noncomputable def cc0_ffn_bwd_2_skel (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) :
    Prog (TpuEff nD τ sig (Elt F) Λ₀ .tc) PUnit := do
  let ⟨arg1, v13, v28, v30⟩ : Σ' (arg1 : BitVec 32) (v13 : FVec F S512x256 .f32) (v28 : FVec F S512x256 .bf16), FVec F S512x256 .bf16 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v51, v53, v60, v62, v63⟩ : Σ' (v51 : FVec F S512x256 .bf16) (v53 : FVec F S512x256 .bf16) (v60 : Vec F S512x1024 .f32) (v62 : FVec F S512x1024 .f32), Vec F S256x1024 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v13 v28 v30
  let v67 : Vec F S512x1024 .f32 ← Prog.lift (.load arg15 (Rect.unit (s := S1024x1024) ![0, 0] S512x1024.size inb_S1024x1024_S512x1024_0_0).toLoadRect (View.loadsAt_vmem h_S512x1024))
  Prog.lift (.store arg15 (Rect.unit (s := S1024x1024) ![0, 0] S512x1024.size inb_S1024x1024_S512x1024_0_0) (k0_pay1 v30 v60 v62 v63) Finset.univ (View.stores_vmem_bits_univ h_S512x1024 rfl) (.inl rfl))
  let v70 : Vec F S512x1024 .f32 ← Prog.lift (.load arg15 (Rect.unit (s := S1024x1024) ![512, 0] S512x1024.size inb_S1024x1024_S512x1024_512_0).toLoadRect (View.loadsAt_vmem h_S512x1024))
  let v71 : Vec F S256x1024 .bf16 ← Prog.lift (.load arg7 (Rect.unit (s := S256x1024) ![0, 0] S256x1024.size inb_S256x1024_S256x1024_0_0).toLoadRect (View.loadsAt_vmem h_S256x1024))
  let v73 : Vec F S256x1024 .bf16 ← Prog.lift (.load arg8 (Rect.unit (s := S256x1024) ![0, 0] S256x1024.size inb_S256x1024_S256x1024_0_0).toLoadRect (View.loadsAt_vmem h_S256x1024))
  let v77 : Vec F S512x1024 .f32 ← Prog.lift (.load arg15 (Rect.unit (s := S1024x1024) ![512, 0] S512x1024.size inb_S1024x1024_S512x1024_512_0).toLoadRect (View.loadsAt_vmem h_S512x1024))
  Prog.lift (.store arg15 (Rect.unit (s := S1024x1024) ![512, 0] S512x1024.size inb_S1024x1024_S512x1024_512_0) (k0_pay2 v51 v53 v70 v71 v73) Finset.univ (View.stores_vmem_bits_univ h_S512x1024 rfl) (.inl rfl))
  if k0_h3 : k0_cond3 i = 1#1 then do
    let v83 : Vec F S1024x1024 .f32 ← Prog.lift (.load arg3 (Rect.unit (s := S1024x1024) ![0, 0] S1024x1024.size inb_S1024x1024_S1024x1024_0_0).toLoadRect (View.loadsAt_vmem h_S1024x1024))
    let v84 : Vec F S1024x1024 .f32 ← Prog.lift (.load arg15 (Rect.unit (s := S1024x1024) ![0, 0] S1024x1024.size inb_S1024x1024_S1024x1024_0_0).toLoadRect (View.loadsAt_vmem h_S1024x1024))
    let v93 : Vec F S1x1024 .f32 ← Prog.lift (.load arg4 (Rect.unit (s := S1x1024) ![0, 0] S1x1024.size inb_S1x1024_S1x1024_0_0).toLoadRect (View.loadsAt_vmem h_S1x1024))
    let v111 : Vec F S1024x1024 .f32 ← Prog.lift (.load arg2 (Rect.unit (s := S1024x1024) ![0, 0] S1024x1024.size inb_S1024x1024_S1024x1024_0_0).toLoadRect (View.loadsAt_vmem h_S1024x1024))
    let v113 : Vec F S1024x1024 .f32 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay5 v83 v84 v93 v111) Finset.univ (View.stores_vmem_bits_univ h_S1024x1024 rfl) (.inl rfl))
    let v114 : Vec F S1x1024 .f32 ← Prog.lift (.load arg11 (Rect.unit (s := S1x1024) ![0, 0] S1x1024.size inb_S1x1024_S1x1024_0_0).toLoadRect (View.loadsAt_vmem h_S1x1024))
    let v117 : Vec F S1x1024 .f32 ← Prog.lift (.load arg11 (Rect.unit (s := S1x1024) ![0, 0] S1x1024.size inb_S1x1024_S1x1024_0_0).toLoadRect (View.loadsAt_vmem h_S1x1024))
    Prog.lift (.store arg11 (Rect.unit (s := S1x1024) ![0, 0] S1x1024.size inb_S1x1024_S1x1024_0_0) (k0_pay6 v83 v84 v114) Finset.univ (View.stores_vmem_bits_univ h_S1x1024 rfl) (.inl rfl))
    pure ⟨⟩
  else do
    pure ⟨⟩
  pure ⟨⟩

set_option maxRecDepth 65536 in
/-- The printed `cc0_ffn_bwd_2` is its skeleton: by definitional unfolding. -/
theorem cc0_ffn_bwd_2_eq_skeleton : cc0_ffn_bwd_2 (F := F) = cc0_ffn_bwd_2_skel (F := F) := rfl

noncomputable def k0_part1_skel (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) :
    Prog (TpuEff nD τ sig (Elt F) Λ₀ .tc) (Σ' (arg1 : BitVec 32) (v13 : FVec F S512x256 .f32) (v28 : FVec F S512x256 .bf16), FVec F S512x256 .bf16) := do
  let arg1 : BitVec 32 := BitVec.ofNat 32 (i 1).val
  if k0_h1 : k0_cond1 i = 1#1 then do
    let v83 : Vec F S1024x1024 .f32 ← Prog.lift (.load arg2 (Rect.unit (s := S1024x1024) ![0, 0] S1024x1024.size inb_S1024x1024_S1024x1024_0_0).toLoadRect (View.loadsAt_vmem h_S1024x1024))
    let v87 : Vec F S1024x1024 .bf16 ← Prog.lift (.load arg16 (Rect.unit (s := S1024x1024) ![0, 0] S1024x1024.size inb_S1024x1024_S1024x1024_0_0).toLoadRect (View.loadsAt_vmem h_S1024x1024))
    Prog.lift (.store arg16 (Rect.unit (s := S1024x1024) ![0, 0] S1024x1024.size inb_S1024x1024_S1024x1024_0_0) (k0_pay8 v83) Finset.univ (View.stores_vmem h_S1024x1024 (harg16.storeExact_slice rfl _ packedbf16_S1024x1024_S1024x1024_0_0) (fun _ => rfl)) (.inl rfl))
    let v90 : Vec F S1024x1024 .bf16 ← Prog.lift (.load arg14 (Rect.unit (s := S1024x1024) ![0, 0] S1024x1024.size inb_S1024x1024_S1024x1024_0_0).toLoadRect (View.loadsAt_vmem h_S1024x1024))
    Prog.lift (.store arg14 (Rect.unit (s := S1024x1024) ![0, 0] S1024x1024.size inb_S1024x1024_S1024x1024_0_0) (k0_pay7 v83) Finset.univ (View.stores_vmem h_S1024x1024 (harg14.storeExact_slice rfl _ packedbf16_S1024x1024_S1024x1024_0_0) (fun _ => rfl)) (.inl rfl))
    let v92 : Vec F S1024x1024 .f32 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay9 (F := F)) Finset.univ (View.stores_vmem_bits_univ h_S1024x1024 rfl) (.inl rfl))
    pure ⟨⟩
  else do
    pure ⟨⟩
  if k0_h2 : k0_cond2 i = 1#1 then do
    let v84 : Vec F S1x1024 .f32 ← Prog.lift (.load arg11 (Rect.unit (s := S1x1024) ![0, 0] S1x1024.size inb_S1x1024_S1x1024_0_0).toLoadRect (View.loadsAt_vmem h_S1x1024))
    Prog.lift (.store arg11 (Rect.unit (s := S1x1024) ![0, 0] S1x1024.size inb_S1x1024_S1x1024_0_0) (k0_pay10 (F := F)) Finset.univ (View.stores_vmem_bits_univ h_S1x1024 rfl) (.inl rfl))
    pure ⟨⟩
  else do
    pure ⟨⟩
  let v8 : Vec F S512x1024 .bf16 ← Prog.lift (.load arg16 (Rect.unit (s := S1024x1024) ![0, 0] S512x1024.size inb_S1024x1024_S512x1024_0_0).toLoadRect (View.loadsAt_vmem h_S512x1024))
  let v9 : Vec F S256x1024 .bf16 ← Prog.lift (.load arg9 (Rect.unit (s := S256x1024) ![0, 0] S256x1024.size inb_S256x1024_S256x1024_0_0).toLoadRect (View.loadsAt_vmem h_S256x1024))
  let v11 : Vec F S512x1024 .bf16 ← Prog.lift (.load arg16 (Rect.unit (s := S1024x1024) ![512, 0] S512x1024.size inb_S1024x1024_S512x1024_512_0).toLoadRect (View.loadsAt_vmem h_S512x1024))
  let v12 : Vec F S256x1024 .bf16 ← Prog.lift (.load arg9 (Rect.unit (s := S256x1024) ![0, 0] S256x1024.size inb_S256x1024_S256x1024_0_0).toLoadRect (View.loadsAt_vmem h_S256x1024))
  let v14 : Vec F S1x512x256 .bf16 ← Prog.lift (.load arg5 (Rect.unit (s := S1x1024x256) ![0, 0, 0] S1x512x256.size inb_S1x1024x256_S1x512x256_0_0_0).toLoadRect (View.loadsAt_vmem h_S1x512x256))
  let v17 : Vec F S1x512x256 .bf16 ← Prog.lift (.load arg6 (Rect.unit (s := S1x1024x256) ![0, 0, 0] S1x512x256.size inb_S1x1024x256_S1x512x256_0_0_0).toLoadRect (View.loadsAt_vmem h_S1x512x256))
  pure ⟨arg1, k0_pay12 v11 v12, k0_pay16 v8 v9 v14 v17, k0_pay17 v8 v9 v14⟩

set_option maxRecDepth 65536 in
/-- The printed `k0_part1` is its skeleton: by definitional unfolding. -/
theorem k0_part1_eq_skeleton : k0_part1 (F := F) = k0_part1_skel (F := F) := rfl

noncomputable def k0_part2_skel (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) (v13 : FVec F S512x256 .f32) (v28 : FVec F S512x256 .bf16) (v30 : FVec F S512x256 .bf16) :
    Prog (TpuEff nD τ sig (Elt F) Λ₀ .tc) (Σ' (v51 : FVec F S512x256 .bf16) (v53 : FVec F S512x256 .bf16) (v60 : Vec F S512x1024 .f32) (v62 : FVec F S512x1024 .f32), Vec F S256x1024 .bf16) := do
  let v31 : Vec F S1x512x256 .bf16 ← Prog.lift (.load arg12 (Rect.unit (s := S1x1024x256) ![0, 0, 0] S1x512x256.size inb_S1x1024x256_S1x512x256_0_0_0).toLoadRect (View.loadsAt_vmem h_S1x512x256))
  Prog.lift (.store arg12 (Rect.unit (s := S1x1024x256) ![0, 0, 0] S1x512x256.size inb_S1x1024x256_S1x512x256_0_0_0) (k0_pay18 v28) Finset.univ (View.stores_vmem h_S1x512x256 (harg12.storeExact_slice rfl _ packedbf16_S1x1024x256_S1x512x256_0_0_0) (fun _ => rfl)) (.inl rfl))
  let v34 : Vec F S1x512x256 .bf16 ← Prog.lift (.load arg13 (Rect.unit (s := S1x1024x256) ![0, 0, 0] S1x512x256.size inb_S1x1024x256_S1x512x256_0_0_0).toLoadRect (View.loadsAt_vmem h_S1x512x256))
  Prog.lift (.store arg13 (Rect.unit (s := S1x1024x256) ![0, 0, 0] S1x512x256.size inb_S1x1024x256_S1x512x256_0_0_0) (k0_pay19 v30) Finset.univ (View.stores_vmem h_S1x512x256 (harg13.storeExact_slice rfl _ packedbf16_S1x1024x256_S1x512x256_0_0_0) (fun _ => rfl)) (.inl rfl))
  let v37 : Vec F S1x512x256 .bf16 ← Prog.lift (.load arg5 (Rect.unit (s := S1x1024x256) ![0, 512, 0] S1x512x256.size inb_S1x1024x256_S1x512x256_0_512_0).toLoadRect (View.loadsAt_vmem h_S1x512x256))
  let v40 : Vec F S1x512x256 .bf16 ← Prog.lift (.load arg6 (Rect.unit (s := S1x1024x256) ![0, 512, 0] S1x512x256.size inb_S1x1024x256_S1x512x256_0_512_0).toLoadRect (View.loadsAt_vmem h_S1x512x256))
  let v54 : Vec F S1x512x256 .bf16 ← Prog.lift (.load arg12 (Rect.unit (s := S1x1024x256) ![0, 512, 0] S1x512x256.size inb_S1x1024x256_S1x512x256_0_512_0).toLoadRect (View.loadsAt_vmem h_S1x512x256))
  Prog.lift (.store arg12 (Rect.unit (s := S1x1024x256) ![0, 512, 0] S1x512x256.size inb_S1x1024x256_S1x512x256_0_512_0) (k0_pay25 v13 v37 v40) Finset.univ (View.stores_vmem h_S1x512x256 (harg12.storeExact_slice rfl _ packedbf16_S1x1024x256_S1x512x256_0_512_0) (fun _ => rfl)) (.inl rfl))
  let v57 : Vec F S1x512x256 .bf16 ← Prog.lift (.load arg13 (Rect.unit (s := S1x1024x256) ![0, 512, 0] S1x512x256.size inb_S1x1024x256_S1x512x256_0_512_0).toLoadRect (View.loadsAt_vmem h_S1x512x256))
  Prog.lift (.store arg13 (Rect.unit (s := S1x1024x256) ![0, 512, 0] S1x512x256.size inb_S1x1024x256_S1x512x256_0_512_0) (k0_pay26 v13 v37) Finset.univ (View.stores_vmem h_S1x512x256 (harg13.storeExact_slice rfl _ packedbf16_S1x1024x256_S1x512x256_0_512_0) (fun _ => rfl)) (.inl rfl))
  let v60 : Vec F S512x1024 .f32 ← Prog.lift (.load arg15 (Rect.unit (s := S1024x1024) ![0, 0] S512x1024.size inb_S1024x1024_S512x1024_0_0).toLoadRect (View.loadsAt_vmem h_S512x1024))
  let v61 : Vec F S256x1024 .bf16 ← Prog.lift (.load arg7 (Rect.unit (s := S256x1024) ![0, 0] S256x1024.size inb_S256x1024_S256x1024_0_0).toLoadRect (View.loadsAt_vmem h_S256x1024))
  let v63 : Vec F S256x1024 .bf16 ← Prog.lift (.load arg8 (Rect.unit (s := S256x1024) ![0, 0] S256x1024.size inb_S256x1024_S256x1024_0_0).toLoadRect (View.loadsAt_vmem h_S256x1024))
  pure ⟨k0_pay23 v13 v37 v40, k0_pay24 v13 v37, v60, k0_pay27 v28 v61, v63⟩

set_option maxRecDepth 65536 in
/-- The printed `k0_part2` is its skeleton: by definitional unfolding. -/
theorem k0_part2_eq_skeleton : k0_part2 (F := F) = k0_part2_skel (F := F) := rfl

end Cert.Kernel3Ideal.Gen

end
-- ==== Proof.FfnBackPoints.lean ====
/-
What the frame of the SwiGLU backward kernel needs to know about its 88 grid points (8 row tiles by 11 feature tiles): which branches
are taken where, which output windows are stored into where, and where they are written back.
-/
module

public import proofs.«01_k».proof.Proof.FfnBackSkel
public import proofs.«01_k».proof.Proof.Gen.Kernel3Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `pl.when` 1. -/
abbrev cond0_0 (i : grid0.Coords) : Prop := k0_cond1 i = 1#1
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The condition of the body's `pl.when` 2. -/
abbrev cond0_1 (i : grid0.Coords) : Prop := k0_cond2 i = 1#1
theorem hcond0_1 : ∀ t : Fin cfg0.N, cond0_1 (grid0.coords t) ↔ t.val % 88 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 88 = 0)

/-- The condition of the body's `pl.when` 3. -/
abbrev cond0_2 (i : grid0.Coords) : Prop := k0_cond3 i = 1#1
theorem hcond0_2 : ∀ t : Fin cfg0.N, cond0_2 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-! ## The four kinds of points -/

/-- Which branches are taken at the first point. -/
theorem caseA (t : Fin cfg0.N) (h1 : t.val % 88 = 0) :
    cond0_0 (grid0.coords t) ∧ cond0_1 (grid0.coords t) ∧ ¬cond0_2 (grid0.coords t) :=
  ⟨(hcond0_0 t).mpr (by omega), (hcond0_1 t).mpr (by omega), fun h => by have := (hcond0_2 t).mp h; omega⟩

/-- Which branches are taken at an inner point. -/
theorem caseB (t : Fin cfg0.N) (h0 : ¬t.val % 11 = 0) (h2 : ¬t.val % 11 = 10) :
    ¬cond0_0 (grid0.coords t) ∧ ¬cond0_1 (grid0.coords t) ∧ ¬cond0_2 (grid0.coords t) :=
  ⟨fun h => by have := (hcond0_0 t).mp h; omega, fun h => by have := (hcond0_1 t).mp h; omega, fun h => by have := (hcond0_2 t).mp h; omega⟩

/-- Which branches are taken at the last feature tile of a row tile. -/
theorem caseC (t : Fin cfg0.N) (h2 : t.val % 11 = 10) :
    ¬cond0_0 (grid0.coords t) ∧ ¬cond0_1 (grid0.coords t) ∧ cond0_2 (grid0.coords t) :=
  ⟨fun h => by have := (hcond0_0 t).mp h; omega, fun h => by have := (hcond0_1 t).mp h; omega, (hcond0_2 t).mpr (by omega)⟩

/-- Which branches are taken at the first feature tile of a later row tile. -/
theorem caseD (t : Fin cfg0.N) (h0 : t.val % 11 = 0) (h1 : ¬t.val % 88 = 0) :
    cond0_0 (grid0.coords t) ∧ ¬cond0_1 (grid0.coords t) ∧ ¬cond0_2 (grid0.coords t) :=
  ⟨(hcond0_0 t).mpr (by omega), fun h => by have := (hcond0_1 t).mp h; omega, fun h => by have := (hcond0_2 t).mp h; omega⟩

/-! ## Where the output windows are stored into, and where they are written back -/

theorem idle_8_A : ∀ t : Fin cfg0.N, t.val % 88 = 0 → cfg0.idle 8 (grid0.coords t) = true := by decide +kernel
theorem kept_8_A : ∀ t : Fin cfg0.N, t.val % 88 = 0 → (cfg0.win 8).flush t = false := by decide +kernel
theorem idle_8_B : ∀ t : Fin cfg0.N, ¬t.val % 11 = 0 → ¬t.val % 11 = 10 → cfg0.idle 8 (grid0.coords t) = true := by decide +kernel
theorem kept_8_B : ∀ t : Fin cfg0.N, ¬t.val % 11 = 0 → ¬t.val % 11 = 10 → (cfg0.win 8).flush t = false := by decide +kernel
theorem live_8_C : ∀ t : Fin cfg0.N, t.val % 11 = 10 → cfg0.idle 8 (grid0.coords t) = false := by decide +kernel
theorem idle_8_D : ∀ t : Fin cfg0.N, t.val % 11 = 0 → ¬t.val % 88 = 0 → cfg0.idle 8 (grid0.coords t) = true := by decide +kernel
theorem kept_8_D : ∀ t : Fin cfg0.N, t.val % 11 = 0 → ¬t.val % 88 = 0 → (cfg0.win 8).flush t = false := by decide +kernel
theorem live_9_A : ∀ t : Fin cfg0.N, t.val % 88 = 0 → cfg0.idle 9 (grid0.coords t) = false := by decide +kernel
theorem idle_9_B : ∀ t : Fin cfg0.N, ¬t.val % 11 = 0 → ¬t.val % 11 = 10 → cfg0.idle 9 (grid0.coords t) = true := by decide +kernel
theorem kept_9_B : ∀ t : Fin cfg0.N, ¬t.val % 11 = 0 → ¬t.val % 11 = 10 → (cfg0.win 9).flush t = false := by decide +kernel
theorem live_9_C : ∀ t : Fin cfg0.N, t.val % 11 = 10 → cfg0.idle 9 (grid0.coords t) = false := by decide +kernel
theorem idle_9_D : ∀ t : Fin cfg0.N, t.val % 11 = 0 → ¬t.val % 88 = 0 → cfg0.idle 9 (grid0.coords t) = true := by decide +kernel
theorem kept_9_D : ∀ t : Fin cfg0.N, t.val % 11 = 0 → ¬t.val % 88 = 0 → (cfg0.win 9).flush t = false := by decide +kernel
theorem live_10 : ∀ t : Fin cfg0.N, cfg0.idle 10 (grid0.coords t) = false := fun _ => rfl
theorem live_11 : ∀ t : Fin cfg0.N, cfg0.idle 11 (grid0.coords t) = false := fun _ => rfl
theorem live_12_A : ∀ t : Fin cfg0.N, t.val % 88 = 0 → cfg0.idle 12 (grid0.coords t) = false := by decide +kernel
theorem idle_12_B : ∀ t : Fin cfg0.N, ¬t.val % 11 = 0 → ¬t.val % 11 = 10 → cfg0.idle 12 (grid0.coords t) = true := by decide +kernel
theorem kept_12_B : ∀ t : Fin cfg0.N, ¬t.val % 11 = 0 → ¬t.val % 11 = 10 → (cfg0.win 12).flush t = false := by decide +kernel
theorem idle_12_C : ∀ t : Fin cfg0.N, t.val % 11 = 10 → cfg0.idle 12 (grid0.coords t) = true := by decide +kernel
theorem back_12_C : ∀ t : Fin cfg0.N, t.val % 11 = 10 → (cfg0.win 12).flush t = true := by decide +kernel
theorem live_12_D : ∀ t : Fin cfg0.N, t.val % 11 = 0 → ¬t.val % 88 = 0 → cfg0.idle 12 (grid0.coords t) = false := by decide +kernel

/-- Output 9's buffer holds nothing of the body's at the position: a table, checked against the configuration point by point. -/
def freshTab_9 : ℕ → Bool
  | 0 => true
  | n + 1 => (0x8000000000000000000000 : ℕ).testBit n
theorem freshTab_9_step : ∀ t : Fin cfg0.N,
    freshTab_9 (t.val + 1) = ((cfg0.win 9).flush t || (cfg0.idle 9 (cfg0.grid.coords t) && freshTab_9 t.val)) := by decide +kernel
theorem fresh_9_eq (t : Fin cfg0.N) : cfg0.fresh 9 t.val = freshTab_9 t.val :=
  Pipeline.Cfg.fresh_tab cfg0 9 freshTab_9 rfl freshTab_9_step t.val (Nat.le_of_lt t.isLt)
theorem notFresh_9_C : ∀ t : Fin cfg0.N, t.val % 11 = 10 → cfg0.fresh 9 t.val = false := by
  intro t; rw [fresh_9_eq t]; revert t; decide +kernel

/-- Output 12's buffer holds nothing of the body's at the position: a table, checked against the configuration point by point. -/
def freshTab_12 : ℕ → Bool
  | 0 => true
  | n + 1 => (0x8010020040080100200400 : ℕ).testBit n
theorem freshTab_12_step : ∀ t : Fin cfg0.N,
    freshTab_12 (t.val + 1) = ((cfg0.win 12).flush t || (cfg0.idle 12 (cfg0.grid.coords t) && freshTab_12 t.val)) := by decide +kernel
theorem fresh_12_eq (t : Fin cfg0.N) : cfg0.fresh 12 t.val = freshTab_12 t.val :=
  Pipeline.Cfg.fresh_tab cfg0 12 freshTab_12 rfl freshTab_12_step t.val (Nat.le_of_lt t.isLt)
theorem notFresh_12_C : ∀ t : Fin cfg0.N, t.val % 11 = 10 → cfg0.fresh 12 t.val = false := by
  intro t; rw [fresh_12_eq t]; revert t; decide +kernel

/-! ## The staging buffers and the scratch -/

abbrev VO0_8 : View sig .tc .vmem S1024x1024 .f32 := (Memref.whole cc0_stg8_0 : Memref sig .tc .vmem S1024x1024 .f32).view
abbrev VO0_9 : View sig .tc .vmem S1x1024 .f32 := (Memref.whole cc0_stg9_0 : Memref sig .tc .vmem S1x1024 .f32).view
abbrev VO0_10 : View sig .tc .vmem S1x1024x256 .bf16 := (Memref.whole cc0_stg10_0 : Memref sig .tc .vmem S1x1024x256 .bf16).view
abbrev VO0_11 : View sig .tc .vmem S1x1024x256 .bf16 := (Memref.whole cc0_stg11_0 : Memref sig .tc .vmem S1x1024x256 .bf16).view
abbrev VO0_12 : View sig .tc .vmem S1024x1024 .bf16 := (Memref.whole cc0_stg12_0 : Memref sig .tc .vmem S1024x1024 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev scM0_0 : Memref sig .tc .vmem S1024x1024 .f32 := Memref.whole cc0_scratch0
abbrev scM0_1 : Memref sig .tc .vmem S1024x1024 .bf16 := Memref.whole cc0_scratch1
abbrev VS0_0 : View sig .tc .vmem S1024x1024 .f32 := scM0_0.view
abbrev VS0_1 : View sig .tc .vmem S1024x1024 .bf16 := scM0_1.view

/-- The invariant a launch starts from, with the scratch buffers as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Gen

end
-- ==== Proof.FfnBackRunA.lean ====
/-
The body of the SwiGLU backward kernel at the first point, run once over any staging buffers: the pieces its stores leave in every output and
scratch buffer, together with the proof that the body runs and leaves them.
-/
module

public import proofs.«01_k».proof.Proof.FfnBackPoints

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) (hc0 : cond0_0 i) (hc1 : cond0_1 i) (hc2 : ¬cond0_2 i)
    (x0 : Vec F S1024x1024 .f32) (x1 : Vec F S1024x1024 .f32) (x2 : Vec F S1x1024 .f32) (x3 : Vec F S1x1024x256 .bf16) (x4 : Vec F S1x1024x256 .bf16) (x5 : Vec F S256x1024 .bf16) (x6 : Vec F S256x1024 .bf16) (x7 : Vec F S256x1024 .bf16) :
    Σ' (L8 : List (View.Piece (Elt F) S1024x1024 .f32)), Σ' (L9 : List (View.Piece (Elt F) S1x1024 .f32)), Σ' (L10 : List (View.Piece (Elt F) S1x1024x256 .bf16)), Σ' (L11 : List (View.Piece (Elt F) S1x1024x256 .bf16)), Σ' (L12 : List (View.Piece (Elt F) S1024x1024 .bf16)), Σ' (LS0 : List (View.Piece (Elt F) S1024x1024 .f32)), { LS1 : List (View.Piece (Elt F) S1024x1024 .bf16) //
      ∀ (xi8 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_ffn_bwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, ?_, ?_, ?_, fun xi8 E K => ?run⟩
  case run =>
    simp only [cc0_ffn_bwd_2_eq_skeleton]; unfold cc0_ffn_bwd_2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

end Cert.Kernel3Ideal.Gen

end
-- ==== Proof.FfnBackRunB.lean ====
/-
The body of the SwiGLU backward kernel at an inner point, run once over any staging buffers: the pieces its stores leave in every output and
scratch buffer, together with the proof that the body runs and leaves them.
-/
module

public import proofs.«01_k».proof.Proof.FfnBackRunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) (hc0 : ¬cond0_0 i) (hc1 : ¬cond0_1 i) (hc2 : ¬cond0_2 i)
    (x0 : Vec F S1024x1024 .f32) (x1 : Vec F S1024x1024 .f32) (x2 : Vec F S1x1024 .f32) (x3 : Vec F S1x1024x256 .bf16) (x4 : Vec F S1x1024x256 .bf16) (x5 : Vec F S256x1024 .bf16) (x6 : Vec F S256x1024 .bf16) (x7 : Vec F S256x1024 .bf16) (xs0 : Vec F S1024x1024 .f32) (xs1 : Vec F S1024x1024 .bf16) :
    Σ' (L8 : List (View.Piece (Elt F) S1024x1024 .f32)), Σ' (L9 : List (View.Piece (Elt F) S1x1024 .f32)), Σ' (L10 : List (View.Piece (Elt F) S1x1024x256 .bf16)), Σ' (L11 : List (View.Piece (Elt F) S1x1024x256 .bf16)), Σ' (L12 : List (View.Piece (Elt F) S1024x1024 .bf16)), Σ' (LS0 : List (View.Piece (Elt F) S1024x1024 .f32)), { LS1 : List (View.Piece (Elt F) S1024x1024 .bf16) //
      ∀ (xi8 : Vec F S1024x1024 .f32) (xi9 : Vec F S1x1024 .f32) (xi12 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xi12 ∗ (∃ f, arg15.view.loc (c : Thread nD τ) ↦[arg15.view.set]{fullShare} arg15.view.writes (Elt F) f LS0) ∗ owns (c : Thread nD τ) arg16 fullShare xs1) -∗ K ⟨⟩))
          ⊢ wp frame (wpE (defs₀ (F := F)) Variants.none c none) E (cc0_ffn_bwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, ?_, [], ?_, [], fun xi8 xi9 xi12 E K => ?run⟩
  case run =>
    simp only [cc0_ffn_bwd_2_eq_skeleton]; unfold cc0_ffn_bwd_2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]
    · iexists _; isplitr; · ipureintro; exact harg14.read_unread _
      iexact H12
    isplitl [HS0]; · iexists _; iexact HS0
    iexists _; isplitr; · ipureintro; exact harg16.read_unread _
    iexact HS1

end Cert.Kernel3Ideal.Gen

end
-- ==== Proof.FfnBackRunC.lean ====
/-
The body of the SwiGLU backward kernel at the last feature tile of a row tile, run once over any staging buffers: the pieces its stores leave in every output and
scratch buffer, together with the proof that the body runs and leaves them.
-/
module

public import proofs.«01_k».proof.Proof.FfnBackRunB

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) (hc0 : ¬cond0_0 i) (hc1 : ¬cond0_1 i) (hc2 : cond0_2 i)
    (x0 : Vec F S1024x1024 .f32) (x1 : Vec F S1024x1024 .f32) (x2 : Vec F S1x1024 .f32) (x3 : Vec F S1x1024x256 .bf16) (x4 : Vec F S1x1024x256 .bf16) (x5 : Vec F S256x1024 .bf16) (x6 : Vec F S256x1024 .bf16) (x7 : Vec F S256x1024 .bf16) (xo9 : Vec F S1x1024 .f32) (xo12 : Vec F S1024x1024 .bf16) (xs0 : Vec F S1024x1024 .f32) (xs1 : Vec F S1024x1024 .bf16) :
    Σ' (L8 : List (View.Piece (Elt F) S1024x1024 .f32)), Σ' (L9 : List (View.Piece (Elt F) S1x1024 .f32)), Σ' (L10 : List (View.Piece (Elt F) S1x1024x256 .bf16)), Σ' (L11 : List (View.Piece (Elt F) S1x1024x256 .bf16)), Σ' (L12 : List (View.Piece (Elt F) S1024x1024 .bf16)), Σ' (LS0 : List (View.Piece (Elt F) S1024x1024 .f32)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ (∃ d, owns (c : Thread nD τ) arg12 fullShare d) ∗ (∃ d, owns (c : Thread nD τ) arg13 fullShare d) ∗ owns (c : Thread nD τ) arg14 fullShare xo12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xo12 ∗ (∃ f, arg15.view.loc (c : Thread nD τ) ↦[arg15.view.set]{fullShare} arg15.view.writes (Elt F) f LS0) ∗ owns (c : Thread nD τ) arg16 fullShare xs1) -∗ K ⟨⟩))
          ⊢ wp frame (wpE (defs₀ (F := F)) Variants.none c none) E (cc0_ffn_bwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, [], ?_, [], fun E K => ?run⟩
  case run =>
    simp only [cc0_ffn_bwd_2_eq_skeleton]; unfold cc0_ffn_bwd_2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg14.eq_unread hf12; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [HS0]; · iexists _; iexact HS0
    iexists _; isplitr; · ipureintro; exact harg16.read_unread _
    iexact HS1

end Cert.Kernel3Ideal.Gen

end
-- ==== Proof.FfnBackRunD.lean ====
/-
The body of the SwiGLU backward kernel at the first feature tile of a later row tile, run once over any staging buffers: the pieces its stores leave in every output and
scratch buffer, together with the proof that the body runs and leaves them.
-/
module

public import proofs.«01_k».proof.Proof.FfnBackRunC

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_D (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1024x1024 .bf16) (harg16 : arg16.IsWhole) (hc0 : cond0_0 i) (hc1 : ¬cond0_1 i) (hc2 : ¬cond0_2 i)
    (x0 : Vec F S1024x1024 .f32) (x1 : Vec F S1024x1024 .f32) (x2 : Vec F S1x1024 .f32) (x3 : Vec F S1x1024x256 .bf16) (x4 : Vec F S1x1024x256 .bf16) (x5 : Vec F S256x1024 .bf16) (x6 : Vec F S256x1024 .bf16) (x7 : Vec F S256x1024 .bf16) :
    Σ' (L8 : List (View.Piece (Elt F) S1024x1024 .f32)), Σ' (L9 : List (View.Piece (Elt F) S1x1024 .f32)), Σ' (L10 : List (View.Piece (Elt F) S1x1024x256 .bf16)), Σ' (L11 : List (View.Piece (Elt F) S1x1024x256 .bf16)), Σ' (L12 : List (View.Piece (Elt F) S1024x1024 .bf16)), Σ' (LS0 : List (View.Piece (Elt F) S1024x1024 .f32)), { LS1 : List (View.Piece (Elt F) S1024x1024 .bf16) //
      ∀ (xi8 : Vec F S1024x1024 .f32) (xi9 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_ffn_bwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], ?_, ?_, ?_, ?_, ?_, fun xi8 xi9 E K => ?run⟩
  case run =>
    simp only [cc0_ffn_bwd_2_eq_skeleton]; unfold cc0_ffn_bwd_2_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel3Ideal.Gen

end
-- ==== Proof.FfnBackHeld.lean ====
/-
What the SwiGLU backward kernel leaves in its output and scratch buffers after every grid point, read off the four runs, and the proof data of
its pipeline.
-/
module

public import proofs.«01_k».proof.Proof.FfnBackRunD
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffers and then the scratch buffers hold after a point. -/
abbrev Held (F : FTy → Type) : Type := Vec F S1024x1024 .f32 × Vec F S1x1024 .f32 × Vec F S1x1024x256 .bf16 × Vec F S1x1024x256 .bf16 × Vec F S1024x1024 .bf16 × Vec F S1024x1024 .f32 × Vec F S1024x1024 .bf16

def out0_A_9 (c : Dev nD) (t : Fin cfg0.N) (h1 : t.val % 88 = 0) : Vec F S1x1024 .f32 :=
  VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.1)
def out0_A_10 (c : Dev nD) (t : Fin cfg0.N) (h1 : t.val % 88 = 0) : Vec F S1x1024x256 .bf16 :=
  VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.1)
def out0_A_11 (c : Dev nD) (t : Fin cfg0.N) (h1 : t.val % 88 = 0) : Vec F S1x1024x256 .bf16 :=
  VO0_11.read (Elt F) (VO0_11.writes (Elt F) VO0_11.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.2.1)
def out0_A_12 (c : Dev nD) (t : Fin cfg0.N) (h1 : t.val % 88 = 0) : Vec F S1024x1024 .bf16 :=
  VO0_12.read (Elt F) (VO0_12.writes (Elt F) VO0_12.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.2.2.1)
def sout0_A_0 (c : Dev nD) (t : Fin cfg0.N) (h1 : t.val % 88 = 0) : Vec F S1024x1024 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.2.2.2.1)
def sout0_A_1 (c : Dev nD) (t : Fin cfg0.N) (h1 : t.val % 88 = 0) : Vec F S1024x1024 .bf16 :=
  VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.2.2.2.2.1)

/-- What the buffers hold after the first point. -/
def heldA (c : Dev nD) (t : Fin cfg0.N) (h1 : t.val % 88 = 0) : Held F :=
  (VO0_8.read (Elt F) (VO0_8.writes (Elt F) VO0_8.junk []), out0_A_9 m c t h1, out0_A_10 m c t h1, out0_A_11 m c t h1, out0_A_12 m c t h1, sout0_A_0 m c t h1, sout0_A_1 m c t h1)

def out0_B_10 (c : Dev nD) (t : Fin cfg0.N) (h0 : ¬t.val % 11 = 0) (h2 : ¬t.val % 11 = 10) (p : Held F) : Vec F S1x1024x256 .bf16 :=
  VO0_10.read (Elt F) (VO0_10.writes (Elt F) VO0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) (iblk m c 7 t) p.2.2.2.2.2.1 p.2.2.2.2.2.2).2.2.1)
def out0_B_11 (c : Dev nD) (t : Fin cfg0.N) (h0 : ¬t.val % 11 = 0) (h2 : ¬t.val % 11 = 10) (p : Held F) : Vec F S1x1024x256 .bf16 :=
  VO0_11.read (Elt F) (VO0_11.writes (Elt F) VO0_11.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) (iblk m c 7 t) p.2.2.2.2.2.1 p.2.2.2.2.2.2).2.2.2.1)
def sout0_B_0 (c : Dev nD) (t : Fin cfg0.N) (h0 : ¬t.val % 11 = 0) (h2 : ¬t.val % 11 = 10) (p : Held F) : Vec F S1024x1024 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) (iblk m c 7 t) p.2.2.2.2.2.1 p.2.2.2.2.2.2).2.2.2.2.2.1)

/-- What the buffers hold after an inner point, if before it they held `p`. -/
def heldB (c : Dev nD) (t : Fin cfg0.N) (h0 : ¬t.val % 11 = 0) (h2 : ¬t.val % 11 = 10) (p : Held F) : Held F :=
  (p.1, p.2.1, out0_B_10 m c t h0 h2 p, out0_B_11 m c t h0 h2 p, p.2.2.2.2.1, sout0_B_0 m c t h0 h2 p, p.2.2.2.2.2.2)

def out0_C_8 (c : Dev nD) (t : Fin cfg0.N) (h2 : t.val % 11 = 10) (p : Held F) : Vec F S1024x1024 .f32 :=
  VO0_8.read (Elt F) (VO0_8.writes (Elt F) VO0_8.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) p.2.1 p.2.2.2.2.1 p.2.2.2.2.2.1 p.2.2.2.2.2.2).1)
def out0_C_9 (c : Dev nD) (t : Fin cfg0.N) (h2 : t.val % 11 = 10) (p : Held F) : Vec F S1x1024 .f32 :=
  VO0_9.read (Elt F) (VO0_9.writes (Elt F) VO0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) p.2.1 p.2.2.2.2.1 p.2.2.2.2.2.1 p.2.2.2.2.2.2).2.1)
def out0_C_10 (c : Dev nD) (t : Fin cfg0.N) (h2 : t.val % 11 = 10) (p : Held F) : Vec F S1x1024x256 .bf16 :=
  VO0_10.read (Elt F) (VO0_10.writes (Elt F) VO0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) p.2.1 p.2.2.2.2.1 p.2.2.2.2.2.1 p.2.2.2.2.2.2).2.2.1)
def out0_C_11 (c : Dev nD) (t : Fin cfg0.N) (h2 : t.val % 11 = 10) (p : Held F) : Vec F S1x1024x256 .bf16 :=
  VO0_11.read (Elt F) (VO0_11.writes (Elt F) VO0_11.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) p.2.1 p.2.2.2.2.1 p.2.2.2.2.2.1 p.2.2.2.2.2.2).2.2.2.1)
def sout0_C_0 (c : Dev nD) (t : Fin cfg0.N) (h2 : t.val % 11 = 10) (p : Held F) : Vec F S1024x1024 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) p.2.1 p.2.2.2.2.1 p.2.2.2.2.2.1 p.2.2.2.2.2.2).2.2.2.2.2.1)

/-- What the buffers hold after the last feature tile of a row tile, if before it they held `p`. -/
def heldC (c : Dev nD) (t : Fin cfg0.N) (h2 : t.val % 11 = 10) (p : Held F) : Held F :=
  (out0_C_8 m c t h2 p, out0_C_9 m c t h2 p, out0_C_10 m c t h2 p, out0_C_11 m c t h2 p, p.2.2.2.2.1, sout0_C_0 m c t h2 p, p.2.2.2.2.2.2)

def out0_D_10 (c : Dev nD) (t : Fin cfg0.N) (h0 : t.val % 11 = 0) (h1 : ¬t.val % 88 = 0) (p : Held F) : Vec F S1x1024x256 .bf16 :=
  VO0_10.read (Elt F) (VO0_10.writes (Elt F) VO0_10.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.1)
def out0_D_11 (c : Dev nD) (t : Fin cfg0.N) (h0 : t.val % 11 = 0) (h1 : ¬t.val % 88 = 0) (p : Held F) : Vec F S1x1024x256 .bf16 :=
  VO0_11.read (Elt F) (VO0_11.writes (Elt F) VO0_11.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.2.1)
def out0_D_12 (c : Dev nD) (t : Fin cfg0.N) (h0 : t.val % 11 = 0) (h1 : ¬t.val % 88 = 0) (p : Held F) : Vec F S1024x1024 .bf16 :=
  VO0_12.read (Elt F) (VO0_12.writes (Elt F) VO0_12.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.2.2.1)
def sout0_D_0 (c : Dev nD) (t : Fin cfg0.N) (h0 : t.val % 11 = 0) (h1 : ¬t.val % 88 = 0) (p : Held F) : Vec F S1024x1024 .f32 :=
  VS0_0.read (Elt F) (VS0_0.writes (Elt F) VS0_0.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.2.2.2.1)
def sout0_D_1 (c : Dev nD) (t : Fin cfg0.N) (h0 : t.val % 11 = 0) (h1 : ¬t.val % 88 = 0) (p : Held F) : Vec F S1024x1024 .bf16 :=
  VS0_1.read (Elt F) (VS0_1.writes (Elt F) VS0_1.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.2.2.2.2.1)

/-- What the buffers hold after the first feature tile of a later row tile, if before it they held `p`. -/
def heldD (c : Dev nD) (t : Fin cfg0.N) (h0 : t.val % 11 = 0) (h1 : ¬t.val % 88 = 0) (p : Held F) : Held F :=
  (p.1, p.2.1, out0_D_10 m c t h0 h1 p, out0_D_11 m c t h0 h1 p, out0_D_12 m c t h0 h1 p, sout0_D_0 m c t h0 h1 p, sout0_D_1 m c t h0 h1 p)

/-- What the buffers hold after point `t`, if before it they held `p`. -/
def heldStep (c : Dev nD) (t : Fin cfg0.N) (p : Held F) : Held F :=
  if h1 : t.val % 88 = 0 then heldA m c t h1
  else if h0 : t.val % 11 = 0 then heldD m c t h0 h1 p
  else if h2 : t.val % 11 = 10 then heldC m c t h2 p
  else heldB m c t h0 h2 p

/-- What the buffers hold after each point. -/
def outsAt0 (c : Dev nD) : (n : ℕ) → n < cfg0.N → Held F
  | 0, hn => heldA m c ⟨0, hn⟩ (Nat.zero_mod _)
  | n + 1, hn => heldStep m c ⟨n + 1, hn⟩ (outsAt0 c n (Nat.lt_of_succ_lt hn))

/-- What the buffers hold before point `t` (not the first). -/
abbrev prior (c : Dev nD) (t : Fin cfg0.N) : Held F := outsAt0 m c (t.val - 1) (Nat.lt_of_le_of_lt (Nat.sub_le _ _) t.isLt)

theorem outsAt0_A (c : Dev nD) (t : Fin cfg0.N) (h1 : t.val % 88 = 0) : outsAt0 m c t.val t.isLt = heldA m c t h1 := by
  obtain ⟨n, hn⟩ := t
  cases n with
  | zero => rfl
  | succ n => exact dif_pos h1

theorem outsAt0_B (c : Dev nD) (t : Fin cfg0.N) (h0 : ¬t.val % 11 = 0) (h2 : ¬t.val % 11 = 10) :
    outsAt0 m c t.val t.isLt = heldB m c t h0 h2 (prior m c t) := by
  obtain ⟨n, hn⟩ := t
  cases n with
  | zero => exact absurd (Nat.zero_mod _) h0
  | succ n => exact (dif_neg (fun h => h0 (by simp only at h ⊢; omega))).trans ((dif_neg h0).trans (dif_neg h2))

theorem outsAt0_C (c : Dev nD) (t : Fin cfg0.N) (h2 : t.val % 11 = 10) :
    outsAt0 m c t.val t.isLt = heldC m c t h2 (prior m c t) := by
  obtain ⟨n, hn⟩ := t
  cases n with
  | zero => exact absurd h2 (by simp)
  | succ n => exact (dif_neg (fun h => by simp only at h h2; omega)).trans ((dif_neg (fun h => by simp only at h h2; omega)).trans (dif_pos h2))

theorem outsAt0_D (c : Dev nD) (t : Fin cfg0.N) (h0 : t.val % 11 = 0) (h1 : ¬t.val % 88 = 0) :
    outsAt0 m c t.val t.isLt = heldD m c t h0 h1 (prior m c t) := by
  obtain ⟨n, hn⟩ := t
  cases n with
  | zero => exact absurd (Nat.zero_mod _) h1
  | succ n => exact (dif_neg h1).trans (dif_pos h0)

/-- The invariant before position `n`: at first every scratch buffer at anything, later at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-- The proof data of the pipeline: what every window's buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What the body leaves in each window's buffer, and what it finds there -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents are carried through the points that store nothing into it. -/
theorem hcarry_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after0_9, after0_9]
  by_cases h1 : t.val % 88 = 0
  · exact absurd ((live_9_A t h1).symm.trans hi) Bool.false_ne_true
  by_cases h0 : t.val % 11 = 0
  · rw [outsAt0_D m c t h0 h1]; dsimp only [heldD, prior]
  by_cases h2 : t.val % 11 = 10
  · exact absurd ((live_9_C t h2).symm.trans hi) Bool.false_ne_true
  · rw [outsAt0_B m c t h0 h2]; dsimp only [heldB, prior]

/-- At the last feature tile output 9's buffer holds what the point before left. -/
theorem before0_9_C (c : Dev nD) (t : Fin cfg0.N) (h2 : t.val % 11 = 10) (d) :
    (dats m 0 c).before 9 t d = (prior m c t).2.1 := by
  rw [Dat.before_out_traj _ 9 rfl (fun _ _ => rfl) (hcarry_9 m c) t.val t rfl d, if_neg (by rw [notFresh_9_C t h2]; exact Bool.false_ne_true)]
  dsimp only [dats]

/-- Output 12's contents are carried through the points that store nothing into it. -/
theorem hcarry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after0_12, after0_12]
  by_cases h1 : t.val % 88 = 0
  · exact absurd ((live_12_A t h1).symm.trans hi) Bool.false_ne_true
  by_cases h0 : t.val % 11 = 0
  · exact absurd ((live_12_D t h0 h1).symm.trans hi) Bool.false_ne_true
  by_cases h2 : t.val % 11 = 10
  · rw [outsAt0_C m c t h2]; dsimp only [heldC, prior]
  · rw [outsAt0_B m c t h0 h2]; dsimp only [heldB, prior]

/-- At the last feature tile output 12's buffer holds what the point before left. -/
theorem before0_12_C (c : Dev nD) (t : Fin cfg0.N) (h2 : t.val % 11 = 10) (d) :
    (dats m 0 c).before 12 t d = (prior m c t).2.2.2.2.1 := by
  rw [Dat.before_out_traj _ 12 rfl (fun _ _ => rfl) (hcarry_12 m c) t.val t rfl d, if_neg (by rw [notFresh_12_C t h2]; exact Bool.false_ne_true)]
  dsimp only [dats]

end Cert.Kernel3Ideal.Gen

end
-- ==== Proof.FfnBackBody.lean ====
/-
What the body of the SwiGLU backward kernel is called with and what it returns, window by window.
-/
module

public import proofs.«01_k».proof.Proof.FfnBackHeld

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves_8 (c : Dev nD) (t : Fin cfg0.N) (h : cfg0.idle 8 (grid0.coords t) = false) :
    (dats m 0 c).leavesExact 8 t = owns (c : Thread nD τ) (ms0_8 t) fullShare ((outsAt0 m c t.val t.isLt).1) := by
  unfold Dat.leavesExact; rw [h, after0_8]
theorem leaves_9 (c : Dev nD) (t : Fin cfg0.N) (h : cfg0.idle 9 (grid0.coords t) = false) :
    (dats m 0 c).leavesExact 9 t = owns (c : Thread nD τ) (ms0_9 t) fullShare ((outsAt0 m c t.val t.isLt).2.1) := by
  unfold Dat.leavesExact; rw [h, after0_9]
theorem leaves_10 (c : Dev nD) (t : Fin cfg0.N) (h : cfg0.idle 10 (grid0.coords t) = false) :
    (dats m 0 c).leavesExact 10 t = owns (c : Thread nD τ) (ms0_10 t) fullShare ((outsAt0 m c t.val t.isLt).2.2.1) := by
  unfold Dat.leavesExact; rw [h, after0_10]
theorem leaves_11 (c : Dev nD) (t : Fin cfg0.N) (h : cfg0.idle 11 (grid0.coords t) = false) :
    (dats m 0 c).leavesExact 11 t = owns (c : Thread nD τ) (ms0_11 t) fullShare ((outsAt0 m c t.val t.isLt).2.2.2.1) := by
  unfold Dat.leavesExact; rw [h, after0_11]
theorem leaves_12 (c : Dev nD) (t : Fin cfg0.N) (h : cfg0.idle 12 (grid0.coords t) = false) :
    (dats m 0 c).leavesExact 12 t = owns (c : Thread nD τ) (ms0_12 t) fullShare ((outsAt0 m c t.val t.isLt).2.2.2.2.1) := by
  unfold Dat.leavesExact; rw [h, after0_12]
theorem leaves_12_back (c : Dev nD) (t : Fin cfg0.N) (h : cfg0.idle 12 (grid0.coords t) = true) (hf : (cfg0.win 12).flush t = true) :
    (dats m 0 c).leavesExact 12 t = owns (c : Thread nD τ) (ms0_12 t) fullShare ((outsAt0 m c t.val t.isLt).2.2.2.2.1) := by
  unfold Dat.leavesExact; rw [h, hf, after0_12]

end Cert.Kernel3Ideal.Gen

end
-- ==== Proof.FfnBackBodyA.lean ====
/-
The body of the SwiGLU backward kernel at the first point: from the buffers as it finds them to the buffers as `outsAt0` says.
-/
module

public import proofs.«01_k».proof.Proof.FfnBackBody

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the first point. -/
theorem body_A (c : Dev nD) (t : Fin cfg0.N) (h1 : t.val % 88 = 0) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t]
  rw [Dat.leavesExact_idle (dats m 0 c) 8 t (idle_8_A t h1) (kept_8_A t h1)]
  rw [leaves_9 m c t (live_9_A t h1)]
  rw [leaves_10 m c t (live_10 t)]
  rw [leaves_11 m c t (live_11 t)]
  rw [leaves_12 m c t (live_12_A t h1)]
  rw [PhiS_castSucc m c t, PhiS_zero m c _ _ (by omega), PhiA0_eq, outsAt0_A m c t h1]
  unfold heldA out0_A_9 out0_A_10 out0_A_11 out0_A_12 sout0_A_0 sout0_A_1; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t) (iblk m c 7 t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, ⟨%e9, H9⟩, ⟨%e10, H10⟩, ⟨%e11, H11⟩, ⟨%e12, H12⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S1024x1024.size (by sl_kernel_rfl) y
      unfold owns; iexists _; isplitr
      swap; · iexact HS1
      ipureintro; exact View.read_writes_of_cover _ _ _ _ _ fun y => View.cover_of_tiledL (s := S1024x1024) _ S1024x1024.size (by sl_kernel_rfl) y
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ fun y => View.cover_of_tiledL (s := S1x1024) _ S1x1024.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  unfold owns; iexists _; isplitr
  swap; · iexact H12
  ipureintro; exact View.read_writes_of_cover _ _ _ _ _ fun y => View.cover_of_tiledL (s := S1024x1024) _ S1024x1024.size (by sl_kernel_rfl) y

end Cert.Kernel3Ideal.Gen

end
-- ==== Proof.FfnBackBodyB.lean ====
/-
The body of the SwiGLU backward kernel at an inner point: from the buffers as it finds them to the buffers as `outsAt0` says.
-/
module

public import proofs.«01_k».proof.Proof.FfnBackBody

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at an inner point. -/
theorem body_B (c : Dev nD) (t : Fin cfg0.N) (h0 : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t]
  rw [Dat.leavesExact_idle (dats m 0 c) 8 t (idle_8_B t h0 h2) (kept_8_B t h0 h2)]
  rw [Dat.leavesExact_idle (dats m 0 c) 9 t (idle_9_B t h0 h2) (kept_9_B t h0 h2)]
  rw [leaves_10 m c t (live_10 t)]
  rw [leaves_11 m c t (live_11 t)]
  rw [Dat.leavesExact_idle (dats m 0 c) 12 t (idle_12_B t h0 h2) (kept_12_B t h0 h2)]
  rw [PhiS_castSucc m c t, PhiS_pos m c _ _ (by omega), outsAt0_B m c t h0 h2]
  unfold heldB out0_B_10 out0_B_11 sout0_B_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) (iblk m c 7 t) (prior m c t).2.2.2.2.2.1 (prior m c t).2.2.2.2.2.2).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, H8, H9, ⟨%e10, H10⟩, ⟨%e11, H11⟩, H12, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  iexists _; iexact H12

end Cert.Kernel3Ideal.Gen

end
-- ==== Proof.FfnBackBodyC.lean ====
/-
The body of the SwiGLU backward kernel at the last feature tile of a row tile: from the buffers as it finds them to the buffers as `outsAt0` says.
-/
module

public import proofs.«01_k».proof.Proof.FfnBackBody

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the last feature tile of a row tile. -/
theorem body_C (c : Dev nD) (t : Fin cfg0.N) (h2 : t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t]
  rw [leaves_8 m c t (live_8_C t h2)]
  rw [leaves_9 m c t (live_9_C t h2)]
  rw [leaves_10 m c t (live_10 t)]
  rw [leaves_11 m c t (live_11 t)]
  rw [leaves_12_back m c t (idle_12_C t h2) (back_12_C t h2)]
  rw [PhiS_castSucc m c t, PhiS_pos m c _ _ (by omega), outsAt0_C m c t h2]
  simp only [before0_9_C m c t h2, before0_12_C m c t h2]
  unfold heldC out0_C_8 out0_C_9 out0_C_10 out0_C_11 sout0_C_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (iblk m c 7 t) (prior m c t).2.1 (prior m c t).2.2.2.2.1 (prior m c t).2.2.2.2.2.1 (prior m c t).2.2.2.2.2.2).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexists _; iexact H10
  isplitl [H11]; · iexists _; iexact H11
  isplitl [H12]; · iexact H12
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, H12, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ fun y => View.cover_of_tiledL (s := S1024x1024) _ S1024x1024.size (by sl_kernel_rfl) y
  isplitl [H9]
  · unfold owns; iexists _; isplitr
    swap; · iexact H9
    ipureintro; exact View.read_writes_of_cover _ _ _ _ _ fun y => View.cover_of_tiledL (s := S1x1024) _ S1x1024.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  iexact H12

end Cert.Kernel3Ideal.Gen

end
-- ==== Proof.FfnBackBodyD.lean ====
/-
The body of the SwiGLU backward kernel at the first feature tile of a later row tile: from the buffers as it finds them to the buffers as `outsAt0` says.
-/
module

public import proofs.«01_k».proof.Proof.FfnBackBody

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the first feature tile of a later row tile. -/
theorem body_D (c : Dev nD) (t : Fin cfg0.N) (h0 : t.val % 11 = 0) (h1 : ¬t.val % 88 = 0) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t, leaves_7 m c t]
  rw [Dat.leavesExact_idle (dats m 0 c) 8 t (idle_8_D t h0 h1) (kept_8_D t h0 h1)]
  rw [Dat.leavesExact_idle (dats m 0 c) 9 t (idle_9_D t h0 h1) (kept_9_D t h0 h1)]
  rw [leaves_10 m c t (live_10 t)]
  rw [leaves_11 m c t (live_11 t)]
  rw [leaves_12 m c t (live_12_D t h0 h1)]
  rw [PhiS_castSucc m c t, PhiS_pos m c _ _ (by omega), outsAt0_D m c t h0 h1]
  unfold heldD out0_D_10 out0_D_11 out0_D_12 sout0_D_0 sout0_D_1; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t) (iblk m c 7 t)).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexists _; iexact HS0
  isplitl [HS1]; · iexists _; iexact HS1
  iintro ⟨H0, H1, H2, H3, H4, H5, H6, H7, H8, H9, ⟨%e10, H10⟩, ⟨%e11, H11⟩, ⟨%e12, H12⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S1024x1024.size (by sl_kernel_rfl) y
      unfold owns; iexists _; isplitr
      swap; · iexact HS1
      ipureintro; exact View.read_writes_of_cover _ _ _ _ _ fun y => View.cover_of_tiledL (s := S1024x1024) _ S1024x1024.size (by sl_kernel_rfl) y
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  unfold owns; iexists _; isplitr
  swap; · iexact H12
  ipureintro; exact View.read_writes_of_cover _ _ _ _ _ fun y => View.cover_of_tiledL (s := S1024x1024) _ S1024x1024.size (by sl_kernel_rfl) y

end Cert.Kernel3Ideal.Gen

end
-- ==== Proof.FfnBackFrame.lean ====
/-
The frame of the SwiGLU backward kernel: the body runs at every grid point and leaves what `outsAt0` says; so the call runs, leaves its
arguments unchanged and its semaphores at zero.
-/
module

public import proofs.«01_k».proof.Proof.FfnBackBodyA
public import proofs.«01_k».proof.Proof.FfnBackBodyB
public import proofs.«01_k».proof.Proof.FfnBackBodyC
public import proofs.«01_k».proof.Proof.FfnBackBodyD

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 88 = 0
  · exact body_A m c t h1
  by_cases h0 : t.val % 11 = 0
  · exact body_D m c t h0 h1
  by_cases h2 : t.val % 11 = 10
  · exact body_C m c t h2
  · exact body_B m c t h0 h2

/-- The body the configuration names is the body as spelled above. -/
theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The invariant after the last point gives it back. -/
theorem hout (c : Dev nD) : (dats m 0 c).Φ (Fin.last cfg0.N) ⊢ Pipeline.ΦA spec0 c :=
  Phi_out m c _ (by rw [Fin.val_last]; have : cfg0.N = 88 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: at its end every array is what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the arguments end unchanged and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel3Ideal.Gen

end
-- ==== Proof.FfnBackPre.lean ====
module

public import proofs.«01_k».proof.Defs
public import proofs.«01_k».proof.Proof.FfnReal
public import proofs.«01_k».proof.Proof.FfnBackFrame
public import Idealize.ShloMosaic.Lib.ReduceAll
public import Idealize.ShloMosaic.Lib.Pipeline.ValueKit

/-!
# The precondition of the SwiGLU half-step's backward pass, read

It says that the cotangent, the gain and two of the weights are finite.
-/

@[expose] public section

set_option maxRecDepth 16384

noncomputable section

open Idealize.ShloMosaic Idealize.ShloMosaic.TcCoe Idealize.SL.Sem

namespace Cert.Kernel3Ideal.RefValue

open Cert.Kernel3Ideal Cert.Kernel3Ideal.Gen

/-- What a comparison of sizes with infinity says. -/
theorem real_of_lt {v : EReal} (h : Ideal.cmp .olt (max v (-v)) (Ideal.ofBits .f32 0x7F800000#32) = 1#1) : Cert.Ffn.IsReal v := by
  have ht : Ideal.ofBits .f32 0x7F800000#32 = ⊤ := by simp [Ideal.ofBits, Ideal.ieee]
  rw [ht] at h
  refine Cert.Ffn.isReal_of_abs ?_
  by_contra hn
  simp [Ideal.cmp, hn] at h

theorem real_args [Cert.Pre_finite.Facts] (m : (ℓ : Loc nD τ sig) → Buf (Elt Ideal) ℓ) (h : Cert.Pre_Kernel3Ideal_finite m) (c : Dev nD) :
    (∀ j, Cert.Ffn.IsReal (m ((c.tc : Thread nD τ).loc main_arg0) j)) ∧ (∀ j, Cert.Ffn.IsReal (m ((c.tc : Thread nD τ).loc main_arg2) j))
      ∧ (∀ j, Cert.Ffn.IsReal (m ((c.tc : Thread nD τ).loc main_arg4) j)) ∧ (∀ j, Cert.Ffn.IsReal (m ((c.tc : Thread nD τ).loc main_arg5) j)) := by
  have h := h c
  have e := congrFun h (fun a => a.elim0)
  obtain ⟨e, e5⟩ := IntOp.andi_eq_one.1 e
  obtain ⟨e, e4⟩ := IntOp.andi_eq_one.1 e
  obtain ⟨e0, e2⟩ := IntOp.andi_eq_one.1 e
  have i0 := Host.reduce_andi_all _ _ _ _ _ e0
  have i2 := Host.reduce_andi_all _ _ _ _ _ e2
  have i4 := Host.reduce_andi_all _ _ _ _ _ e4
  have i5 := Host.reduce_andi_all _ _ _ _ _ e5
  exact ⟨fun j => real_of_lt (i0 j), fun j => real_of_lt (i2 j), fun j => real_of_lt (i4 j), fun j => real_of_lt (i5 j)⟩

end Cert.Kernel3Ideal.RefValue

end
-- ==== Proof.FfnBackRef.lean ====
module

public import proofs.«01_k».proof.Proof.Gen.Reference3Ideal.Run
public import Idealize.ShloMosaic.Lib.Pipeline.ValueKit

/-!
# What the reference of the SwiGLU half-step's backward pass computes

The gradients by the chain rule: of the two feature products, of the normalised rows, of the rows and of the gain.
-/

@[expose] public section

noncomputable section

open Idealize.ShloMosaic Idealize.ShloMosaic.TcCoe Idealize.SL.Sem

namespace Cert.Reference3Ideal.RefValue

open Cert.Reference3Ideal Cert.Reference3Ideal.Gen

/-- The mean square of a row, and the small constant. -/
abbrev ms (x1 : FVec Ideal S8192x1024 .f32) : FVec Ideal S8192x1 .f32 :=
  addf (Host.divf (broadcastInDim S8192x1 ![0] bcast_S8192_S8192x1_0 (Host.reduceAdd (mulf x1 x1) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The rows divided by their root mean square. -/
abbrev xr (x1 : FVec Ideal S8192x1024 .f32) : FVec Ideal S8192x1024 .f32 :=
  mulf x1 (broadcastInDim S8192x1024 ![0, 1] bcast_S8192x1_S8192x1024_0_1 (Host.rsqrt (ms x1)))

/-- The normalised rows. -/
abbrev hn (x1 : FVec Ideal S8192x1024 .f32) (x2 : FVec Ideal S1x1024 .f32) : FVec Ideal S8192x1024 .f32 :=
  mulf (xr x1) (broadcastInDim S8192x1024 ![0, 1] bcast_S1x1024_S8192x1024_0_1 x2)

/-- The first product of the normalised rows, with the zero its gradient is taken at. -/
abbrev pa (x1 : FVec Ideal S8192x1024 .f32) (x2 : FVec Ideal S1x1024 .f32) (x3 : FVec Ideal S2816x1024 .bf16) : FVec Ideal S8192x2816 .f32 :=
  addf (Host.dotGeneral (φ₁ := .f32) (φ₂ := .f32) dot_S8192x1024_S1024x2816_S8192x2816_1_0_0_1_n_n none (hn x1 x2) (transpose S1024x2816 [1, 0] (extf .f32 x3 bitsLt_bf16_f32) transposes_S2816x1024_S1024x2816_1_0)) (broadcastInDim S8192x2816 ![] bcast_S_S8192x2816 (constant S_ .f32 0x00000000#32))

/-- The second product of the normalised rows, with the zero its gradient is taken at. -/
abbrev pb (x1 : FVec Ideal S8192x1024 .f32) (x2 : FVec Ideal S1x1024 .f32) (x4 : FVec Ideal S2816x1024 .bf16) : FVec Ideal S8192x2816 .f32 :=
  addf (Host.dotGeneral (φ₁ := .f32) (φ₂ := .f32) dot_S8192x1024_S1024x2816_S8192x2816_1_0_0_1_n_n none (hn x1 x2) (transpose S1024x2816 [1, 0] (extf .f32 x4 bitsLt_bf16_f32) transposes_S2816x1024_S1024x2816_1_0)) (broadcastInDim S8192x2816 ![] bcast_S_S8192x2816 (constant S_ .f32 0x00000000#32))

/-- The logistic function of the first product. -/
abbrev sg (x1 : FVec Ideal S8192x1024 .f32) (x2 : FVec Ideal S1x1024 .f32) (x3 : FVec Ideal S2816x1024 .bf16) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf (pa x1 x2 x3))))

/-- The cotangent of the gated features. -/
abbrev du (x0 : FVec Ideal S8192x1024 .f32) (x5 : FVec Ideal S2816x1024 .bf16) : FVec Ideal S8192x2816 .f32 :=
  Host.dotGeneral (φ₁ := .f32) (φ₂ := .f32) dot_S8192x1024_S2816x1024_S8192x2816_1_1_0_0_n_n none (mulf (broadcastInDim S8192x1024 ![] bcast_S_S8192x1024 (constant S_ .f32 0x3F000000#32)) (shapeCast S8192x1024 x0 shapeCasts_S8192x1024_S8192x1024)) (extf .f32 x5 bitsLt_bf16_f32)

/-- The gradient of the second product. -/
abbrev db (x0 : FVec Ideal S8192x1024 .f32) (x1 : FVec Ideal S8192x1024 .f32) (x2 : FVec Ideal S1x1024 .f32) (x3 : FVec Ideal S2816x1024 .bf16) (x5 : FVec Ideal S2816x1024 .bf16) : FVec Ideal S8192x2816 .f32 :=
  mulf (mulf (pa x1 x2 x3) (sg x1 x2 x3)) (du x0 x5)

/-- The gradient of the first product. -/
abbrev da (x0 : FVec Ideal S8192x1024 .f32) (x1 : FVec Ideal S8192x1024 .f32) (x2 : FVec Ideal S1x1024 .f32) (x3 : FVec Ideal S2816x1024 .bf16) (x4 : FVec Ideal S2816x1024 .bf16) (x5 : FVec Ideal S2816x1024 .bf16) : FVec Ideal S8192x2816 .f32 :=
  addf (mulf (mulf (du x0 x5) (pb x1 x2 x4)) (sg x1 x2 x3)) (mulf (mulf (pa x1 x2 x3) (mulf (du x0 x5) (pb x1 x2 x4))) (mulf (sg x1 x2 x3) (subf (broadcastInDim S8192x2816 ![] bcast_S_S8192x2816 (constant S_ .f32 0x3F800000#32)) (sg x1 x2 x3))))

/-- The gradient of the normalised rows. -/
abbrev dh (x0 : FVec Ideal S8192x1024 .f32) (x1 : FVec Ideal S8192x1024 .f32) (x2 : FVec Ideal S1x1024 .f32) (x3 : FVec Ideal S2816x1024 .bf16) (x4 : FVec Ideal S2816x1024 .bf16) (x5 : FVec Ideal S2816x1024 .bf16) : FVec Ideal S8192x1024 .f32 :=
  addf (Host.dotGeneral (φ₁ := .f32) (φ₂ := .f32) dot_S8192x2816_S1024x2816_S8192x1024_1_1_0_0_n_n none (db x0 x1 x2 x3 x5) (transpose S1024x2816 [1, 0] (extf .f32 x4 bitsLt_bf16_f32) transposes_S2816x1024_S1024x2816_1_0)) (Host.dotGeneral (φ₁ := .f32) (φ₂ := .f32) dot_S8192x2816_S1024x2816_S8192x1024_1_1_0_0_n_n none (da x0 x1 x2 x3 x4 x5) (transpose S1024x2816 [1, 0] (extf .f32 x3 bitsLt_bf16_f32) transposes_S2816x1024_S1024x2816_1_0))

/-- The cotangent of a row's mean of squares, spread over the row. -/
abbrev dms (u : FVec Ideal S8192x1024 .f32) (x1 : FVec Ideal S8192x1024 .f32) (x2 : FVec Ideal S1x1024 .f32) : FVec Ideal S8192x1024 .f32 :=
  broadcastInDim S8192x1024 ![0] bcast_S8192_S8192x1024_0 (Host.reduceAdd (Host.divf (mulf (shapeCast S8192x1 (Host.reduceAdd (mulf x1 (mulf u (broadcastInDim S8192x1024 ![0, 1] bcast_S1x1024_S8192x1024_0_1 x2))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (ms x1)) (ms x1)))) (broadcastInDim S8192x1 ![] bcast_S_S8192x1 (constant S_ .f32 0x44800000#32))) (constant S_ .f32 0x00000000#32) reducesTo_S8192x1_S8192_d1 h_S_)

/-- The gradient of the rows: what passes beside the half-step, and what comes through the norm. -/
abbrev dxOf (u : FVec Ideal S8192x1024 .f32) (x0 : FVec Ideal S8192x1024 .f32) (x1 : FVec Ideal S8192x1024 .f32) (x2 : FVec Ideal S1x1024 .f32) : FVec Ideal S8192x1024 .f32 :=
  addf (addf (addf x0 (mulf (mulf u (broadcastInDim S8192x1024 ![0, 1] bcast_S1x1024_S8192x1024_0_1 x2)) (broadcastInDim S8192x1024 ![0, 1] bcast_S8192x1_S8192x1024_0_1 (Host.rsqrt (ms x1))))) (mulf x1 (dms u x1 x2))) (mulf (dms u x1 x2) x1)

/-- The gradient of the norm's gain. -/
abbrev dgOf (u : FVec Ideal S8192x1024 .f32) (x1 : FVec Ideal S8192x1024 .f32) : FVec Ideal S1x1024 .f32 :=
  shapeCast S1x1024 (Host.reduceAdd (mulf (xr x1) u) (constant S_ .f32 0x00000000#32) reducesTo_S8192x1024_S1024_d0 h_S_) shapeCasts_S1024_S1x1024

/-- An array of features, by tiles of 256. -/
abbrev tile (t : FVec Ideal S8192x2816 .f32) : FVec Ideal S11x8192x256 .bf16 :=
  truncf .bf16 (transpose S11x8192x256 [1, 0, 2] (shapeCast S8192x11x256 t shapeCasts_S8192x2816_S8192x11x256) transposes_S8192x11x256_S11x8192x256_1_0_2) bitsLt_bf16_f32

/-- The cotangent, rounded. -/
abbrev dyb (x0 : FVec Ideal S8192x1024 .f32) : FVec Ideal S8192x1024 .bf16 := truncf .bf16 x0 bitsLt_bf16_f32

variable (m : (ℓ : Loc nD τ sig) → Buf (Elt Ideal) ℓ) (ρ : Dev nD → PrngReg)

/-- The gradient of the second product, of the arguments. -/
abbrev dbAt (c : Dev nD) : FVec Ideal S8192x2816 .f32 :=
  db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

/-- The gradient of the first product, of the arguments. -/
abbrev daAt (c : Dev nD) : FVec Ideal S8192x2816 .f32 :=
  da (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The gradient of the normalised rows, of the arguments. -/
abbrev dhAt (c : Dev nD) : FVec Ideal S8192x1024 .f32 :=
  dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference ends holding these gradients, with its arguments unchanged. -/
theorem run : θ_run (defs (F := Ideal)) (onTc (τ := τ) (main (F := Ideal))) ⟨m, fun _ => 0, ρ⟩ fun r => ∀ c : Dev nD,
    r.2.mem ((c.tc : Thread nD τ).loc main_v60) = dxOf (dhAt m c) (m ((c.tc : Thread nD τ).loc main_arg0)) (m ((c.tc : Thread nD τ).loc main_arg1)) (m ((c.tc : Thread nD τ).loc main_arg2))
      ∧ r.2.mem ((c.tc : Thread nD τ).loc main_v43) = dgOf (dhAt m c) (m ((c.tc : Thread nD τ).loc main_arg1))
      ∧ r.2.mem ((c.tc : Thread nD τ).loc main_v65) = tile (daAt m c)
      ∧ r.2.mem ((c.tc : Thread nD τ).loc main_v66) = tile (dbAt m c)
      ∧ r.2.mem ((c.tc : Thread nD τ).loc main_v67) = dyb (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold Value.res_main_v60; rfl), (h c).2.1.trans (by unfold Value.res_main_v43; rfl),
    (h c).2.2.1.trans (by unfold Value.res_main_v65; rfl), (h c).2.2.2.1.trans rfl, (h c).2.2.2.2.1.trans rfl, (h c).2.2.2.2.2⟩) (Value.run m ρ)

end Cert.Reference3Ideal.RefValue

end
-- ==== Proof.FfnBackSteps.lean ====
module

public import proofs.«01_k».proof.Proof.FfnBackFrame
public import proofs.«01_k».proof.Proof.FfnBackRef
public import Idealize.ShloMosaic.Lib.Pipeline.ValueKit
public import Idealize.ShloMosaic.Lib.Pipeline.ReadBack

/-!
# The SwiGLU half-step's backward pass, point by point

A grid point takes 1024 rows and 256 of the features. The first of a row tile's eleven points halves the cotangent, keeps it, and starts
the sums of the normalised rows' gradient from zero. Every point makes the gradients of its features and adds what they contribute to
the sums. The last brings the sums back through the norm.
-/

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- The cotangent of one gated feature of a row. -/
def dU (d : FVec Ideal S1024x1024 .bf16) (w2 : FVec Ideal S256x1024 .bf16) (j : S1x1024x256.Idx) : EReal :=
  ∑ k : Fin 1024, d (ix2 (j 1) k) * w2 (ix2 (j 2) k)

/-- The gradient of the first product at one feature of a row. -/
def dA (d : FVec Ideal S1024x1024 .bf16) (w2 : FVec Ideal S256x1024 .bf16) (a b : FVec Ideal S1x1024x256 .bf16) (j : S1x1024x256.Idx) : EReal :=
  dU d w2 j * b j * (Ideal.logistic (a j) + a j * Ideal.logistic (a j) * (1 - Ideal.logistic (a j)))

/-- The gradient of the second product at one feature of a row. -/
def dB (d : FVec Ideal S1024x1024 .bf16) (w2 : FVec Ideal S256x1024 .bf16) (a : FVec Ideal S1x1024x256 .bf16) (j : S1x1024x256.Idx) : EReal :=
  dU d w2 j * (a j * Ideal.logistic (a j))

/-- What one tile of features adds to the gradient of the normalised rows. -/
def part (d : FVec Ideal S1024x1024 .bf16) (w2 : FVec Ideal S256x1024 .bf16) (a b : FVec Ideal S1x1024x256 .bf16) (w1 w3 : FVec Ideal S256x1024 .bf16)
    (j : S1024x1024.Idx) : EReal :=
  (∑ f : Fin 256, dA d w2 a b (ix3 0 (j 0) f) * w1 (ix2 f (j 1))) + ∑ f : Fin 256, dB d w2 a (ix3 0 (j 0) f) * w3 (ix2 f (j 1))

theorem da_A (c : Dev nD) (t : Fin cfg0.N) (h1 : t.val % 88 = 0) (j) :
    (outsAt0 m c t.val t.isLt).2.2.1 j = dA (k0_pay8 (iblk m c 0 t)) (iblk m c 7 t) (iblk m c 3 t) (iblk m c 4 t) j := by
  rw [outsAt0_A m c t h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem db_A (c : Dev nD) (t : Fin cfg0.N) (h1 : t.val % 88 = 0) (j) :
    (outsAt0 m c t.val t.isLt).2.2.2.1 j = dB (k0_pay8 (iblk m c 0 t)) (iblk m c 7 t) (iblk m c 3 t) j := by
  rw [outsAt0_A m c t h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem acc_A (c : Dev nD) (t : Fin cfg0.N) (h1 : t.val % 88 = 0) (j) :
    (outsAt0 m c t.val t.isLt).2.2.2.2.2.1 j = 0 + part (k0_pay8 (iblk m c 0 t)) (iblk m c 7 t) (iblk m c 3 t) (iblk m c 4 t) (iblk m c 5 t) (iblk m c 6 t) j := by
  rw [outsAt0_A m c t h1]; frame_open
  simp (discharger := first | decide | rfl) only [↓View.readCov_skip, ↓View.readCov_fill]
  frame_out
  refine View.canon_append_of_piecesOf (fun j => 0 + part (k0_pay8 (iblk m c 0 t)) (iblk m c 7 t) (iblk m c 3 t) (iblk m c 4 t) (iblk m c 5 t) (iblk m c 6 t) j : Vec Ideal S1024x1024 .f32) [⟨_, _⟩] [⟨_, _⟩, ⟨_, _⟩] ⟨?_, ?_, trivial⟩ j
    (View.cover_of_tiledBy _ ![512, 1024] (by sl_kernel_rfl) j)
  all_goals
    intro x
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, part, dA, dB, dU]
    blk_point []

theorem dys_A (c : Dev nD) (t : Fin cfg0.N) (h1 : t.val % 88 = 0) : (outsAt0 m c t.val t.isLt).2.2.2.2.2.2 = k0_pay8 (iblk m c 0 t) := by
  rw [outsAt0_A m c t h1]; frame_out

theorem dyb_A (c : Dev nD) (t : Fin cfg0.N) (h1 : t.val % 88 = 0) : (outsAt0 m c t.val t.isLt).2.2.2.2.1 = k0_pay7 (iblk m c 0 t) := by
  rw [outsAt0_A m c t h1]; frame_out

theorem dg_A (c : Dev nD) (t : Fin cfg0.N) (h1 : t.val % 88 = 0) : (outsAt0 m c t.val t.isLt).2.1 = k0_pay10 (F := Ideal) := by
  rw [outsAt0_A m c t h1]; frame_out

theorem da_B (c : Dev nD) (t : Fin cfg0.N) (h0 : ¬t.val % 11 = 0) (h2 : ¬t.val % 11 = 10) (j) :
    (outsAt0 m c t.val t.isLt).2.2.1 j = dA (prior m c t).2.2.2.2.2.2 (iblk m c 7 t) (iblk m c 3 t) (iblk m c 4 t) j := by
  rw [outsAt0_B m c t h0 h2]; frame_out
  simp only [read_unread_whole]
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem db_B (c : Dev nD) (t : Fin cfg0.N) (h0 : ¬t.val % 11 = 0) (h2 : ¬t.val % 11 = 10) (j) :
    (outsAt0 m c t.val t.isLt).2.2.2.1 j = dB (prior m c t).2.2.2.2.2.2 (iblk m c 7 t) (iblk m c 3 t) j := by
  rw [outsAt0_B m c t h0 h2]; frame_out
  simp only [read_unread_whole]
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem acc_B (c : Dev nD) (t : Fin cfg0.N) (h0 : ¬t.val % 11 = 0) (h2 : ¬t.val % 11 = 10) (j) :
    (outsAt0 m c t.val t.isLt).2.2.2.2.2.1 j = (prior m c t).2.2.2.2.2.1 j + part (prior m c t).2.2.2.2.2.2 (iblk m c 7 t) (iblk m c 3 t) (iblk m c 4 t) (iblk m c 5 t) (iblk m c 6 t) j := by
  rw [outsAt0_B m c t h0 h2]; frame_out
  simp only [read_unread_whole]
  canon_tiles x h using (View.cover_of_tiledBy _ ![512, 1024] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, part, dA, dB, dU]
    blk_point [h0, h1]

theorem dys_B (c : Dev nD) (t : Fin cfg0.N) (h0 : ¬t.val % 11 = 0) (h2 : ¬t.val % 11 = 10) : (outsAt0 m c t.val t.isLt).2.2.2.2.2.2 = (prior m c t).2.2.2.2.2.2 := by
  rw [outsAt0_B m c t h0 h2]; dsimp only [heldB]

theorem dyb_B (c : Dev nD) (t : Fin cfg0.N) (h0 : ¬t.val % 11 = 0) (h2 : ¬t.val % 11 = 10) : (outsAt0 m c t.val t.isLt).2.2.2.2.1 = (prior m c t).2.2.2.2.1 := by
  rw [outsAt0_B m c t h0 h2]; dsimp only [heldB]

theorem dg_B (c : Dev nD) (t : Fin cfg0.N) (h0 : ¬t.val % 11 = 0) (h2 : ¬t.val % 11 = 10) : (outsAt0 m c t.val t.isLt).2.1 = (prior m c t).2.1 := by
  rw [outsAt0_B m c t h0 h2]; dsimp only [heldB]

theorem da_C (c : Dev nD) (t : Fin cfg0.N) (h2 : t.val % 11 = 10) (j) :
    (outsAt0 m c t.val t.isLt).2.2.1 j = dA (prior m c t).2.2.2.2.2.2 (iblk m c 7 t) (iblk m c 3 t) (iblk m c 4 t) j := by
  rw [outsAt0_C m c t h2]; frame_out
  simp only [read_unread_whole]
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem db_C (c : Dev nD) (t : Fin cfg0.N) (h2 : t.val % 11 = 10) (j) :
    (outsAt0 m c t.val t.isLt).2.2.2.1 j = dB (prior m c t).2.2.2.2.2.2 (iblk m c 7 t) (iblk m c 3 t) j := by
  rw [outsAt0_C m c t h2]; frame_out
  simp only [read_unread_whole]
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem acc_C (c : Dev nD) (t : Fin cfg0.N) (h2 : t.val % 11 = 10) (j) :
    (outsAt0 m c t.val t.isLt).2.2.2.2.2.1 j = (prior m c t).2.2.2.2.2.1 j + part (prior m c t).2.2.2.2.2.2 (iblk m c 7 t) (iblk m c 3 t) (iblk m c 4 t) (iblk m c 5 t) (iblk m c 6 t) j := by
  rw [outsAt0_C m c t h2]; frame_out
  simp only [read_unread_whole]
  canon_tiles x h using (View.cover_of_tiledBy _ ![512, 1024] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, part, dA, dB, dU]
    blk_point [h0, h1]

theorem dys_C (c : Dev nD) (t : Fin cfg0.N) (h2 : t.val % 11 = 10) : (outsAt0 m c t.val t.isLt).2.2.2.2.2.2 = (prior m c t).2.2.2.2.2.2 := by
  rw [outsAt0_C m c t h2]; dsimp only [heldC]

theorem dyb_C (c : Dev nD) (t : Fin cfg0.N) (h2 : t.val % 11 = 10) : (outsAt0 m c t.val t.isLt).2.2.2.2.1 = (prior m c t).2.2.2.2.1 := by
  rw [outsAt0_C m c t h2]; dsimp only [heldC]

theorem da_D (c : Dev nD) (t : Fin cfg0.N) (h0 : t.val % 11 = 0) (h1 : ¬t.val % 88 = 0) (j) :
    (outsAt0 m c t.val t.isLt).2.2.1 j = dA (k0_pay8 (iblk m c 0 t)) (iblk m c 7 t) (iblk m c 3 t) (iblk m c 4 t) j := by
  rw [outsAt0_D m c t h0 h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem db_D (c : Dev nD) (t : Fin cfg0.N) (h0 : t.val % 11 = 0) (h1 : ¬t.val % 88 = 0) (j) :
    (outsAt0 m c t.val t.isLt).2.2.2.1 j = dB (k0_pay8 (iblk m c 0 t)) (iblk m c 7 t) (iblk m c 3 t) j := by
  rw [outsAt0_D m c t h0 h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, dA, dB, dU]
    blk_point [h0, h1, h2]

theorem acc_D (c : Dev nD) (t : Fin cfg0.N) (h0 : t.val % 11 = 0) (h1 : ¬t.val % 88 = 0) (j) :
    (outsAt0 m c t.val t.isLt).2.2.2.2.2.1 j = 0 + part (k0_pay8 (iblk m c 0 t)) (iblk m c 7 t) (iblk m c 3 t) (iblk m c 4 t) (iblk m c 5 t) (iblk m c 6 t) j := by
  rw [outsAt0_D m c t h0 h1]; frame_open
  simp (discharger := first | decide | rfl) only [↓View.readCov_skip, ↓View.readCov_fill]
  frame_out
  refine View.canon_append_of_piecesOf (fun j => 0 + part (k0_pay8 (iblk m c 0 t)) (iblk m c 7 t) (iblk m c 3 t) (iblk m c 4 t) (iblk m c 5 t) (iblk m c 6 t) j : Vec Ideal S1024x1024 .f32) [⟨_, _⟩] [⟨_, _⟩, ⟨_, _⟩] ⟨?_, ?_, trivial⟩ j
    (View.cover_of_tiledBy _ ![512, 1024] (by sl_kernel_rfl) j)
  all_goals
    intro x
    pointwise [k0_pay1, k0_pay2, k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, part, dA, dB, dU]
    blk_point []

theorem dys_D (c : Dev nD) (t : Fin cfg0.N) (h0 : t.val % 11 = 0) (h1 : ¬t.val % 88 = 0) : (outsAt0 m c t.val t.isLt).2.2.2.2.2.2 = k0_pay8 (iblk m c 0 t) := by
  rw [outsAt0_D m c t h0 h1]; frame_out

theorem dyb_D (c : Dev nD) (t : Fin cfg0.N) (h0 : t.val % 11 = 0) (h1 : ¬t.val % 88 = 0) : (outsAt0 m c t.val t.isLt).2.2.2.2.1 = k0_pay7 (iblk m c 0 t) := by
  rw [outsAt0_D m c t h0 h1]; frame_out

theorem dg_D (c : Dev nD) (t : Fin cfg0.N) (h0 : t.val % 11 = 0) (h1 : ¬t.val % 88 = 0) : (outsAt0 m c t.val t.isLt).2.1 = (prior m c t).2.1 := by
  rw [outsAt0_D m c t h0 h1]; dsimp only [heldD]

/-- The sums read whole after the last point's two stores are the sums that point leaves. -/
theorem dg_C (c : Dev nD) (t : Fin cfg0.N) (h2 : t.val % 11 = 10) :
    (outsAt0 m c t.val t.isLt).2.1 = k0_pay6 (iblk m c 1 t) (outsAt0 m c t.val t.isLt).2.2.2.2.2.1 (prior m c t).2.1 := by
  rw [outsAt0_C m c t h2]; frame_out
  refine congrArg (fun X => k0_pay6 _ X _) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

theorem dx_C (c : Dev nD) (t : Fin cfg0.N) (h2 : t.val % 11 = 10) :
    (outsAt0 m c t.val t.isLt).1 = k0_pay5 (iblk m c 1 t) (outsAt0 m c t.val t.isLt).2.2.2.2.2.1 (iblk m c 2 t) (iblk m c 0 t) := by
  rw [outsAt0_C m c t h2]; dsimp only [heldC]; frame_out
  refine congrArg (fun X => k0_pay5 _ X _ _) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

end Cert.Kernel3Ideal.RefValue

end
-- ==== Proof.FfnBackSaved.lean ====
module

public import proofs.«01_k».proof.Proof.FfnBackFrame
public import proofs.«01_k».proof.Proof.FfnBackRef
public import proofs.«01_k».proof.Proof.RmsBack
public import Idealize.ShloMosaic.Lib.Pipeline.ValueKit
public import Idealize.ShloMosaic.Lib.StableHlo.RunRead

/-!
# The two products the forward pass saves

The host makes the two products of the normalised rows as the forward pass saves them, in tiles of 256 features. One element of a tile is
the sum over the columns of a row, divided by its root mean square and scaled by the gain, against the feature's weights.
-/

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- One feature of a row: the normalised row against the feature's weights. -/
def feature (x : FVec Ideal S8192x1024 .f32) (g : FVec Ideal S1x1024 .f32) (w : FVec Ideal S2816x1024 .bf16) (p : Fin 8192) (f : Fin 2816) : EReal :=
  ∑ k : Fin 1024, x (ix2 p k) * Cert.Rms.R (fun i => x (ix2 p i)) * g (ix2 0 k) * w (ix2 f k)

/-- The host's normalised rows against a weight, in tiles of features. -/
abbrev saved (x : FVec Ideal S8192x1024 .f32) (g : FVec Ideal S1x1024 .f32) (w : FVec Ideal S2816x1024 .bf16) : FVec Ideal S11x8192x256 .bf16 :=
  transpose S11x8192x256 [1, 0, 2] (shapeCast S8192x11x256 (truncf .bf16
    (Host.dotGeneral (φ₁ := .f32) (φ₂ := .f32) dot_S8192x1024_S1024x2816_S8192x2816_1_0_0_1_n_n none
      (mulf (mulf x (broadcastInDim S8192x1024 ![0, 1] bcast_S8192x1_S8192x1024_0_1 (Host.rsqrt (addf (Host.divf (broadcastInDim S8192x1 ![0] bcast_S8192_S8192x1_0
        (Host.reduceAdd (mulf x x) (constant S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32))))))
        (broadcastInDim S8192x1024 ![0, 1] bcast_S1x1024_S8192x1024_0_1 g))
      (extf .f32 (transpose S1024x2816 [1, 0] w transposes_S2816x1024_S1024x2816_1_0) bitsLt_bf16_f32)) bitsLt_bf16_f32)
    shapeCasts_S8192x2816_S8192x11x256) transposes_S8192x11x256_S11x8192x256_1_0_2

theorem V_a (c : Dev nD) : V m c main_v21
    = saved (m ((c.tc : Thread nD τ).loc main_arg1)) (m ((c.tc : Thread nD τ).loc main_arg2)) (m ((c.tc : Thread nD τ).loc main_arg3)) := by
  unfold V
  after_reads_simp
  rfl

theorem V_b (c : Dev nD) : V m c main_v23
    = saved (m ((c.tc : Thread nD τ).loc main_arg1)) (m ((c.tc : Thread nD τ).loc main_arg2)) (m ((c.tc : Thread nD τ).loc main_arg4)) := by
  unfold V
  after_reads_simp
  rfl

/-- The feature a lane of a tile holds. -/
def feat (i : Fin 11) (q : Fin 256) : Fin 2816 := ⟨i.val * 256 + q.val, by omega⟩

/-- One element of the saved tiles. -/
theorem saved_apply (x g w) (i : Fin 11) (p : Fin 8192) (q : Fin 256) :
    saved x g w (ix3 i p q) = feature x g w p (feat i q) := by
  pointwise [saved, feature, feat, Cert.Rms.R, Cert.Rms.ms]

end Cert.Kernel3Ideal.RefValue

end
-- ==== Proof.FfnBackBlocks.lean ====
module

public import proofs.«01_k».proof.Proof.FfnBackSteps
public import proofs.«01_k».proof.Proof.FfnBackSaved
public import proofs.«01_k».proof.Proof.FfnReal
public import Idealize.ShloMosaic.Lib.Pipeline.ValueKit
public import Idealize.ShloMosaic.Lib.Pipeline.ReadBack

/-!
# The SwiGLU half-step's backward pass: what a point reads

A point of row tile `t / 11` and feature tile `t % 11` reads its rows of the arguments and its features of the weights and of the saved
products. The halved cotangent that the row tile's first point makes is kept through the tile's eleven points.
-/

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- Where the blocks lie: eight row tiles, and in each the eleven tiles of features. -/
theorem idx : ∀ t : Fin cfg0.N,
    win0_0.index t = ![t.val / 11, 0] ∧ win0_1.index t = ![t.val / 11, 0] ∧ win0_2.index t = ![0, 0] ∧
    win0_3.index t = ![t.val % 11, t.val / 11, 0] ∧ win0_4.index t = ![t.val % 11, t.val / 11, 0] ∧
    win0_5.index t = ![t.val % 11, 0] ∧ win0_6.index t = ![t.val % 11, 0] ∧ win0_7.index t = ![t.val % 11, 0] ∧
    win0_8.index t = ![t.val / 11, 0] ∧ win0_9.index t = ![0, 0] ∧
    win0_10.index t = ![t.val % 11, t.val / 11, 0] ∧ win0_11.index t = ![t.val % 11, t.val / 11, 0] ∧ win0_12.index t = ![t.val / 11, 0] :=
  (by decide +kernel : ∀ t : Fin grid0.N, _)

/-- Row `a` of point `t`'s row tile. -/
def row (t : Fin cfg0.N) (a : Fin 1024) : Fin 8192 := ⟨t.val / 11 * 1024 + a.val, by have := t.isLt; have : cfg0.N = 88 := N_0; omega⟩

/-- Point `t`'s tile of features. -/
def lane (t : Fin cfg0.N) : Fin 11 := ⟨t.val % 11, Nat.mod_lt _ (by decide)⟩

theorem row_pred (t : Fin cfg0.N) (h : ¬t.val % 11 = 0) (a : Fin 1024) (hp) : row ⟨t.val - 1, hp⟩ a = row t a := by
  refine Fin.ext ?_
  show (t.val - 1) / 11 * 1024 + a.val = t.val / 11 * 1024 + a.val
  have : (t.val - 1) / 11 = t.val / 11 := by omega
  rw [this]

/-! What the blocks hold of the arguments. -/

theorem dy_at (c : Dev nD) (t : Fin cfg0.N) (p k : Fin 1024) :
    iblk m c 0 t (ix2 p k) = m ((c.tc : Thread nD τ).loc main_arg0) (ix2 (row t p) k) := by
  blk_ext [iblk, V_main_arg0, idx t, row]

theorem x_at (c : Dev nD) (t : Fin cfg0.N) (p k : Fin 1024) :
    iblk m c 1 t (ix2 p k) = m ((c.tc : Thread nD τ).loc main_arg1) (ix2 (row t p) k) := by
  blk_ext [iblk, V_main_arg1, idx t, row]

theorem g_at (c : Dev nD) (t : Fin cfg0.N) (k : Fin 1024) :
    iblk m c 2 t (ix2 0 k) = m ((c.tc : Thread nD τ).loc main_arg2) (ix2 0 k) := by
  blk_ext [iblk, V_main_arg2, idx t]

theorem a_at (c : Dev nD) (t : Fin cfg0.N) (p : Fin 1024) (q : Fin 256) :
    iblk m c 3 t (ix3 0 p q) = feature (m ((c.tc : Thread nD τ).loc main_arg1)) (m ((c.tc : Thread nD τ).loc main_arg2)) (m ((c.tc : Thread nD τ).loc main_arg3)) (row t p) (feat (lane t) q) := by
  rw [← saved_apply, ← V_a]
  blk_ext [iblk, idx t, row, lane]

theorem b_at (c : Dev nD) (t : Fin cfg0.N) (p : Fin 1024) (q : Fin 256) :
    iblk m c 4 t (ix3 0 p q) = feature (m ((c.tc : Thread nD τ).loc main_arg1)) (m ((c.tc : Thread nD τ).loc main_arg2)) (m ((c.tc : Thread nD τ).loc main_arg4)) (row t p) (feat (lane t) q) := by
  rw [← saved_apply, ← V_b]
  blk_ext [iblk, idx t, row, lane]

theorem w1_at (c : Dev nD) (t : Fin cfg0.N) (f : Fin 256) (k : Fin 1024) :
    iblk m c 5 t (ix2 f k) = m ((c.tc : Thread nD τ).loc main_arg3) (ix2 (feat (lane t) f) k) := by
  blk_ext [iblk, V_main_arg3, idx t, feat, lane]

theorem w3_at (c : Dev nD) (t : Fin cfg0.N) (f : Fin 256) (k : Fin 1024) :
    iblk m c 6 t (ix2 f k) = m ((c.tc : Thread nD τ).loc main_arg4) (ix2 (feat (lane t) f) k) := by
  blk_ext [iblk, V_main_arg4, idx t, feat, lane]

theorem w2_at (c : Dev nD) (t : Fin cfg0.N) (f : Fin 256) (k : Fin 1024) :
    iblk m c 7 t (ix2 f k) = m ((c.tc : Thread nD τ).loc main_arg5) (ix2 (feat (lane t) f) k) := by
  blk_ext [iblk, V_main_arg5, idx t, feat, lane]

/-- The halved cotangent a point starts from. -/
theorem halved_at (c : Dev nD) (t : Fin cfg0.N) (p k : Fin 1024) :
    k0_pay8 (iblk m c 0 t) (ix2 p k) = Ideal.ofBits .f32 0x3F000000#32 * m ((c.tc : Thread nD τ).loc main_arg0) (ix2 (row t p) k) := by
  rw [← dy_at m c t p k, ← Cert.Ffn.half_bf16]; pointwise [k0_pay8, k0_pay7]

/-- The rounded cotangent a point starts from. -/
theorem kept_at (c : Dev nD) (t : Fin cfg0.N) (p k : Fin 1024) :
    k0_pay7 (iblk m c 0 t) (ix2 p k) = m ((c.tc : Thread nD τ).loc main_arg0) (ix2 (row t p) k) := by
  rw [← dy_at m c t p k]; pointwise [k0_pay7]

theorem halved_pred (c : Dev nD) (t : Fin cfg0.N) (h : ¬t.val % 11 = 0) (hp) :
    (k0_pay8 (iblk m c 0 ⟨t.val - 1, hp⟩) : FVec Ideal S1024x1024 .bf16) = k0_pay8 (iblk m c 0 t) := by
  funext j
  obtain ⟨p, q, rfl⟩ : ∃ (p q : Fin 1024), j = ix2 p q := ⟨j 0, j 1, eq_ix2 j⟩
  rw [halved_at, halved_at, row_pred t h]

theorem kept_pred (c : Dev nD) (t : Fin cfg0.N) (h : ¬t.val % 11 = 0) (hp) :
    (k0_pay7 (iblk m c 0 ⟨t.val - 1, hp⟩) : FVec Ideal S1024x1024 .bf16) = k0_pay7 (iblk m c 0 t) := by
  funext j
  obtain ⟨p, q, rfl⟩ : ∃ (p q : Fin 1024), j = ix2 p q := ⟨j 0, j 1, eq_ix2 j⟩
  rw [kept_at, kept_at, row_pred t h]

/-- Every point of a row tile keeps the halved and the rounded cotangent of the tile's first. -/
theorem keeps (c : Dev nD) : ∀ (n : ℕ) (t : Fin cfg0.N), t.val = n →
    (outsAt0 m c t.val t.isLt).2.2.2.2.2.2 = k0_pay8 (iblk m c 0 t) ∧ (outsAt0 m c t.val t.isLt).2.2.2.2.1 = k0_pay7 (iblk m c 0 t) := by
  intro n
  induction n with
  | zero =>
    intro t ht
    exact ⟨dys_A m c t (by rw [ht]), dyb_A m c t (by rw [ht])⟩
  | succ n ih =>
    intro t ht
    by_cases hA : t.val % 88 = 0
    · exact ⟨dys_A m c t hA, dyb_A m c t hA⟩
    by_cases h0 : t.val % 11 = 0
    · exact ⟨dys_D m c t h0 hA, dyb_D m c t h0 hA⟩
    have hp := ih ⟨t.val - 1, lt_of_le_of_lt (Nat.sub_le _ _) t.isLt⟩ (by show t.val - 1 = n; omega)
    rw [halved_pred m c t h0, kept_pred m c t h0] at hp
    by_cases h2 : t.val % 11 = 10
    · exact ⟨(dys_C m c t h2).trans hp.1, (dyb_C m c t h2).trans hp.2⟩
    · exact ⟨(dys_B m c t h0 h2).trans hp.1, (dyb_B m c t h0 h2).trans hp.2⟩

theorem prior_dys (c : Dev nD) (t : Fin cfg0.N) (h : ¬t.val % 11 = 0) : (prior m c t).2.2.2.2.2.2 = k0_pay8 (iblk m c 0 t) :=
  ((keeps m c _ ⟨t.val - 1, lt_of_le_of_lt (Nat.sub_le _ _) t.isLt⟩ rfl).1).trans (halved_pred m c t h _)

end Cert.Kernel3Ideal.RefValue

end
-- ==== Proof.FfnBackFeatures.lean ====
module

public import proofs.«01_k».proof.Proof.FfnBackBlocks
public import Idealize.ShloMosaic.Lib.Pipeline.ValueKit
public import Idealize.ShloMosaic.Lib.Pipeline.ReadBack

/-!
# The SwiGLU half-step's backward pass: the gradients of the features

Every point leaves the gradients of 256 features of 1024 rows. They are the reference's, where the cotangent, the gain and the weights of
the second and third products are finite.
-/

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- What the precondition gives: the cotangent, the gain and the weights of the second and third products are finite. -/
def Finite : Prop := ∀ c : Dev nD, (∀ j, Cert.Ffn.IsReal (m ((c.tc : Thread nD τ).loc main_arg0) j)) ∧ (∀ j, Cert.Ffn.IsReal (m ((c.tc : Thread nD τ).loc main_arg2) j))
  ∧ (∀ j, Cert.Ffn.IsReal (m ((c.tc : Thread nD τ).loc main_arg4) j)) ∧ (∀ j, Cert.Ffn.IsReal (m ((c.tc : Thread nD τ).loc main_arg5) j))

/-- The cotangent of one gated feature of a row, of the arguments. -/
def cot (x0 : FVec Ideal S8192x1024 .f32) (w2 : FVec Ideal S2816x1024 .bf16) (p : Fin 8192) (f : Fin 2816) : EReal :=
  ∑ k : Fin 1024, Ideal.ofBits .f32 0x3F000000#32 * x0 (ix2 p k) * w2 (ix2 f k)

theorem dU_at (c : Dev nD) (t : Fin cfg0.N) (p : Fin 1024) (q : Fin 256) :
    dU (k0_pay8 (iblk m c 0 t)) (iblk m c 7 t) (ix3 0 p q) = cot (m ((c.tc : Thread nD τ).loc main_arg0)) (m ((c.tc : Thread nD τ).loc main_arg5)) (row t p) (feat (lane t) q) := by
  unfold dU cot
  refine Finset.sum_congr rfl fun k _ => congrArg₂ (· * ·) ?_ ?_
  · exact halved_at m c t p k
  · exact w2_at m c t q k

/-! The reference's arrays at an index. -/

theorem ref_pa (x g w) (p : Fin 8192) (f : Fin 2816) : Cert.Reference3Ideal.RefValue.pa x g w (ix2 p f) = feature x g w p f := by
  pointwise [Cert.Reference3Ideal.RefValue.pa, feature, Cert.Rms.R, Cert.Rms.ms]

theorem ref_pb (x g w) (p : Fin 8192) (f : Fin 2816) : Cert.Reference3Ideal.RefValue.pb x g w (ix2 p f) = feature x g w p f := by
  pointwise [Cert.Reference3Ideal.RefValue.pb, feature, Cert.Rms.R, Cert.Rms.ms]

theorem ref_sg (x g w) (p : Fin 8192) (f : Fin 2816) : Cert.Reference3Ideal.RefValue.sg x g w (ix2 p f) = Ideal.logistic (feature x g w p f) := by
  rw [Cert.Ffn.logistic_eq, ← ref_pa]; pointwise [Cert.Reference3Ideal.RefValue.sg]

theorem ref_du (x0 w2) (p : Fin 8192) (f : Fin 2816) : Cert.Reference3Ideal.RefValue.du x0 w2 (ix2 p f) = cot x0 w2 p f := by
  pointwise [Cert.Reference3Ideal.RefValue.du, cot]

theorem ref_tile (u) (i : Fin 11) (p : Fin 8192) (q : Fin 256) : Cert.Reference3Ideal.RefValue.tile u (ix3 i p q) = u (ix2 p (feat i q)) := by
  pointwise [Cert.Reference3Ideal.RefValue.tile, feat]

/-- The cotangent of a feature times the second product is real. -/
theorem real_cot (h : Finite m) (c : Dev nD) (p : Fin 8192) (f : Fin 2816) :
    Cert.Ffn.IsReal (cot (m ((c.tc : Thread nD τ).loc main_arg0)) (m ((c.tc : Thread nD τ).loc main_arg5)) p f * feature (m ((c.tc : Thread nD τ).loc main_arg1)) (m ((c.tc : Thread nD τ).loc main_arg2)) (m ((c.tc : Thread nD τ).loc main_arg4)) p f) := by
  obtain ⟨h0, h2, h4, h5⟩ := h c
  refine Cert.Ffn.IsReal.mul (Cert.Ffn.IsReal.sum _ fun k => ?_) (Cert.Ffn.IsReal.sum _ fun k => ?_)
  · exact (Cert.Ffn.half.mul (h0 _)).mul (h5 _)
  · exact ((Cert.Ffn.real_norm (fun i => m ((c.tc : Thread nD τ).loc main_arg1) (ix2 p i)) k).mul (h2 (ix2 0 k))).mul (h4 (ix2 f k))

/-- The first product's gradient as a point makes it is the reference's. -/
theorem dA_at (h : Finite m) (c : Dev nD) (t : Fin cfg0.N) (p : Fin 1024) (q : Fin 256) :
    dA (k0_pay8 (iblk m c 0 t)) (iblk m c 7 t) (iblk m c 3 t) (iblk m c 4 t) (ix3 0 p q) = Cert.Reference3Ideal.RefValue.da (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t p) (feat (lane t) q)) := by
  unfold dA
  rw [dU_at, a_at, b_at, Cert.Ffn.gate_eq _ _ _ (real_cot m h c _ _)]
  rw [← ref_du, ← ref_pb, ← ref_sg, ← ref_pa]
  pointwise [Cert.Reference3Ideal.RefValue.da]

/-- So is the second product's. -/
theorem dB_at (c : Dev nD) (t : Fin cfg0.N) (p : Fin 1024) (q : Fin 256) :
    dB (k0_pay8 (iblk m c 0 t)) (iblk m c 7 t) (iblk m c 3 t) (ix3 0 p q) = Cert.Reference3Ideal.RefValue.db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix2 (row t p) (feat (lane t) q)) := by
  unfold dB
  rw [dU_at, a_at, mul_comm]
  rw [← ref_du, ← ref_sg, ← ref_pa]
  pointwise [Cert.Reference3Ideal.RefValue.db]

/-! The gradients of the features that a point leaves, whichever point it is. -/

theorem out_da (c : Dev nD) (t : Fin cfg0.N) (j) :
    (outsAt0 m c t.val t.isLt).2.2.1 j = dA (k0_pay8 (iblk m c 0 t)) (iblk m c 7 t) (iblk m c 3 t) (iblk m c 4 t) j := by
  by_cases hA : t.val % 88 = 0
  · exact da_A m c t hA j
  by_cases h0 : t.val % 11 = 0
  · exact da_D m c t h0 hA j
  by_cases h2 : t.val % 11 = 10
  · rw [da_C m c t h2 j, prior_dys m c t h0]
  · rw [da_B m c t h0 h2 j, prior_dys m c t h0]

theorem out_db (c : Dev nD) (t : Fin cfg0.N) (j) :
    (outsAt0 m c t.val t.isLt).2.2.2.1 j = dB (k0_pay8 (iblk m c 0 t)) (iblk m c 7 t) (iblk m c 3 t) j := by
  by_cases hA : t.val % 88 = 0
  · exact db_A m c t hA j
  by_cases h0 : t.val % 11 = 0
  · exact db_D m c t h0 hA j
  by_cases h2 : t.val % 11 = 10
  · rw [db_C m c t h2 j, prior_dys m c t h0]
  · rw [db_B m c t h0 h2 j, prior_dys m c t h0]

/-- The first product's gradient, whole. -/
theorem final_da (h : Finite m) (c : Dev nD) :
    (dats m 0 c).arrAt 10 (cfgs 0).N = Cert.Reference3Ideal.RefValue.tile (Cert.Reference3Ideal.RefValue.da (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (dats m 0 c).arrAt_eq_of_covers 10 _ (by decide +kernel) fun t hf y => ?_
  blk_simp
  rw [after0_10, out_da]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_10.blk t).view.emb (ix3 0 p q) = ix3 (lane t) (row t p) q := by
    blk_ext [idx t, row, lane]
  refine Eq.trans ?_ (congrArg _ hj.symm)
  rw [ref_tile]
  exact dA_at m h c t p q

/-- The second product's gradient, whole. -/
theorem final_db (c : Dev nD) :
    (dats m 0 c).arrAt 11 (cfgs 0).N = Cert.Reference3Ideal.RefValue.tile (Cert.Reference3Ideal.RefValue.db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) := by
  refine (dats m 0 c).arrAt_eq_of_covers 11 _ (by decide +kernel) fun t hf y => ?_
  blk_simp
  rw [after0_11, out_db]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_11.blk t).view.emb (ix3 0 p q) = ix3 (lane t) (row t p) q := by
    blk_ext [idx t, row, lane]
  refine Eq.trans ?_ (congrArg _ hj.symm)
  rw [ref_tile]
  exact dB_at m c t p q

/-- The rounded cotangent, whole. -/
theorem final_dyb (c : Dev nD) :
    (dats m 0 c).arrAt 12 (cfgs 0).N = Cert.Reference3Ideal.RefValue.dyb (m ((c.tc : Thread nD τ).loc main_arg0)) := by
  refine (dats m 0 c).arrAt_eq_of_covers 12 _ (by decide +kernel) fun t hf y => ?_
  blk_simp
  rw [after0_12, (keeps m c _ t rfl).2]
  obtain ⟨p, q, rfl⟩ : ∃ (p q : Fin 1024), y = ix2 p q := ⟨y 0, y 1, eq_ix2 y⟩
  have hj : (win0_12.blk t).view.emb (ix2 p q) = ix2 (row t p) q := by
    blk_ext [idx t, row]
  refine Eq.trans ?_ (congrArg _ hj.symm)
  refine (kept_at m c t p q).trans ?_
  pointwise [Cert.Reference3Ideal.RefValue.dyb]

end Cert.Kernel3Ideal.RefValue

end
-- ==== Proof.FfnBackValue.lean ====
module

public import proofs.«01_k».proof.Proof.FfnBackFeatures
public import proofs.«01_k».proof.Proof.RmsBack
public import Idealize.ShloMosaic.Lib.Pipeline.ValueKit
public import Idealize.ShloMosaic.Lib.Pipeline.ReadBack

/-!
# The SwiGLU half-step's backward pass: the gradients of the rows and of the gain

Over the eleven points of a row tile the sums of the normalised rows' gradient grow by the contribution of 256 features each. The last
point brings them back through the norm, and adds the row tile's part to the gain's gradient.
-/

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- What point `t` adds to the sums. -/
def adds (c : Dev nD) (t : Fin cfg0.N) (j : S1024x1024.Idx) : EReal :=
  part (k0_pay8 (iblk m c 0 t)) (iblk m c 7 t) (iblk m c 3 t) (iblk m c 4 t) (iblk m c 5 t) (iblk m c 6 t) j

theorem acc_start (c : Dev nD) (t : Fin cfg0.N) (h0 : t.val % 11 = 0) (j) :
    (outsAt0 m c t.val t.isLt).2.2.2.2.2.1 j = 0 + adds m c t j := by
  by_cases hA : t.val % 88 = 0
  · exact acc_A m c t hA j
  · exact acc_D m c t h0 hA j

theorem acc_step (c : Dev nD) (t : Fin cfg0.N) (h0 : ¬t.val % 11 = 0) (j) :
    (outsAt0 m c t.val t.isLt).2.2.2.2.2.1 j = (prior m c t).2.2.2.2.2.1 j + adds m c t j := by
  unfold adds
  by_cases h2 : t.val % 11 = 10
  · rw [acc_C m c t h2 j, prior_dys m c t h0]
  · rw [acc_B m c t h0 h2 j, prior_dys m c t h0]

/-- One tile of features' contribution, of the reference's gradients. -/
theorem adds_at (h : Finite m) (c : Dev nD) (t : Fin cfg0.N) (p q : Fin 1024) :
    adds m c t (ix2 p q)
      = (∑ f : Fin 256, (Cert.Reference3Ideal.RefValue.da (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (ix2 (row t p) (feat (lane t) f)) * m ((c.tc : Thread nD τ).loc main_arg3) (ix2 (feat (lane t) f) q))
        + ∑ f : Fin 256, (Cert.Reference3Ideal.RefValue.db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))) (ix2 (row t p) (feat (lane t) f)) * m ((c.tc : Thread nD τ).loc main_arg4) (ix2 (feat (lane t) f) q) := by
  unfold adds part
  refine congrArg₂ (· + ·) (Finset.sum_congr rfl fun f _ => congrArg₂ (· * ·) ?_ ?_) (Finset.sum_congr rfl fun f _ => congrArg₂ (· * ·) ?_ ?_)
  · exact dA_at m h c t p f
  · exact w1_at m c t f q
  · exact dB_at m c t p f
  · exact w3_at m c t f q

/-- The reference's gradient of the normalised rows. -/
theorem ref_dh (x0 x1 x2 x3 x4 x5) (p : Fin 8192) (q : Fin 1024) :
    Cert.Reference3Ideal.RefValue.dh x0 x1 x2 x3 x4 x5 (ix2 p q)
      = (∑ f : Fin 2816, Cert.Reference3Ideal.RefValue.da x0 x1 x2 x3 x4 x5 (ix2 p f) * x3 (ix2 f q)) + ∑ f : Fin 2816, Cert.Reference3Ideal.RefValue.db x0 x1 x2 x3 x5 (ix2 p f) * x4 (ix2 f q) := by
  rw [add_comm]
  generalize hA : Cert.Reference3Ideal.RefValue.da x0 x1 x2 x3 x4 x5 = da
  generalize hB : Cert.Reference3Ideal.RefValue.db x0 x1 x2 x3 x5 = db
  unfold Cert.Reference3Ideal.RefValue.dh
  rw [hA, hB]
  pointwise []

/-- At the last point of a row tile the sums are the reference's. -/
theorem acc_last (h : Finite m) (c : Dev nD) (t : Fin cfg0.N) (h2 : t.val % 11 = 10) (p q : Fin 1024) :
    (outsAt0 m c t.val t.isLt).2.2.2.2.2.1 (ix2 p q) = Cert.Reference3Ideal.RefValue.dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 (row t p) q) := by
  rw [Pipeline.eq_sum_fin_of_reset_step_apply_of_flush (fun n h => (outsAt0 m c n h).2.2.2.2.2.1) 11 (fun _ => 0) (adds m c)
      (fun t h j => acc_start m c t h j) (fun t h j => acc_step m c t h j) t h2 (ix2 p q), zero_add, ref_dh]
  simp only [adds_at m h]
  rw [Finset.sum_add_distrib]
  have hr : ∀ (s : Fin 11) (hs), row (⟨11 * (t.val / 11) + s.val, hs⟩ : Fin cfg0.N) p = row t p := fun s hs => by
    refine Fin.ext ?_
    show (11 * (t.val / 11) + s.val) / 11 * 1024 + p.val = t.val / 11 * 1024 + p.val
    have : (11 * (t.val / 11) + s.val) / 11 = t.val / 11 := by omega
    rw [this]
  have hl : ∀ (s : Fin 11) (hs), lane (⟨11 * (t.val / 11) + s.val, hs⟩ : Fin cfg0.N) = s := fun s hs => by
    refine Fin.ext ?_
    show (11 * (t.val / 11) + s.val) % 11 = s.val
    omega
  simp only [hr, hl]
  refine congrArg₂ (· + ·) (Fin.sum_mul_add_congr fun s k hl => ?_) (Fin.sum_mul_add_congr fun s k hl => ?_)
  · rfl
  · rfl

/-- The same, as blocks. -/
abbrev accAt (c : Dev nD) (t : Fin cfg0.N) : FVec Ideal S1024x1024 .f32 := (outsAt0 m c t.val t.isLt).2.2.2.2.2.1

/-- What the last point writes of the rows' gradient. -/
theorem pay_dx (u x dy : FVec Ideal S1024x1024 .f32) (g : FVec Ideal S1x1024 .f32) (p q : Fin 1024) :
    k0_pay5 (F := Ideal) x u g dy (ix2 p q)
      = dy (ix2 p q) + Cert.Rms.closed (fun i => x (ix2 p i)) (fun i => u (ix2 p i) * g (ix2 0 i)) q := by
  pointwise [k0_pay5, k0_pay1, k0_pay2, k0_pay3, k0_pay4, Cert.Rms.closed, Cert.Rms.R, Cert.Rms.ms]

/-- What the reference makes of a row. -/
theorem ref_dx (u x0 x1 x2) (p : Fin 8192) (q : Fin 1024) :
    Cert.Reference3Ideal.RefValue.dxOf u x0 x1 x2 (ix2 p q)
      = x0 (ix2 p q) + Cert.Rms.closed (fun i => x1 (ix2 p i)) (fun i => u (ix2 p i) * x2 (ix2 0 i)) q := by
  rw [Cert.Rms.closed_eq]
  pointwise [Cert.Reference3Ideal.RefValue.dxOf, Cert.Reference3Ideal.RefValue.dms, Cert.Rms.D, Cert.Rms.R, Cert.Rms.ms]
  simp only [Fin.sum_univ_one, Finset.univ_unique, Finset.sum_singleton]
  simp only [add_assoc]

/-- A row tile's part of the gain's gradient. -/
def gain (x u : FVec Ideal S1024x1024 .f32) (j : S1x1024.Idx) : EReal :=
  ∑ k : Fin 1024, x (ix2 k (j 1)) * Cert.Rms.R (fun i => x (ix2 k i)) * u (ix2 k (j 1))

/-- What the last point adds to the gain's gradient. -/
theorem pay_dg (u x : FVec Ideal S1024x1024 .f32) (g) (j) :
    k0_pay6 (F := Ideal) x u g j = g j + gain x u j := by
  pointwise [gain, k0_pay6, k0_pay1, k0_pay2, k0_pay3, k0_pay4, Cert.Rms.R, Cert.Rms.ms]
  refine congrArg _ (Finset.sum_congr rfl fun k _ => mul_comm _ _)

/-- The reference's gain gradient. -/
theorem ref_dg (u x1 j) : Cert.Reference3Ideal.RefValue.dgOf u x1 j
    = ∑ k : Fin 8192, x1 (ix2 k (j 1)) * Cert.Rms.R (fun i => x1 (ix2 k i)) * u (ix2 k (j 1)) := by
  pointwise [Cert.Reference3Ideal.RefValue.dgOf, Cert.Rms.R, Cert.Rms.ms]

/-- A point that writes its block of the rows' gradient back is the last of its row tile. -/
theorem flush_last : ∀ t : Fin cfg0.N, (cfg0.win 8).flush t = true → t.val % 11 = 10 :=
  (by decide +kernel : ∀ t : Fin grid0.N, _)

/-- The rows' gradient, whole. -/
theorem final_dx (h : Finite m) (c : Dev nD) :
    (dats m 0 c).arrAt 8 (cfgs 0).N = Cert.Reference3Ideal.RefValue.dxOf (Cert.Reference3Ideal.RefValue.dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  have h2 := flush_last t hf
  blk_simp
  rw [after0_8, dx_C m c t h2]
  obtain ⟨p, q, rfl⟩ : ∃ (p q : Fin 1024), y = ix2 p q := ⟨y 0, y 1, eq_ix2 y⟩
  have hj : (win0_8.blk t).view.emb (ix2 p q) = ix2 (row t p) q := by
    blk_ext [idx t, row]
  rw [pay_dx]
  refine Eq.trans ?_ (congrArg _ hj.symm)
  rw [ref_dx]
  refine congrArg₂ (· + ·) ?_ (congrArg₂ (fun x e => Cert.Rms.closed x e q) (funext fun i => ?_) (funext fun i => congrArg₂ (· * ·) ?_ ?_))
  · exact dy_at m c t p q
  · exact x_at m c t p i
  · exact acc_last m h c t h2 p i
  · exact g_at m c t i

/-- What a point adds to the gain's gradient: its row tile's part, at the last point of the tile. -/
def gains (c : Dev nD) (t : Fin cfg0.N) (j : S1x1024.Idx) : EReal :=
  if t.val % 11 = 10 then gain (iblk m c 1 t) (accAt m c t) j else 0

theorem gain_start (c : Dev nD) (t : Fin cfg0.N) (hA : t.val % 88 = 0) (j) :
    (outsAt0 m c t.val t.isLt).2.1 j = 0 + gains m c t j := by
  rw [dg_A m c t hA, gains, if_neg (by omega)]
  pointwise [k0_pay10]

theorem gain_step (c : Dev nD) (t : Fin cfg0.N) (hA : ¬t.val % 88 = 0) (j) :
    (outsAt0 m c t.val t.isLt).2.1 j = (prior m c t).2.1 j + gains m c t j := by
  unfold gains
  by_cases h2 : t.val % 11 = 10
  · rw [dg_C m c t h2, if_pos h2, pay_dg]
  by_cases h0 : t.val % 11 = 0
  · rw [dg_D m c t h0 hA, if_neg h2, add_zero]
  · rw [dg_B m c t h0 h2, if_neg h2, add_zero]

/-- The grid's last point. -/
def tLast : Fin cfg0.N := ⟨87, lt_of_lt_of_eq (by decide) N_0.symm⟩

/-- The gain's gradient, whole. -/
theorem final_dg (h : Finite m) (c : Dev nD) :
    (dats m 0 c).arrAt 9 (cfgs 0).N = Cert.Reference3Ideal.RefValue.dgOf (Cert.Reference3Ideal.RefValue.dh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)) := by
  refine (dats m 0 c).arrAt_eq_of_after_last 9 tLast (by decide +kernel) _ fun j => ?_
  blk_simp
  rw [after0_9, Pipeline.eq_sum_fin_of_reset_step_apply_last (fun n h => (outsAt0 m c n h).2.1) 88 (fun _ => 0) (gains m c)
      (fun t h j => gain_start m c t h j) (fun t h j => gain_step m c t h j) (le_of_eq N_0) tLast rfl j, zero_add, ref_dg]
  rw [← Fin.sum_mul_add_fin 8 11 (fun t : Fin cfg0.N => gains m c t j) N_0]
  have hs : ∀ s : Fin 8, (∑ k : Fin 11, gains m c ⟨s.val * 11 + k.val, by have := s.isLt; have := k.isLt; have : cfg0.N = 88 := N_0; omega⟩ j)
      = gain (iblk m c 1 ⟨s.val * 11 + 10, by have := s.isLt; have : cfg0.N = 88 := N_0; omega⟩) (accAt m c ⟨s.val * 11 + 10, by have := s.isLt; have : cfg0.N = 88 := N_0; omega⟩) j := fun s => by
    rw [Finset.sum_eq_single (10 : Fin 11)]
    · unfold gains; rw [if_pos (by show (s.val * 11 + 10) % 11 = 10; omega)]; rfl
    · intro k _ hk
      unfold gains; rw [if_neg]
      intro e
      have e : (s.val * 11 + k.val) % 11 = 10 := e
      exact hk (Fin.ext (by show k.val = 10; omega))
    · intro hn; exact absurd (Finset.mem_univ _) hn
  refine (Finset.sum_congr rfl fun s _ => hs s).trans ?_
  simp only [gain]
  refine Fin.sum_mul_add_congr fun s k hl => ?_
  have hr : ∀ hp, row (⟨s.val * 11 + 10, hp⟩ : Fin cfg0.N) k = ⟨s.val * 1024 + k.val, hl⟩ := fun hp => by
    refine Fin.ext ?_
    show (s.val * 11 + 10) / 11 * 1024 + k.val = s.val * 1024 + k.val
    have : (s.val * 11 + 10) / 11 = s.val := by omega
    rw [this]
  rw [← hr (by have := s.isLt; have : cfg0.N = 88 := N_0; omega)]
  refine congrArg₂ (· * ·) (congrArg₂ (· * ·) ?_ (congrArg Cert.Rms.R (funext fun i => ?_))) ?_
  · exact x_at m c _ k (j 1)
  · exact x_at m c _ k i
  · exact acc_last m h c _ (by show (s.val * 11 + 10) % 11 = 10; omega) k (j 1)

end Cert.Kernel3Ideal.RefValue

end
-- ==== Proof.FfnBackClaim.lean ====
module

public import proofs.«01_k».proof.Defs
public import proofs.«01_k».proof.Proof.Gen.Pre_finite
public import proofs.«01_k».proof.Proof.Gen.Kernel3.Frame
public import proofs.«01_k».proof.Proof.Gen.Reference3Ideal.Run
public import proofs.«01_k».proof.Proof.FfnBackPre
public import proofs.«01_k».proof.Proof.FfnBackValue
public import Idealize.ShloMosaic.Adequacy
public import Idealize.ShloMosaic.Init
public import Idealize.ShloMosaic.Lib.Claim

/-!
# The claims of the SwiGLU half-step's backward pass

The device's program is the idealised one at the device's floats, so its frame is the same run.
-/

@[expose] public section

set_option maxRecDepth 16384

noncomputable section

namespace Cert.Proof

open Idealize.ShloMosaic Idealize.ShloMosaic.TcCoe Idealize.SL.Sem

/-- The kernel runs to its end and leaves its arguments, at the device's floats. -/
theorem frame_kernel3 : Cert.quiescent_Kernel3 := by
  have e : Cert.quiescent_Kernel3 = (∀ (m : (ℓ : Loc Cert.Kernel3Ideal.nD Cert.Kernel3Ideal.τ Cert.Kernel3Ideal.sig) → Buf (Elt Bits) ℓ)
      (g : Dev Cert.Kernel3Ideal.nD → PrngReg), True →
      θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)) := by sl_kernel_rfl
  rw [e]
  exact fun m ρ _ => Cert.Kernel3Ideal.Gen.frame (F := Bits) m ρ

/-- So does its idealisation. -/
theorem frame_kernel3_ideal : Cert.quiescent_Kernel3Ideal := fun m ρ _ => Cert.Kernel3Ideal.Gen.frame m ρ

/-- Also under the precondition. -/
theorem frame_kernel3_finite [Cert.Pre_finite.Facts] : Cert.quiescent_Kernel3Ideal_pre_finite := fun m ρ _ => Cert.Kernel3Ideal.Gen.frame m ρ

/-- The derivative of the half-step runs and leaves its arguments; it has no counters. -/
theorem frame_reference3 : Cert.quiescent_Reference3Ideal := by
  intro m ρ _
  exact (θ_run Cert.Reference3Ideal.defs _ _).mono (fun r h => ⟨fun c => (h c).2.2.2.2.2,
    sem_eq_zero_of_no_sems (by decide) r.2⟩) (Cert.Reference3Ideal.RefValue.run m ρ)

/-- Also under the precondition. -/
theorem frame_reference3_finite [Cert.Pre_finite.Facts] : Cert.quiescent_Reference3Ideal_pre_finite := fun m ρ _ => frame_reference3 m ρ trivial

/-- What the precondition gives. -/
theorem finite_of_pre [Cert.Pre_finite.Facts] (m : (ℓ : Loc Cert.Kernel3Ideal.nD Cert.Kernel3Ideal.τ Cert.Kernel3Ideal.sig) → Buf (Elt Ideal) ℓ)
    (h : Cert.Pre_Kernel3Ideal_finite m) : Cert.Kernel3Ideal.RefValue.Finite m := fun c => Cert.Kernel3Ideal.RefValue.real_args m h c

set_option maxHeartbeats 4000000 in
/-- The kernel computes the gradients of the rows, of the norm's gain and of the two products, and keeps the cotangent. -/
theorem value3 [Cert.Pre_finite.Facts] : Cert.algebraic_Kernel3Ideal_Reference3Ideal_pre_finite := by
  pair_intro
  · run_from Cert.Kernel3Ideal.Gen.run_main m g
  · have hfin := finite_of_pre m hpre
    refine Idealize.ShloMosaic.θ_run_mono (Cert.Reference3Ideal.RefValue.run m' g') ?_
    intro r hr c
    obtain ⟨h0, h1, h2, h3, h4, ha⟩ := hr c
    obtain ⟨a0, a1, a2, a3, a4, a5⟩ := hagree c
    refine ⟨h0.trans ?_, h1.trans ?_, h2.trans ?_, h3.trans ?_, h4.trans ?_, ha⟩
    · unfold Cert.Reference3Ideal.RefValue.dhAt
      rw [a0, a1, a2, a3, a4, a5]
      exact (Cert.Kernel3Ideal.RefValue.final_dx m hfin c).symm
    · unfold Cert.Reference3Ideal.RefValue.dhAt
      rw [a0, a1, a2, a3, a4, a5]
      exact (Cert.Kernel3Ideal.RefValue.final_dg m hfin c).symm
    · unfold Cert.Reference3Ideal.RefValue.daAt
      rw [a0, a1, a2, a3, a4, a5]
      exact (Cert.Kernel3Ideal.RefValue.final_da m hfin c).symm
    · unfold Cert.Reference3Ideal.RefValue.dbAt
      rw [a0, a1, a2, a3, a5]
      exact (Cert.Kernel3Ideal.RefValue.final_db m c).symm
    · rw [a0]
      exact (Cert.Kernel3Ideal.RefValue.final_dyb m c).symm

end Cert.Proof

end
-- ==== Proof.FfnLossSkel.lean ====
/-
The body of the SwiGLU forward kernel with the loss head with its pure values named: each load, store and branch of the printed function, in order, over
named payloads, and the equation that says the printed function is this text.
-/
module

public import proofs.«01_k».proof.Proof.Gen.Kernel12Ideal

@[expose] public section

set_option synthInstance.maxSize 4096

noncomputable section

namespace Cert.Kernel12Ideal.Gen

open Idealize.ShloMosaic Idealize.SL.Sem

variable {F : FTy → Type} [FloatOps F]
/-! ## `cc0_ffn_fwd_2` -/

noncomputable def k0_pay1 (v57 : FVec F S512x1024 .f32) : FVec F S512x1024 .f32 :=
  have v60 : FVec F S512x1024 .f32 := shapeCast S512x1024 v57 shapeCasts_S512x1024_S512x1024
  v60

noncomputable def k0_pay2 : FVec F S1x1 .f32 :=
  have cst_52 : F .f32 := Scalar.ofBits .f32 0x00000000#32
  have v69 : FVec F S1x1 .f32 := broadcast S1x1 cst_52
  v69

noncomputable def k0_pay3 : FVec F S1x1024 .f32 :=
  have cst_55 : F .f32 := Scalar.ofBits .f32 0x00000000#32
  have v71 : FVec F S1x1024 .f32 := broadcast S1x1024 cst_55
  v71

noncomputable def k0_pay4 (v72 : Vec F S1x1024 .f32) (v80 : FVec F S1024x1 .f32) (v101 : FVec F S1024x1024 .f32) (v103 : FVec F S1024x1024 .f32) : FVec F S1024x1024 .f32 :=
  have v107 : FVec F S1024x1024 .f32 := broadcastTo S1024x1024 v72 broadcasts_S1x1024_S1024x1024
  have v108 : FVec F S1024x1024 .f32 := mulf v101 v107
  have v109 : FVec F S1024x1024 .f32 := mulf v108 v103
  have v110 : FVec F S1024 .f32 := multiReduction .add [1] S1024 v109 0x00000000#32 reduces_S1024x1024_S1024 (.inl rfl) rfl
  have v111 : FVec F S1024x1 .f32 := shapeCast S1024x1 v110 shapeCasts_S1024_S1024x1
  have cst_74 : F .f32 := Scalar.ofBits .f32 0x44800000#32
  have v112 : FVec F S1024x1 .f32 := broadcast S1024x1 cst_74
  have v113 : FVec F S1024x1 .f32 := divf v111 v112
  have v114 : FVec F S1024x1024 .f32 := broadcastTo S1024x1024 v113 broadcasts_S1024x1_S1024x1024
  have v115 : FVec F S1024x1024 .f32 := mulf v103 v114
  have v116 : FVec F S1024x1024 .f32 := subf v108 v115
  have v117 : FVec F S1024x1024 .f32 := broadcastTo S1024x1024 v80 broadcasts_S1024x1_S1024x1024
  have v118 : FVec F S1024x1024 .f32 := mulf v117 v116
  v118

noncomputable def k0_pay5 (v106 : FVec F S1x1024 .f32) (v120 : Vec F S1x1024 .f32) : FVec F S1x1024 .f32 :=
  have v121 : FVec F S1x1024 .f32 := shapeCast S1x1024 v120 shapeCasts_S1x1024_S1x1024
  have v122 : FVec F S1x1024 .f32 := addf v121 v106
  v122

noncomputable def k0_pay6 (v69 : Vec F S1024x1024 .f32) (v70 : Vec F S1024x1024 .f32) : FVec F S1024x1024 .f32 :=
  have v71 : FVec F S1024x1024 .f32 := addf v69 v70
  v71

noncomputable def k0_pay7 (v69 : Vec F S1024x1024 .f32) (v70 : Vec F S1024x1024 .f32) : FVec F S1024x1 .f32 :=
  have v73 : FVec F S1024x1024 .f32 := mulf (k0_pay6 v69 v70) (k0_pay6 v69 v70)
  have v74 : FVec F S1024 .f32 := multiReduction .add [1] S1024 v73 0x00000000#32 reduces_S1024x1024_S1024 (.inl rfl) rfl
  have v75 : FVec F S1024x1 .f32 := shapeCast S1024x1 v74 shapeCasts_S1024_S1024x1
  have cst_59 : F .f32 := Scalar.ofBits .f32 0x44800000#32
  have v76 : FVec F S1024x1 .f32 := broadcast S1024x1 cst_59
  have v77 : FVec F S1024x1 .f32 := divf v75 v76
  have cst_60 : F .f32 := Scalar.ofBits .f32 0x358637BD#32
  have v78 : FVec F S1024x1 .f32 := broadcast S1024x1 cst_60
  have v79 : FVec F S1024x1 .f32 := addf v77 v78
  have v80 : FVec F S1024x1 .f32 := rsqrt v79
  v80

noncomputable def k0_pay8 (v69 : Vec F S1024x1024 .f32) (v70 : Vec F S1024x1024 .f32) (v72 : Vec F S1x1024 .f32) (v85 : Vec F S1024x1024 .f32) : FVec F S1024x1024 .f32 :=
  have v81 : FVec F S1024x1024 .f32 := broadcastTo S1024x1024 (k0_pay7 v69 v70) broadcasts_S1024x1_S1024x1024
  have v82 : FVec F S1024x1024 .f32 := mulf (k0_pay6 v69 v70) v81
  have v83 : FVec F S1024x1024 .f32 := broadcastTo S1024x1024 v72 broadcasts_S1x1024_S1024x1024
  have v84 : FVec F S1024x1024 .f32 := mulf v82 v83
  have v86 : FVec F S1024x1024 .f32 := subf v84 v85
  v86

noncomputable def k0_pay9 (v69 : Vec F S1024x1024 .f32) (v70 : Vec F S1024x1024 .f32) (v72 : Vec F S1x1024 .f32) (v85 : Vec F S1024x1024 .f32) (v87 : Vec F S1x1 .f32) : FVec F S1x1 .f32 :=
  have v88 : FVec F S1x1 .f32 := shapeCast S1x1 v87 shapeCasts_S1x1_S1x1
  have v89 : FVec F S1024x1024 .f32 := mulf (k0_pay8 v69 v70 v72 v85) (k0_pay8 v69 v70 v72 v85)
  have v90 : FVec F S1024 .f32 := multiReduction .add [1] S1024 v89 0x00000000#32 reduces_S1024x1024_S1024 (.inl rfl) rfl
  have v91 : FVec F S1024x1 .f32 := shapeCast S1024x1 v90 shapeCasts_S1024_S1024x1
  have cst_66 : F .f32 := Scalar.ofBits .f32 0x44800000#32
  have v92 : FVec F S1024x1 .f32 := broadcast S1024x1 cst_66
  have v93 : FVec F S1024x1 .f32 := divf v91 v92
  have v94 : FVec F S1 .f32 := multiReduction .add [0] S1 v93 0x00000000#32 reduces_S1024x1_S1 (.inl rfl) rfl
  have v95 : FVec F S1x1 .f32 := shapeCast S1x1 v94 shapeCasts_S1_S1x1
  have cst_68 : F .f32 := Scalar.ofBits .f32 0x3F000000#32
  have v96 : FVec F S1x1 .f32 := broadcast S1x1 cst_68
  have v97 : FVec F S1x1 .f32 := mulf v96 v95
  have v98 : FVec F S1x1 .f32 := addf v88 v97
  v98

noncomputable def k0_pay10 (v69 : Vec F S1024x1024 .f32) (v70 : Vec F S1024x1024 .f32) (v72 : Vec F S1x1024 .f32) (v85 : Vec F S1024x1024 .f32) : FVec F S1024x1024 .f32 :=
  have cst_71 : F .f32 := Scalar.ofBits .f32 0x3A800000#32
  have v100 : FVec F S1024x1024 .f32 := broadcast S1024x1024 cst_71
  have v101 : FVec F S1024x1024 .f32 := mulf (k0_pay8 v69 v70 v72 v85) v100
  v101

noncomputable def k0_pay11 (v69 : Vec F S1024x1024 .f32) (v70 : Vec F S1024x1024 .f32) : FVec F S1024x1024 .f32 :=
  have v102 : FVec F S1024x1024 .f32 := broadcastTo S1024x1024 (k0_pay7 v69 v70) broadcasts_S1024x1_S1024x1024
  have v103 : FVec F S1024x1024 .f32 := mulf (k0_pay6 v69 v70) v102
  v103

noncomputable def k0_pay12 (v69 : Vec F S1024x1024 .f32) (v70 : Vec F S1024x1024 .f32) (v72 : Vec F S1x1024 .f32) (v85 : Vec F S1024x1024 .f32) : FVec F S1x1024 .f32 :=
  have v104 : FVec F S1024x1024 .f32 := mulf (k0_pay10 v69 v70 v72 v85) (k0_pay11 v69 v70)
  have v105 : FVec F S1024 .f32 := multiReduction .add [0] S1024 v104 0x00000000#32 reduces_S1024x1024_S1024_2 (.inl rfl) rfl
  have v106 : FVec F S1x1024 .f32 := shapeCast S1x1024 v105 shapeCasts_S1024_S1x1024
  v106

noncomputable def k0_pay13 (v69 : Vec F S1024x1024 .f32) (v80 : Vec F S1x1024 .f32) : FVec F S1024x1024 .bf16 :=
  have v70 : FVec F S1024x1024 .f32 := mulf v69 v69
  have v71 : FVec F S1024 .f32 := multiReduction .add [1] S1024 v70 0x00000000#32 reduces_S1024x1024_S1024 (.inl rfl) rfl
  have v72 : FVec F S1024x1 .f32 := shapeCast S1024x1 v71 shapeCasts_S1024_S1024x1
  have cst_55 : F .f32 := Scalar.ofBits .f32 0x44800000#32
  have v73 : FVec F S1024x1 .f32 := broadcast S1024x1 cst_55
  have v74 : FVec F S1024x1 .f32 := divf v72 v73
  have cst_56 : F .f32 := Scalar.ofBits .f32 0x358637BD#32
  have v75 : FVec F S1024x1 .f32 := broadcast S1024x1 cst_56
  have v76 : FVec F S1024x1 .f32 := addf v74 v75
  have v77 : FVec F S1024x1 .f32 := rsqrt v76
  have v78 : FVec F S1024x1024 .f32 := broadcastTo S1024x1024 v77 broadcasts_S1024x1_S1024x1024
  have v79 : FVec F S1024x1024 .f32 := mulf v69 v78
  have v81 : FVec F S1024x1024 .f32 := broadcastTo S1024x1024 v80 broadcasts_S1x1024_S1024x1024
  have v82 : FVec F S1024x1024 .f32 := mulf v79 v81
  have v83 : FVec F S1024x1024 .bf16 := truncf .bf16 v82 bitsLt_bf16_f32
  v83

noncomputable def k0_pay14 (v69 : Vec F S1024x1024 .f32) (v80 : Vec F S1x1024 .f32) : FVec F S1024x1024 .bf16 :=
  have v86 : FVec F S1024x1024 .bf16 := shapeCast S1024x1024 (k0_pay13 v69 v80) shapeCasts_S1024x1024_S1024x1024
  v86

noncomputable def k0_pay15 : FVec F S1024x1024 .f32 :=
  have cst_63 : F .f32 := Scalar.ofBits .f32 0x00000000#32
  have v88 : FVec F S1024x1024 .f32 := broadcast S1024x1024 cst_63
  have v91 : FVec F S1024x1024 .f32 := shapeCast S1024x1024 v88 shapeCasts_S1024x1024_S1024x1024
  v91

noncomputable def k0_pay16 (v3 : Vec F S512x1024 .bf16) (v4 : Vec F S256x1024 .bf16) : FVec F S512x256 .f32 :=
  have cst : FVec F S512x256 .f32 := constant S512x256 .f32 0x00000000#32
  have v5 : FVec F S512x256 .f32 := matmul dot_S512x1024_S256x1024_S512x256_1_1_0_0_n_n none v3 v4 cst
  v5

noncomputable def k0_pay17 (v3 : Vec F S512x1024 .bf16) (v6 : Vec F S256x1024 .bf16) : FVec F S512x256 .f32 :=
  have cst_6 : FVec F S512x256 .f32 := constant S512x256 .f32 0x00000000#32
  have v7 : FVec F S512x256 .f32 := matmul dot_S512x1024_S256x1024_S512x256_1_1_0_0_n_n none v3 v6 cst_6
  v7

noncomputable def k0_pay18 (v8 : Vec F S512x1024 .bf16) (v9 : Vec F S256x1024 .bf16) : FVec F S512x256 .f32 :=
  have cst_10 : FVec F S512x256 .f32 := constant S512x256 .f32 0x00000000#32
  have v10 : FVec F S512x256 .f32 := matmul dot_S512x1024_S256x1024_S512x256_1_1_0_0_n_n none v8 v9 cst_10
  v10

noncomputable def k0_pay19 (v8 : Vec F S512x1024 .bf16) (v11 : Vec F S256x1024 .bf16) : FVec F S512x256 .f32 :=
  have cst_13 : FVec F S512x256 .f32 := constant S512x256 .f32 0x00000000#32
  have v12 : FVec F S512x256 .f32 := matmul dot_S512x1024_S256x1024_S512x256_1_1_0_0_n_n none v8 v11 cst_13
  v12

noncomputable def k0_pay20 (v3 : Vec F S512x1024 .bf16) (v4 : Vec F S256x1024 .bf16) : FVec F S1x512x256 .bf16 :=
  have v13 : FVec F S512x256 .bf16 := truncf .bf16 (k0_pay16 v3 v4) bitsLt_bf16_f32
  have v16 : FVec F S1x512x256 .bf16 := shapeCast S1x512x256 v13 shapeCasts_S512x256_S1x512x256
  v16

noncomputable def k0_pay21 (v3 : Vec F S512x1024 .bf16) (v6 : Vec F S256x1024 .bf16) : FVec F S1x512x256 .bf16 :=
  have v17 : FVec F S512x256 .bf16 := truncf .bf16 (k0_pay17 v3 v6) bitsLt_bf16_f32
  have v20 : FVec F S1x512x256 .bf16 := shapeCast S1x512x256 v17 shapeCasts_S512x256_S1x512x256
  v20

noncomputable def k0_pay22 (v3 : Vec F S512x1024 .bf16) (v4 : Vec F S256x1024 .bf16) (v6 : Vec F S256x1024 .bf16) : FVec F S512x256 .bf16 :=
  have v21 : FVec F S512x256 .f32 := logistic (k0_pay16 v3 v4)
  have v22 : FVec F S512x256 .f32 := mulf (k0_pay16 v3 v4) v21
  have v23 : FVec F S512x256 .f32 := mulf v22 (k0_pay17 v3 v6)
  have cst_20 : F .f32 := Scalar.ofBits .f32 0x3F000000#32
  have v24 : FVec F S512x256 .f32 := broadcast S512x256 cst_20
  have v25 : FVec F S512x256 .f32 := mulf v24 v23
  have v26 : FVec F S512x256 .bf16 := truncf .bf16 v25 bitsLt_bf16_f32
  v26

noncomputable def k0_pay23 (v26 : FVec F S512x256 .bf16) : FVec F S1x512x256 .bf16 :=
  have v29 : FVec F S1x512x256 .bf16 := shapeCast S1x512x256 v26 shapeCasts_S512x256_S1x512x256
  v29

noncomputable def k0_pay24 (v10 : FVec F S512x256 .f32) : FVec F S1x512x256 .bf16 :=
  have v30 : FVec F S512x256 .bf16 := truncf .bf16 v10 bitsLt_bf16_f32
  have v33 : FVec F S1x512x256 .bf16 := shapeCast S1x512x256 v30 shapeCasts_S512x256_S1x512x256
  v33

noncomputable def k0_pay25 (v12 : FVec F S512x256 .f32) : FVec F S1x512x256 .bf16 :=
  have v34 : FVec F S512x256 .bf16 := truncf .bf16 v12 bitsLt_bf16_f32
  have v37 : FVec F S1x512x256 .bf16 := shapeCast S1x512x256 v34 shapeCasts_S512x256_S1x512x256
  v37

noncomputable def k0_pay26 (v10 : FVec F S512x256 .f32) (v12 : FVec F S512x256 .f32) : FVec F S512x256 .bf16 :=
  have v38 : FVec F S512x256 .f32 := logistic v10
  have v39 : FVec F S512x256 .f32 := mulf v10 v38
  have v40 : FVec F S512x256 .f32 := mulf v39 v12
  have cst_30 : F .f32 := Scalar.ofBits .f32 0x3F000000#32
  have v41 : FVec F S512x256 .f32 := broadcast S512x256 cst_30
  have v42 : FVec F S512x256 .f32 := mulf v41 v40
  have v43 : FVec F S512x256 .bf16 := truncf .bf16 v42 bitsLt_bf16_f32
  v43

noncomputable def k0_pay27 (v10 : FVec F S512x256 .f32) (v12 : FVec F S512x256 .f32) : FVec F S1x512x256 .bf16 :=
  have v46 : FVec F S1x512x256 .bf16 := shapeCast S1x512x256 (k0_pay26 v10 v12) shapeCasts_S512x256_S1x512x256
  v46

noncomputable def k0_pay28 (v26 : FVec F S512x256 .bf16) (v47 : Vec F S512x1024 .f32) (v48 : Vec F S256x1024 .bf16) : FVec F S512x1024 .f32 :=
  have cst_38 : FVec F S512x1024 .f32 := constant S512x1024 .f32 0x00000000#32
  have v49 : FVec F S512x1024 .f32 := matmul dot_S512x256_S256x1024_S512x1024_1_0_0_1_n_n none v26 v48 cst_38
  have v50 : FVec F S512x1024 .f32 := addf v47 v49
  have v53 : FVec F S512x1024 .f32 := shapeCast S512x1024 v50 shapeCasts_S512x1024_S512x1024
  v53

noncomputable def k0_pay29 (v10 : FVec F S512x256 .f32) (v12 : FVec F S512x256 .f32) (v54 : Vec F S512x1024 .f32) (v55 : Vec F S256x1024 .bf16) : FVec F S512x1024 .f32 :=
  have cst_45 : FVec F S512x1024 .f32 := constant S512x1024 .f32 0x00000000#32
  have v56 : FVec F S512x1024 .f32 := matmul dot_S512x256_S256x1024_S512x1024_1_0_0_1_n_n none (k0_pay26 v10 v12) v55 cst_45
  have v57 : FVec F S512x1024 .f32 := addf v54 v56
  v57

noncomputable def cc0_ffn_fwd_2_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) :
    Prog (TpuEff nD τ sig (Elt F) Λ₀ .tc) PUnit := do
  let ⟨arg0, arg1, v10, v12, v26⟩ : Σ' (arg0 : BitVec 32) (arg1 : BitVec 32) (v10 : FVec F S512x256 .f32) (v12 : FVec F S512x256 .f32), FVec F S512x256 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  let v57 : FVec F S512x1024 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 v26
  let v58 : Vec F S512x1024 .f32 ← Prog.lift (.load arg16 (Rect.unit (s := S1024x1024) ![512, 0] S512x1024.size inb_S1024x1024_S512x1024_512_0).toLoadRect (View.loadsAt_vmem h_S512x1024))
  Prog.lift (.store arg16 (Rect.unit (s := S1024x1024) ![512, 0] S512x1024.size inb_S1024x1024_S512x1024_512_0) (k0_pay1 v57) Finset.univ (View.stores_vmem_bits_univ h_S512x1024 rfl) (.inl rfl))
  if k0_h2 : k0_cond2 i = 1#1 then do
    let v70 : Vec F S1x1 .f32 ← Prog.lift (.load arg14 (Rect.unit (s := S1x1) ![0, 0] S1x1.size inb_S1x1_S1x1_0_0).toLoadRect (View.loadsAt_vmem h_S1x1))
    Prog.lift (.store arg14 (Rect.unit (s := S1x1) ![0, 0] S1x1.size inb_S1x1_S1x1_0_0) (k0_pay2 (F := F)) Finset.univ (View.stores_vmem_bits_univ h_S1x1 rfl) (.inl rfl))
    let v72 : Vec F S1x1024 .f32 ← Prog.lift (.load arg15 (Rect.unit (s := S1x1024) ![0, 0] S1x1024.size inb_S1x1024_S1x1024_0_0).toLoadRect (View.loadsAt_vmem h_S1x1024))
    Prog.lift (.store arg15 (Rect.unit (s := S1x1024) ![0, 0] S1x1024.size inb_S1x1024_S1x1024_0_0) (k0_pay3 (F := F)) Finset.univ (View.stores_vmem_bits_univ h_S1x1024 rfl) (.inl rfl))
    pure ⟨⟩
  else do
    pure ⟨⟩
  if k0_h3 : k0_cond3 i = 1#1 then do
    let ⟨v72, v80, v101, v103, v106⟩ : Σ' (v72 : Vec F S1x1024 .f32) (v80 : FVec F S1024x1 .f32) (v101 : FVec F S1024x1024 .f32) (v103 : FVec F S1024x1024 .f32), FVec F S1x1024 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    let v119 : Vec F S1024x1024 .f32 ← Prog.lift (.load arg9 (Rect.unit (s := S1024x1024) ![0, 0] S1024x1024.size inb_S1024x1024_S1024x1024_0_0).toLoadRect (View.loadsAt_vmem h_S1024x1024))
    Prog.lift (.store arg9 (Rect.unit (s := S1024x1024) ![0, 0] S1024x1024.size inb_S1024x1024_S1024x1024_0_0) (k0_pay4 v72 v80 v101 v103) Finset.univ (View.stores_vmem_bits_univ h_S1024x1024 rfl) (.inl rfl))
    let v120 : Vec F S1x1024 .f32 ← Prog.lift (.load arg15 (Rect.unit (s := S1x1024) ![0, 0] S1x1024.size inb_S1x1024_S1x1024_0_0).toLoadRect (View.loadsAt_vmem h_S1x1024))
    let v123 : Vec F S1x1024 .f32 ← Prog.lift (.load arg15 (Rect.unit (s := S1x1024) ![0, 0] S1x1024.size inb_S1x1024_S1x1024_0_0).toLoadRect (View.loadsAt_vmem h_S1x1024))
    Prog.lift (.store arg15 (Rect.unit (s := S1x1024) ![0, 0] S1x1024.size inb_S1x1024_S1x1024_0_0) (k0_pay5 v106 v120) Finset.univ (View.stores_vmem_bits_univ h_S1x1024 rfl) (.inl rfl))
    pure ⟨⟩
  else do
    pure ⟨⟩
  pure ⟨⟩

set_option maxRecDepth 65536 in
/-- The printed `cc0_ffn_fwd_2` is its skeleton: by definitional unfolding. -/
theorem cc0_ffn_fwd_2_eq_skeleton : cc0_ffn_fwd_2 (F := F) = cc0_ffn_fwd_2_skel (F := F) := rfl

noncomputable def k0_part1_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) :
    Prog (TpuEff nD τ sig (Elt F) Λ₀ .tc) (Σ' (v72 : Vec F S1x1024 .f32) (v80 : FVec F S1024x1 .f32) (v101 : FVec F S1024x1024 .f32) (v103 : FVec F S1024x1024 .f32), FVec F S1x1024 .f32) := do
  let v69 : Vec F S1024x1024 .f32 ← Prog.lift (.load arg2 (Rect.unit (s := S1024x1024) ![0, 0] S1024x1024.size inb_S1024x1024_S1024x1024_0_0).toLoadRect (View.loadsAt_vmem h_S1024x1024))
  let v70 : Vec F S1024x1024 .f32 ← Prog.lift (.load arg16 (Rect.unit (s := S1024x1024) ![0, 0] S1024x1024.size inb_S1024x1024_S1024x1024_0_0).toLoadRect (View.loadsAt_vmem h_S1024x1024))
  let v72 : Vec F S1x1024 .f32 ← Prog.lift (.load arg8 (Rect.unit (s := S1x1024) ![0, 0] S1x1024.size inb_S1x1024_S1x1024_0_0).toLoadRect (View.loadsAt_vmem h_S1x1024))
  let v85 : Vec F S1024x1024 .f32 ← Prog.lift (.load arg7 (Rect.unit (s := S1024x1024) ![0, 0] S1024x1024.size inb_S1024x1024_S1024x1024_0_0).toLoadRect (View.loadsAt_vmem h_S1024x1024))
  let v87 : Vec F S1x1 .f32 ← Prog.lift (.load arg14 (Rect.unit (s := S1x1) ![0, 0] S1x1.size inb_S1x1_S1x1_0_0).toLoadRect (View.loadsAt_vmem h_S1x1))
  let v99 : Vec F S1x1 .f32 ← Prog.lift (.load arg14 (Rect.unit (s := S1x1) ![0, 0] S1x1.size inb_S1x1_S1x1_0_0).toLoadRect (View.loadsAt_vmem h_S1x1))
  Prog.lift (.store arg14 (Rect.unit (s := S1x1) ![0, 0] S1x1.size inb_S1x1_S1x1_0_0) (k0_pay9 v69 v70 v72 v85 v87) Finset.univ (View.stores_vmem_bits_univ h_S1x1 rfl) (.inl rfl))
  pure ⟨v72, k0_pay7 v69 v70, k0_pay10 v69 v70 v72 v85, k0_pay11 v69 v70, k0_pay12 v69 v70 v72 v85⟩

set_option maxRecDepth 65536 in
/-- The printed `k0_part1` is its skeleton: by definitional unfolding. -/
theorem k0_part1_eq_skeleton : k0_part1 (F := F) = k0_part1_skel (F := F) := rfl

noncomputable def k0_part2_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) :
    Prog (TpuEff nD τ sig (Elt F) Λ₀ .tc) (Σ' (arg0 : BitVec 32) (arg1 : BitVec 32) (v10 : FVec F S512x256 .f32) (v12 : FVec F S512x256 .f32), FVec F S512x256 .bf16) := do
  let arg0 : BitVec 32 := BitVec.ofNat 32 (i 0).val
  let arg1 : BitVec 32 := BitVec.ofNat 32 (i 1).val
  if k0_h1 : k0_cond1 i = 1#1 then do
    let v69 : Vec F S1024x1024 .f32 ← Prog.lift (.load arg2 (Rect.unit (s := S1024x1024) ![0, 0] S1024x1024.size inb_S1024x1024_S1024x1024_0_0).toLoadRect (View.loadsAt_vmem h_S1024x1024))
    let v80 : Vec F S1x1024 .f32 ← Prog.lift (.load arg3 (Rect.unit (s := S1x1024) ![0, 0] S1x1024.size inb_S1x1024_S1x1024_0_0).toLoadRect (View.loadsAt_vmem h_S1x1024))
    let v84 : Vec F S1024x1024 .bf16 ← Prog.lift (.load arg17 (Rect.unit (s := S1024x1024) ![0, 0] S1024x1024.size inb_S1024x1024_S1024x1024_0_0).toLoadRect (View.loadsAt_vmem h_S1024x1024))
    Prog.lift (.store arg17 (Rect.unit (s := S1024x1024) ![0, 0] S1024x1024.size inb_S1024x1024_S1024x1024_0_0) (k0_pay14 v69 v80) Finset.univ (View.stores_vmem h_S1024x1024 (harg17.storeExact_slice rfl _ packedbf16_S1024x1024_S1024x1024_0_0) (fun _ => rfl)) (.inl rfl))
    let v87 : Vec F S1024x1024 .bf16 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay13 v69 v80) Finset.univ (View.stores_vmem h_S1024x1024 (harg10.storeExact_slice rfl _ packedbf16_S1024x1024_S1024x1024_0_0) (fun _ => rfl)) (.inl rfl))
    let v89 : Vec F S1024x1024 .f32 ← Prog.lift (.load arg16 (Rect.unit (s := S1024x1024) ![0, 0] S1024x1024.size inb_S1024x1024_S1024x1024_0_0).toLoadRect (View.loadsAt_vmem h_S1024x1024))
    Prog.lift (.store arg16 (Rect.unit (s := S1024x1024) ![0, 0] S1024x1024.size inb_S1024x1024_S1024x1024_0_0) (k0_pay15 (F := F)) Finset.univ (View.stores_vmem_bits_univ h_S1024x1024 rfl) (.inl rfl))
    pure ⟨⟩
  else do
    pure ⟨⟩
  let v3 : Vec F S512x1024 .bf16 ← Prog.lift (.load arg17 (Rect.unit (s := S1024x1024) ![0, 0] S512x1024.size inb_S1024x1024_S512x1024_0_0).toLoadRect (View.loadsAt_vmem h_S512x1024))
  let v4 : Vec F S256x1024 .bf16 ← Prog.lift (.load arg4 (Rect.unit (s := S256x1024) ![0, 0] S256x1024.size inb_S256x1024_S256x1024_0_0).toLoadRect (View.loadsAt_vmem h_S256x1024))
  let v6 : Vec F S256x1024 .bf16 ← Prog.lift (.load arg5 (Rect.unit (s := S256x1024) ![0, 0] S256x1024.size inb_S256x1024_S256x1024_0_0).toLoadRect (View.loadsAt_vmem h_S256x1024))
  let v8 : Vec F S512x1024 .bf16 ← Prog.lift (.load arg17 (Rect.unit (s := S1024x1024) ![512, 0] S512x1024.size inb_S1024x1024_S512x1024_512_0).toLoadRect (View.loadsAt_vmem h_S512x1024))
  let v9 : Vec F S256x1024 .bf16 ← Prog.lift (.load arg4 (Rect.unit (s := S256x1024) ![0, 0] S256x1024.size inb_S256x1024_S256x1024_0_0).toLoadRect (View.loadsAt_vmem h_S256x1024))
  let v11 : Vec F S256x1024 .bf16 ← Prog.lift (.load arg5 (Rect.unit (s := S256x1024) ![0, 0] S256x1024.size inb_S256x1024_S256x1024_0_0).toLoadRect (View.loadsAt_vmem h_S256x1024))
  let v14 : Vec F S1x512x256 .bf16 ← Prog.lift (.load arg11 (Rect.unit (s := S1x1024x256) ![0, 0, 0] S1x512x256.size inb_S1x1024x256_S1x512x256_0_0_0).toLoadRect (View.loadsAt_vmem h_S1x512x256))
  Prog.lift (.store arg11 (Rect.unit (s := S1x1024x256) ![0, 0, 0] S1x512x256.size inb_S1x1024x256_S1x512x256_0_0_0) (k0_pay20 v3 v4) Finset.univ (View.stores_vmem h_S1x512x256 (harg11.storeExact_slice rfl _ packedbf16_S1x1024x256_S1x512x256_0_0_0) (fun _ => rfl)) (.inl rfl))
  let v18 : Vec F S1x512x256 .bf16 ← Prog.lift (.load arg12 (Rect.unit (s := S1x1024x256) ![0, 0, 0] S1x512x256.size inb_S1x1024x256_S1x512x256_0_0_0).toLoadRect (View.loadsAt_vmem h_S1x512x256))
  Prog.lift (.store arg12 (Rect.unit (s := S1x1024x256) ![0, 0, 0] S1x512x256.size inb_S1x1024x256_S1x512x256_0_0_0) (k0_pay21 v3 v6) Finset.univ (View.stores_vmem h_S1x512x256 (harg12.storeExact_slice rfl _ packedbf16_S1x1024x256_S1x512x256_0_0_0) (fun _ => rfl)) (.inl rfl))
  pure ⟨arg0, arg1, k0_pay18 v8 v9, k0_pay19 v8 v11, k0_pay22 v3 v4 v6⟩

set_option maxRecDepth 65536 in
/-- The printed `k0_part2` is its skeleton: by definitional unfolding. -/
theorem k0_part2_eq_skeleton : k0_part2 (F := F) = k0_part2_skel (F := F) := rfl

noncomputable def k0_part3_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (v10 : FVec F S512x256 .f32) (v12 : FVec F S512x256 .f32) (v26 : FVec F S512x256 .bf16) :
    Prog (TpuEff nD τ sig (Elt F) Λ₀ .tc) (FVec F S512x1024 .f32) := do
  let v27 : Vec F S1x512x256 .bf16 ← Prog.lift (.load arg13 (Rect.unit (s := S1x1024x256) ![0, 0, 0] S1x512x256.size inb_S1x1024x256_S1x512x256_0_0_0).toLoadRect (View.loadsAt_vmem h_S1x512x256))
  Prog.lift (.store arg13 (Rect.unit (s := S1x1024x256) ![0, 0, 0] S1x512x256.size inb_S1x1024x256_S1x512x256_0_0_0) (k0_pay23 v26) Finset.univ (View.stores_vmem h_S1x512x256 (harg13.storeExact_slice rfl _ packedbf16_S1x1024x256_S1x512x256_0_0_0) (fun _ => rfl)) (.inl rfl))
  let v31 : Vec F S1x512x256 .bf16 ← Prog.lift (.load arg11 (Rect.unit (s := S1x1024x256) ![0, 512, 0] S1x512x256.size inb_S1x1024x256_S1x512x256_0_512_0).toLoadRect (View.loadsAt_vmem h_S1x512x256))
  Prog.lift (.store arg11 (Rect.unit (s := S1x1024x256) ![0, 512, 0] S1x512x256.size inb_S1x1024x256_S1x512x256_0_512_0) (k0_pay24 v10) Finset.univ (View.stores_vmem h_S1x512x256 (harg11.storeExact_slice rfl _ packedbf16_S1x1024x256_S1x512x256_0_512_0) (fun _ => rfl)) (.inl rfl))
  let v35 : Vec F S1x512x256 .bf16 ← Prog.lift (.load arg12 (Rect.unit (s := S1x1024x256) ![0, 512, 0] S1x512x256.size inb_S1x1024x256_S1x512x256_0_512_0).toLoadRect (View.loadsAt_vmem h_S1x512x256))
  Prog.lift (.store arg12 (Rect.unit (s := S1x1024x256) ![0, 512, 0] S1x512x256.size inb_S1x1024x256_S1x512x256_0_512_0) (k0_pay25 v12) Finset.univ (View.stores_vmem h_S1x512x256 (harg12.storeExact_slice rfl _ packedbf16_S1x1024x256_S1x512x256_0_512_0) (fun _ => rfl)) (.inl rfl))
  let v44 : Vec F S1x512x256 .bf16 ← Prog.lift (.load arg13 (Rect.unit (s := S1x1024x256) ![0, 512, 0] S1x512x256.size inb_S1x1024x256_S1x512x256_0_512_0).toLoadRect (View.loadsAt_vmem h_S1x512x256))
  Prog.lift (.store arg13 (Rect.unit (s := S1x1024x256) ![0, 512, 0] S1x512x256.size inb_S1x1024x256_S1x512x256_0_512_0) (k0_pay27 v10 v12) Finset.univ (View.stores_vmem h_S1x512x256 (harg13.storeExact_slice rfl _ packedbf16_S1x1024x256_S1x512x256_0_512_0) (fun _ => rfl)) (.inl rfl))
  let v47 : Vec F S512x1024 .f32 ← Prog.lift (.load arg16 (Rect.unit (s := S1024x1024) ![0, 0] S512x1024.size inb_S1024x1024_S512x1024_0_0).toLoadRect (View.loadsAt_vmem h_S512x1024))
  let v48 : Vec F S256x1024 .bf16 ← Prog.lift (.load arg6 (Rect.unit (s := S256x1024) ![0, 0] S256x1024.size inb_S256x1024_S256x1024_0_0).toLoadRect (View.loadsAt_vmem h_S256x1024))
  let v51 : Vec F S512x1024 .f32 ← Prog.lift (.load arg16 (Rect.unit (s := S1024x1024) ![0, 0] S512x1024.size inb_S1024x1024_S512x1024_0_0).toLoadRect (View.loadsAt_vmem h_S512x1024))
  Prog.lift (.store arg16 (Rect.unit (s := S1024x1024) ![0, 0] S512x1024.size inb_S1024x1024_S512x1024_0_0) (k0_pay28 v26 v47 v48) Finset.univ (View.stores_vmem_bits_univ h_S512x1024 rfl) (.inl rfl))
  let v54 : Vec F S512x1024 .f32 ← Prog.lift (.load arg16 (Rect.unit (s := S1024x1024) ![512, 0] S512x1024.size inb_S1024x1024_S512x1024_512_0).toLoadRect (View.loadsAt_vmem h_S512x1024))
  let v55 : Vec F S256x1024 .bf16 ← Prog.lift (.load arg6 (Rect.unit (s := S256x1024) ![0, 0] S256x1024.size inb_S256x1024_S256x1024_0_0).toLoadRect (View.loadsAt_vmem h_S256x1024))
  pure (k0_pay29 v10 v12 v54 v55)

set_option maxRecDepth 65536 in
/-- The printed `k0_part3` is its skeleton: by definitional unfolding. -/
theorem k0_part3_eq_skeleton : k0_part3 (F := F) = k0_part3_skel (F := F) := rfl

end Cert.Kernel12Ideal.Gen

end
-- ==== Proof.FfnLossPoints.lean ====
/-
What the frame of the SwiGLU forward kernel with the loss head needs to know about its 88 grid points (8 row tiles by 11 feature tiles): which branches
are taken where, which output windows are stored into where, and where they are written back.
-/
module

public import proofs.«01_k».proof.Proof.FfnLossSkel
public import proofs.«01_k».proof.Proof.Gen.Kernel12Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `pl.when` 1. -/
abbrev cond0_0 (i : grid0.Coords) : Prop := k0_cond1 i = 1#1
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The condition of the body's `pl.when` 2. -/
abbrev cond0_1 (i : grid0.Coords) : Prop := k0_cond2 i = 1#1
theorem hcond0_1 : ∀ t : Fin cfg0.N, cond0_1 (grid0.coords t) ↔ t.val % 88 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 88 = 0)

/-- The condition of the body's `pl.when` 3. -/
abbrev cond0_2 (i : grid0.Coords) : Prop := k0_cond3 i = 1#1
theorem hcond0_2 : ∀ t : Fin cfg0.N, cond0_2 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_2, k0_cond3, e0, e1]
    word_cmp
   : ∀ t : Fin grid0.N, cond0_2 (grid0.coords t) ↔ t.val % 11 = 10)

/-! ## The four kinds of points -/

/-- Which branches are taken at the first point. -/
theorem caseA (t : Fin cfg0.N) (h1 : t.val % 88 = 0) :
    cond0_0 (grid0.coords t) ∧ cond0_1 (grid0.coords t) ∧ ¬cond0_2 (grid0.coords t) :=
  ⟨(hcond0_0 t).mpr (by omega), (hcond0_1 t).mpr (by omega), fun h => by have := (hcond0_2 t).mp h; omega⟩

/-- Which branches are taken at an inner point. -/
theorem caseB (t : Fin cfg0.N) (h0 : ¬t.val % 11 = 0) (h2 : ¬t.val % 11 = 10) :
    ¬cond0_0 (grid0.coords t) ∧ ¬cond0_1 (grid0.coords t) ∧ ¬cond0_2 (grid0.coords t) :=
  ⟨fun h => by have := (hcond0_0 t).mp h; omega, fun h => by have := (hcond0_1 t).mp h; omega, fun h => by have := (hcond0_2 t).mp h; omega⟩

/-- Which branches are taken at the last feature tile of a row tile. -/
theorem caseC (t : Fin cfg0.N) (h2 : t.val % 11 = 10) :
    ¬cond0_0 (grid0.coords t) ∧ ¬cond0_1 (grid0.coords t) ∧ cond0_2 (grid0.coords t) :=
  ⟨fun h => by have := (hcond0_0 t).mp h; omega, fun h => by have := (hcond0_1 t).mp h; omega, (hcond0_2 t).mpr (by omega)⟩

/-- Which branches are taken at the first feature tile of a later row tile. -/
theorem caseD (t : Fin cfg0.N) (h0 : t.val % 11 = 0) (h1 : ¬t.val % 88 = 0) :
    cond0_0 (grid0.coords t) ∧ ¬cond0_1 (grid0.coords t) ∧ ¬cond0_2 (grid0.coords t) :=
  ⟨(hcond0_0 t).mpr (by omega), fun h => by have := (hcond0_1 t).mp h; omega, fun h => by have := (hcond0_2 t).mp h; omega⟩

/-! ## Where the output windows are stored into, and where they are written back -/

theorem idle_7_A : ∀ t : Fin cfg0.N, t.val % 88 = 0 → cfg0.idle 7 (grid0.coords t) = true := by decide +kernel
theorem kept_7_A : ∀ t : Fin cfg0.N, t.val % 88 = 0 → (cfg0.win 7).flush t = false := by decide +kernel
theorem idle_7_B : ∀ t : Fin cfg0.N, ¬t.val % 11 = 0 → ¬t.val % 11 = 10 → cfg0.idle 7 (grid0.coords t) = true := by decide +kernel
theorem kept_7_B : ∀ t : Fin cfg0.N, ¬t.val % 11 = 0 → ¬t.val % 11 = 10 → (cfg0.win 7).flush t = false := by decide +kernel
theorem live_7_C : ∀ t : Fin cfg0.N, t.val % 11 = 10 → cfg0.idle 7 (grid0.coords t) = false := by decide +kernel
theorem idle_7_D : ∀ t : Fin cfg0.N, t.val % 11 = 0 → ¬t.val % 88 = 0 → cfg0.idle 7 (grid0.coords t) = true := by decide +kernel
theorem kept_7_D : ∀ t : Fin cfg0.N, t.val % 11 = 0 → ¬t.val % 88 = 0 → (cfg0.win 7).flush t = false := by decide +kernel
theorem live_8_A : ∀ t : Fin cfg0.N, t.val % 88 = 0 → cfg0.idle 8 (grid0.coords t) = false := by decide +kernel
theorem idle_8_B : ∀ t : Fin cfg0.N, ¬t.val % 11 = 0 → ¬t.val % 11 = 10 → cfg0.idle 8 (grid0.coords t) = true := by decide +kernel
theorem kept_8_B : ∀ t : Fin cfg0.N, ¬t.val % 11 = 0 → ¬t.val % 11 = 10 → (cfg0.win 8).flush t = false := by decide +kernel
theorem idle_8_C : ∀ t : Fin cfg0.N, t.val % 11 = 10 → cfg0.idle 8 (grid0.coords t) = true := by decide +kernel
theorem back_8_C : ∀ t : Fin cfg0.N, t.val % 11 = 10 → (cfg0.win 8).flush t = true := by decide +kernel
theorem live_8_D : ∀ t : Fin cfg0.N, t.val % 11 = 0 → ¬t.val % 88 = 0 → cfg0.idle 8 (grid0.coords t) = false := by decide +kernel
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12_A : ∀ t : Fin cfg0.N, t.val % 88 = 0 → cfg0.idle 12 (grid0.coords t) = false := by decide +kernel
theorem idle_12_B : ∀ t : Fin cfg0.N, ¬t.val % 11 = 0 → ¬t.val % 11 = 10 → cfg0.idle 12 (grid0.coords t) = true := by decide +kernel
theorem kept_12_B : ∀ t : Fin cfg0.N, ¬t.val % 11 = 0 → ¬t.val % 11 = 10 → (cfg0.win 12).flush t = false := by decide +kernel
theorem live_12_C : ∀ t : Fin cfg0.N, t.val % 11 = 10 → cfg0.idle 12 (grid0.coords t) = false := by decide +kernel
theorem idle_12_D : ∀ t : Fin cfg0.N, t.val % 11 = 0 → ¬t.val % 88 = 0 → cfg0.idle 12 (grid0.coords t) = true := by decide +kernel
theorem kept_12_D : ∀ t : Fin cfg0.N, t.val % 11 = 0 → ¬t.val % 88 = 0 → (cfg0.win 12).flush t = false := by decide +kernel
theorem live_13_A : ∀ t : Fin cfg0.N, t.val % 88 = 0 → cfg0.idle 13 (grid0.coords t) = false := by decide +kernel
theorem idle_13_B : ∀ t : Fin cfg0.N, ¬t.val % 11 = 0 → ¬t.val % 11 = 10 → cfg0.idle 13 (grid0.coords t) = true := by decide +kernel
theorem kept_13_B : ∀ t : Fin cfg0.N, ¬t.val % 11 = 0 → ¬t.val % 11 = 10 → (cfg0.win 13).flush t = false := by decide +kernel
theorem live_13_C : ∀ t : Fin cfg0.N, t.val % 11 = 10 → cfg0.idle 13 (grid0.coords t) = false := by decide +kernel
theorem idle_13_D : ∀ t : Fin cfg0.N, t.val % 11 = 0 → ¬t.val % 88 = 0 → cfg0.idle 13 (grid0.coords t) = true := by decide +kernel
theorem kept_13_D : ∀ t : Fin cfg0.N, t.val % 11 = 0 → ¬t.val % 88 = 0 → (cfg0.win 13).flush t = false := by decide +kernel

/-- Output 8's buffer holds nothing of the body's at the position: a table, checked against the configuration point by point. -/
def freshTab_8 : ℕ → Bool
  | 0 => true
  | n + 1 => (0x8010020040080100200400 : ℕ).testBit n
theorem freshTab_8_step : ∀ t : Fin cfg0.N,
    freshTab_8 (t.val + 1) = ((cfg0.win 8).flush t || (cfg0.idle 8 (cfg0.grid.coords t) && freshTab_8 t.val)) := by decide +kernel
theorem fresh_8_eq (t : Fin cfg0.N) : cfg0.fresh 8 t.val = freshTab_8 t.val :=
  Pipeline.Cfg.fresh_tab cfg0 8 freshTab_8 rfl freshTab_8_step t.val (Nat.le_of_lt t.isLt)
theorem notFresh_8_C : ∀ t : Fin cfg0.N, t.val % 11 = 10 → cfg0.fresh 8 t.val = false := by
  intro t; rw [fresh_8_eq t]; revert t; decide +kernel

/-- Output 12's buffer holds nothing of the body's at the position: a table, checked against the configuration point by point. -/
def freshTab_12 : ℕ → Bool
  | 0 => true
  | n + 1 => (0x8000000000000000000000 : ℕ).testBit n
theorem freshTab_12_step : ∀ t : Fin cfg0.N,
    freshTab_12 (t.val + 1) = ((cfg0.win 12).flush t || (cfg0.idle 12 (cfg0.grid.coords t) && freshTab_12 t.val)) := by decide +kernel
theorem fresh_12_eq (t : Fin cfg0.N) : cfg0.fresh 12 t.val = freshTab_12 t.val :=
  Pipeline.Cfg.fresh_tab cfg0 12 freshTab_12 rfl freshTab_12_step t.val (Nat.le_of_lt t.isLt)
theorem notFresh_12_C : ∀ t : Fin cfg0.N, t.val % 11 = 10 → cfg0.fresh 12 t.val = false := by
  intro t; rw [fresh_12_eq t]; revert t; decide +kernel

/-- Output 13's buffer holds nothing of the body's at the position: a table, checked against the configuration point by point. -/
def freshTab_13 : ℕ → Bool
  | 0 => true
  | n + 1 => (0x8000000000000000000000 : ℕ).testBit n
theorem freshTab_13_step : ∀ t : Fin cfg0.N,
    freshTab_13 (t.val + 1) = ((cfg0.win 13).flush t || (cfg0.idle 13 (cfg0.grid.coords t) && freshTab_13 t.val)) := by decide +kernel
theorem fresh_13_eq (t : Fin cfg0.N) : cfg0.fresh 13 t.val = freshTab_13 t.val :=
  Pipeline.Cfg.fresh_tab cfg0 13 freshTab_13 rfl freshTab_13_step t.val (Nat.le_of_lt t.isLt)
theorem notFresh_13_C : ∀ t : Fin cfg0.N, t.val % 11 = 10 → cfg0.fresh 13 t.val = false := by
  intro t; rw [fresh_13_eq t]; revert t; decide +kernel

/-! ## The staging buffers and the scratch -/

abbrev VO0_7 : View sig .tc .vmem S1024x1024 .f32 := (Memref.whole cc0_stg7_0 : Memref sig .tc .vmem S1024x1024 .f32).view
abbrev VO0_8 : View sig .tc .vmem S1024x1024 .bf16 := (Memref.whole cc0_stg8_0 : Memref sig .tc .vmem S1024x1024 .bf16).view
abbrev VO0_9 : View sig .tc .vmem S1x1024x256 .bf16 := (Memref.whole cc0_stg9_0 : Memref sig .tc .vmem S1x1024x256 .bf16).view
abbrev VO0_10 : View sig .tc .vmem S1x1024x256 .bf16 := (Memref.whole cc0_stg10_0 : Memref sig .tc .vmem S1x1024x256 .bf16).view
abbrev VO0_11 : View sig .tc .vmem S1x1024x256 .bf16 := (Memref.whole cc0_stg11_0 : Memref sig .tc .vmem S1x1024x256 .bf16).view
abbrev VO0_12 : View sig .tc .vmem S1x1 .f32 := (Memref.whole cc0_stg12_0 : Memref sig .tc .vmem S1x1 .f32).view
abbrev VO0_13 : View sig .tc .vmem S1x1024 .f32 := (Memref.whole cc0_stg13_0 : Memref sig .tc .vmem S1x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev scM0_0 : Memref sig .tc .vmem S1024x1024 .f32 := Memref.whole cc0_scratch0
abbrev scM0_1 : Memref sig .tc .vmem S1024x1024 .bf16 := Memref.whole cc0_scratch1
abbrev VS0_0 : View sig .tc .vmem S1024x1024 .f32 := scM0_0.view
abbrev VS0_1 : View sig .tc .vmem S1024x1024 .bf16 := scM0_1.view

/-- The invariant a launch starts from, with the scratch buffers as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel12Ideal.Gen

end
-- ==== Proof.FfnLossRunA.lean ====
/-
The body of the SwiGLU forward kernel with the loss head at the first point, run once over any staging buffers: the pieces its stores leave in every output and
scratch buffer, together with the proof that the body runs and leaves them.
-/
module

public import proofs.«01_k».proof.Proof.FfnLossPoints

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (hc0 : cond0_0 i) (hc1 : cond0_1 i) (hc2 : ¬cond0_2 i)
    (x0 : Vec F S1024x1024 .f32) (x1 : Vec F S1x1024 .f32) (x2 : Vec F S256x1024 .bf16) (x3 : Vec F S256x1024 .bf16) (x4 : Vec F S256x1024 .bf16) (x5 : Vec F S1024x1024 .f32) (x6 : Vec F S1x1024 .f32) :
    Σ' (L7 : List (View.Piece (Elt F) S1024x1024 .f32)), Σ' (L8 : List (View.Piece (Elt F) S1024x1024 .bf16)), Σ' (L9 : List (View.Piece (Elt F) S1x1024x256 .bf16)), Σ' (L10 : List (View.Piece (Elt F) S1x1024x256 .bf16)), Σ' (L11 : List (View.Piece (Elt F) S1x1024x256 .bf16)), Σ' (L12 : List (View.Piece (Elt F) S1x1 .f32)), Σ' (L13 : List (View.Piece (Elt F) S1x1024 .f32)), Σ' (LS0 : List (View.Piece (Elt F) S1024x1024 .f32)), { LS1 : List (View.Piece (Elt F) S1024x1024 .bf16) //
      ∀ (xi7 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_fwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, ?_, ?_, ?_, ?_, fun xi7 E K => ?run⟩
  case run =>
    simp only [cc0_ffn_fwd_2_eq_skeleton]; unfold cc0_ffn_fwd_2_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    iexists _; iexact HS1

end Cert.Kernel12Ideal.Gen

end
-- ==== Proof.FfnLossRunB.lean ====
/-
The body of the SwiGLU forward kernel with the loss head at an inner point, run once over any staging buffers: the pieces its stores leave in every output and
scratch buffer, together with the proof that the body runs and leaves them.
-/
module

public import proofs.«01_k».proof.Proof.FfnLossRunA

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (hc0 : ¬cond0_0 i) (hc1 : ¬cond0_1 i) (hc2 : ¬cond0_2 i)
    (x0 : Vec F S1024x1024 .f32) (x1 : Vec F S1x1024 .f32) (x2 : Vec F S256x1024 .bf16) (x3 : Vec F S256x1024 .bf16) (x4 : Vec F S256x1024 .bf16) (x5 : Vec F S1024x1024 .f32) (x6 : Vec F S1x1024 .f32) (xs0 : Vec F S1024x1024 .f32) (xs1 : Vec F S1024x1024 .bf16) :
    Σ' (L7 : List (View.Piece (Elt F) S1024x1024 .f32)), Σ' (L8 : List (View.Piece (Elt F) S1024x1024 .bf16)), Σ' (L9 : List (View.Piece (Elt F) S1x1024x256 .bf16)), Σ' (L10 : List (View.Piece (Elt F) S1x1024x256 .bf16)), Σ' (L11 : List (View.Piece (Elt F) S1x1024x256 .bf16)), Σ' (L12 : List (View.Piece (Elt F) S1x1 .f32)), Σ' (L13 : List (View.Piece (Elt F) S1x1024 .f32)), Σ' (LS0 : List (View.Piece (Elt F) S1024x1024 .f32)), { LS1 : List (View.Piece (Elt F) S1024x1024 .bf16) //
      ∀ (xi7 : Vec F S1024x1024 .f32) (xi8 : Vec F S1024x1024 .bf16) (xi12 : Vec F S1x1 .f32) (xi13 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi12 ∗ owns (c : Thread nD τ) arg15 fullShare xi13 ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ owns (c : Thread nD τ) arg17 fullShare xs1) -∗ K ⟨⟩))
          ⊢ wp frame (wpE (defs₀ (F := F)) Variants.none c none) E (cc0_ffn_fwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, ?_, ?_, [], [], ?_, [], fun xi7 xi8 xi12 xi13 E K => ?run⟩
  case run =>
    simp only [cc0_ffn_fwd_2_eq_skeleton]; unfold cc0_ffn_fwd_2_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12; obtain rfl := harg15.eq_unread hf13; obtain rfl := harg16.eq_unread hfs0; obtain rfl := harg17.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    iexists _; isplitr; · ipureintro; exact harg17.read_unread _
    iexact HS1

end Cert.Kernel12Ideal.Gen

end
-- ==== Proof.FfnLossRunC.lean ====
/-
The body of the SwiGLU forward kernel with the loss head at the last feature tile of a row tile, run once over any staging buffers: the pieces its stores leave in every output and
scratch buffer, together with the proof that the body runs and leaves them.
-/
module

public import proofs.«01_k».proof.Proof.FfnLossRunB

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (hc0 : ¬cond0_0 i) (hc1 : ¬cond0_1 i) (hc2 : cond0_2 i)
    (x0 : Vec F S1024x1024 .f32) (x1 : Vec F S1x1024 .f32) (x2 : Vec F S256x1024 .bf16) (x3 : Vec F S256x1024 .bf16) (x4 : Vec F S256x1024 .bf16) (x5 : Vec F S1024x1024 .f32) (x6 : Vec F S1x1024 .f32) (xo8 : Vec F S1024x1024 .bf16) (xo12 : Vec F S1x1 .f32) (xo13 : Vec F S1x1024 .f32) (xs0 : Vec F S1024x1024 .f32) (xs1 : Vec F S1024x1024 .bf16) :
    Σ' (L7 : List (View.Piece (Elt F) S1024x1024 .f32)), Σ' (L8 : List (View.Piece (Elt F) S1024x1024 .bf16)), Σ' (L9 : List (View.Piece (Elt F) S1x1024x256 .bf16)), Σ' (L10 : List (View.Piece (Elt F) S1x1024x256 .bf16)), Σ' (L11 : List (View.Piece (Elt F) S1x1024x256 .bf16)), Σ' (L12 : List (View.Piece (Elt F) S1x1 .f32)), Σ' (L13 : List (View.Piece (Elt F) S1x1024 .f32)), Σ' (LS0 : List (View.Piece (Elt F) S1024x1024 .f32)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12 ∗ owns (c : Thread nD τ) arg15 fullShare xo13 ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xo8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0) ∗ owns (c : Thread nD τ) arg17 fullShare xs1) -∗ K ⟨⟩))
          ⊢ wp frame (wpE (defs₀ (F := F)) Variants.none c none) E (cc0_ffn_fwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, ?_, ?_, ?_, ?_, ?_, [], fun E K => ?run⟩
  case run =>
    simp only [cc0_ffn_fwd_2_eq_skeleton]; unfold cc0_ffn_fwd_2_skel
    simp only [k0_part2_eq_skeleton, k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg14.eq_unread hf12; obtain rfl := harg15.eq_unread hf13; obtain rfl := harg16.eq_unread hfs0; obtain rfl := harg17.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexists _; iexact HS0
    iexists _; isplitr; · ipureintro; exact harg17.read_unread _
    iexact HS1

end Cert.Kernel12Ideal.Gen

end
-- ==== Proof.FfnLossRunD.lean ====
/-
The body of the SwiGLU forward kernel with the loss head at the first feature tile of a later row tile, run once over any staging buffers: the pieces its stores leave in every output and
scratch buffer, together with the proof that the body runs and leaves them.
-/
module

public import proofs.«01_k».proof.Proof.FfnLossRunC

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1x1024x256 .bf16) (harg11 : arg11.IsWhole) (arg12 : Memref sig .tc .vmem S1x1024x256 .bf16) (harg12 : arg12.IsWhole) (arg13 : Memref sig .tc .vmem S1x1024x256 .bf16) (harg13 : arg13.IsWhole) (arg14 : Memref sig .tc .vmem S1x1 .f32) (harg14 : arg14.IsWhole) (arg15 : Memref sig .tc .vmem S1x1024 .f32) (harg15 : arg15.IsWhole) (arg16 : Memref sig .tc .vmem S1024x1024 .f32) (harg16 : arg16.IsWhole) (arg17 : Memref sig .tc .vmem S1024x1024 .bf16) (harg17 : arg17.IsWhole) (hc0 : cond0_0 i) (hc1 : ¬cond0_1 i) (hc2 : ¬cond0_2 i)
    (x0 : Vec F S1024x1024 .f32) (x1 : Vec F S1x1024 .f32) (x2 : Vec F S256x1024 .bf16) (x3 : Vec F S256x1024 .bf16) (x4 : Vec F S256x1024 .bf16) (x5 : Vec F S1024x1024 .f32) (x6 : Vec F S1x1024 .f32) :
    Σ' (L7 : List (View.Piece (Elt F) S1024x1024 .f32)), Σ' (L8 : List (View.Piece (Elt F) S1024x1024 .bf16)), Σ' (L9 : List (View.Piece (Elt F) S1x1024x256 .bf16)), Σ' (L10 : List (View.Piece (Elt F) S1x1024x256 .bf16)), Σ' (L11 : List (View.Piece (Elt F) S1x1024x256 .bf16)), Σ' (L12 : List (View.Piece (Elt F) S1x1 .f32)), Σ' (L13 : List (View.Piece (Elt F) S1x1024 .f32)), Σ' (LS0 : List (View.Piece (Elt F) S1024x1024 .f32)), { LS1 : List (View.Piece (Elt F) S1024x1024 .bf16) //
      ∀ (xi7 : Vec F S1024x1024 .f32) (xi12 : Vec F S1x1 .f32) (xi13 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi12 ∗ owns (c : Thread nD τ) arg15 fullShare xi13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_fwd_2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, ?_, ?_, ?_, [], [], ?_, ?_, fun xi7 xi12 xi13 E K => ?run⟩
  case run =>
    simp only [cc0_ffn_fwd_2_eq_skeleton]; unfold cc0_ffn_fwd_2_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hf13
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    iexists _; iexact HS1

end Cert.Kernel12Ideal.Gen

end
-- ==== Proof.FfnLossHeld.lean ====
/-
What the SwiGLU forward kernel with the loss head leaves in its output and scratch buffers after every grid point, read off the four runs, and the proof data of
its pipeline.
-/
module

public import proofs.«01_k».proof.Proof.FfnLossRunD
public import Idealize.ShloMosaic.Lib.Claim

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffers and then the scratch buffers hold after a point. -/
abbrev Held (F : FTy → Type) : Type := Vec F S1024x1024 .f32 × Vec F S1024x1024 .bf16 × Vec F S1x1024x256 .bf16 × Vec F S1x1024x256 .bf16 × Vec F S1x1024x256 .bf16 × Vec F S1x1 .f32 × Vec F S1x1024 .f32 × Vec F S1024x1024 .f32 × Vec F S1024x1024 .bf16

def out0_A_8 (c : Dev nD) (t : Fin cfg0.N) (h1 : t.val % 88 = 0) : Vec F S1024x1024 .bf16 :=
  VO0_8.read (Elt F) (VO0_8.writes (Elt F) VO0_8.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.1)
def out0_A_9 (c : Dev nD) (t : Fin cfg0.N) (h1 : t.val % 88 = 0) : Vec F S1x1024x256 .bf16 :=
  VO0_9.read (Elt F) (VO0_9.writes (Elt F) VO0_9.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.1)
def out0_A_10 (c : Dev nD) (t : Fin cfg0.N) (h1 : t.val % 88 = 0) : Vec F S1x1024x256 .bf16 :=
  VO0_10.read (Elt F) (VO0_10.writes (Elt F) VO0_10.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.1)
def out0_A_11 (c : Dev nD) (t : Fin cfg0.N) (h1 : t.val % 88 = 0) : Vec F S1x1024x256 .bf16 :=
  VO0_11.read (Elt F) (VO0_11.writes (Elt F) VO0_11.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.1)
def out0_A_12 (c : Dev nD) (t : Fin cfg0.N) (h1 : t.val % 88 = 0) : Vec F S1x1 .f32 :=
  VO0_12.read (Elt F) (VO0_12.writes (Elt F) VO0_12.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.2.1)
def out0_A_13 (c : Dev nD) (t : Fin cfg0.N) (h1 : t.val % 88 = 0) : Vec F S1x1024 .f32 :=
  VO0_13.read (Elt F) (VO0_13.writes (Elt F) VO0_13.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.2.2.1)
def sout0_A_0 (c : Dev nD) (t : Fin cfg0.N) (h1 : t.val % 88 = 0) : Vec F S1024x1024 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.2.2.2.1)
def sout0_A_1 (c : Dev nD) (t : Fin cfg0.N) (h1 : t.val % 88 = 0) : Vec F S1024x1024 .bf16 :=
  VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.2.2.2.2.1)

/-- What the buffers hold after the first point. -/
def heldA (c : Dev nD) (t : Fin cfg0.N) (h1 : t.val % 88 = 0) : Held F :=
  (VO0_7.read (Elt F) (VO0_7.writes (Elt F) VO0_7.junk []), out0_A_8 m c t h1, out0_A_9 m c t h1, out0_A_10 m c t h1, out0_A_11 m c t h1, out0_A_12 m c t h1, out0_A_13 m c t h1, sout0_A_0 m c t h1, sout0_A_1 m c t h1)

def out0_B_9 (c : Dev nD) (t : Fin cfg0.N) (h0 : ¬t.val % 11 = 0) (h2 : ¬t.val % 11 = 10) (p : Held F) : Vec F S1x1024x256 .bf16 :=
  VO0_9.read (Elt F) (VO0_9.writes (Elt F) VO0_9.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) p.2.2.2.2.2.2.2.1 p.2.2.2.2.2.2.2.2).2.2.1)
def out0_B_10 (c : Dev nD) (t : Fin cfg0.N) (h0 : ¬t.val % 11 = 0) (h2 : ¬t.val % 11 = 10) (p : Held F) : Vec F S1x1024x256 .bf16 :=
  VO0_10.read (Elt F) (VO0_10.writes (Elt F) VO0_10.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) p.2.2.2.2.2.2.2.1 p.2.2.2.2.2.2.2.2).2.2.2.1)
def out0_B_11 (c : Dev nD) (t : Fin cfg0.N) (h0 : ¬t.val % 11 = 0) (h2 : ¬t.val % 11 = 10) (p : Held F) : Vec F S1x1024x256 .bf16 :=
  VO0_11.read (Elt F) (VO0_11.writes (Elt F) VO0_11.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) p.2.2.2.2.2.2.2.1 p.2.2.2.2.2.2.2.2).2.2.2.2.1)
def sout0_B_0 (c : Dev nD) (t : Fin cfg0.N) (h0 : ¬t.val % 11 = 0) (h2 : ¬t.val % 11 = 10) (p : Held F) : Vec F S1024x1024 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) p.2.2.2.2.2.2.2.1 p.2.2.2.2.2.2.2.2).2.2.2.2.2.2.2.1)

/-- What the buffers hold after an inner point, if before it they held `p`. -/
def heldB (c : Dev nD) (t : Fin cfg0.N) (h0 : ¬t.val % 11 = 0) (h2 : ¬t.val % 11 = 10) (p : Held F) : Held F :=
  (p.1, p.2.1, out0_B_9 m c t h0 h2 p, out0_B_10 m c t h0 h2 p, out0_B_11 m c t h0 h2 p, p.2.2.2.2.2.1, p.2.2.2.2.2.2.1, sout0_B_0 m c t h0 h2 p, p.2.2.2.2.2.2.2.2)

def out0_C_7 (c : Dev nD) (t : Fin cfg0.N) (h2 : t.val % 11 = 10) (p : Held F) : Vec F S1024x1024 .f32 :=
  VO0_7.read (Elt F) (VO0_7.writes (Elt F) VO0_7.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).1)
def out0_C_9 (c : Dev nD) (t : Fin cfg0.N) (h2 : t.val % 11 = 10) (p : Held F) : Vec F S1x1024x256 .bf16 :=
  VO0_9.read (Elt F) (VO0_9.writes (Elt F) VO0_9.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.1)
def out0_C_10 (c : Dev nD) (t : Fin cfg0.N) (h2 : t.val % 11 = 10) (p : Held F) : Vec F S1x1024x256 .bf16 :=
  VO0_10.read (Elt F) (VO0_10.writes (Elt F) VO0_10.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.2.1)
def out0_C_11 (c : Dev nD) (t : Fin cfg0.N) (h2 : t.val % 11 = 10) (p : Held F) : Vec F S1x1024x256 .bf16 :=
  VO0_11.read (Elt F) (VO0_11.writes (Elt F) VO0_11.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.2.2.1)
def out0_C_12 (c : Dev nD) (t : Fin cfg0.N) (h2 : t.val % 11 = 10) (p : Held F) : Vec F S1x1 .f32 :=
  VO0_12.read (Elt F) (VO0_12.writes (Elt F) VO0_12.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.2.2.2.1)
def out0_C_13 (c : Dev nD) (t : Fin cfg0.N) (h2 : t.val % 11 = 10) (p : Held F) : Vec F S1x1024 .f32 :=
  VO0_13.read (Elt F) (VO0_13.writes (Elt F) VO0_13.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.2.2.2.2.1)
def sout0_C_0 (c : Dev nD) (t : Fin cfg0.N) (h2 : t.val % 11 = 10) (p : Held F) : Vec F S1024x1024 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) p.2.1 p.2.2.2.2.2.1 p.2.2.2.2.2.2.1 p.2.2.2.2.2.2.2.1 p.2.2.2.2.2.2.2.2).2.2.2.2.2.2.2.1)

/-- What the buffers hold after the last feature tile of a row tile, if before it they held `p`. -/
def heldC (c : Dev nD) (t : Fin cfg0.N) (h2 : t.val % 11 = 10) (p : Held F) : Held F :=
  (out0_C_7 m c t h2 p, p.2.1, out0_C_9 m c t h2 p, out0_C_10 m c t h2 p, out0_C_11 m c t h2 p, out0_C_12 m c t h2 p, out0_C_13 m c t h2 p, sout0_C_0 m c t h2 p, p.2.2.2.2.2.2.2.2)

def out0_D_8 (c : Dev nD) (t : Fin cfg0.N) (h0 : t.val % 11 = 0) (h1 : ¬t.val % 88 = 0) (p : Held F) : Vec F S1024x1024 .bf16 :=
  VO0_8.read (Elt F) (VO0_8.writes (Elt F) VO0_8.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.1)
def out0_D_9 (c : Dev nD) (t : Fin cfg0.N) (h0 : t.val % 11 = 0) (h1 : ¬t.val % 88 = 0) (p : Held F) : Vec F S1x1024x256 .bf16 :=
  VO0_9.read (Elt F) (VO0_9.writes (Elt F) VO0_9.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.1)
def out0_D_10 (c : Dev nD) (t : Fin cfg0.N) (h0 : t.val % 11 = 0) (h1 : ¬t.val % 88 = 0) (p : Held F) : Vec F S1x1024x256 .bf16 :=
  VO0_10.read (Elt F) (VO0_10.writes (Elt F) VO0_10.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.2.1)
def out0_D_11 (c : Dev nD) (t : Fin cfg0.N) (h0 : t.val % 11 = 0) (h1 : ¬t.val % 88 = 0) (p : Held F) : Vec F S1x1024x256 .bf16 :=
  VO0_11.read (Elt F) (VO0_11.writes (Elt F) VO0_11.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.2.2.1)
def sout0_D_0 (c : Dev nD) (t : Fin cfg0.N) (h0 : t.val % 11 = 0) (h1 : ¬t.val % 88 = 0) (p : Held F) : Vec F S1024x1024 .f32 :=
  VS0_0.read (Elt F) (VS0_0.writes (Elt F) VS0_0.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.2.2.2.2.2.1)
def sout0_D_1 (c : Dev nD) (t : Fin cfg0.N) (h0 : t.val % 11 = 0) (h1 : ¬t.val % 88 = 0) (p : Held F) : Vec F S1024x1024 .bf16 :=
  VS0_1.read (Elt F) (VS0_1.writes (Elt F) VS0_1.junk (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.2.2.2.2.2.2.1)

/-- What the buffers hold after the first feature tile of a later row tile, if before it they held `p`. -/
def heldD (c : Dev nD) (t : Fin cfg0.N) (h0 : t.val % 11 = 0) (h1 : ¬t.val % 88 = 0) (p : Held F) : Held F :=
  (p.1, out0_D_8 m c t h0 h1 p, out0_D_9 m c t h0 h1 p, out0_D_10 m c t h0 h1 p, out0_D_11 m c t h0 h1 p, p.2.2.2.2.2.1, p.2.2.2.2.2.2.1, sout0_D_0 m c t h0 h1 p, sout0_D_1 m c t h0 h1 p)

/-- What the buffers hold after point `t`, if before it they held `p`. -/
def heldStep (c : Dev nD) (t : Fin cfg0.N) (p : Held F) : Held F :=
  if h1 : t.val % 88 = 0 then heldA m c t h1
  else if h0 : t.val % 11 = 0 then heldD m c t h0 h1 p
  else if h2 : t.val % 11 = 10 then heldC m c t h2 p
  else heldB m c t h0 h2 p

/-- What the buffers hold after each point. -/
def outsAt0 (c : Dev nD) : (n : ℕ) → n < cfg0.N → Held F
  | 0, hn => heldA m c ⟨0, hn⟩ (Nat.zero_mod _)
  | n + 1, hn => heldStep m c ⟨n + 1, hn⟩ (outsAt0 c n (Nat.lt_of_succ_lt hn))

/-- What the buffers hold before point `t` (not the first). -/
abbrev prior (c : Dev nD) (t : Fin cfg0.N) : Held F := outsAt0 m c (t.val - 1) (Nat.lt_of_le_of_lt (Nat.sub_le _ _) t.isLt)

theorem outsAt0_A (c : Dev nD) (t : Fin cfg0.N) (h1 : t.val % 88 = 0) : outsAt0 m c t.val t.isLt = heldA m c t h1 := by
  obtain ⟨n, hn⟩ := t
  cases n with
  | zero => rfl
  | succ n => exact dif_pos h1

theorem outsAt0_B (c : Dev nD) (t : Fin cfg0.N) (h0 : ¬t.val % 11 = 0) (h2 : ¬t.val % 11 = 10) :
    outsAt0 m c t.val t.isLt = heldB m c t h0 h2 (prior m c t) := by
  obtain ⟨n, hn⟩ := t
  cases n with
  | zero => exact absurd (Nat.zero_mod _) h0
  | succ n => exact (dif_neg (fun h => h0 (by simp only at h ⊢; omega))).trans ((dif_neg h0).trans (dif_neg h2))

theorem outsAt0_C (c : Dev nD) (t : Fin cfg0.N) (h2 : t.val % 11 = 10) :
    outsAt0 m c t.val t.isLt = heldC m c t h2 (prior m c t) := by
  obtain ⟨n, hn⟩ := t
  cases n with
  | zero => exact absurd h2 (by simp)
  | succ n => exact (dif_neg (fun h => by simp only at h h2; omega)).trans ((dif_neg (fun h => by simp only at h h2; omega)).trans (dif_pos h2))

theorem outsAt0_D (c : Dev nD) (t : Fin cfg0.N) (h0 : t.val % 11 = 0) (h1 : ¬t.val % 88 = 0) :
    outsAt0 m c t.val t.isLt = heldD m c t h0 h1 (prior m c t) := by
  obtain ⟨n, hn⟩ := t
  cases n with
  | zero => exact absurd (Nat.zero_mod _) h1
  | succ n => exact (dif_neg h1).trans (dif_pos h0)

/-- The invariant before position `n`: at first every scratch buffer at anything, later at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2)) ∗ (∃ r, prngReg c r)) := by
  cases n with
  | zero => exact absurd rfl hz
  | succ n => rfl

/-- The proof data of the pipeline: what every window's buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
    | ⟨11, _⟩ => (outsAt0 m c t.val t.isLt).2.2.2.2.1
    | ⟨12, _⟩ => (outsAt0 m c t.val t.isLt).2.2.2.2.2.1
    | ⟨13, _⟩ => (outsAt0 m c t.val t.isLt).2.2.2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What the body leaves in each window's buffer, and what it finds there -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem after0_11 (c : Dev nD) (t : Fin cfg0.N) : (dats m 0 c).after 11 t = (outsAt0 m c t.val t.isLt).2.2.2.2.1 := by dsimp only [dats]
theorem after0_12 (c : Dev nD) (t : Fin cfg0.N) : (dats m 0 c).after 12 t = (outsAt0 m c t.val t.isLt).2.2.2.2.2.1 := by dsimp only [dats]
theorem after0_13 (c : Dev nD) (t : Fin cfg0.N) : (dats m 0 c).after 13 t = (outsAt0 m c t.val t.isLt).2.2.2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Output 8's contents are carried through the points that store nothing into it. -/
theorem hcarry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  rw [after0_8, after0_8]
  by_cases h1 : t.val % 88 = 0
  · exact absurd ((live_8_A t h1).symm.trans hi) Bool.false_ne_true
  by_cases h0 : t.val % 11 = 0
  · exact absurd ((live_8_D t h0 h1).symm.trans hi) Bool.false_ne_true
  by_cases h2 : t.val % 11 = 10
  · rw [outsAt0_C m c t h2]; dsimp only [heldC, prior]
  · rw [outsAt0_B m c t h0 h2]; dsimp only [heldB, prior]

/-- At the last feature tile output 8's buffer holds what the point before left. -/
theorem before0_8_C (c : Dev nD) (t : Fin cfg0.N) (h2 : t.val % 11 = 10) (d) :
    (dats m 0 c).before 8 t d = (prior m c t).2.1 := by
  rw [Dat.before_out_traj _ 8 rfl (fun _ _ => rfl) (hcarry_8 m c) t.val t rfl d, if_neg (by rw [notFresh_8_C t h2]; exact Bool.false_ne_true)]
  dsimp only [dats]

/-- Output 12's contents are carried through the points that store nothing into it. -/
theorem hcarry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [after0_12, after0_12]
  by_cases h1 : t.val % 88 = 0
  · exact absurd ((live_12_A t h1).symm.trans hi) Bool.false_ne_true
  by_cases h0 : t.val % 11 = 0
  · rw [outsAt0_D m c t h0 h1]; dsimp only [heldD, prior]
  by_cases h2 : t.val % 11 = 10
  · exact absurd ((live_12_C t h2).symm.trans hi) Bool.false_ne_true
  · rw [outsAt0_B m c t h0 h2]; dsimp only [heldB, prior]

/-- At the last feature tile output 12's buffer holds what the point before left. -/
theorem before0_12_C (c : Dev nD) (t : Fin cfg0.N) (h2 : t.val % 11 = 10) (d) :
    (dats m 0 c).before 12 t d = (prior m c t).2.2.2.2.2.1 := by
  rw [Dat.before_out_traj _ 12 rfl (fun _ _ => rfl) (hcarry_12 m c) t.val t rfl d, if_neg (by rw [notFresh_12_C t h2]; exact Bool.false_ne_true)]
  dsimp only [dats]

/-- Output 13's contents are carried through the points that store nothing into it. -/
theorem hcarry_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  rw [after0_13, after0_13]
  by_cases h1 : t.val % 88 = 0
  · exact absurd ((live_13_A t h1).symm.trans hi) Bool.false_ne_true
  by_cases h0 : t.val % 11 = 0
  · rw [outsAt0_D m c t h0 h1]; dsimp only [heldD, prior]
  by_cases h2 : t.val % 11 = 10
  · exact absurd ((live_13_C t h2).symm.trans hi) Bool.false_ne_true
  · rw [outsAt0_B m c t h0 h2]; dsimp only [heldB, prior]

/-- At the last feature tile output 13's buffer holds what the point before left. -/
theorem before0_13_C (c : Dev nD) (t : Fin cfg0.N) (h2 : t.val % 11 = 10) (d) :
    (dats m 0 c).before 13 t d = (prior m c t).2.2.2.2.2.2.1 := by
  rw [Dat.before_out_traj _ 13 rfl (fun _ _ => rfl) (hcarry_13 m c) t.val t rfl d, if_neg (by rw [notFresh_13_C t h2]; exact Bool.false_ne_true)]
  dsimp only [dats]

end Cert.Kernel12Ideal.Gen

end
-- ==== Proof.FfnLossBody.lean ====
/-
What the body of the SwiGLU forward kernel with the loss head is called with and what it returns, window by window.
-/
module

public import proofs.«01_k».proof.Proof.FfnLossHeld

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem leaves_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves_7 (c : Dev nD) (t : Fin cfg0.N) (h : cfg0.idle 7 (grid0.coords t) = false) :
    (dats m 0 c).leavesExact 7 t = owns (c : Thread nD τ) (ms0_7 t) fullShare ((outsAt0 m c t.val t.isLt).1) := by
  unfold Dat.leavesExact; rw [h, after0_7]
theorem leaves_8 (c : Dev nD) (t : Fin cfg0.N) (h : cfg0.idle 8 (grid0.coords t) = false) :
    (dats m 0 c).leavesExact 8 t = owns (c : Thread nD τ) (ms0_8 t) fullShare ((outsAt0 m c t.val t.isLt).2.1) := by
  unfold Dat.leavesExact; rw [h, after0_8]
theorem leaves_8_back (c : Dev nD) (t : Fin cfg0.N) (h : cfg0.idle 8 (grid0.coords t) = true) (hf : (cfg0.win 8).flush t = true) :
    (dats m 0 c).leavesExact 8 t = owns (c : Thread nD τ) (ms0_8 t) fullShare ((outsAt0 m c t.val t.isLt).2.1) := by
  unfold Dat.leavesExact; rw [h, hf, after0_8]
theorem leaves_9 (c : Dev nD) (t : Fin cfg0.N) (h : cfg0.idle 9 (grid0.coords t) = false) :
    (dats m 0 c).leavesExact 9 t = owns (c : Thread nD τ) (ms0_9 t) fullShare ((outsAt0 m c t.val t.isLt).2.2.1) := by
  unfold Dat.leavesExact; rw [h, after0_9]
theorem leaves_10 (c : Dev nD) (t : Fin cfg0.N) (h : cfg0.idle 10 (grid0.coords t) = false) :
    (dats m 0 c).leavesExact 10 t = owns (c : Thread nD τ) (ms0_10 t) fullShare ((outsAt0 m c t.val t.isLt).2.2.2.1) := by
  unfold Dat.leavesExact; rw [h, after0_10]
theorem leaves_11 (c : Dev nD) (t : Fin cfg0.N) (h : cfg0.idle 11 (grid0.coords t) = false) :
    (dats m 0 c).leavesExact 11 t = owns (c : Thread nD τ) (ms0_11 t) fullShare ((outsAt0 m c t.val t.isLt).2.2.2.2.1) := by
  unfold Dat.leavesExact; rw [h, after0_11]
theorem leaves_12 (c : Dev nD) (t : Fin cfg0.N) (h : cfg0.idle 12 (grid0.coords t) = false) :
    (dats m 0 c).leavesExact 12 t = owns (c : Thread nD τ) (ms0_12 t) fullShare ((outsAt0 m c t.val t.isLt).2.2.2.2.2.1) := by
  unfold Dat.leavesExact; rw [h, after0_12]
theorem leaves_13 (c : Dev nD) (t : Fin cfg0.N) (h : cfg0.idle 13 (grid0.coords t) = false) :
    (dats m 0 c).leavesExact 13 t = owns (c : Thread nD τ) (ms0_13 t) fullShare ((outsAt0 m c t.val t.isLt).2.2.2.2.2.2.1) := by
  unfold Dat.leavesExact; rw [h, after0_13]

end Cert.Kernel12Ideal.Gen

end
-- ==== Proof.FfnLossBodyA.lean ====
/-
The body of the SwiGLU forward kernel with the loss head at the first point: from the buffers as it finds them to the buffers as `outsAt0` says.
-/
module

public import proofs.«01_k».proof.Proof.FfnLossBody

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the first point. -/
theorem body_A (c : Dev nD) (t : Fin cfg0.N) (h1 : t.val % 88 = 0) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t]
  rw [Dat.leavesExact_idle (dats m 0 c) 7 t (idle_7_A t h1) (kept_7_A t h1)]
  rw [leaves_8 m c t (live_8_A t h1)]
  rw [leaves_9 m c t (live_9 t)]
  rw [leaves_10 m c t (live_10 t)]
  rw [leaves_11 m c t (live_11 t)]
  rw [leaves_12 m c t (live_12_A t h1)]
  rw [leaves_13 m c t (live_13_A t h1)]
  rw [PhiS_castSucc m c t, PhiS_zero m c _ _ (by omega), PhiA0_eq, outsAt0_A m c t h1]
  unfold heldA out0_A_8 out0_A_9 out0_A_10 out0_A_11 out0_A_12 out0_A_13 sout0_A_0 sout0_A_1; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseA t h1).1 (caseA t h1).2.1 (caseA t h1).2.2 (iblk m c 0 t) (iblk m c 1 t) (iblk m c 2 t) (iblk m c 3 t) (iblk m c 4 t) (iblk m c 5 t) (iblk m c 6 t)).2.2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S1024x1024.size (by sl_kernel_rfl) y
      unfold owns; iexists _; isplitr
      swap; · iexact HS1
      ipureintro; exact View.read_writes_of_cover _ _ _ _ _ fun y => View.cover_of_tiledL (s := S1024x1024) _ S1024x1024.size (by sl_kernel_rfl) y
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]
  · unfold owns; iexists _; isplitr
    swap; · iexact H8
    ipureintro; exact View.read_writes_of_cover _ _ _ _ _ fun y => View.cover_of_tiledL (s := S1024x1024) _ S1024x1024.size (by sl_kernel_rfl) y
  isplitl [H9]
  · unfold owns; iexists _; isplitr
    swap; · iexact H9
    ipureintro; exact View.read_writes_of_cover _ _ _ _ _ fun y => View.cover_of_tiledL (s := S1x1024x256) _ S1x512x256.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  isplitl [H12]
  · unfold owns; iexists _; isplitr
    swap; · iexact H12
    ipureintro; exact View.read_writes_of_cover _ _ _ _ _ fun y => View.cover_of_tiledL (s := S1x1) _ S1x1.size (by sl_kernel_rfl) y
  unfold owns; iexists _; isplitr
  swap; · iexact H13
  ipureintro; exact View.read_writes_of_cover _ _ _ _ _ fun y => View.cover_of_tiledL (s := S1x1024) _ S1x1024.size (by sl_kernel_rfl) y

end Cert.Kernel12Ideal.Gen

end
-- ==== Proof.FfnLossBodyB.lean ====
/-
The body of the SwiGLU forward kernel with the loss head at an inner point: from the buffers as it finds them to the buffers as `outsAt0` says.
-/
module

public import proofs.«01_k».proof.Proof.FfnLossBody

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at an inner point. -/
theorem body_B (c : Dev nD) (t : Fin cfg0.N) (h0 : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t]
  rw [Dat.leavesExact_idle (dats m 0 c) 7 t (idle_7_B t h0 h2) (kept_7_B t h0 h2)]
  rw [Dat.leavesExact_idle (dats m 0 c) 8 t (idle_8_B t h0 h2) (kept_8_B t h0 h2)]
  rw [leaves_9 m c t (live_9 t)]
  rw [leaves_10 m c t (live_10 t)]
  rw [leaves_11 m c t (live_11 t)]
  rw [Dat.leavesExact_idle (dats m 0 c) 12 t (idle_12_B t h0 h2) (kept_12_B t h0 h2)]
  rw [Dat.leavesExact_idle (dats m 0 c) 13 t (idle_13_B t h0 h2) (kept_13_B t h0 h2)]
  rw [PhiS_castSucc m c t, PhiS_pos m c _ _ (by omega), outsAt0_B m c t h0 h2]
  unfold heldB out0_B_9 out0_B_10 out0_B_11 sout0_B_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseB t h0 h2).1 (caseB t h0 h2).2.1 (caseB t h0 h2).2.2 (iblk m c 0 t) (iblk m c 1 t) (iblk m c 2 t) (iblk m c 3 t) (iblk m c 4 t) (iblk m c 5 t) (iblk m c 6 t) (prior m c t).2.2.2.2.2.2.2.1 (prior m c t).2.2.2.2.2.2.2.2).2.2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, H7, H8, ⟨%e9, H9⟩, ⟨%e10, H10⟩, ⟨%e11, H11⟩, H12, H13, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]
  · unfold owns; iexists _; isplitr
    swap; · iexact H9
    ipureintro; exact View.read_writes_of_cover _ _ _ _ _ fun y => View.cover_of_tiledL (s := S1x1024x256) _ S1x512x256.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  isplitl [H12]; · iexists _; iexact H12
  iexists _; iexact H13

end Cert.Kernel12Ideal.Gen

end
-- ==== Proof.FfnLossBodyC.lean ====
/-
The body of the SwiGLU forward kernel with the loss head at the last feature tile of a row tile: from the buffers as it finds them to the buffers as `outsAt0` says.
-/
module

public import proofs.«01_k».proof.Proof.FfnLossBody

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the last feature tile of a row tile. -/
theorem body_C (c : Dev nD) (t : Fin cfg0.N) (h2 : t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t]
  rw [leaves_7 m c t (live_7_C t h2)]
  rw [leaves_8_back m c t (idle_8_C t h2) (back_8_C t h2)]
  rw [leaves_9 m c t (live_9 t)]
  rw [leaves_10 m c t (live_10 t)]
  rw [leaves_11 m c t (live_11 t)]
  rw [leaves_12 m c t (live_12_C t h2)]
  rw [leaves_13 m c t (live_13_C t h2)]
  rw [PhiS_castSucc m c t, PhiS_pos m c _ _ (by omega), outsAt0_C m c t h2]
  simp only [before0_8_C m c t h2, before0_12_C m c t h2, before0_13_C m c t h2]
  unfold heldC out0_C_7 out0_C_9 out0_C_10 out0_C_11 out0_C_12 out0_C_13 sout0_C_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseC t h2).1 (caseC t h2).2.1 (caseC t h2).2.2 (iblk m c 0 t) (iblk m c 1 t) (iblk m c 2 t) (iblk m c 3 t) (iblk m c 4 t) (iblk m c 5 t) (iblk m c 6 t) (prior m c t).2.1 (prior m c t).2.2.2.2.2.1 (prior m c t).2.2.2.2.2.2.1 (prior m c t).2.2.2.2.2.2.2.1 (prior m c t).2.2.2.2.2.2.2.2).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, ⟨%e7, H7⟩, H8, ⟨%e9, H9⟩, ⟨%e10, H10⟩, ⟨%e11, H11⟩, ⟨%e12, H12⟩, ⟨%e13, H13⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ fun y => View.cover_of_tiledL (s := S1024x1024) _ S1024x1024.size (by sl_kernel_rfl) y
  isplitl [H8]; · iexact H8
  isplitl [H9]
  · unfold owns; iexists _; isplitr
    swap; · iexact H9
    ipureintro; exact View.read_writes_of_cover _ _ _ _ _ fun y => View.cover_of_tiledL (s := S1x1024x256) _ S1x512x256.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  isplitl [H12]
  · unfold owns; iexists _; isplitr
    swap; · iexact H12
    ipureintro; exact View.read_writes_of_cover _ _ _ _ _ fun y => View.cover_of_tiledL (s := S1x1) _ S1x1.size (by sl_kernel_rfl) y
  unfold owns; iexists _; isplitr
  swap; · iexact H13
  ipureintro; exact View.read_writes_of_cover _ _ _ _ _ fun y => View.cover_of_tiledL (s := S1x1024) _ S1x1024.size (by sl_kernel_rfl) y

end Cert.Kernel12Ideal.Gen

end
-- ==== Proof.FfnLossBodyD.lean ====
/-
The body of the SwiGLU forward kernel with the loss head at the first feature tile of a later row tile: from the buffers as it finds them to the buffers as `outsAt0` says.
-/
module

public import proofs.«01_k».proof.Proof.FfnLossBody

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the first feature tile of a later row tile. -/
theorem body_D (c : Dev nD) (t : Fin cfg0.N) (h0 : t.val % 11 = 0) (h1 : ¬t.val % 88 = 0) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t, leaves_5 m c t, leaves_6 m c t]
  rw [Dat.leavesExact_idle (dats m 0 c) 7 t (idle_7_D t h0 h1) (kept_7_D t h0 h1)]
  rw [leaves_8 m c t (live_8_D t h0 h1)]
  rw [leaves_9 m c t (live_9 t)]
  rw [leaves_10 m c t (live_10 t)]
  rw [leaves_11 m c t (live_11 t)]
  rw [Dat.leavesExact_idle (dats m 0 c) 12 t (idle_12_D t h0 h1) (kept_12_D t h0 h1)]
  rw [Dat.leavesExact_idle (dats m 0 c) 13 t (idle_13_D t h0 h1) (kept_13_D t h0 h1)]
  rw [PhiS_castSucc m c t, PhiS_pos m c _ _ (by omega), outsAt0_D m c t h0 h1]
  unfold heldD out0_D_8 out0_D_9 out0_D_10 out0_D_11 sout0_D_0 sout0_D_1; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (caseD t h0 h1).1 (caseD t h0 h1).2.1 (caseD t h0 h1).2.2 (iblk m c 0 t) (iblk m c 1 t) (iblk m c 2 t) (iblk m c 3 t) (iblk m c 4 t) (iblk m c 5 t) (iblk m c 6 t)).2.2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexact H12
  isplitl [H13]; · iexact H13
  isplitl [HS0]; · iexists _; iexact HS0
  isplitl [HS1]; · iexists _; iexact HS1
  iintro ⟨H0, H1, H2, H3, H4, H5, H6, H7, ⟨%e8, H8⟩, ⟨%e9, H9⟩, ⟨%e10, H10⟩, ⟨%e11, H11⟩, H12, H13, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S1024x1024.size (by sl_kernel_rfl) y
      unfold owns; iexists _; isplitr
      swap; · iexact HS1
      ipureintro; exact View.read_writes_of_cover _ _ _ _ _ fun y => View.cover_of_tiledL (s := S1024x1024) _ S1024x1024.size (by sl_kernel_rfl) y
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]
  · unfold owns; iexists _; isplitr
    swap; · iexact H8
    ipureintro; exact View.read_writes_of_cover _ _ _ _ _ fun y => View.cover_of_tiledL (s := S1024x1024) _ S1024x1024.size (by sl_kernel_rfl) y
  isplitl [H9]
  · unfold owns; iexists _; isplitr
    swap; · iexact H9
    ipureintro; exact View.read_writes_of_cover _ _ _ _ _ fun y => View.cover_of_tiledL (s := S1x1024x256) _ S1x512x256.size (by sl_kernel_rfl) y
  isplitl [H10]
  · unfold owns; iexists _; isplitr
    swap; · iexact H10
    ipureintro; exact View.read_writes_of_cover _ _ _ _ _ fun y => View.cover_of_tiledL (s := S1x1024x256) _ S1x512x256.size (by sl_kernel_rfl) y
  isplitl [H11]
  · unfold owns; iexists _; isplitr
    swap; · iexact H11
    ipureintro; exact View.read_writes_of_cover _ _ _ _ _ fun y => View.cover_of_tiledL (s := S1x1024x256) _ S1x512x256.size (by sl_kernel_rfl) y
  isplitl [H12]; · iexists _; iexact H12
  iexists _; iexact H13

end Cert.Kernel12Ideal.Gen

end
-- ==== Proof.FfnLossFrame.lean ====
/-
The frame of the SwiGLU forward kernel with the loss head: the body runs at every grid point and leaves what `outsAt0` says; so the call runs, leaves its
arguments unchanged and its semaphores at zero.
-/
module

public import proofs.«01_k».proof.Proof.FfnLossBodyA
public import proofs.«01_k».proof.Proof.FfnLossBodyB
public import proofs.«01_k».proof.Proof.FfnLossBodyC
public import proofs.«01_k».proof.Proof.FfnLossBodyD

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val % 88 = 0
  · exact body_A m c t h1
  by_cases h0 : t.val % 11 = 0
  · exact body_D m c t h0 h1
  by_cases h2 : t.val % 11 = 10
  · exact body_C m c t h2
  · exact body_B m c t h0 h2

/-- The body the configuration names is the body as spelled above. -/
theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The invariant after the last point gives it back. -/
theorem hout (c : Dev nD) : (dats m 0 c).Φ (Fin.last cfg0.N) ⊢ Pipeline.ΦA spec0 c :=
  Phi_out m c _ (by rw [Fin.val_last]; have : cfg0.N = 88 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: at its end every array is what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel12Ideal.Gen

end
-- ==== Proof.FfnLossSteps.lean ====
module

public import proofs.«01_k».proof.Proof.FfnLossFrame
public import Idealize.ShloMosaic.Lib.Pipeline.ValueKit
public import Idealize.ShloMosaic.Lib.Pipeline.ReadBack

/-!
# The SwiGLU half-step with the loss head, point by point

A grid point takes 1024 rows and 256 of the features. The first of a row tile's eleven points normalises the rows, keeps them, and starts
the sums of the half-step from zero. Every point makes its features and adds what they contribute to the sums. The last adds the sums to
the rows, and makes the loss and its gradients.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- One feature of a normalised row. -/
def up (h : FVec Ideal S1024x1024 .bf16) (w : FVec Ideal S256x1024 .bf16) (j : S1x1024x256.Idx) : EReal :=
  ∑ k : Fin 1024, h (ix2 (j 1) k) * w (ix2 (j 2) k)

/-- One gated feature, halved. -/
def gated (h : FVec Ideal S1024x1024 .bf16) (w1 w3 : FVec Ideal S256x1024 .bf16) (j : S1x1024x256.Idx) : EReal :=
  Ideal.ofBits .f32 0x3F000000#32 * (up h w1 j * Ideal.logistic (up h w1 j) * up h w3 j)

/-- What one tile of features adds to a row. -/
def part (h : FVec Ideal S1024x1024 .bf16) (w1 w3 w2 : FVec Ideal S256x1024 .bf16) (j : S1024x1024.Idx) : EReal :=
  ∑ f : Fin 256, gated h w1 w3 (ix3 0 (j 0) f) * w2 (ix2 f (j 1))

theorem a_A (c : Dev nD) (t : Fin cfg0.N) (h1 : t.val % 88 = 0) (j) :
    (outsAt0 m c t.val t.isLt).2.2.1 j = up (k0_pay13 (iblk m c 0 t) (iblk m c 1 t)) (iblk m c 2 t) j := by
  rw [outsAt0_A m c t h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem b_A (c : Dev nD) (t : Fin cfg0.N) (h1 : t.val % 88 = 0) (j) :
    (outsAt0 m c t.val t.isLt).2.2.2.1 j = up (k0_pay13 (iblk m c 0 t) (iblk m c 1 t)) (iblk m c 3 t) j := by
  rw [outsAt0_A m c t h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem u_A (c : Dev nD) (t : Fin cfg0.N) (h1 : t.val % 88 = 0) (j) :
    (outsAt0 m c t.val t.isLt).2.2.2.2.1 j = gated (k0_pay13 (iblk m c 0 t) (iblk m c 1 t)) (iblk m c 2 t) (iblk m c 3 t) j := by
  rw [outsAt0_A m c t h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem acc_A (c : Dev nD) (t : Fin cfg0.N) (h1 : t.val % 88 = 0) (j) :
    (outsAt0 m c t.val t.isLt).2.2.2.2.2.2.2.1 j = 0 + part (k0_pay13 (iblk m c 0 t) (iblk m c 1 t)) (iblk m c 2 t) (iblk m c 3 t) (iblk m c 4 t) j := by
  rw [outsAt0_A m c t h1]; frame_open
  simp (discharger := first | decide | rfl) only [↓View.readCov_skip, ↓View.readCov_fill]
  frame_out
  refine View.canon_append_of_piecesOf (fun j => 0 + part (k0_pay13 (iblk m c 0 t) (iblk m c 1 t)) (iblk m c 2 t) (iblk m c 3 t) (iblk m c 4 t) j : Vec Ideal S1024x1024 .f32) [⟨_, _⟩] [⟨_, _⟩, ⟨_, _⟩] ⟨?_, ?_, trivial⟩ j
    (View.cover_of_tiledBy _ ![512, 1024] (by sl_kernel_rfl) j)
  all_goals
    intro x
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, part, gated, up]
    blk_point []

theorem hs_A (c : Dev nD) (t : Fin cfg0.N) (h1 : t.val % 88 = 0) : (outsAt0 m c t.val t.isLt).2.2.2.2.2.2.2.2 = k0_pay13 (iblk m c 0 t) (iblk m c 1 t) := by
  rw [outsAt0_A m c t h1]; frame_out
  funext j; pointwise [k0_pay14, k0_pay13]

theorem h_A (c : Dev nD) (t : Fin cfg0.N) (h1 : t.val % 88 = 0) : (outsAt0 m c t.val t.isLt).2.1 = k0_pay13 (iblk m c 0 t) (iblk m c 1 t) := by
  rw [outsAt0_A m c t h1]; frame_out

theorem loss_A (c : Dev nD) (t : Fin cfg0.N) (h1 : t.val % 88 = 0) : (outsAt0 m c t.val t.isLt).2.2.2.2.2.1 = k0_pay2 (F := Ideal) := by
  rw [outsAt0_A m c t h1]; frame_out

theorem dg_A (c : Dev nD) (t : Fin cfg0.N) (h1 : t.val % 88 = 0) : (outsAt0 m c t.val t.isLt).2.2.2.2.2.2.1 = k0_pay3 (F := Ideal) := by
  rw [outsAt0_A m c t h1]; frame_out

theorem a_B (c : Dev nD) (t : Fin cfg0.N) (h0 : ¬t.val % 11 = 0) (h2 : ¬t.val % 11 = 10) (j) :
    (outsAt0 m c t.val t.isLt).2.2.1 j = up (prior m c t).2.2.2.2.2.2.2.2 (iblk m c 2 t) j := by
  rw [outsAt0_B m c t h0 h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem b_B (c : Dev nD) (t : Fin cfg0.N) (h0 : ¬t.val % 11 = 0) (h2 : ¬t.val % 11 = 10) (j) :
    (outsAt0 m c t.val t.isLt).2.2.2.1 j = up (prior m c t).2.2.2.2.2.2.2.2 (iblk m c 3 t) j := by
  rw [outsAt0_B m c t h0 h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem u_B (c : Dev nD) (t : Fin cfg0.N) (h0 : ¬t.val % 11 = 0) (h2 : ¬t.val % 11 = 10) (j) :
    (outsAt0 m c t.val t.isLt).2.2.2.2.1 j = gated (prior m c t).2.2.2.2.2.2.2.2 (iblk m c 2 t) (iblk m c 3 t) j := by
  rw [outsAt0_B m c t h0 h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem acc_B (c : Dev nD) (t : Fin cfg0.N) (h0 : ¬t.val % 11 = 0) (h2 : ¬t.val % 11 = 10) (j) :
    (outsAt0 m c t.val t.isLt).2.2.2.2.2.2.2.1 j = (prior m c t).2.2.2.2.2.2.2.1 j + part (prior m c t).2.2.2.2.2.2.2.2 (iblk m c 2 t) (iblk m c 3 t) (iblk m c 4 t) j := by
  rw [outsAt0_B m c t h0 h2]; frame_out
  simp only [read_unread_whole]
  canon_tiles x h using (View.cover_of_tiledBy _ ![512, 1024] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, part, gated, up]
    blk_point [h0, h1]

theorem hs_B (c : Dev nD) (t : Fin cfg0.N) (h0 : ¬t.val % 11 = 0) (h2 : ¬t.val % 11 = 10) : (outsAt0 m c t.val t.isLt).2.2.2.2.2.2.2.2 = (prior m c t).2.2.2.2.2.2.2.2 := by
  rw [outsAt0_B m c t h0 h2]; dsimp only [heldB]

theorem h_B (c : Dev nD) (t : Fin cfg0.N) (h0 : ¬t.val % 11 = 0) (h2 : ¬t.val % 11 = 10) : (outsAt0 m c t.val t.isLt).2.1 = (prior m c t).2.1 := by
  rw [outsAt0_B m c t h0 h2]; dsimp only [heldB]

theorem loss_B (c : Dev nD) (t : Fin cfg0.N) (h0 : ¬t.val % 11 = 0) (h2 : ¬t.val % 11 = 10) : (outsAt0 m c t.val t.isLt).2.2.2.2.2.1 = (prior m c t).2.2.2.2.2.1 := by
  rw [outsAt0_B m c t h0 h2]; dsimp only [heldB]

theorem dg_B (c : Dev nD) (t : Fin cfg0.N) (h0 : ¬t.val % 11 = 0) (h2 : ¬t.val % 11 = 10) : (outsAt0 m c t.val t.isLt).2.2.2.2.2.2.1 = (prior m c t).2.2.2.2.2.2.1 := by
  rw [outsAt0_B m c t h0 h2]; dsimp only [heldB]

theorem a_C (c : Dev nD) (t : Fin cfg0.N) (h2 : t.val % 11 = 10) (j) :
    (outsAt0 m c t.val t.isLt).2.2.1 j = up (prior m c t).2.2.2.2.2.2.2.2 (iblk m c 2 t) j := by
  rw [outsAt0_C m c t h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem b_C (c : Dev nD) (t : Fin cfg0.N) (h2 : t.val % 11 = 10) (j) :
    (outsAt0 m c t.val t.isLt).2.2.2.1 j = up (prior m c t).2.2.2.2.2.2.2.2 (iblk m c 3 t) j := by
  rw [outsAt0_C m c t h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem u_C (c : Dev nD) (t : Fin cfg0.N) (h2 : t.val % 11 = 10) (j) :
    (outsAt0 m c t.val t.isLt).2.2.2.2.1 j = gated (prior m c t).2.2.2.2.2.2.2.2 (iblk m c 2 t) (iblk m c 3 t) j := by
  rw [outsAt0_C m c t h2]; frame_out
  simp only [read_unread_whole]
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem acc_C (c : Dev nD) (t : Fin cfg0.N) (h2 : t.val % 11 = 10) (j) :
    (outsAt0 m c t.val t.isLt).2.2.2.2.2.2.2.1 j = (prior m c t).2.2.2.2.2.2.2.1 j + part (prior m c t).2.2.2.2.2.2.2.2 (iblk m c 2 t) (iblk m c 3 t) (iblk m c 4 t) j := by
  rw [outsAt0_C m c t h2]; frame_out
  simp only [read_unread_whole]
  canon_tiles x h using (View.cover_of_tiledBy _ ![512, 1024] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, part, gated, up]
    blk_point [h0, h1]

theorem hs_C (c : Dev nD) (t : Fin cfg0.N) (h2 : t.val % 11 = 10) : (outsAt0 m c t.val t.isLt).2.2.2.2.2.2.2.2 = (prior m c t).2.2.2.2.2.2.2.2 := by
  rw [outsAt0_C m c t h2]; dsimp only [heldC]

theorem h_C (c : Dev nD) (t : Fin cfg0.N) (h2 : t.val % 11 = 10) : (outsAt0 m c t.val t.isLt).2.1 = (prior m c t).2.1 := by
  rw [outsAt0_C m c t h2]; dsimp only [heldC]

theorem a_D (c : Dev nD) (t : Fin cfg0.N) (h0 : t.val % 11 = 0) (h1 : ¬t.val % 88 = 0) (j) :
    (outsAt0 m c t.val t.isLt).2.2.1 j = up (k0_pay13 (iblk m c 0 t) (iblk m c 1 t)) (iblk m c 2 t) j := by
  rw [outsAt0_D m c t h0 h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem b_D (c : Dev nD) (t : Fin cfg0.N) (h0 : t.val % 11 = 0) (h1 : ¬t.val % 88 = 0) (j) :
    (outsAt0 m c t.val t.isLt).2.2.2.1 j = up (k0_pay13 (iblk m c 0 t) (iblk m c 1 t)) (iblk m c 3 t) j := by
  rw [outsAt0_D m c t h0 h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem u_D (c : Dev nD) (t : Fin cfg0.N) (h0 : t.val % 11 = 0) (h1 : ¬t.val % 88 = 0) (j) :
    (outsAt0 m c t.val t.isLt).2.2.2.2.1 j = gated (k0_pay13 (iblk m c 0 t) (iblk m c 1 t)) (iblk m c 2 t) (iblk m c 3 t) j := by
  rw [outsAt0_D m c t h0 h1]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, gated, up]
    blk_point [h0, h1, h2]

theorem acc_D (c : Dev nD) (t : Fin cfg0.N) (h0 : t.val % 11 = 0) (h1 : ¬t.val % 88 = 0) (j) :
    (outsAt0 m c t.val t.isLt).2.2.2.2.2.2.2.1 j = 0 + part (k0_pay13 (iblk m c 0 t) (iblk m c 1 t)) (iblk m c 2 t) (iblk m c 3 t) (iblk m c 4 t) j := by
  rw [outsAt0_D m c t h0 h1]; frame_open
  simp (discharger := first | decide | rfl) only [↓View.readCov_skip, ↓View.readCov_fill]
  frame_out
  refine View.canon_append_of_piecesOf (fun j => 0 + part (k0_pay13 (iblk m c 0 t) (iblk m c 1 t)) (iblk m c 2 t) (iblk m c 3 t) (iblk m c 4 t) j : Vec Ideal S1024x1024 .f32) [⟨_, _⟩] [⟨_, _⟩, ⟨_, _⟩] ⟨?_, ?_, trivial⟩ j
    (View.cover_of_tiledBy _ ![512, 1024] (by sl_kernel_rfl) j)
  all_goals
    intro x
    pointwise [k0_pay1, k0_pay14, k0_pay15, k0_pay16, k0_pay17, k0_pay18, k0_pay19, k0_pay20, k0_pay21, k0_pay22, k0_pay23, k0_pay24, k0_pay25, k0_pay26, k0_pay27, k0_pay28, k0_pay29, part, gated, up]
    blk_point []

theorem hs_D (c : Dev nD) (t : Fin cfg0.N) (h0 : t.val % 11 = 0) (h1 : ¬t.val % 88 = 0) : (outsAt0 m c t.val t.isLt).2.2.2.2.2.2.2.2 = k0_pay13 (iblk m c 0 t) (iblk m c 1 t) := by
  rw [outsAt0_D m c t h0 h1]; frame_out
  funext j; pointwise [k0_pay14, k0_pay13]

theorem h_D (c : Dev nD) (t : Fin cfg0.N) (h0 : t.val % 11 = 0) (h1 : ¬t.val % 88 = 0) : (outsAt0 m c t.val t.isLt).2.1 = k0_pay13 (iblk m c 0 t) (iblk m c 1 t) := by
  rw [outsAt0_D m c t h0 h1]; frame_out

theorem loss_D (c : Dev nD) (t : Fin cfg0.N) (h0 : t.val % 11 = 0) (h1 : ¬t.val % 88 = 0) : (outsAt0 m c t.val t.isLt).2.2.2.2.2.1 = (prior m c t).2.2.2.2.2.1 := by
  rw [outsAt0_D m c t h0 h1]; dsimp only [heldD]

theorem dg_D (c : Dev nD) (t : Fin cfg0.N) (h0 : t.val % 11 = 0) (h1 : ¬t.val % 88 = 0) : (outsAt0 m c t.val t.isLt).2.2.2.2.2.2.1 = (prior m c t).2.2.2.2.2.2.1 := by
  rw [outsAt0_D m c t h0 h1]; dsimp only [heldD]

/-! The sums read whole after the last point's two stores are the sums that point leaves. -/

theorem dy_C (c : Dev nD) (t : Fin cfg0.N) (h2 : t.val % 11 = 10) :
    (outsAt0 m c t.val t.isLt).1 = k0_pay4 (iblk m c 6 t) (k0_pay7 (iblk m c 0 t) (outsAt0 m c t.val t.isLt).2.2.2.2.2.2.2.1) (k0_pay10 (iblk m c 0 t) (outsAt0 m c t.val t.isLt).2.2.2.2.2.2.2.1 (iblk m c 6 t) (iblk m c 5 t)) (k0_pay11 (iblk m c 0 t) (outsAt0 m c t.val t.isLt).2.2.2.2.2.2.2.1) := by
  rw [outsAt0_C m c t h2]; dsimp only [heldC]; frame_out
  refine congrArg (fun X => k0_pay4 _ (k0_pay7 _ X) (k0_pay10 _ X _ _) (k0_pay11 _ X)) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

theorem loss_C (c : Dev nD) (t : Fin cfg0.N) (h2 : t.val % 11 = 10) :
    (outsAt0 m c t.val t.isLt).2.2.2.2.2.1 = k0_pay9 (iblk m c 0 t) (outsAt0 m c t.val t.isLt).2.2.2.2.2.2.2.1 (iblk m c 6 t) (iblk m c 5 t) (prior m c t).2.2.2.2.2.1 := by
  rw [outsAt0_C m c t h2]; frame_out
  refine congrArg (fun X => k0_pay9 _ X _ _ _) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

theorem dg_C (c : Dev nD) (t : Fin cfg0.N) (h2 : t.val % 11 = 10) :
    (outsAt0 m c t.val t.isLt).2.2.2.2.2.2.1 = k0_pay5 (k0_pay12 (iblk m c 0 t) (outsAt0 m c t.val t.isLt).2.2.2.2.2.2.2.1 (iblk m c 6 t) (iblk m c 5 t)) (prior m c t).2.2.2.2.2.2.1 := by
  rw [outsAt0_C m c t h2]; frame_out
  refine congrArg (fun X => k0_pay5 (k0_pay12 _ X _ _) _) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

end Cert.Kernel12Ideal.RefValue

end
-- ==== Proof.FfnLossBlocks.lean ====
module

public import proofs.«01_k».proof.Proof.FfnLossSteps
public import proofs.«01_k».proof.Proof.RmsBack
public import Idealize.ShloMosaic.Lib.Pipeline.ValueKit
public import Idealize.ShloMosaic.Lib.Pipeline.ReadBack

/-!
# The SwiGLU half-step with the loss head: what a point reads

A point of row tile `t / 11` and feature tile `t % 11` reads its rows of the arguments and its features of the weights. The normalised
rows that the row tile's first point makes are kept through the tile's eleven points.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- Where the blocks lie: eight row tiles, and in each the eleven tiles of features. -/
theorem idx : ∀ t : Fin cfg0.N,
    win0_0.index t = ![t.val / 11, 0] ∧ win0_1.index t = ![0, 0] ∧ win0_2.index t = ![t.val % 11, 0] ∧ win0_3.index t = ![t.val % 11, 0] ∧
    win0_4.index t = ![t.val % 11, 0] ∧ win0_5.index t = ![t.val / 11, 0] ∧ win0_6.index t = ![0, 0] ∧
    win0_7.index t = ![t.val / 11, 0] ∧ win0_8.index t = ![t.val / 11, 0] ∧ win0_9.index t = ![t.val % 11, t.val / 11, 0] ∧
    win0_10.index t = ![t.val % 11, t.val / 11, 0] ∧ win0_11.index t = ![t.val % 11, t.val / 11, 0] ∧ win0_12.index t = ![0, 0] ∧ win0_13.index t = ![0, 0] :=
  (by decide +kernel : ∀ t : Fin grid0.N, _)

/-- Row `a` of point `t`'s row tile. -/
def row (t : Fin cfg0.N) (a : Fin 1024) : Fin 8192 := ⟨t.val / 11 * 1024 + a.val, by have := t.isLt; have : cfg0.N = 88 := N_0; omega⟩

/-- Point `t`'s tile of features. -/
def lane (t : Fin cfg0.N) : Fin 11 := ⟨t.val % 11, Nat.mod_lt _ (by decide)⟩

/-- The feature a lane of a tile holds. -/
def feat (i : Fin 11) (q : Fin 256) : Fin 2816 := ⟨i.val * 256 + q.val, by omega⟩

theorem row_pred (t : Fin cfg0.N) (h : ¬t.val % 11 = 0) (a : Fin 1024) (hp) : row ⟨t.val - 1, hp⟩ a = row t a := by
  refine Fin.ext ?_
  show (t.val - 1) / 11 * 1024 + a.val = t.val / 11 * 1024 + a.val
  have : (t.val - 1) / 11 = t.val / 11 := by omega
  rw [this]

/-- One element of a row, divided by the row's root mean square and scaled by the gain. -/
def normed (x : FVec Ideal S8192x1024 .f32) (g : FVec Ideal S1x1024 .f32) (p : Fin 8192) (k : Fin 1024) : EReal :=
  x (ix2 p k) * Cert.Rms.R (fun i => x (ix2 p i)) * g (ix2 0 k)

/-- One feature of a row: the normalised row against the feature's weights. -/
def feature (x : FVec Ideal S8192x1024 .f32) (g : FVec Ideal S1x1024 .f32) (w : FVec Ideal S2816x1024 .bf16) (p : Fin 8192) (f : Fin 2816) : EReal :=
  ∑ k : Fin 1024, normed x g p k * w (ix2 f k)

/-- One gated feature of a row. -/
def gate (x : FVec Ideal S8192x1024 .f32) (g : FVec Ideal S1x1024 .f32) (w1 w3 : FVec Ideal S2816x1024 .bf16) (p : Fin 8192) (f : Fin 2816) : EReal :=
  feature x g w1 p f * Ideal.logistic (feature x g w1 p f) * feature x g w3 p f

/-! What the blocks hold of the arguments. -/

theorem x_at (c : Dev nD) (t : Fin cfg0.N) (p k : Fin 1024) :
    iblk m c 0 t (ix2 p k) = m ((c.tc : Thread nD τ).loc main_arg0) (ix2 (row t p) k) := by
  blk_ext [iblk, V_main_arg0, idx t, row]

theorem g_at (c : Dev nD) (t : Fin cfg0.N) (k : Fin 1024) :
    iblk m c 1 t (ix2 0 k) = m ((c.tc : Thread nD τ).loc main_arg1) (ix2 0 k) := by
  blk_ext [iblk, V_main_arg1, idx t]

theorem w1_at (c : Dev nD) (t : Fin cfg0.N) (f : Fin 256) (k : Fin 1024) :
    iblk m c 2 t (ix2 f k) = m ((c.tc : Thread nD τ).loc main_arg2) (ix2 (feat (lane t) f) k) := by
  blk_ext [iblk, V_main_arg2, idx t, feat, lane]

theorem w3_at (c : Dev nD) (t : Fin cfg0.N) (f : Fin 256) (k : Fin 1024) :
    iblk m c 3 t (ix2 f k) = m ((c.tc : Thread nD τ).loc main_arg3) (ix2 (feat (lane t) f) k) := by
  blk_ext [iblk, V_main_arg3, idx t, feat, lane]

theorem w2_at (c : Dev nD) (t : Fin cfg0.N) (f : Fin 256) (k : Fin 1024) :
    iblk m c 4 t (ix2 f k) = m ((c.tc : Thread nD τ).loc main_arg4) (ix2 (feat (lane t) f) k) := by
  blk_ext [iblk, V_main_arg4, idx t, feat, lane]

theorem target_at (c : Dev nD) (t : Fin cfg0.N) (p k : Fin 1024) :
    iblk m c 5 t (ix2 p k) = m ((c.tc : Thread nD τ).loc main_arg5) (ix2 (row t p) k) := by
  blk_ext [iblk, V_main_arg5, idx t, row]

theorem gf_at (c : Dev nD) (t : Fin cfg0.N) (k : Fin 1024) :
    iblk m c 6 t (ix2 0 k) = m ((c.tc : Thread nD τ).loc main_arg6) (ix2 0 k) := by
  blk_ext [iblk, V_main_arg6, idx t]

/-- What the first point of a row tile makes of a row. -/
theorem pay_norm (x : FVec Ideal S1024x1024 .f32) (g : FVec Ideal S1x1024 .f32) (p k : Fin 1024) :
    k0_pay13 (F := Ideal) x g (ix2 p k) = x (ix2 p k) * Cert.Rms.R (fun i => x (ix2 p i)) * g (ix2 0 k) := by
  pointwise [k0_pay13, Cert.Rms.R, Cert.Rms.ms]

theorem norm_at (c : Dev nD) (t : Fin cfg0.N) (p k : Fin 1024) :
    k0_pay13 (iblk m c 0 t) (iblk m c 1 t) (ix2 p k) = normed (m ((c.tc : Thread nD τ).loc main_arg0)) (m ((c.tc : Thread nD τ).loc main_arg1)) (row t p) k := by
  refine (pay_norm _ _ p k).trans (congrArg₂ (· * ·) (congrArg₂ (· * ·) ?_ (congrArg Cert.Rms.R (funext fun i => ?_))) ?_)
  · exact x_at m c t p k
  · exact x_at m c t p i
  · exact g_at m c t k

theorem norm_pred (c : Dev nD) (t : Fin cfg0.N) (h : ¬t.val % 11 = 0) (hp) :
    (k0_pay13 (iblk m c 0 ⟨t.val - 1, hp⟩) (iblk m c 1 ⟨t.val - 1, hp⟩) : FVec Ideal S1024x1024 .bf16) = k0_pay13 (iblk m c 0 t) (iblk m c 1 t) := by
  funext j
  obtain ⟨p, q, rfl⟩ : ∃ (p q : Fin 1024), j = ix2 p q := ⟨j 0, j 1, eq_ix2 j⟩
  rw [norm_at, norm_at, row_pred t h]

/-- Every point of a row tile keeps the normalised rows of the tile's first. -/
theorem keeps (c : Dev nD) : ∀ (n : ℕ) (t : Fin cfg0.N), t.val = n →
    (outsAt0 m c t.val t.isLt).2.2.2.2.2.2.2.2 = k0_pay13 (iblk m c 0 t) (iblk m c 1 t) ∧ (outsAt0 m c t.val t.isLt).2.1 = k0_pay13 (iblk m c 0 t) (iblk m c 1 t) := by
  intro n
  induction n with
  | zero =>
    intro t ht
    exact ⟨hs_A m c t (by rw [ht]), h_A m c t (by rw [ht])⟩
  | succ n ih =>
    intro t ht
    by_cases hA : t.val % 88 = 0
    · exact ⟨hs_A m c t hA, h_A m c t hA⟩
    by_cases h0 : t.val % 11 = 0
    · exact ⟨hs_D m c t h0 hA, h_D m c t h0 hA⟩
    have hp := ih ⟨t.val - 1, lt_of_le_of_lt (Nat.sub_le _ _) t.isLt⟩ (by show t.val - 1 = n; omega)
    rw [norm_pred m c t h0] at hp
    by_cases h2 : t.val % 11 = 10
    · exact ⟨(hs_C m c t h2).trans hp.1, (h_C m c t h2).trans hp.2⟩
    · exact ⟨(hs_B m c t h0 h2).trans hp.1, (h_B m c t h0 h2).trans hp.2⟩

theorem prior_hs (c : Dev nD) (t : Fin cfg0.N) (h : ¬t.val % 11 = 0) : (prior m c t).2.2.2.2.2.2.2.2 = k0_pay13 (iblk m c 0 t) (iblk m c 1 t) :=
  ((keeps m c _ ⟨t.val - 1, lt_of_le_of_lt (Nat.sub_le _ _) t.isLt⟩ rfl).1).trans (norm_pred m c t h _)

end Cert.Kernel12Ideal.RefValue

end
-- ==== Proof.FfnLossRef.lean ====
module

public import proofs.«01_k».proof.Proof.Gen.Reference12Ideal.Run
public import Idealize.ShloMosaic.Lib.Pipeline.ValueKit

/-!
# What the reference of the SwiGLU half-step with the loss head computes

The normalised rows, the features, the rows after the half-step, the loss, and its gradients by the chain rule.
-/

@[expose] public section

noncomputable section

open Idealize.ShloMosaic Idealize.ShloMosaic.TcCoe Idealize.SL.Sem

namespace Cert.Reference12Ideal.RefValue

open Cert.Reference12Ideal Cert.Reference12Ideal.Gen

/-- The mean square of a row, and the small constant. -/
abbrev ms (u : FVec Ideal S8192x1024 .f32) : FVec Ideal S8192x1 .f32 :=
  addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
abbrev hn (x0 : FVec Ideal S8192x1024 .f32) (x1 : FVec Ideal S1x1024 .f32) : FVec Ideal S8192x1024 .f32 :=
  mulf (mulf x0 (broadcastInDim S8192x1024 ![0, 1] bcast_S8192x1_S8192x1024_0_1 (Host.rsqrt (ms x0)))) (broadcastInDim S8192x1024 ![0, 1] bcast_S1x1024_S8192x1024_0_1 x1)

/-- The first product of the normalised rows. -/
abbrev pa (x0 : FVec Ideal S8192x1024 .f32) (x1 : FVec Ideal S1x1024 .f32) (x2 : FVec Ideal S2816x1024 .bf16) : FVec Ideal S8192x2816 .f32 :=
  Host.dotGeneral (φ₁ := .f32) (φ₂ := .f32) dot_S8192x1024_S1024x2816_S8192x2816_1_0_0_1_n_n none (hn x0 x1) (extf .f32 (transpose S1024x2816 [1, 0] x2 transposes_S2816x1024_S1024x2816_1_0) bitsLt_bf16_f32)

/-- The second product of the normalised rows. -/
abbrev pb (x0 : FVec Ideal S8192x1024 .f32) (x1 : FVec Ideal S1x1024 .f32) (x3 : FVec Ideal S2816x1024 .bf16) : FVec Ideal S8192x2816 .f32 :=
  Host.dotGeneral (φ₁ := .f32) (φ₂ := .f32) dot_S8192x1024_S1024x2816_S8192x2816_1_0_0_1_n_n none (hn x0 x1) (extf .f32 (transpose S1024x2816 [1, 0] x3 transposes_S2816x1024_S1024x2816_1_0) bitsLt_bf16_f32)

/-- The gated features. -/
abbrev gated (x0 : FVec Ideal S8192x1024 .f32) (x1 : FVec Ideal S1x1024 .f32) (x2 : FVec Ideal S2816x1024 .bf16) (x3 : FVec Ideal S2816x1024 .bf16) : FVec Ideal S8192x2816 .f32 :=
  mulf (mulf (pa x0 x1 x2) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (pa x0 x1 x2)))))) (pb x0 x1 x3)

/-- The rows after the half-step. -/
abbrev y (x0 : FVec Ideal S8192x1024 .f32) (x1 : FVec Ideal S1x1024 .f32) (x2 : FVec Ideal S2816x1024 .bf16) (x3 : FVec Ideal S2816x1024 .bf16) (x4 : FVec Ideal S2816x1024 .bf16) : FVec Ideal S8192x1024 .f32 :=
  addf x0 (mulf (broadcastInDim S8192x1024 ![] bcast_S_S8192x1024 (constant S_ .f32 0x3F000000#32)) (Host.dotGeneral (φ₁ := .f32) (φ₂ := .f32) dot_S8192x2816_S2816x1024_S8192x1024_1_0_0_1_n_n none (gated x0 x1 x2 x3) (extf .f32 x4 bitsLt_bf16_f32)))

/-- How far the normalised rows lie from the target. -/
abbrev err (u : FVec Ideal S8192x1024 .f32) (x5 : FVec Ideal S8192x1024 .f32) (x6 : FVec Ideal S1x1024 .f32) : FVec Ideal S8192x1024 .f32 :=
  subf (mulf (mulf u (broadcastInDim S8192x1024 ![0, 1] bcast_S8192x1_S8192x1024_0_1 (Host.rsqrt (ms u)))) (broadcastInDim S8192x1024 ![0, 1] bcast_S1x1024_S8192x1024_0_1 x6)) x5

/-- The gradient of the loss at the normalised rows. -/
abbrev cot (u : FVec Ideal S8192x1024 .f32) (x5 : FVec Ideal S8192x1024 .f32) (x6 : FVec Ideal S1x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (err u x5 x6))

/-- The gradient at a row's mean of squares, spread over the row. -/
abbrev dms (u : FVec Ideal S8192x1024 .f32) (x5 : FVec Ideal S8192x1024 .f32) (x6 : FVec Ideal S1x1024 .f32) : FVec Ideal S8192x1024 .f32 :=
  broadcastInDim S8192x1024 ![0] bcast_S8192_S8192x1024_0 (Host.reduceAdd (Host.divf (mulf (shapeCast S8192x1 (Host.reduceAdd (mulf u (mulf (cot u x5 x6) (broadcastInDim S8192x1024 ![0, 1] bcast_S1x1024_S8192x1024_0_1 x6))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (ms u)) (ms u)))) (broadcastInDim S8192x1 ![] bcast_S_S8192x1 (constant S_ .f32 0x44800000#32))) (constant S_ .f32 0x00000000#32) reducesTo_S8192x1_S8192_d1 h_S_)

/-- The gradient of the loss at the rows. -/
abbrev dyOf (u : FVec Ideal S8192x1024 .f32) (x5 : FVec Ideal S8192x1024 .f32) (x6 : FVec Ideal S1x1024 .f32) : FVec Ideal S8192x1024 .f32 :=
  addf (addf (mulf (mulf (cot u x5 x6) (broadcastInDim S8192x1024 ![0, 1] bcast_S1x1024_S8192x1024_0_1 x6)) (broadcastInDim S8192x1024 ![0, 1] bcast_S8192x1_S8192x1024_0_1 (Host.rsqrt (ms u)))) (mulf u (dms u x5 x6))) (mulf (dms u x5 x6) u)

/-- The gradient of the loss at the norm's gain. -/
abbrev dgOf (u : FVec Ideal S8192x1024 .f32) (x5 : FVec Ideal S8192x1024 .f32) (x6 : FVec Ideal S1x1024 .f32) : FVec Ideal S1x1024 .f32 :=
  shapeCast S1x1024 (Host.reduceAdd (mulf (mulf u (broadcastInDim S8192x1024 ![0, 1] bcast_S8192x1_S8192x1024_0_1 (Host.rsqrt (ms u)))) (cot u x5 x6)) (constant S_ .f32 0x00000000#32) reducesTo_S8192x1024_S1024_d0 h_S_) shapeCasts_S1024_S1x1024

/-- The loss. -/
abbrev lossOf (u : FVec Ideal S8192x1024 .f32) (x5 : FVec Ideal S8192x1024 .f32) (x6 : FVec Ideal S1x1024 .f32) : FVec Ideal S1x1 .f32 :=
  shapeCast S1x1 (mulf (constant S_ .f32 0x3F000000#32) (Host.reduceAdd (Host.divf (Host.reduceAdd (mulf (err u x5 x6) (err u x5 x6)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1

/-- An array of features, by tiles of 256. -/
abbrev tile (t : FVec Ideal S8192x2816 .f32) : FVec Ideal S11x8192x256 .bf16 :=
  truncf .bf16 (transpose S11x8192x256 [1, 0, 2] (shapeCast S8192x11x256 t shapeCasts_S8192x2816_S8192x11x256) transposes_S8192x11x256_S11x8192x256_1_0_2) bitsLt_bf16_f32

/-- The gated features, halved. -/
abbrev halved (x0 : FVec Ideal S8192x1024 .f32) (x1 : FVec Ideal S1x1024 .f32) (x2 : FVec Ideal S2816x1024 .bf16) (x3 : FVec Ideal S2816x1024 .bf16) : FVec Ideal S8192x2816 .f32 :=
  mulf (broadcastInDim S8192x2816 ![] bcast_S_S8192x2816 (constant S_ .f32 0x3F000000#32)) (gated x0 x1 x2 x3)

/-- The normalised rows, rounded. -/
abbrev hb (x0 : FVec Ideal S8192x1024 .f32) (x1 : FVec Ideal S1x1024 .f32) : FVec Ideal S8192x1024 .bf16 :=
  truncf .bf16 (hn x0 x1) bitsLt_bf16_f32

variable (m : (ℓ : Loc nD τ sig) → Buf (Elt Ideal) ℓ) (ρ : Dev nD → PrngReg)

/-- The rows after the half-step, of the arguments. -/
abbrev yAt (c : Dev nD) : FVec Ideal S8192x1024 .f32 :=
  y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference ends holding these results, with its arguments unchanged. -/
theorem run : θ_run (defs (F := Ideal)) (onTc (τ := τ) (main (F := Ideal))) ⟨m, fun _ => 0, ρ⟩ fun r => ∀ c : Dev nD,
    r.2.mem ((c.tc : Thread nD τ).loc main_v77) = dyOf (yAt m c) (m ((c.tc : Thread nD τ).loc main_arg5)) (m ((c.tc : Thread nD τ).loc main_arg6))
      ∧ r.2.mem ((c.tc : Thread nD τ).loc main_v96) = hb (m ((c.tc : Thread nD τ).loc main_arg0)) (m ((c.tc : Thread nD τ).loc main_arg1))
      ∧ r.2.mem ((c.tc : Thread nD τ).loc main_v97) = tile (pa (m ((c.tc : Thread nD τ).loc main_arg0)) (m ((c.tc : Thread nD τ).loc main_arg1)) (m ((c.tc : Thread nD τ).loc main_arg2)))
      ∧ r.2.mem ((c.tc : Thread nD τ).loc main_v98) = tile (pb (m ((c.tc : Thread nD τ).loc main_arg0)) (m ((c.tc : Thread nD τ).loc main_arg1)) (m ((c.tc : Thread nD τ).loc main_arg3)))
      ∧ r.2.mem ((c.tc : Thread nD τ).loc main_v99) = tile (halved (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v100) = lossOf (yAt m c) (m ((c.tc : Thread nD τ).loc main_arg5)) (m ((c.tc : Thread nD τ).loc main_arg6))
      ∧ r.2.mem ((c.tc : Thread nD τ).loc main_v61) = dgOf (yAt m c) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by unfold Value.res_main_v77; rfl), (h c).2.1.trans rfl, (h c).2.2.1.trans rfl, (h c).2.2.2.1.trans rfl,
    (h c).2.2.2.2.1.trans rfl, (h c).2.2.2.2.2.1.trans (by unfold Value.res_main_v100; rfl), (h c).2.2.2.2.2.2.1.trans (by unfold Value.res_main_v61; rfl), (h c).2.2.2.2.2.2.2⟩) (Value.run m ρ)

end Cert.Reference12Ideal.RefValue

end
-- ==== Proof.FfnLossFeatures.lean ====
module

public import proofs.«01_k».proof.Proof.FfnLossBlocks
public import proofs.«01_k».proof.Proof.FfnLossRef
public import proofs.«01_k».proof.Proof.FfnReal
public import Idealize.ShloMosaic.Lib.Pipeline.ValueKit
public import Idealize.ShloMosaic.Lib.Pipeline.ReadBack

/-!
# The SwiGLU half-step with the loss head: the normalised rows and the features

Every point leaves 256 features of 1024 rows: the two products of the normalised rows, and their gate, halved.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

theorem up1_at (c : Dev nD) (t : Fin cfg0.N) (p : Fin 1024) (q : Fin 256) :
    up (k0_pay13 (iblk m c 0 t) (iblk m c 1 t)) (iblk m c 2 t) (ix3 0 p q) = feature (m ((c.tc : Thread nD τ).loc main_arg0)) (m ((c.tc : Thread nD τ).loc main_arg1)) (m ((c.tc : Thread nD τ).loc main_arg2)) (row t p) (feat (lane t) q) := by
  unfold up feature
  refine Finset.sum_congr rfl fun k _ => congrArg₂ (· * ·) ?_ ?_
  · exact norm_at m c t p k
  · exact w1_at m c t q k

theorem up3_at (c : Dev nD) (t : Fin cfg0.N) (p : Fin 1024) (q : Fin 256) :
    up (k0_pay13 (iblk m c 0 t) (iblk m c 1 t)) (iblk m c 3 t) (ix3 0 p q) = feature (m ((c.tc : Thread nD τ).loc main_arg0)) (m ((c.tc : Thread nD τ).loc main_arg1)) (m ((c.tc : Thread nD τ).loc main_arg3)) (row t p) (feat (lane t) q) := by
  unfold up feature
  refine Finset.sum_congr rfl fun k _ => congrArg₂ (· * ·) ?_ ?_
  · exact norm_at m c t p k
  · exact w3_at m c t q k

theorem gated_at (c : Dev nD) (t : Fin cfg0.N) (p : Fin 1024) (q : Fin 256) :
    gated (k0_pay13 (iblk m c 0 t) (iblk m c 1 t)) (iblk m c 2 t) (iblk m c 3 t) (ix3 0 p q)
      = Ideal.ofBits .f32 0x3F000000#32 * gate (m ((c.tc : Thread nD τ).loc main_arg0)) (m ((c.tc : Thread nD τ).loc main_arg1)) (m ((c.tc : Thread nD τ).loc main_arg2)) (m ((c.tc : Thread nD τ).loc main_arg3)) (row t p) (feat (lane t) q) := by
  unfold gated gate
  rw [up1_at, up3_at]

/-! The reference's arrays at an index. -/

theorem ref_pa (x g w) (p : Fin 8192) (f : Fin 2816) : Cert.Reference12Ideal.RefValue.pa x g w (ix2 p f) = feature x g w p f := by
  pointwise [Cert.Reference12Ideal.RefValue.pa, feature, normed, Cert.Rms.R, Cert.Rms.ms]

theorem ref_pb (x g w) (p : Fin 8192) (f : Fin 2816) : Cert.Reference12Ideal.RefValue.pb x g w (ix2 p f) = feature x g w p f := by
  pointwise [Cert.Reference12Ideal.RefValue.pb, feature, normed, Cert.Rms.R, Cert.Rms.ms]

theorem ref_gated (x g w1 w3) (p : Fin 8192) (f : Fin 2816) : Cert.Reference12Ideal.RefValue.gated x g w1 w3 (ix2 p f) = gate x g w1 w3 p f := by
  unfold gate
  rw [Cert.Ffn.logistic_eq, ← ref_pa, ← ref_pb]; pointwise [Cert.Reference12Ideal.RefValue.gated]

theorem ref_halved (x g w1 w3) (p : Fin 8192) (f : Fin 2816) :
    Cert.Reference12Ideal.RefValue.halved x g w1 w3 (ix2 p f) = Ideal.ofBits .f32 0x3F000000#32 * gate x g w1 w3 p f := by
  rw [← ref_gated]; pointwise [Cert.Reference12Ideal.RefValue.halved]

theorem ref_tile (u) (i : Fin 11) (p : Fin 8192) (q : Fin 256) : Cert.Reference12Ideal.RefValue.tile u (ix3 i p q) = u (ix2 p (feat i q)) := by
  pointwise [Cert.Reference12Ideal.RefValue.tile, feat]

theorem ref_hb (x g) (p : Fin 8192) (k : Fin 1024) :
    Cert.Reference12Ideal.RefValue.hb x g (ix2 p k) = normed x g p k := by
  pointwise [Cert.Reference12Ideal.RefValue.hb, normed, Cert.Rms.R, Cert.Rms.ms]

/-! The features that a point leaves, whichever point it is. -/

theorem out_a (c : Dev nD) (t : Fin cfg0.N) (j) :
    (outsAt0 m c t.val t.isLt).2.2.1 j = up (k0_pay13 (iblk m c 0 t) (iblk m c 1 t)) (iblk m c 2 t) j := by
  by_cases hA : t.val % 88 = 0
  · exact a_A m c t hA j
  by_cases h0 : t.val % 11 = 0
  · exact a_D m c t h0 hA j
  by_cases h2 : t.val % 11 = 10
  · rw [a_C m c t h2 j, prior_hs m c t h0]
  · rw [a_B m c t h0 h2 j, prior_hs m c t h0]

theorem out_b (c : Dev nD) (t : Fin cfg0.N) (j) :
    (outsAt0 m c t.val t.isLt).2.2.2.1 j = up (k0_pay13 (iblk m c 0 t) (iblk m c 1 t)) (iblk m c 3 t) j := by
  by_cases hA : t.val % 88 = 0
  · exact b_A m c t hA j
  by_cases h0 : t.val % 11 = 0
  · exact b_D m c t h0 hA j
  by_cases h2 : t.val % 11 = 10
  · rw [b_C m c t h2 j, prior_hs m c t h0]
  · rw [b_B m c t h0 h2 j, prior_hs m c t h0]

theorem out_u (c : Dev nD) (t : Fin cfg0.N) (j) :
    (outsAt0 m c t.val t.isLt).2.2.2.2.1 j = gated (k0_pay13 (iblk m c 0 t) (iblk m c 1 t)) (iblk m c 2 t) (iblk m c 3 t) j := by
  by_cases hA : t.val % 88 = 0
  · exact u_A m c t hA j
  by_cases h0 : t.val % 11 = 0
  · exact u_D m c t h0 hA j
  by_cases h2 : t.val % 11 = 10
  · rw [u_C m c t h2 j, prior_hs m c t h0]
  · rw [u_B m c t h0 h2 j, prior_hs m c t h0]

/-- The first product, whole. -/
theorem final_a (c : Dev nD) :
    (dats m 0 c).arrAt 9 (cfgs 0).N = Cert.Reference12Ideal.RefValue.tile (Cert.Reference12Ideal.RefValue.pa (m ((c.tc : Thread nD τ).loc main_arg0)) (m ((c.tc : Thread nD τ).loc main_arg1)) (m ((c.tc : Thread nD τ).loc main_arg2))) := by
  refine (dats m 0 c).arrAt_eq_of_covers 9 _ (by decide +kernel) fun t hf y => ?_
  blk_simp
  rw [after0_9, out_a]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_9.blk t).view.emb (ix3 0 p q) = ix3 (lane t) (row t p) q := by
    blk_ext [idx t, row, lane]
  refine Eq.trans ?_ (congrArg _ hj.symm)
  rw [ref_tile, ref_pa]
  exact up1_at m c t p q

/-- The second product, whole. -/
theorem final_b (c : Dev nD) :
    (dats m 0 c).arrAt 10 (cfgs 0).N = Cert.Reference12Ideal.RefValue.tile (Cert.Reference12Ideal.RefValue.pb (m ((c.tc : Thread nD τ).loc main_arg0)) (m ((c.tc : Thread nD τ).loc main_arg1)) (m ((c.tc : Thread nD τ).loc main_arg3))) := by
  refine (dats m 0 c).arrAt_eq_of_covers 10 _ (by decide +kernel) fun t hf y => ?_
  blk_simp
  rw [after0_10, out_b]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_10.blk t).view.emb (ix3 0 p q) = ix3 (lane t) (row t p) q := by
    blk_ext [idx t, row, lane]
  refine Eq.trans ?_ (congrArg _ hj.symm)
  rw [ref_tile, ref_pb]
  exact up3_at m c t p q

/-- The halved gated features, whole. -/
theorem final_u (c : Dev nD) :
    (dats m 0 c).arrAt 11 (cfgs 0).N = Cert.Reference12Ideal.RefValue.tile (Cert.Reference12Ideal.RefValue.halved (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 11 _ (by decide +kernel) fun t hf y => ?_
  blk_simp
  rw [after0_11, out_u]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_11.blk t).view.emb (ix3 0 p q) = ix3 (lane t) (row t p) q := by
    blk_ext [idx t, row, lane]
  refine Eq.trans ?_ (congrArg _ hj.symm)
  rw [ref_tile, ref_halved]
  exact gated_at m c t p q

/-- The normalised rows, whole. -/
theorem final_h (c : Dev nD) :
    (dats m 0 c).arrAt 8 (cfgs 0).N = Cert.Reference12Ideal.RefValue.hb (m ((c.tc : Thread nD τ).loc main_arg0)) (m ((c.tc : Thread nD τ).loc main_arg1)) := by
  refine (dats m 0 c).arrAt_eq_of_covers 8 _ (by decide +kernel) fun t hf y => ?_
  blk_simp
  rw [after0_8, (keeps m c _ t rfl).2]
  obtain ⟨p, q, rfl⟩ : ∃ (p q : Fin 1024), y = ix2 p q := ⟨y 0, y 1, eq_ix2 y⟩
  have hj : (win0_8.blk t).view.emb (ix2 p q) = ix2 (row t p) q := by
    blk_ext [idx t, row]
  refine Eq.trans ?_ (congrArg _ hj.symm)
  rw [ref_hb]
  exact norm_at m c t p q

end Cert.Kernel12Ideal.RefValue

end
-- ==== Proof.FfnLossRows.lean ====
module

public import proofs.«01_k».proof.Proof.FfnLossFeatures
public import Idealize.ShloMosaic.Lib.Pipeline.ValueKit
public import Idealize.ShloMosaic.Lib.Pipeline.ReadBack

/-!
# The SwiGLU half-step with the loss head: the rows after the half-step

Over the eleven points of a row tile the sums grow by the contribution of 256 features each. The kernel halves each gated feature, the
reference halves the sum: one half is a nonnegative real, so it goes into a sum over the extended reals.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- What point `t` adds to the sums. -/
def adds (c : Dev nD) (t : Fin cfg0.N) (j : S1024x1024.Idx) : EReal :=
  part (k0_pay13 (iblk m c 0 t) (iblk m c 1 t)) (iblk m c 2 t) (iblk m c 3 t) (iblk m c 4 t) j

theorem acc_start (c : Dev nD) (t : Fin cfg0.N) (h0 : t.val % 11 = 0) (j) :
    (outsAt0 m c t.val t.isLt).2.2.2.2.2.2.2.1 j = 0 + adds m c t j := by
  by_cases hA : t.val % 88 = 0
  · exact acc_A m c t hA j
  · exact acc_D m c t h0 hA j

theorem acc_step (c : Dev nD) (t : Fin cfg0.N) (h0 : ¬t.val % 11 = 0) (j) :
    (outsAt0 m c t.val t.isLt).2.2.2.2.2.2.2.1 j = (prior m c t).2.2.2.2.2.2.2.1 j + adds m c t j := by
  unfold adds
  by_cases h2 : t.val % 11 = 10
  · rw [acc_C m c t h2 j, prior_hs m c t h0]
  · rw [acc_B m c t h0 h2 j, prior_hs m c t h0]

/-- One halved gated feature's part of a row. -/
def term (x : FVec Ideal S8192x1024 .f32) (g : FVec Ideal S1x1024 .f32) (w1 w3 w2 : FVec Ideal S2816x1024 .bf16) (p : Fin 8192) (q : Fin 1024) (f : Fin 2816) : EReal :=
  Ideal.ofBits .f32 0x3F000000#32 * gate x g w1 w3 p f * w2 (ix2 f q)

/-- One tile of features' contribution. -/
theorem adds_at (c : Dev nD) (t : Fin cfg0.N) (p q : Fin 1024) :
    adds m c t (ix2 p q) = ∑ f : Fin 256, term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t p) q (feat (lane t) f) := by
  unfold adds part term
  refine Finset.sum_congr rfl fun f _ => congrArg₂ (· * ·) ?_ ?_
  · exact gated_at m c t p f
  · exact w2_at m c t f q

/-- The reference's rows after the half-step. -/
theorem ref_y (x0 x1 x2 x3 x4) (p : Fin 8192) (q : Fin 1024) :
    Cert.Reference12Ideal.RefValue.y x0 x1 x2 x3 x4 (ix2 p q) = x0 (ix2 p q) + ∑ f : Fin 2816, term x0 x1 x2 x3 x4 p q f := by
  have h : Cert.Reference12Ideal.RefValue.y x0 x1 x2 x3 x4 (ix2 p q)
      = x0 (ix2 p q) + Ideal.ofBits .f32 0x3F000000#32 * ∑ f : Fin 2816, gate x0 x1 x2 x3 p f * x4 (ix2 f q) := by
    simp only [← ref_gated]
    generalize hG : Cert.Reference12Ideal.RefValue.gated x0 x1 x2 x3 = G
    unfold Cert.Reference12Ideal.RefValue.y
    rw [hG]
    pointwise []
  rw [h]
  refine congrArg (_ + ·) ?_
  unfold term
  rw [Cert.Ffn.half_eq, mul_comm, ← Cert.Rms.sum_mul_real _ _ _ (by norm_num)]
  exact Finset.sum_congr rfl fun f _ => by rw [mul_comm, mul_assoc]

/-- The sums a point leaves. -/
abbrev accAt (c : Dev nD) (t : Fin cfg0.N) : FVec Ideal S1024x1024 .f32 := (outsAt0 m c t.val t.isLt).2.2.2.2.2.2.2.1

/-- A row and its sums together. -/
def plus (x u : FVec Ideal S1024x1024 .f32) (p q : Fin 1024) : EReal := x (ix2 p q) + u (ix2 p q)

/-- At the last point of a row tile the rows and the sums together are the reference's rows after the half-step. -/
theorem y_last (c : Dev nD) (t : Fin cfg0.N) (h2 : t.val % 11 = 10) (p q : Fin 1024) :
    plus (iblk m c 0 t) (accAt m c t) p q = Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t p) q) := by
  rw [ref_y]
  unfold plus
  refine congrArg₂ (· + ·) (x_at m c t p q) ?_
  unfold accAt
  rw [Pipeline.eq_sum_fin_of_reset_step_apply_of_flush (fun n h => (outsAt0 m c n h).2.2.2.2.2.2.2.1) 11 (fun _ => 0) (adds m c)
      (fun t h j => acc_start m c t h j) (fun t h j => acc_step m c t h j) t h2 (ix2 p q), zero_add]
  simp only [adds_at m]
  have hr : ∀ (s : Fin 11) (hs), row (⟨11 * (t.val / 11) + s.val, hs⟩ : Fin cfg0.N) p = row t p := fun s hs => by
    refine Fin.ext ?_
    show (11 * (t.val / 11) + s.val) / 11 * 1024 + p.val = t.val / 11 * 1024 + p.val
    have : (11 * (t.val / 11) + s.val) / 11 = t.val / 11 := by omega
    rw [this]
  have hl : ∀ (s : Fin 11) (hs), lane (⟨11 * (t.val / 11) + s.val, hs⟩ : Fin cfg0.N) = s := fun s hs => by
    refine Fin.ext ?_
    show (11 * (t.val / 11) + s.val) % 11 = s.val
    omega
  simp only [hr, hl]
  refine Fin.sum_mul_add_congr fun s k hl => ?_
  rfl

end Cert.Kernel12Ideal.RefValue

end
-- ==== Proof.FfnLossHead.lean ====
module

public import proofs.«01_k».proof.Proof.FfnLossRef
public import proofs.«01_k».proof.Proof.FfnLossSkel
public import proofs.«01_k».proof.Proof.FfnLossFrame
public import proofs.«01_k».proof.Proof.FfnReal
public import proofs.«01_k».proof.Proof.RmsBack
public import Idealize.ShloMosaic.Lib.Pipeline.ValueKit
public import Idealize.ShloMosaic.Lib.Pipeline.ReadBack

/-!
# The loss head of the second SwiGLU half-step

The loss is half the sum over the rows of the mean square of what the normalised row misses of its target. Its gradient at a normalised
element is that miss over the number of columns, and goes back through the norm.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- How far a row, normalised and scaled, lies from the target. -/
def miss (y g t : Fin 1024 → EReal) (k : Fin 1024) : EReal := y k * Cert.Rms.R y * g k - t k

/-- A row's part of the loss, doubled. -/
def square (y g t : Fin 1024 → EReal) : EReal :=
  Ideal.div (∑ k, miss y g t k * miss y g t k) (Ideal.ofBits .f32 0x44800000#32)

/-- The gradient of the loss at a normalised element. -/
def pull (y g t : Fin 1024 → EReal) (k : Fin 1024) : EReal := miss y g t k * Ideal.ofBits .f32 0x3A800000#32

/-- The gradient of the loss at a row. -/
def headGrad (y g t : Fin 1024 → EReal) (k : Fin 1024) : EReal := Cert.Rms.closed y (fun i => pull y g t i * g i) k

/-- A row's part of the gain's gradient. -/
def gainPart (y g t : Fin 1024 → EReal) (k : Fin 1024) : EReal := pull y g t k * (y k * Cert.Rms.R y)

/-- The gradient of a square's mean, by the chain rule and in one factor. -/
theorem scale (e : EReal) :
    Ideal.div (Ideal.ofBits .f32 0x3F000000#32 * 1) (Ideal.ofBits .f32 0x44800000#32) * (Ideal.ofBits .f32 0x40000000#32 * e)
      = e * Ideal.ofBits .f32 0x3A800000#32 := by
  have h2 : Ideal.ofBits .f32 0x40000000#32 = ((2 : ℝ) : EReal) := by
    simp [Ideal.ofBits, Ideal.ieee, -EReal.coe_mul]; norm_num
  have hc : Ideal.ofBits .f32 0x3A800000#32 = ((1 / 1024 : ℝ) : EReal) := by
    simp [Ideal.ofBits, Ideal.ieee, -EReal.coe_mul]; norm_num
  rw [mul_one, Cert.Ffn.half_eq, Cert.Rms.cols, h2, hc, Ideal.div_coe (by norm_num), ← mul_assoc, ← EReal.coe_mul, ← EReal.coe_mul, mul_comm]
  norm_num

/-! What the last point of a row tile writes. -/

theorem pay_dy (x u t : FVec Ideal S1024x1024 .f32) (g : FVec Ideal S1x1024 .f32) (p q : Fin 1024) :
    k0_pay4 (F := Ideal) g (k0_pay7 x u) (k0_pay10 x u g t) (k0_pay11 x u) (ix2 p q)
      = headGrad (fun i => x (ix2 p i) + u (ix2 p i)) (fun i => g (ix2 0 i)) (fun i => t (ix2 p i)) q := by
  pointwise [k0_pay4, k0_pay6, k0_pay7, k0_pay8, k0_pay10, k0_pay11, headGrad, Cert.Rms.closed, Cert.Rms.R, Cert.Rms.ms, pull, miss]

theorem pay_loss (x u t : FVec Ideal S1024x1024 .f32) (g : FVec Ideal S1x1024 .f32) (l : FVec Ideal S1x1 .f32) (j) :
    k0_pay9 (F := Ideal) x u g t l j
      = l j + Ideal.ofBits .f32 0x3F000000#32 * ∑ p : Fin 1024, square (fun i => x (ix2 p i) + u (ix2 p i)) (fun i => g (ix2 0 i)) (fun i => t (ix2 p i)) := by
  pointwise [k0_pay9, k0_pay6, k0_pay7, k0_pay8, Cert.Rms.R, Cert.Rms.ms, square, miss]

theorem pay_dg (x u t : FVec Ideal S1024x1024 .f32) (g d : FVec Ideal S1x1024 .f32) (q : Fin 1024) :
    k0_pay5 (F := Ideal) (k0_pay12 x u g t) d (ix2 0 q)
      = d (ix2 0 q) + ∑ p : Fin 1024, gainPart (fun i => x (ix2 p i) + u (ix2 p i)) (fun i => g (ix2 0 i)) (fun i => t (ix2 p i)) q := by
  pointwise [k0_pay5, k0_pay12, k0_pay6, k0_pay7, k0_pay8, k0_pay10, k0_pay11, Cert.Rms.R, Cert.Rms.ms, gainPart, pull, miss]

/-! What the reference makes of the rows after the half-step. -/

theorem ref_cot (u x5 x6) (p : Fin 8192) (q : Fin 1024) :
    Cert.Reference12Ideal.RefValue.cot u x5 x6 (ix2 p q) = pull (fun i => u (ix2 p i)) (fun i => x6 (ix2 0 i)) (fun i => x5 (ix2 p i)) q := by
  unfold pull
  rw [← scale]
  pointwise [Cert.Reference12Ideal.RefValue.cot, Cert.Reference12Ideal.RefValue.err, Cert.Rms.R, Cert.Rms.ms, miss]

theorem ref_dy (u x5 x6) (p : Fin 8192) (q : Fin 1024) :
    Cert.Reference12Ideal.RefValue.dyOf u x5 x6 (ix2 p q)
      = headGrad (fun i => u (ix2 p i)) (fun i => x6 (ix2 0 i)) (fun i => x5 (ix2 p i)) q := by
  unfold headGrad
  simp only [← ref_cot]
  rw [Cert.Rms.closed_eq]
  generalize hK : Cert.Reference12Ideal.RefValue.cot u x5 x6 = K
  unfold Cert.Reference12Ideal.RefValue.dyOf Cert.Reference12Ideal.RefValue.dms
  rw [hK]
  pointwise [Cert.Rms.D, Cert.Rms.R, Cert.Rms.ms]
  simp only [Fin.sum_univ_one, Finset.univ_unique, Finset.sum_singleton]
  exact add_assoc _ _ _

theorem ref_dg (u x5 x6) (q : Fin 1024) :
    Cert.Reference12Ideal.RefValue.dgOf u x5 x6 (ix2 0 q)
      = ∑ p : Fin 8192, gainPart (fun i => u (ix2 p i)) (fun i => x6 (ix2 0 i)) (fun i => x5 (ix2 p i)) q := by
  simp only [gainPart, ← ref_cot]
  generalize hK : Cert.Reference12Ideal.RefValue.cot u x5 x6 = K
  unfold Cert.Reference12Ideal.RefValue.dgOf
  rw [hK]
  pointwise [Cert.Rms.R, Cert.Rms.ms]
  exact Finset.sum_congr rfl fun p _ => mul_comm _ _

theorem ref_loss (u x5 x6 j) :
    Cert.Reference12Ideal.RefValue.lossOf u x5 x6 j
      = Ideal.ofBits .f32 0x3F000000#32 * ∑ p : Fin 8192, square (fun i => u (ix2 p i)) (fun i => x6 (ix2 0 i)) (fun i => x5 (ix2 p i)) := by
  pointwise [Cert.Reference12Ideal.RefValue.lossOf, Cert.Reference12Ideal.RefValue.err, Cert.Rms.R, Cert.Rms.ms, square, miss]

end Cert.Kernel12Ideal.RefValue

end
-- ==== Proof.FfnLossValue.lean ====
module

public import proofs.«01_k».proof.Proof.FfnLossRows
public import proofs.«01_k».proof.Proof.FfnLossHead
public import Idealize.ShloMosaic.Lib.Pipeline.ValueKit
public import Idealize.ShloMosaic.Lib.Pipeline.ReadBack

/-!
# The SwiGLU half-step with the loss head: the loss and its gradients

The last point of a row tile makes the rows after the half-step, their part of the loss and of the gain's gradient, and the gradient at
the rows. Over the eight row tiles the parts add up to the reference's sums over all rows.
-/

@[expose] public section

set_option maxRecDepth 16384

noncomputable section

open Idealize.ShloMosaic Idealize.ShloMosaic.TcCoe Idealize.SL.Sem
open Idealize.ShloMosaic.Pipeline (Dat)

namespace Cert.Kernel12Ideal.RefValue

open Cert.Kernel12Ideal Cert.Kernel12Ideal.Gen

variable (m : (ℓ : Loc nD τ sig) → Buf (Elt Ideal) ℓ)

/-- A function of a row, the gain and the target's row is the same at equal ones. -/
theorem congr_rows (F : (Fin 1024 → EReal) → (Fin 1024 → EReal) → (Fin 1024 → EReal) → EReal) {y y' g g' t t' : Fin 1024 → EReal}
    (hy : ∀ i, y i = y' i) (hg : ∀ i, g i = g' i) (ht : ∀ i, t i = t' i) : F y g t = F y' g' t' := by
  rw [funext hy, funext hg, funext ht]

/-- One half goes into a sum. -/
theorem half_sum {n : ℕ} (f : Fin n → EReal) : Ideal.ofBits .f32 0x3F000000#32 * ∑ p, f p = ∑ p, Ideal.ofBits .f32 0x3F000000#32 * f p := by
  rw [Cert.Ffn.half_eq, mul_comm, ← Cert.Rms.sum_mul_real _ _ _ (by norm_num)]
  exact Finset.sum_congr rfl fun p _ => mul_comm _ _

/-- What a row tile's last point adds, over the grid, is a sum over the rows. -/
theorem sum_tiles (F : Fin cfg0.N → EReal) (G : Fin 8192 → EReal) (h : ∀ t, t.val % 11 = 10 → F t = ∑ k : Fin 1024, G (row t k))
    (hz : ∀ t, ¬t.val % 11 = 10 → F t = 0) : ∑ t, F t = ∑ p, G p := by
  rw [← Fin.sum_mul_add_fin 8 11 F N_0]
  have hs : ∀ s : Fin 8, (∑ k : Fin 11, F ⟨s.val * 11 + k.val, by have := s.isLt; have := k.isLt; have : cfg0.N = 88 := N_0; omega⟩)
      = ∑ k : Fin 1024, G (row ⟨s.val * 11 + 10, by have := s.isLt; have : cfg0.N = 88 := N_0; omega⟩ k) := fun s => by
    rw [Finset.sum_eq_single (10 : Fin 11)]
    · exact h _ (by show (s.val * 11 + 10) % 11 = 10; omega)
    · intro k _ hk
      refine hz _ fun e => ?_
      have e : (s.val * 11 + k.val) % 11 = 10 := e
      exact hk (Fin.ext (by show k.val = 10; omega))
    · intro hn; exact absurd (Finset.mem_univ _) hn
  refine (Finset.sum_congr rfl fun s _ => hs s).trans ?_
  refine Fin.sum_mul_add_congr fun s k hl => congrArg G (Fin.ext ?_)
  show (s.val * 11 + 10) / 11 * 1024 + k.val = s.val * 1024 + k.val
  have : (s.val * 11 + 10) / 11 = s.val := by omega
  rw [this]

/-- A point that writes its block of the rows' gradient back is the last of its row tile. -/
theorem flush_last : ∀ t : Fin cfg0.N, (cfg0.win 7).flush t = true → t.val % 11 = 10 :=
  (by decide +kernel : ∀ t : Fin grid0.N, _)

/-- The gradient of the loss at the rows, whole. -/
theorem final_dy (c : Dev nD) :
    (dats m 0 c).arrAt 7 (cfgs 0).N = Cert.Reference12Ideal.RefValue.dyOf (Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  refine (dats m 0 c).arrAt_eq_of_covers 7 _ (by decide +kernel) fun t hf y => ?_
  have h2 := flush_last t hf
  blk_simp
  rw [after0_7, dy_C m c t h2]
  obtain ⟨p, q, rfl⟩ : ∃ (p q : Fin 1024), y = ix2 p q := ⟨y 0, y 1, eq_ix2 y⟩
  have hj : (win0_7.blk t).view.emb (ix2 p q) = ix2 (row t p) q := by
    blk_ext [idx t, row]
  rw [pay_dy]
  refine Eq.trans ?_ (congrArg _ hj.symm)
  rw [ref_dy]
  exact congr_rows (fun y g t => headGrad y g t q) (fun i => y_last m c t h2 p i) (fun i => gf_at m c t i) (fun i => target_at m c t p i)

/-- The grid's last point. -/
def tLast : Fin cfg0.N := ⟨87, lt_of_lt_of_eq (by decide) N_0.symm⟩

/-- What a point adds to the gain's gradient: its row tile's part, at the last point of the tile. -/
def gains (c : Dev nD) (t : Fin cfg0.N) (q : Fin 1024) : EReal :=
  if t.val % 11 = 10 then ∑ p : Fin 1024, gainPart (plus (iblk m c 0 t) (accAt m c t) p) (fun i => iblk m c 6 t (ix2 0 i)) (fun i => iblk m c 5 t (ix2 p i)) q else 0

/-- What a point adds to the loss: its row tile's part, at the last point of the tile. -/
def costs (c : Dev nD) (t : Fin cfg0.N) : EReal :=
  if t.val % 11 = 10 then Ideal.ofBits .f32 0x3F000000#32 * ∑ p : Fin 1024, square (plus (iblk m c 0 t) (accAt m c t) p) (fun i => iblk m c 6 t (ix2 0 i)) (fun i => iblk m c 5 t (ix2 p i)) else 0

/-- The gain's gradient at one column. -/
abbrev dgAt (c : Dev nD) (n : ℕ) (h : n < cfg0.N) (q : Fin 1024) : EReal := (outsAt0 m c n h).2.2.2.2.2.2.1 (ix2 0 q)

theorem gain_start (c : Dev nD) (t : Fin cfg0.N) (hA : t.val % 88 = 0) (q) : dgAt m c t.val t.isLt q = 0 + gains m c t q := by
  unfold dgAt
  rw [dg_A m c t hA, gains, if_neg (by omega)]
  pointwise [k0_pay3]

theorem gain_step (c : Dev nD) (t : Fin cfg0.N) (hA : ¬t.val % 88 = 0) (q) :
    dgAt m c t.val t.isLt q = dgAt m c (t.val - 1) (Nat.lt_of_le_of_lt (Nat.sub_le _ _) t.isLt) q + gains m c t q := by
  unfold gains dgAt
  by_cases h2 : t.val % 11 = 10
  · rw [dg_C m c t h2, if_pos h2, pay_dg]; rfl
  by_cases h0 : t.val % 11 = 0
  · rw [dg_D m c t h0 hA, if_neg h2, add_zero]
  · rw [dg_B m c t h0 h2, if_neg h2, add_zero]

/-- The loss so far. -/
abbrev lossAt (c : Dev nD) (n : ℕ) (h : n < cfg0.N) (_ : Unit) : EReal := (outsAt0 m c n h).2.2.2.2.2.1 (ix2 0 0)

theorem cost_start (c : Dev nD) (t : Fin cfg0.N) (hA : t.val % 88 = 0) (i) : lossAt m c t.val t.isLt i = 0 + costs m c t := by
  unfold lossAt
  rw [loss_A m c t hA, costs, if_neg (by omega)]
  pointwise [k0_pay2]

theorem cost_step (c : Dev nD) (t : Fin cfg0.N) (hA : ¬t.val % 88 = 0) (i) :
    lossAt m c t.val t.isLt i = lossAt m c (t.val - 1) (Nat.lt_of_le_of_lt (Nat.sub_le _ _) t.isLt) i + costs m c t := by
  unfold costs lossAt
  by_cases h2 : t.val % 11 = 10
  · rw [loss_C m c t h2, if_pos h2, pay_loss]; rfl
  by_cases h0 : t.val % 11 = 0
  · rw [loss_D m c t h0 hA, if_neg h2, add_zero]
  · rw [loss_B m c t h0 h2, if_neg h2, add_zero]

/-- The gain's gradient, whole. -/
theorem final_dg (c : Dev nD) :
    (dats m 0 c).arrAt 13 (cfgs 0).N = Cert.Reference12Ideal.RefValue.dgOf (Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  refine (dats m 0 c).arrAt_eq_of_after_last 13 tLast (by decide +kernel) _ fun j => ?_
  blk_simp
  obtain ⟨i, q, rfl⟩ : ∃ (i : Fin 1) (q : Fin 1024), j = ix2 i q := ⟨j 0, j 1, eq_ix2 j⟩
  obtain rfl : i = 0 := Subsingleton.elim _ _
  rw [after0_13]
  refine (Pipeline.eq_sum_fin_of_reset_step_apply_last (dgAt m c) 88 (fun _ => 0) (gains m c)
      (fun t h j => gain_start m c t h j) (fun t h j => gain_step m c t h j) (le_of_eq N_0) tLast rfl q).trans ?_
  rw [zero_add, ref_dg]
  refine sum_tiles (fun t => gains m c t q) (fun p => gainPart (fun i => Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p i)) (fun i => (m ((c.tc : Thread nD τ).loc main_arg6)) (ix2 0 i)) (fun i => (m ((c.tc : Thread nD τ).loc main_arg5)) (ix2 p i)) q) (fun t h2 => ?_) (fun t h2 => if_neg h2)
  refine (if_pos h2).trans (Finset.sum_congr rfl fun p _ => ?_)
  exact congr_rows (fun y g t => gainPart y g t q) (fun i => y_last m c t h2 p i) (fun i => gf_at m c t i) (fun i => target_at m c t p i)

/-- The loss. -/
theorem final_loss (c : Dev nD) :
    (dats m 0 c).arrAt 12 (cfgs 0).N = Cert.Reference12Ideal.RefValue.lossOf (Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) := by
  refine (dats m 0 c).arrAt_eq_of_after_last 12 tLast (by decide +kernel) _ fun j => ?_
  blk_simp
  obtain ⟨i, k, rfl⟩ : ∃ (i k : Fin 1), j = ix2 i k := ⟨j 0, j 1, eq_ix2 j⟩
  obtain rfl : i = 0 := Subsingleton.elim _ _
  obtain rfl : k = 0 := Subsingleton.elim _ _
  rw [after0_12]
  refine (Pipeline.eq_sum_fin_of_reset_step_apply_last (lossAt m c) 88 (fun _ => 0) (fun t _ => costs m c t)
      (fun t h j => cost_start m c t h j) (fun t h j => cost_step m c t h j) (le_of_eq N_0) tLast rfl ()).trans ?_
  rw [zero_add, ref_loss, half_sum]
  refine sum_tiles (costs m c) (fun p => Ideal.ofBits .f32 0x3F000000#32 * square (fun i => Cert.Reference12Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p i)) (fun i => (m ((c.tc : Thread nD τ).loc main_arg6)) (ix2 0 i)) (fun i => (m ((c.tc : Thread nD τ).loc main_arg5)) (ix2 p i))) (fun t h2 => ?_) (fun t h2 => if_neg h2)
  refine (if_pos h2).trans ?_
  rw [half_sum]
  refine Finset.sum_congr rfl fun p _ => congrArg _ ?_
  exact congr_rows square (fun i => y_last m c t h2 p i) (fun i => gf_at m c t i) (fun i => target_at m c t p i)

end Cert.Kernel12Ideal.RefValue

end
-- ==== Proof.FfnLossClaim.lean ====
module

public import proofs.«01_k».proof.Defs
public import proofs.«01_k».proof.Proof.Gen.Kernel12.Frame
public import proofs.«01_k».proof.Proof.Gen.Reference12Ideal.Run
public import proofs.«01_k».proof.Proof.FfnLossValue
public import Idealize.ShloMosaic.Adequacy
public import Idealize.ShloMosaic.Init
public import Idealize.ShloMosaic.Lib.Claim

/-!
# The claims of the SwiGLU half-step with the loss head

The device's program is the idealised one at the device's floats, so its frame is the same run.
-/

@[expose] public section

set_option maxRecDepth 16384

noncomputable section

namespace Cert.Proof

open Idealize.ShloMosaic Idealize.ShloMosaic.TcCoe Idealize.SL.Sem

/-- The kernel runs to its end and leaves its arguments, at the device's floats. -/
theorem frame_kernel12 : Cert.quiescent_Kernel12 := by
  have e : Cert.quiescent_Kernel12 = (∀ (m : (ℓ : Loc Cert.Kernel12Ideal.nD Cert.Kernel12Ideal.τ Cert.Kernel12Ideal.sig) → Buf (Elt Bits) ℓ)
      (g : Dev Cert.Kernel12Ideal.nD → PrngReg), True →
      θ_run (Cert.Kernel12Ideal.defs (F := Bits)) (onTc (τ := Cert.Kernel12Ideal.τ) (Cert.Kernel12Ideal.main (F := Bits))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)) := by sl_kernel_rfl
  rw [e]
  exact fun m ρ _ => Cert.Kernel12Ideal.Gen.frame (F := Bits) m ρ

/-- So does its idealisation. -/
theorem frame_kernel12_ideal : Cert.quiescent_Kernel12Ideal := fun m ρ _ => Cert.Kernel12Ideal.Gen.frame m ρ

/-- The half-step with the loss and its derivative runs and leaves its arguments; it has no counters. -/
theorem frame_reference12 : Cert.quiescent_Reference12Ideal := by
  intro m ρ _
  exact (θ_run Cert.Reference12Ideal.defs _ _).mono (fun r h => ⟨fun c => (h c).2.2.2.2.2.2.2,
    sem_eq_zero_of_no_sems (by decide) r.2⟩) (Cert.Reference12Ideal.RefValue.run m ρ)

set_option maxHeartbeats 4000000 in
/-- The kernel computes the loss, its gradients at the rows and at the gain, and the half-step's saved values. -/
theorem value12 : Cert.algebraic_Kernel12Ideal_Reference12Ideal := by
  pair_intro
  · run_from Cert.Kernel12Ideal.Gen.run_main m g
  · refine Idealize.ShloMosaic.θ_run_mono (Cert.Reference12Ideal.RefValue.run m' g') ?_
    intro r hr c
    obtain ⟨h0, h1, h2, h3, h4, h5, h6, ha⟩ := hr c
    obtain ⟨a0, a1, a2, a3, a4, a5, a6⟩ := hagree c
    refine ⟨h0.trans ?_, h1.trans ?_, h2.trans ?_, h3.trans ?_, h4.trans ?_, h5.trans ?_, h6.trans ?_, ha⟩
    · unfold Cert.Reference12Ideal.RefValue.yAt
      rw [a0, a1, a2, a3, a4, a5, a6]
      exact (Cert.Kernel12Ideal.RefValue.final_dy m c).symm
    · rw [a0, a1]
      exact (Cert.Kernel12Ideal.RefValue.final_h m c).symm
    · rw [a0, a1, a2]
      exact (Cert.Kernel12Ideal.RefValue.final_a m c).symm
    · rw [a0, a1, a3]
      exact (Cert.Kernel12Ideal.RefValue.final_b m c).symm
    · rw [a0, a1, a2, a3]
      exact (Cert.Kernel12Ideal.RefValue.final_u m c).symm
    · unfold Cert.Reference12Ideal.RefValue.yAt
      rw [a0, a1, a2, a3, a4, a5, a6]
      exact (Cert.Kernel12Ideal.RefValue.final_loss m c).symm
    · unfold Cert.Reference12Ideal.RefValue.yAt
      rw [a0, a1, a2, a3, a4, a5, a6]
      exact (Cert.Kernel12Ideal.RefValue.final_dg m c).symm

end Cert.Proof

end
-- ==== Proof.FfnFwdSkel.lean ====
/-
The body of the SwiGLU forward kernel with its pure values named: each load, store and branch of the printed function, in order, over
named payloads, and the equation that says the printed function is this text.
-/
module

public import proofs.«01_k».proof.Proof.Gen.Kernel13Ideal

@[expose] public section

set_option synthInstance.maxSize 4096

noncomputable section

namespace Cert.Kernel13Ideal.Gen

open Idealize.ShloMosaic Idealize.SL.Sem

variable {F : FTy → Type} [FloatOps F]
/-! ## `cc0_ffn_fwd_1` -/

noncomputable def k0_pay1 (v57 : FVec F S512x1024 .f32) : FVec F S512x1024 .f32 :=
  have v60 : FVec F S512x1024 .f32 := shapeCast S512x1024 v57 shapeCasts_S512x1024_S512x1024
  v60

noncomputable def k0_pay2 (v64 : Vec F S1024x1024 .f32) (v65 : Vec F S1024x1024 .f32) : FVec F S1024x1024 .f32 :=
  have v66 : FVec F S1024x1024 .f32 := addf v64 v65
  v66

noncomputable def k0_pay3 (v64 : Vec F S1024x1024 .f32) (v75 : Vec F S1x1024 .f32) : FVec F S1024x1024 .bf16 :=
  have v65 : FVec F S1024x1024 .f32 := mulf v64 v64
  have v66 : FVec F S1024 .f32 := multiReduction .add [1] S1024 v65 0x00000000#32 reduces_S1024x1024_S1024 (.inl rfl) rfl
  have v67 : FVec F S1024x1 .f32 := shapeCast S1024x1 v66 shapeCasts_S1024_S1024x1
  have cst_52 : F .f32 := Scalar.ofBits .f32 0x44800000#32
  have v68 : FVec F S1024x1 .f32 := broadcast S1024x1 cst_52
  have v69 : FVec F S1024x1 .f32 := divf v67 v68
  have cst_53 : F .f32 := Scalar.ofBits .f32 0x358637BD#32
  have v70 : FVec F S1024x1 .f32 := broadcast S1024x1 cst_53
  have v71 : FVec F S1024x1 .f32 := addf v69 v70
  have v72 : FVec F S1024x1 .f32 := rsqrt v71
  have v73 : FVec F S1024x1024 .f32 := broadcastTo S1024x1024 v72 broadcasts_S1024x1_S1024x1024
  have v74 : FVec F S1024x1024 .f32 := mulf v64 v73
  have v76 : FVec F S1024x1024 .f32 := broadcastTo S1024x1024 v75 broadcasts_S1x1024_S1024x1024
  have v77 : FVec F S1024x1024 .f32 := mulf v74 v76
  have v78 : FVec F S1024x1024 .bf16 := truncf .bf16 v77 bitsLt_bf16_f32
  v78

noncomputable def k0_pay4 (v64 : Vec F S1024x1024 .f32) (v75 : Vec F S1x1024 .f32) : FVec F S1024x1024 .bf16 :=
  have v81 : FVec F S1024x1024 .bf16 := shapeCast S1024x1024 (k0_pay3 v64 v75) shapeCasts_S1024x1024_S1024x1024
  v81

noncomputable def k0_pay5 : FVec F S1024x1024 .f32 :=
  have cst_60 : F .f32 := Scalar.ofBits .f32 0x00000000#32
  have v83 : FVec F S1024x1024 .f32 := broadcast S1024x1024 cst_60
  have v86 : FVec F S1024x1024 .f32 := shapeCast S1024x1024 v83 shapeCasts_S1024x1024_S1024x1024
  v86

noncomputable def k0_pay6 (v3 : Vec F S512x1024 .bf16) (v4 : Vec F S256x1024 .bf16) : FVec F S512x256 .f32 :=
  have cst : FVec F S512x256 .f32 := constant S512x256 .f32 0x00000000#32
  have v5 : FVec F S512x256 .f32 := matmul dot_S512x1024_S256x1024_S512x256_1_1_0_0_n_n none v3 v4 cst
  v5

noncomputable def k0_pay7 (v3 : Vec F S512x1024 .bf16) (v6 : Vec F S256x1024 .bf16) : FVec F S512x256 .f32 :=
  have cst_6 : FVec F S512x256 .f32 := constant S512x256 .f32 0x00000000#32
  have v7 : FVec F S512x256 .f32 := matmul dot_S512x1024_S256x1024_S512x256_1_1_0_0_n_n none v3 v6 cst_6
  v7

noncomputable def k0_pay8 (v8 : Vec F S512x1024 .bf16) (v9 : Vec F S256x1024 .bf16) : FVec F S512x256 .f32 :=
  have cst_10 : FVec F S512x256 .f32 := constant S512x256 .f32 0x00000000#32
  have v10 : FVec F S512x256 .f32 := matmul dot_S512x1024_S256x1024_S512x256_1_1_0_0_n_n none v8 v9 cst_10
  v10

noncomputable def k0_pay9 (v8 : Vec F S512x1024 .bf16) (v11 : Vec F S256x1024 .bf16) : FVec F S512x256 .f32 :=
  have cst_13 : FVec F S512x256 .f32 := constant S512x256 .f32 0x00000000#32
  have v12 : FVec F S512x256 .f32 := matmul dot_S512x1024_S256x1024_S512x256_1_1_0_0_n_n none v8 v11 cst_13
  v12

noncomputable def k0_pay10 (v3 : Vec F S512x1024 .bf16) (v4 : Vec F S256x1024 .bf16) : FVec F S1x512x256 .bf16 :=
  have v13 : FVec F S512x256 .bf16 := truncf .bf16 (k0_pay6 v3 v4) bitsLt_bf16_f32
  have v16 : FVec F S1x512x256 .bf16 := shapeCast S1x512x256 v13 shapeCasts_S512x256_S1x512x256
  v16

noncomputable def k0_pay11 (v3 : Vec F S512x1024 .bf16) (v6 : Vec F S256x1024 .bf16) : FVec F S1x512x256 .bf16 :=
  have v17 : FVec F S512x256 .bf16 := truncf .bf16 (k0_pay7 v3 v6) bitsLt_bf16_f32
  have v20 : FVec F S1x512x256 .bf16 := shapeCast S1x512x256 v17 shapeCasts_S512x256_S1x512x256
  v20

noncomputable def k0_pay12 (v3 : Vec F S512x1024 .bf16) (v4 : Vec F S256x1024 .bf16) (v6 : Vec F S256x1024 .bf16) : FVec F S512x256 .bf16 :=
  have v21 : FVec F S512x256 .f32 := logistic (k0_pay6 v3 v4)
  have v22 : FVec F S512x256 .f32 := mulf (k0_pay6 v3 v4) v21
  have v23 : FVec F S512x256 .f32 := mulf v22 (k0_pay7 v3 v6)
  have cst_20 : F .f32 := Scalar.ofBits .f32 0x3F000000#32
  have v24 : FVec F S512x256 .f32 := broadcast S512x256 cst_20
  have v25 : FVec F S512x256 .f32 := mulf v24 v23
  have v26 : FVec F S512x256 .bf16 := truncf .bf16 v25 bitsLt_bf16_f32
  v26

noncomputable def k0_pay13 (v26 : FVec F S512x256 .bf16) : FVec F S1x512x256 .bf16 :=
  have v29 : FVec F S1x512x256 .bf16 := shapeCast S1x512x256 v26 shapeCasts_S512x256_S1x512x256
  v29

noncomputable def k0_pay14 (v10 : FVec F S512x256 .f32) : FVec F S1x512x256 .bf16 :=
  have v30 : FVec F S512x256 .bf16 := truncf .bf16 v10 bitsLt_bf16_f32
  have v33 : FVec F S1x512x256 .bf16 := shapeCast S1x512x256 v30 shapeCasts_S512x256_S1x512x256
  v33

noncomputable def k0_pay15 (v12 : FVec F S512x256 .f32) : FVec F S1x512x256 .bf16 :=
  have v34 : FVec F S512x256 .bf16 := truncf .bf16 v12 bitsLt_bf16_f32
  have v37 : FVec F S1x512x256 .bf16 := shapeCast S1x512x256 v34 shapeCasts_S512x256_S1x512x256
  v37

noncomputable def k0_pay16 (v10 : FVec F S512x256 .f32) (v12 : FVec F S512x256 .f32) : FVec F S512x256 .bf16 :=
  have v38 : FVec F S512x256 .f32 := logistic v10
  have v39 : FVec F S512x256 .f32 := mulf v10 v38
  have v40 : FVec F S512x256 .f32 := mulf v39 v12
  have cst_30 : F .f32 := Scalar.ofBits .f32 0x3F000000#32
  have v41 : FVec F S512x256 .f32 := broadcast S512x256 cst_30
  have v42 : FVec F S512x256 .f32 := mulf v41 v40
  have v43 : FVec F S512x256 .bf16 := truncf .bf16 v42 bitsLt_bf16_f32
  v43

noncomputable def k0_pay17 (v10 : FVec F S512x256 .f32) (v12 : FVec F S512x256 .f32) : FVec F S1x512x256 .bf16 :=
  have v46 : FVec F S1x512x256 .bf16 := shapeCast S1x512x256 (k0_pay16 v10 v12) shapeCasts_S512x256_S1x512x256
  v46

noncomputable def k0_pay18 (v26 : FVec F S512x256 .bf16) (v47 : Vec F S512x1024 .f32) (v48 : Vec F S256x1024 .bf16) : FVec F S512x1024 .f32 :=
  have cst_38 : FVec F S512x1024 .f32 := constant S512x1024 .f32 0x00000000#32
  have v49 : FVec F S512x1024 .f32 := matmul dot_S512x256_S256x1024_S512x1024_1_0_0_1_n_n none v26 v48 cst_38
  have v50 : FVec F S512x1024 .f32 := addf v47 v49
  have v53 : FVec F S512x1024 .f32 := shapeCast S512x1024 v50 shapeCasts_S512x1024_S512x1024
  v53

noncomputable def k0_pay19 (v10 : FVec F S512x256 .f32) (v12 : FVec F S512x256 .f32) (v54 : Vec F S512x1024 .f32) (v55 : Vec F S256x1024 .bf16) : FVec F S512x1024 .f32 :=
  have cst_45 : FVec F S512x1024 .f32 := constant S512x1024 .f32 0x00000000#32
  have v56 : FVec F S512x1024 .f32 := matmul dot_S512x256_S256x1024_S512x1024_1_0_0_1_n_n none (k0_pay16 v10 v12) v55 cst_45
  have v57 : FVec F S512x1024 .f32 := addf v54 v56
  v57

noncomputable def cc0_ffn_fwd_1_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) :
    Prog (TpuEff nD τ sig (Elt F) Λ₀ .tc) PUnit := do
  let ⟨arg1, v10, v12, v26⟩ : Σ' (arg1 : BitVec 32) (v10 : FVec F S512x256 .f32) (v12 : FVec F S512x256 .f32), FVec F S512x256 .bf16 ← k0_part1 i arg2 harg2 arg3 harg3 arg4 harg4 arg5 harg5 arg6 harg6 arg7 harg7 arg8 harg8 arg9 harg9 arg10 harg10 arg11 harg11 arg12 harg12 arg13 harg13
  let v57 : FVec F S512x1024 .f32 ← k0_part2 i arg2 harg2 arg3 harg3 arg4 harg4 arg5 harg5 arg6 harg6 arg7 harg7 arg8 harg8 arg9 harg9 arg10 harg10 arg11 harg11 arg12 harg12 arg13 harg13 v10 v12 v26
  let v58 : Vec F S512x1024 .f32 ← Prog.lift (.load arg12 (Rect.unit (s := S1024x1024) ![512, 0] S512x1024.size inb_S1024x1024_S512x1024_512_0).toLoadRect (View.loadsAt_vmem h_S512x1024))
  Prog.lift (.store arg12 (Rect.unit (s := S1024x1024) ![512, 0] S512x1024.size inb_S1024x1024_S512x1024_512_0) (k0_pay1 v57) Finset.univ (View.stores_vmem_bits_univ h_S512x1024 rfl) (.inl rfl))
  if k0_h2 : k0_cond2 i = 1#1 then do
    let v64 : Vec F S1024x1024 .f32 ← Prog.lift (.load arg2 (Rect.unit (s := S1024x1024) ![0, 0] S1024x1024.size inb_S1024x1024_S1024x1024_0_0).toLoadRect (View.loadsAt_vmem h_S1024x1024))
    let v65 : Vec F S1024x1024 .f32 ← Prog.lift (.load arg12 (Rect.unit (s := S1024x1024) ![0, 0] S1024x1024.size inb_S1024x1024_S1024x1024_0_0).toLoadRect (View.loadsAt_vmem h_S1024x1024))
    let v67 : Vec F S1024x1024 .f32 ← Prog.lift (.load arg7 (Rect.unit (s := S1024x1024) ![0, 0] S1024x1024.size inb_S1024x1024_S1024x1024_0_0).toLoadRect (View.loadsAt_vmem h_S1024x1024))
    Prog.lift (.store arg7 (Rect.unit (s := S1024x1024) ![0, 0] S1024x1024.size inb_S1024x1024_S1024x1024_0_0) (k0_pay2 v64 v65) Finset.univ (View.stores_vmem_bits_univ h_S1024x1024 rfl) (.inl rfl))
    pure ⟨⟩
  else do
    pure ⟨⟩
  pure ⟨⟩

set_option maxRecDepth 65536 in
/-- The printed `cc0_ffn_fwd_1` is its skeleton: by definitional unfolding. -/
theorem cc0_ffn_fwd_1_eq_skeleton : cc0_ffn_fwd_1 (F := F) = cc0_ffn_fwd_1_skel (F := F) := rfl

noncomputable def k0_part1_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) :
    Prog (TpuEff nD τ sig (Elt F) Λ₀ .tc) (Σ' (arg1 : BitVec 32) (v10 : FVec F S512x256 .f32) (v12 : FVec F S512x256 .f32), FVec F S512x256 .bf16) := do
  let arg1 : BitVec 32 := BitVec.ofNat 32 (i 1).val
  if k0_h1 : k0_cond1 i = 1#1 then do
    let v64 : Vec F S1024x1024 .f32 ← Prog.lift (.load arg2 (Rect.unit (s := S1024x1024) ![0, 0] S1024x1024.size inb_S1024x1024_S1024x1024_0_0).toLoadRect (View.loadsAt_vmem h_S1024x1024))
    let v75 : Vec F S1x1024 .f32 ← Prog.lift (.load arg3 (Rect.unit (s := S1x1024) ![0, 0] S1x1024.size inb_S1x1024_S1x1024_0_0).toLoadRect (View.loadsAt_vmem h_S1x1024))
    let v79 : Vec F S1024x1024 .bf16 ← Prog.lift (.load arg13 (Rect.unit (s := S1024x1024) ![0, 0] S1024x1024.size inb_S1024x1024_S1024x1024_0_0).toLoadRect (View.loadsAt_vmem h_S1024x1024))
    Prog.lift (.store arg13 (Rect.unit (s := S1024x1024) ![0, 0] S1024x1024.size inb_S1024x1024_S1024x1024_0_0) (k0_pay4 v64 v75) Finset.univ (View.stores_vmem h_S1024x1024 (harg13.storeExact_slice rfl _ packedbf16_S1024x1024_S1024x1024_0_0) (fun _ => rfl)) (.inl rfl))
    let v82 : Vec F S1024x1024 .bf16 ← Prog.lift (.load arg8 (Rect.unit (s := S1024x1024) ![0, 0] S1024x1024.size inb_S1024x1024_S1024x1024_0_0).toLoadRect (View.loadsAt_vmem h_S1024x1024))
    Prog.lift (.store arg8 (Rect.unit (s := S1024x1024) ![0, 0] S1024x1024.size inb_S1024x1024_S1024x1024_0_0) (k0_pay3 v64 v75) Finset.univ (View.stores_vmem h_S1024x1024 (harg8.storeExact_slice rfl _ packedbf16_S1024x1024_S1024x1024_0_0) (fun _ => rfl)) (.inl rfl))
    let v84 : Vec F S1024x1024 .f32 ← Prog.lift (.load arg12 (Rect.unit (s := S1024x1024) ![0, 0] S1024x1024.size inb_S1024x1024_S1024x1024_0_0).toLoadRect (View.loadsAt_vmem h_S1024x1024))
    Prog.lift (.store arg12 (Rect.unit (s := S1024x1024) ![0, 0] S1024x1024.size inb_S1024x1024_S1024x1024_0_0) (k0_pay5 (F := F)) Finset.univ (View.stores_vmem_bits_univ h_S1024x1024 rfl) (.inl rfl))
    pure ⟨⟩
  else do
    pure ⟨⟩
  let v3 : Vec F S512x1024 .bf16 ← Prog.lift (.load arg13 (Rect.unit (s := S1024x1024) ![0, 0] S512x1024.size inb_S1024x1024_S512x1024_0_0).toLoadRect (View.loadsAt_vmem h_S512x1024))
  let v4 : Vec F S256x1024 .bf16 ← Prog.lift (.load arg4 (Rect.unit (s := S256x1024) ![0, 0] S256x1024.size inb_S256x1024_S256x1024_0_0).toLoadRect (View.loadsAt_vmem h_S256x1024))
  let v6 : Vec F S256x1024 .bf16 ← Prog.lift (.load arg5 (Rect.unit (s := S256x1024) ![0, 0] S256x1024.size inb_S256x1024_S256x1024_0_0).toLoadRect (View.loadsAt_vmem h_S256x1024))
  let v8 : Vec F S512x1024 .bf16 ← Prog.lift (.load arg13 (Rect.unit (s := S1024x1024) ![512, 0] S512x1024.size inb_S1024x1024_S512x1024_512_0).toLoadRect (View.loadsAt_vmem h_S512x1024))
  let v9 : Vec F S256x1024 .bf16 ← Prog.lift (.load arg4 (Rect.unit (s := S256x1024) ![0, 0] S256x1024.size inb_S256x1024_S256x1024_0_0).toLoadRect (View.loadsAt_vmem h_S256x1024))
  let v11 : Vec F S256x1024 .bf16 ← Prog.lift (.load arg5 (Rect.unit (s := S256x1024) ![0, 0] S256x1024.size inb_S256x1024_S256x1024_0_0).toLoadRect (View.loadsAt_vmem h_S256x1024))
  let v14 : Vec F S1x512x256 .bf16 ← Prog.lift (.load arg9 (Rect.unit (s := S1x1024x256) ![0, 0, 0] S1x512x256.size inb_S1x1024x256_S1x512x256_0_0_0).toLoadRect (View.loadsAt_vmem h_S1x512x256))
  Prog.lift (.store arg9 (Rect.unit (s := S1x1024x256) ![0, 0, 0] S1x512x256.size inb_S1x1024x256_S1x512x256_0_0_0) (k0_pay10 v3 v4) Finset.univ (View.stores_vmem h_S1x512x256 (harg9.storeExact_slice rfl _ packedbf16_S1x1024x256_S1x512x256_0_0_0) (fun _ => rfl)) (.inl rfl))
  let v18 : Vec F S1x512x256 .bf16 ← Prog.lift (.load arg10 (Rect.unit (s := S1x1024x256) ![0, 0, 0] S1x512x256.size inb_S1x1024x256_S1x512x256_0_0_0).toLoadRect (View.loadsAt_vmem h_S1x512x256))
  Prog.lift (.store arg10 (Rect.unit (s := S1x1024x256) ![0, 0, 0] S1x512x256.size inb_S1x1024x256_S1x512x256_0_0_0) (k0_pay11 v3 v6) Finset.univ (View.stores_vmem h_S1x512x256 (harg10.storeExact_slice rfl _ packedbf16_S1x1024x256_S1x512x256_0_0_0) (fun _ => rfl)) (.inl rfl))
  pure ⟨arg1, k0_pay8 v8 v9, k0_pay9 v8 v11, k0_pay12 v3 v4 v6⟩

set_option maxRecDepth 65536 in
/-- The printed `k0_part1` is its skeleton: by definitional unfolding. -/
theorem k0_part1_eq_skeleton : k0_part1 (F := F) = k0_part1_skel (F := F) := rfl

noncomputable def k0_part2_skel (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) (v10 : FVec F S512x256 .f32) (v12 : FVec F S512x256 .f32) (v26 : FVec F S512x256 .bf16) :
    Prog (TpuEff nD τ sig (Elt F) Λ₀ .tc) (FVec F S512x1024 .f32) := do
  let v27 : Vec F S1x512x256 .bf16 ← Prog.lift (.load arg11 (Rect.unit (s := S1x1024x256) ![0, 0, 0] S1x512x256.size inb_S1x1024x256_S1x512x256_0_0_0).toLoadRect (View.loadsAt_vmem h_S1x512x256))
  Prog.lift (.store arg11 (Rect.unit (s := S1x1024x256) ![0, 0, 0] S1x512x256.size inb_S1x1024x256_S1x512x256_0_0_0) (k0_pay13 v26) Finset.univ (View.stores_vmem h_S1x512x256 (harg11.storeExact_slice rfl _ packedbf16_S1x1024x256_S1x512x256_0_0_0) (fun _ => rfl)) (.inl rfl))
  let v31 : Vec F S1x512x256 .bf16 ← Prog.lift (.load arg9 (Rect.unit (s := S1x1024x256) ![0, 512, 0] S1x512x256.size inb_S1x1024x256_S1x512x256_0_512_0).toLoadRect (View.loadsAt_vmem h_S1x512x256))
  Prog.lift (.store arg9 (Rect.unit (s := S1x1024x256) ![0, 512, 0] S1x512x256.size inb_S1x1024x256_S1x512x256_0_512_0) (k0_pay14 v10) Finset.univ (View.stores_vmem h_S1x512x256 (harg9.storeExact_slice rfl _ packedbf16_S1x1024x256_S1x512x256_0_512_0) (fun _ => rfl)) (.inl rfl))
  let v35 : Vec F S1x512x256 .bf16 ← Prog.lift (.load arg10 (Rect.unit (s := S1x1024x256) ![0, 512, 0] S1x512x256.size inb_S1x1024x256_S1x512x256_0_512_0).toLoadRect (View.loadsAt_vmem h_S1x512x256))
  Prog.lift (.store arg10 (Rect.unit (s := S1x1024x256) ![0, 512, 0] S1x512x256.size inb_S1x1024x256_S1x512x256_0_512_0) (k0_pay15 v12) Finset.univ (View.stores_vmem h_S1x512x256 (harg10.storeExact_slice rfl _ packedbf16_S1x1024x256_S1x512x256_0_512_0) (fun _ => rfl)) (.inl rfl))
  let v44 : Vec F S1x512x256 .bf16 ← Prog.lift (.load arg11 (Rect.unit (s := S1x1024x256) ![0, 512, 0] S1x512x256.size inb_S1x1024x256_S1x512x256_0_512_0).toLoadRect (View.loadsAt_vmem h_S1x512x256))
  Prog.lift (.store arg11 (Rect.unit (s := S1x1024x256) ![0, 512, 0] S1x512x256.size inb_S1x1024x256_S1x512x256_0_512_0) (k0_pay17 v10 v12) Finset.univ (View.stores_vmem h_S1x512x256 (harg11.storeExact_slice rfl _ packedbf16_S1x1024x256_S1x512x256_0_512_0) (fun _ => rfl)) (.inl rfl))
  let v47 : Vec F S512x1024 .f32 ← Prog.lift (.load arg12 (Rect.unit (s := S1024x1024) ![0, 0] S512x1024.size inb_S1024x1024_S512x1024_0_0).toLoadRect (View.loadsAt_vmem h_S512x1024))
  let v48 : Vec F S256x1024 .bf16 ← Prog.lift (.load arg6 (Rect.unit (s := S256x1024) ![0, 0] S256x1024.size inb_S256x1024_S256x1024_0_0).toLoadRect (View.loadsAt_vmem h_S256x1024))
  let v51 : Vec F S512x1024 .f32 ← Prog.lift (.load arg12 (Rect.unit (s := S1024x1024) ![0, 0] S512x1024.size inb_S1024x1024_S512x1024_0_0).toLoadRect (View.loadsAt_vmem h_S512x1024))
  Prog.lift (.store arg12 (Rect.unit (s := S1024x1024) ![0, 0] S512x1024.size inb_S1024x1024_S512x1024_0_0) (k0_pay18 v26 v47 v48) Finset.univ (View.stores_vmem_bits_univ h_S512x1024 rfl) (.inl rfl))
  let v54 : Vec F S512x1024 .f32 ← Prog.lift (.load arg12 (Rect.unit (s := S1024x1024) ![512, 0] S512x1024.size inb_S1024x1024_S512x1024_512_0).toLoadRect (View.loadsAt_vmem h_S512x1024))
  let v55 : Vec F S256x1024 .bf16 ← Prog.lift (.load arg6 (Rect.unit (s := S256x1024) ![0, 0] S256x1024.size inb_S256x1024_S256x1024_0_0).toLoadRect (View.loadsAt_vmem h_S256x1024))
  pure (k0_pay19 v10 v12 v54 v55)

set_option maxRecDepth 65536 in
/-- The printed `k0_part2` is its skeleton: by definitional unfolding. -/
theorem k0_part2_eq_skeleton : k0_part2 (F := F) = k0_part2_skel (F := F) := rfl

end Cert.Kernel13Ideal.Gen

end
-- ==== Proof.FfnFwdPoints.lean ====
/-
What the frame of the SwiGLU forward kernel needs to know about its 88 grid points (8 row tiles by 11 feature tiles): which branches
are taken where, which output windows are stored into where, and where they are written back.
-/
module

public import proofs.«01_k».proof.Proof.FfnFwdSkel
public import proofs.«01_k».proof.Proof.Gen.Kernel13Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `pl.when` 1. -/
abbrev cond0_0 (i : grid0.Coords) : Prop := k0_cond1 i = 1#1
theorem hcond0_0 : ∀ t : Fin cfg0.N, cond0_0 (grid0.coords t) ↔ t.val % 11 = 0 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-- The condition of the body's `pl.when` 2. -/
abbrev cond0_1 (i : grid0.Coords) : Prop := k0_cond2 i = 1#1
theorem hcond0_1 : ∀ t : Fin cfg0.N, cond0_1 (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-! ## The three kinds of points -/

/-- Which branches are taken at the first feature tile of a row tile. -/
theorem caseA (t : Fin cfg0.N) (h0 : t.val % 11 = 0) :
    cond0_0 (grid0.coords t) ∧ ¬cond0_1 (grid0.coords t) :=
  ⟨(hcond0_0 t).mpr (by omega), fun h => by have := (hcond0_1 t).mp h; omega⟩

/-- Which branches are taken at an inner point. -/
theorem caseB (t : Fin cfg0.N) (h0 : ¬t.val % 11 = 0) (h2 : ¬t.val % 11 = 10) :
    ¬cond0_0 (grid0.coords t) ∧ ¬cond0_1 (grid0.coords t) :=
  ⟨fun h => by have := (hcond0_0 t).mp h; omega, fun h => by have := (hcond0_1 t).mp h; omega⟩

/-- Which branches are taken at the last feature tile of a row tile. -/
theorem caseC (t : Fin cfg0.N) (h2 : t.val % 11 = 10) :
    ¬cond0_0 (grid0.coords t) ∧ cond0_1 (grid0.coords t) :=
  ⟨fun h => by have := (hcond0_0 t).mp h; omega, (hcond0_1 t).mpr (by omega)⟩

/-! ## Where the output windows are stored into, and where they are written back -/

theorem idle_5_A : ∀ t : Fin cfg0.N, t.val % 11 = 0 → cfg0.idle 5 (grid0.coords t) = true := by decide +kernel
theorem kept_5_A : ∀ t : Fin cfg0.N, t.val % 11 = 0 → (cfg0.win 5).flush t = false := by decide +kernel
theorem idle_5_B : ∀ t : Fin cfg0.N, ¬t.val % 11 = 0 → ¬t.val % 11 = 10 → cfg0.idle 5 (grid0.coords t) = true := by decide +kernel
theorem kept_5_B : ∀ t : Fin cfg0.N, ¬t.val % 11 = 0 → ¬t.val % 11 = 10 → (cfg0.win 5).flush t = false := by decide +kernel
theorem live_5_C : ∀ t : Fin cfg0.N, t.val % 11 = 10 → cfg0.idle 5 (grid0.coords t) = false := by decide +kernel
theorem live_6_A : ∀ t : Fin cfg0.N, t.val % 11 = 0 → cfg0.idle 6 (grid0.coords t) = false := by decide +kernel
theorem idle_6_B : ∀ t : Fin cfg0.N, ¬t.val % 11 = 0 → ¬t.val % 11 = 10 → cfg0.idle 6 (grid0.coords t) = true := by decide +kernel
theorem kept_6_B : ∀ t : Fin cfg0.N, ¬t.val % 11 = 0 → ¬t.val % 11 = 10 → (cfg0.win 6).flush t = false := by decide +kernel
theorem idle_6_C : ∀ t : Fin cfg0.N, t.val % 11 = 10 → cfg0.idle 6 (grid0.coords t) = true := by decide +kernel
theorem back_6_C : ∀ t : Fin cfg0.N, t.val % 11 = 10 → (cfg0.win 6).flush t = true := by decide +kernel
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl

/-- Output 6's buffer holds nothing of the body's at the position: a table, checked against the configuration point by point. -/
def freshTab_6 : ℕ → Bool
  | 0 => true
  | n + 1 => (0x8010020040080100200400 : ℕ).testBit n
theorem freshTab_6_step : ∀ t : Fin cfg0.N,
    freshTab_6 (t.val + 1) = ((cfg0.win 6).flush t || (cfg0.idle 6 (cfg0.grid.coords t) && freshTab_6 t.val)) := by decide +kernel
theorem fresh_6_eq (t : Fin cfg0.N) : cfg0.fresh 6 t.val = freshTab_6 t.val :=
  Pipeline.Cfg.fresh_tab cfg0 6 freshTab_6 rfl freshTab_6_step t.val (Nat.le_of_lt t.isLt)
theorem notFresh_6_C : ∀ t : Fin cfg0.N, t.val % 11 = 10 → cfg0.fresh 6 t.val = false := by
  intro t; rw [fresh_6_eq t]; revert t; decide +kernel

/-! ## The staging buffers and the scratch -/

abbrev VO0_5 : View sig .tc .vmem S1024x1024 .f32 := (Memref.whole cc0_stg5_0 : Memref sig .tc .vmem S1024x1024 .f32).view
abbrev VO0_6 : View sig .tc .vmem S1024x1024 .bf16 := (Memref.whole cc0_stg6_0 : Memref sig .tc .vmem S1024x1024 .bf16).view
abbrev VO0_7 : View sig .tc .vmem S1x1024x256 .bf16 := (Memref.whole cc0_stg7_0 : Memref sig .tc .vmem S1x1024x256 .bf16).view
abbrev VO0_8 : View sig .tc .vmem S1x1024x256 .bf16 := (Memref.whole cc0_stg8_0 : Memref sig .tc .vmem S1x1024x256 .bf16).view
abbrev VO0_9 : View sig .tc .vmem S1x1024x256 .bf16 := (Memref.whole cc0_stg9_0 : Memref sig .tc .vmem S1x1024x256 .bf16).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x256 .bf16 := win0_9.stage (cfg0.slots t 9)
abbrev hs0_9 (t : Fin cfg0.N) : (ms0_9 t).IsWhole := hstage0_9 ((cfg0.slots t 9).cast nbuf0_9)
abbrev scM0_0 : Memref sig .tc .vmem S1024x1024 .f32 := Memref.whole cc0_scratch0
abbrev scM0_1 : Memref sig .tc .vmem S1024x1024 .bf16 := Memref.whole cc0_scratch1
abbrev VS0_0 : View sig .tc .vmem S1024x1024 .f32 := scM0_0.view
abbrev VS0_1 : View sig .tc .vmem S1024x1024 .bf16 := scM0_1.view

/-- The invariant a launch starts from, with the scratch buffers as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel13Ideal.Gen

end
-- ==== Proof.FfnFwdRunA.lean ====
/-
The body of the SwiGLU forward kernel at the first feature tile of a row tile, run once over any staging buffers: the pieces its stores leave in every output and
scratch buffer, together with the proof that the body runs and leaves them.
-/
module

public import proofs.«01_k».proof.Proof.FfnFwdPoints

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S1x1024 .f32) (x2 : Vec F S256x1024 .bf16) (x3 : Vec F S256x1024 .bf16) (x4 : Vec F S256x1024 .bf16) :
    Σ' (L5 : List (View.Piece (Elt F) S1024x1024 .f32)), Σ' (L6 : List (View.Piece (Elt F) S1024x1024 .bf16)), Σ' (L7 : List (View.Piece (Elt F) S1x1024x256 .bf16)), Σ' (L8 : List (View.Piece (Elt F) S1x1024x256 .bf16)), Σ' (L9 : List (View.Piece (Elt F) S1x1024x256 .bf16)), Σ' (LS0 : List (View.Piece (Elt F) S1024x1024 .f32)), { LS1 : List (View.Piece (Elt F) S1024x1024 .bf16) //
      ∀ (xi5 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi5 E K => ?run⟩
  case run =>
    simp only [cc0_ffn_fwd_1_eq_skeleton]; unfold cc0_ffn_fwd_1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    iexists _; iexact HS1

end Cert.Kernel13Ideal.Gen

end
-- ==== Proof.FfnFwdRunB.lean ====
/-
The body of the SwiGLU forward kernel at an inner point, run once over any staging buffers: the pieces its stores leave in every output and
scratch buffer, together with the proof that the body runs and leaves them.
-/
module

public import proofs.«01_k».proof.Proof.FfnFwdRunA

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S1x1024 .f32) (x2 : Vec F S256x1024 .bf16) (x3 : Vec F S256x1024 .bf16) (x4 : Vec F S256x1024 .bf16) (xs0 : Vec F S1024x1024 .f32) (xs1 : Vec F S1024x1024 .bf16) :
    Σ' (L5 : List (View.Piece (Elt F) S1024x1024 .f32)), Σ' (L6 : List (View.Piece (Elt F) S1024x1024 .bf16)), Σ' (L7 : List (View.Piece (Elt F) S1x1024x256 .bf16)), Σ' (L8 : List (View.Piece (Elt F) S1x1024x256 .bf16)), Σ' (L9 : List (View.Piece (Elt F) S1x1024x256 .bf16)), Σ' (LS0 : List (View.Piece (Elt F) S1024x1024 .f32)), { LS1 : List (View.Piece (Elt F) S1024x1024 .bf16) //
      ∀ (xi5 : Vec F S1024x1024 .f32) (xi6 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, [], fun xi5 xi6 E K => ?run⟩
  case run =>
    simp only [cc0_ffn_fwd_1_eq_skeleton]; unfold cc0_ffn_fwd_1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    iexists _; isplitr; · ipureintro; exact harg13.read_unread _
    iexact HS1

end Cert.Kernel13Ideal.Gen

end
-- ==== Proof.FfnFwdRunC.lean ====
/-
The body of the SwiGLU forward kernel at the last feature tile of a row tile, run once over any staging buffers: the pieces its stores leave in every output and
scratch buffer, together with the proof that the body runs and leaves them.
-/
module

public import proofs.«01_k».proof.Proof.FfnFwdRunB

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run: the pieces stored, and the body's triple. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1024x1024 .f32) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S1x1024 .f32) (x2 : Vec F S256x1024 .bf16) (x3 : Vec F S256x1024 .bf16) (x4 : Vec F S256x1024 .bf16) (xo6 : Vec F S1024x1024 .bf16) (xs0 : Vec F S1024x1024 .f32) (xs1 : Vec F S1024x1024 .bf16) :
    Σ' (L5 : List (View.Piece (Elt F) S1024x1024 .f32)), Σ' (L6 : List (View.Piece (Elt F) S1024x1024 .bf16)), Σ' (L7 : List (View.Piece (Elt F) S1x1024x256 .bf16)), Σ' (L8 : List (View.Piece (Elt F) S1x1024x256 .bf16)), Σ' (L9 : List (View.Piece (Elt F) S1x1024x256 .bf16)), Σ' (LS0 : List (View.Piece (Elt F) S1024x1024 .f32)), { LS1 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0_ffn_fwd_1 i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, ?_, [], fun E K => ?run⟩
  case run =>
    simp only [cc0_ffn_fwd_1_eq_skeleton]; unfold cc0_ffn_fwd_1_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg12.eq_unread hfs0; obtain rfl := harg13.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    iexists _; isplitr; · ipureintro; exact harg13.read_unread _
    iexact HS1

end Cert.Kernel13Ideal.Gen

end
-- ==== Proof.FfnFwdHeld.lean ====
/-
What the SwiGLU forward kernel leaves in its output and scratch buffers after every grid point, read off the three runs, and the proof data of
its pipeline.
-/
module

public import proofs.«01_k».proof.Proof.FfnFwdRunC
public import Idealize.ShloMosaic.Lib.Claim

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output buffers and then the scratch buffers hold after a point. -/
abbrev Held (F : FTy → Type) : Type := Vec F S1024x1024 .f32 × Vec F S1024x1024 .bf16 × Vec F S1x1024x256 .bf16 × Vec F S1x1024x256 .bf16 × Vec F S1x1024x256 .bf16 × Vec F S1024x1024 .f32 × Vec F S1024x1024 .bf16

/-- The run at the first feature tile of a row tile. -/
abbrev run0_A (c : Dev nD) (t : Fin cfg0.N) (h0 : t.val % 11 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseA t h0).1 (caseA t h0).2 (iblk m c 0 t) (iblk m c 1 t) (iblk m c 2 t) (iblk m c 3 t) (iblk m c 4 t)

def out0_A_6 (c : Dev nD) (t : Fin cfg0.N) (h0 : t.val % 11 = 0) : Vec F S1024x1024 .bf16 :=
  VO0_6.read (Elt F) (VO0_6.writes (Elt F) VO0_6.junk (run0_A m c t h0).2.1)
def out0_A_7 (c : Dev nD) (t : Fin cfg0.N) (h0 : t.val % 11 = 0) : Vec F S1x1024x256 .bf16 :=
  VO0_7.read (Elt F) (VO0_7.writes (Elt F) VO0_7.junk (run0_A m c t h0).2.2.1)
def out0_A_8 (c : Dev nD) (t : Fin cfg0.N) (h0 : t.val % 11 = 0) : Vec F S1x1024x256 .bf16 :=
  VO0_8.read (Elt F) (VO0_8.writes (Elt F) VO0_8.junk (run0_A m c t h0).2.2.2.1)
def out0_A_9 (c : Dev nD) (t : Fin cfg0.N) (h0 : t.val % 11 = 0) : Vec F S1x1024x256 .bf16 :=
  VO0_9.read (Elt F) (VO0_9.writes (Elt F) VO0_9.junk (run0_A m c t h0).2.2.2.2.1)
def sout0_A_0 (c : Dev nD) (t : Fin cfg0.N) (h0 : t.val % 11 = 0) : Vec F S1024x1024 .f32 :=
  VS0_0.read (Elt F) (VS0_0.writes (Elt F) VS0_0.junk (run0_A m c t h0).2.2.2.2.2.1)
def sout0_A_1 (c : Dev nD) (t : Fin cfg0.N) (h0 : t.val % 11 = 0) : Vec F S1024x1024 .bf16 :=
  VS0_1.read (Elt F) (VS0_1.writes (Elt F) VS0_1.junk (run0_A m c t h0).2.2.2.2.2.2.1)

/-- What the buffers hold after the first feature tile of a row tile. -/
def heldA (c : Dev nD) (t : Fin cfg0.N) (h0 : t.val % 11 = 0) : Held F :=
  (VO0_5.read (Elt F) (VO0_5.writes (Elt F) VO0_5.junk []), out0_A_6 m c t h0, out0_A_7 m c t h0, out0_A_8 m c t h0, out0_A_9 m c t h0, sout0_A_0 m c t h0, sout0_A_1 m c t h0)

/-- The run at an inner point. -/
abbrev run0_B (c : Dev nD) (t : Fin cfg0.N) (h0 : ¬t.val % 11 = 0) (h2 : ¬t.val % 11 = 10) (p : Held F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseB t h0 h2).1 (caseB t h0 h2).2 (iblk m c 0 t) (iblk m c 1 t) (iblk m c 2 t) (iblk m c 3 t) (iblk m c 4 t) p.2.2.2.2.2.1 p.2.2.2.2.2.2

def out0_B_7 (c : Dev nD) (t : Fin cfg0.N) (h0 : ¬t.val % 11 = 0) (h2 : ¬t.val % 11 = 10) (p : Held F) : Vec F S1x1024x256 .bf16 :=
  VO0_7.read (Elt F) (VO0_7.writes (Elt F) VO0_7.junk (run0_B m c t h0 h2 p).2.2.1)
def out0_B_8 (c : Dev nD) (t : Fin cfg0.N) (h0 : ¬t.val % 11 = 0) (h2 : ¬t.val % 11 = 10) (p : Held F) : Vec F S1x1024x256 .bf16 :=
  VO0_8.read (Elt F) (VO0_8.writes (Elt F) VO0_8.junk (run0_B m c t h0 h2 p).2.2.2.1)
def out0_B_9 (c : Dev nD) (t : Fin cfg0.N) (h0 : ¬t.val % 11 = 0) (h2 : ¬t.val % 11 = 10) (p : Held F) : Vec F S1x1024x256 .bf16 :=
  VO0_9.read (Elt F) (VO0_9.writes (Elt F) VO0_9.junk (run0_B m c t h0 h2 p).2.2.2.2.1)
def sout0_B_0 (c : Dev nD) (t : Fin cfg0.N) (h0 : ¬t.val % 11 = 0) (h2 : ¬t.val % 11 = 10) (p : Held F) : Vec F S1024x1024 .f32 :=
  VS0_0.read (Elt F) (VS0_0.writes (Elt F) VS0_0.junk (run0_B m c t h0 h2 p).2.2.2.2.2.1)

/-- What the buffers hold after an inner point, if before it they held `p`. -/
def heldB (c : Dev nD) (t : Fin cfg0.N) (h0 : ¬t.val % 11 = 0) (h2 : ¬t.val % 11 = 10) (p : Held F) : Held F :=
  (p.1, p.2.1, out0_B_7 m c t h0 h2 p, out0_B_8 m c t h0 h2 p, out0_B_9 m c t h0 h2 p, sout0_B_0 m c t h0 h2 p, p.2.2.2.2.2.2)

/-- The run at the last feature tile of a row tile. -/
abbrev run0_C (c : Dev nD) (t : Fin cfg0.N) (h2 : t.val % 11 = 10) (p : Held F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseC t h2).1 (caseC t h2).2 (iblk m c 0 t) (iblk m c 1 t) (iblk m c 2 t) (iblk m c 3 t) (iblk m c 4 t) p.2.1 p.2.2.2.2.2.1 p.2.2.2.2.2.2

def out0_C_5 (c : Dev nD) (t : Fin cfg0.N) (h2 : t.val % 11 = 10) (p : Held F) : Vec F S1024x1024 .f32 :=
  VO0_5.read (Elt F) (VO0_5.writes (Elt F) VO0_5.junk (run0_C m c t h2 p).1)
def out0_C_7 (c : Dev nD) (t : Fin cfg0.N) (h2 : t.val % 11 = 10) (p : Held F) : Vec F S1x1024x256 .bf16 :=
  VO0_7.read (Elt F) (VO0_7.writes (Elt F) VO0_7.junk (run0_C m c t h2 p).2.2.1)
def out0_C_8 (c : Dev nD) (t : Fin cfg0.N) (h2 : t.val % 11 = 10) (p : Held F) : Vec F S1x1024x256 .bf16 :=
  VO0_8.read (Elt F) (VO0_8.writes (Elt F) VO0_8.junk (run0_C m c t h2 p).2.2.2.1)
def out0_C_9 (c : Dev nD) (t : Fin cfg0.N) (h2 : t.val % 11 = 10) (p : Held F) : Vec F S1x1024x256 .bf16 :=
  VO0_9.read (Elt F) (VO0_9.writes (Elt F) VO0_9.junk (run0_C m c t h2 p).2.2.2.2.1)
def sout0_C_0 (c : Dev nD) (t : Fin cfg0.N) (h2 : t.val % 11 = 10) (p : Held F) : Vec F S1024x1024 .f32 :=
  VS0_0.read (Elt F) (VS0_0.writes (Elt F) VS0_0.junk (run0_C m c t h2 p).2.2.2.2.2.1)

/-- What the buffers hold after the last feature tile of a row tile, if before it they held `p`. -/
def heldC (c : Dev nD) (t : Fin cfg0.N) (h2 : t.val % 11 = 10) (p : Held F) : Held F :=
  (out0_C_5 m c t h2 p, p.2.1, out0_C_7 m c t h2 p, out0_C_8 m c t h2 p, out0_C_9 m c t h2 p, sout0_C_0 m c t h2 p, p.2.2.2.2.2.2)

/-- What the buffers hold after point `t`, if before it they held `p`. -/
def heldStep (c : Dev nD) (t : Fin cfg0.N) (p : Held F) : Held F :=
  if h0 : t.val % 11 = 0 then heldA m c t h0
  else if h2 : t.val % 11 = 10 then heldC m c t h2 p
  else heldB m c t h0 h2 p

/-- What the buffers hold after each point. -/
def outsAt0 (c : Dev nD) : (n : ℕ) → n < cfg0.N → Held F
  | 0, hn => heldA m c ⟨0, hn⟩ (Nat.zero_mod _)
  | n + 1, hn => heldStep m c ⟨n + 1, hn⟩ (outsAt0 c n (Nat.lt_of_succ_lt hn))

/-- What the buffers hold before point `t` (not the first). -/
abbrev prior (c : Dev nD) (t : Fin cfg0.N) : Held F := outsAt0 m c (t.val - 1) (Nat.lt_of_le_of_lt (Nat.sub_le _ _) t.isLt)

theorem outsAt0_A (c : Dev nD) (t : Fin cfg0.N) (h0 : t.val % 11 = 0) : outsAt0 m c t.val t.isLt = heldA m c t h0 := by
  obtain ⟨n, hn⟩ := t
  cases n with
  | zero => rfl
  | succ n => exact dif_pos h0

theorem outsAt0_B (c : Dev nD) (t : Fin cfg0.N) (h0 : ¬t.val % 11 = 0) (h2 : ¬t.val % 11 = 10) :
    outsAt0 m c t.val t.isLt = heldB m c t h0 h2 (prior m c t) := by
  obtain ⟨n, hn⟩ := t
  cases n with
  | zero => exact absurd (Nat.zero_mod _) h0
  | succ n => exact (dif_neg h0).trans (dif_neg h2)

theorem outsAt0_C (c : Dev nD) (t : Fin cfg0.N) (h2 : t.val % 11 = 10) :
    outsAt0 m c t.val t.isLt = heldC m c t h2 (prior m c t) := by
  obtain ⟨n, hn⟩ := t
  cases n with
  | zero => exact absurd h2 (by simp)
  | succ n => exact (dif_neg (fun h => by simp only at h h2; omega)).trans (dif_pos h2)

/-- The invariant before position `n`: at first every scratch buffer at anything, later at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-- The proof data of the pipeline: what every window's buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## What the body leaves in each window's buffer, and what it finds there -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 6's contents are carried through the points that store nothing into it. -/
theorem hcarry_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  rw [after0_6, after0_6]
  by_cases h0 : t.val % 11 = 0
  · exact absurd ((live_6_A t h0).symm.trans hi) Bool.false_ne_true
  by_cases h2 : t.val % 11 = 10
  · rw [outsAt0_C m c t h2]; dsimp only [heldC, prior]
  · rw [outsAt0_B m c t h0 h2]; dsimp only [heldB, prior]

/-- At the last feature tile output 6's buffer holds what the point before left. -/
theorem before0_6_C (c : Dev nD) (t : Fin cfg0.N) (h2 : t.val % 11 = 10) (d) :
    (dats m 0 c).before 6 t d = (prior m c t).2.1 := by
  rw [Dat.before_out_traj _ 6 rfl (fun _ _ => rfl) (hcarry_6 m c) t.val t rfl d, if_neg (by rw [notFresh_6_C t h2]; exact Bool.false_ne_true)]
  dsimp only [dats]

end Cert.Kernel13Ideal.Gen

end
-- ==== Proof.FfnFwdBody.lean ====
/-
What the body of the SwiGLU forward kernel is called with and what it returns, window by window.
-/
module

public import proofs.«01_k».proof.Proof.FfnFwdHeld

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant with what the scratch buffers hold forgotten. -/
theorem Phi_any (c : Dev nD) (t : Fin cfg0.N) : (dats m 0 c).Φ t.castSucc ⊢ Pipeline.ΦA spec0 c := by
  rw [PhiS_castSucc m c t]
  by_cases hz : t.val = 0
  · rw [PhiS_zero m c _ _ hz]
  rw [PhiS_pos m c _ _ hz, PhiA0_eq]
  iintro ⟨⟨HS0, HS1⟩, Hg⟩
  isplitl [HS0 HS1]
  · isplitl [HS0]
    · iexists _; iexact HS0
    iexists _; iexact HS1
  iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves_5 (c : Dev nD) (t : Fin cfg0.N) (h : cfg0.idle 5 (grid0.coords t) = false) :
    (dats m 0 c).leavesExact 5 t = owns (c : Thread nD τ) (ms0_5 t) fullShare ((outsAt0 m c t.val t.isLt).1) := by
  unfold Dat.leavesExact; rw [h, after0_5]
theorem leaves_6 (c : Dev nD) (t : Fin cfg0.N) (h : cfg0.idle 6 (grid0.coords t) = false) :
    (dats m 0 c).leavesExact 6 t = owns (c : Thread nD τ) (ms0_6 t) fullShare ((outsAt0 m c t.val t.isLt).2.1) := by
  unfold Dat.leavesExact; rw [h, after0_6]
theorem leaves_6_back (c : Dev nD) (t : Fin cfg0.N) (h : cfg0.idle 6 (grid0.coords t) = true) (hf : (cfg0.win 6).flush t = true) :
    (dats m 0 c).leavesExact 6 t = owns (c : Thread nD τ) (ms0_6 t) fullShare ((outsAt0 m c t.val t.isLt).2.1) := by
  unfold Dat.leavesExact; rw [h, hf, after0_6]
theorem leaves_7 (c : Dev nD) (t : Fin cfg0.N) (h : cfg0.idle 7 (grid0.coords t) = false) :
    (dats m 0 c).leavesExact 7 t = owns (c : Thread nD τ) (ms0_7 t) fullShare ((outsAt0 m c t.val t.isLt).2.2.1) := by
  unfold Dat.leavesExact; rw [h, after0_7]
theorem leaves_8 (c : Dev nD) (t : Fin cfg0.N) (h : cfg0.idle 8 (grid0.coords t) = false) :
    (dats m 0 c).leavesExact 8 t = owns (c : Thread nD τ) (ms0_8 t) fullShare ((outsAt0 m c t.val t.isLt).2.2.2.1) := by
  unfold Dat.leavesExact; rw [h, after0_8]
theorem leaves_9 (c : Dev nD) (t : Fin cfg0.N) (h : cfg0.idle 9 (grid0.coords t) = false) :
    (dats m 0 c).leavesExact 9 t = owns (c : Thread nD τ) (ms0_9 t) fullShare ((outsAt0 m c t.val t.isLt).2.2.2.2.1) := by
  unfold Dat.leavesExact; rw [h, after0_9]

end Cert.Kernel13Ideal.Gen

end
-- ==== Proof.FfnFwdBodyA.lean ====
/-
The body of the SwiGLU forward kernel at the first feature tile of a row tile: from the buffers as it finds them to the buffers as `outsAt0` says.
-/
module

public import proofs.«01_k».proof.Proof.FfnFwdBody

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the first feature tile of a row tile. -/
theorem body_A (c : Dev nD) (t : Fin cfg0.N) (h0 : t.val % 11 = 0) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [Dat.leavesExact_idle (dats m 0 c) 5 t (idle_5_A t h0) (kept_5_A t h0)]
  rw [leaves_6 m c t (live_6_A t h0)]
  rw [leaves_7 m c t (live_7 t)]
  rw [leaves_8 m c t (live_8 t)]
  rw [leaves_9 m c t (live_9 t)]
  rw [outsAt0_A m c t h0]
  refine (sep_mono_left (Phi_any m c t)).trans ?_
  rw [PhiA0_eq]
  unfold heldA out0_A_6 out0_A_7 out0_A_8 out0_A_9 sout0_A_0 sout0_A_1; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseA t h0).1 (caseA t h0).2 (iblk m c 0 t) (iblk m c 1 t) (iblk m c 2 t) (iblk m c 3 t) (iblk m c 4 t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, ⟨%e6, H6⟩, ⟨%e7, H7⟩, ⟨%e8, H8⟩, ⟨%e9, H9⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S1024x1024.size (by sl_kernel_rfl) y
      unfold owns; iexists _; isplitr
      swap; · iexact HS1
      ipureintro; exact View.read_writes_of_cover _ _ _ _ _ fun y => View.cover_of_tiledL (s := S1024x1024) _ S1024x1024.size (by sl_kernel_rfl) y
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]
  · unfold owns; iexists _; isplitr
    swap; · iexact H6
    ipureintro; exact View.read_writes_of_cover _ _ _ _ _ fun y => View.cover_of_tiledL (s := S1024x1024) _ S1024x1024.size (by sl_kernel_rfl) y
  isplitl [H7]
  · unfold owns; iexists _; isplitr
    swap; · iexact H7
    ipureintro; exact View.read_writes_of_cover _ _ _ _ _ fun y => View.cover_of_tiledL (s := S1x1024x256) _ S1x512x256.size (by sl_kernel_rfl) y
  isplitl [H8]
  · unfold owns; iexists _; isplitr
    swap; · iexact H8
    ipureintro; exact View.read_writes_of_cover _ _ _ _ _ fun y => View.cover_of_tiledL (s := S1x1024x256) _ S1x512x256.size (by sl_kernel_rfl) y
  unfold owns; iexists _; isplitr
  swap; · iexact H9
  ipureintro; exact View.read_writes_of_cover _ _ _ _ _ fun y => View.cover_of_tiledL (s := S1x1024x256) _ S1x512x256.size (by sl_kernel_rfl) y

end Cert.Kernel13Ideal.Gen

end
-- ==== Proof.FfnFwdBodyB.lean ====
/-
The body of the SwiGLU forward kernel at an inner point: from the buffers as it finds them to the buffers as `outsAt0` says.
-/
module

public import proofs.«01_k».proof.Proof.FfnFwdBody

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at an inner point. -/
theorem body_B (c : Dev nD) (t : Fin cfg0.N) (h0 : ¬t.val % 11 = 0) (h2 : ¬t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [Dat.leavesExact_idle (dats m 0 c) 5 t (idle_5_B t h0 h2) (kept_5_B t h0 h2)]
  rw [Dat.leavesExact_idle (dats m 0 c) 6 t (idle_6_B t h0 h2) (kept_6_B t h0 h2)]
  rw [leaves_7 m c t (live_7 t)]
  rw [leaves_8 m c t (live_8 t)]
  rw [leaves_9 m c t (live_9 t)]
  rw [PhiS_castSucc m c t, PhiS_pos m c _ _ (by omega), outsAt0_B m c t h0 h2]
  unfold heldB out0_B_7 out0_B_8 out0_B_9 sout0_B_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseB t h0 h2).1 (caseB t h0 h2).2 (iblk m c 0 t) (iblk m c 1 t) (iblk m c 2 t) (iblk m c 3 t) (iblk m c 4 t) (prior m c t).2.2.2.2.2.1 (prior m c t).2.2.2.2.2.2).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, ⟨%e7, H7⟩, ⟨%e8, H8⟩, ⟨%e9, H9⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]
  · unfold owns; iexists _; isplitr
    swap; · iexact H7
    ipureintro; exact View.read_writes_of_cover _ _ _ _ _ fun y => View.cover_of_tiledL (s := S1x1024x256) _ S1x512x256.size (by sl_kernel_rfl) y
  isplitl [H8]
  · unfold owns; iexists _; isplitr
    swap; · iexact H8
    ipureintro; exact View.read_writes_of_cover _ _ _ _ _ fun y => View.cover_of_tiledL (s := S1x1024x256) _ S1x512x256.size (by sl_kernel_rfl) y
  unfold owns; iexists _; isplitr
  swap; · iexact H9
  ipureintro; exact View.read_writes_of_cover _ _ _ _ _ fun y => View.cover_of_tiledL (s := S1x1024x256) _ S1x512x256.size (by sl_kernel_rfl) y

end Cert.Kernel13Ideal.Gen

end
-- ==== Proof.FfnFwdBodyC.lean ====
/-
The body of the SwiGLU forward kernel at the last feature tile of a row tile: from the buffers as it finds them to the buffers as `outsAt0` says.
-/
module

public import proofs.«01_k».proof.Proof.FfnFwdBody

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at the last feature tile of a row tile. -/
theorem body_C (c : Dev nD) (t : Fin cfg0.N) (h2 : t.val % 11 = 10) :
    bodyPre m c t ⊢ wp frame (wpE (defs₀ (F := F)) Variants.none c none) Set.univ (bodyAt0 t) (fun _ => bodyPost m c t) := by
  unfold bodyPre bodyPost bodyAt0
  have hN : t.val < 88 := lt_of_lt_of_eq t.isLt (show cfg0.N = 88 from N_0)
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_0 m c t, leaves_1 m c t, leaves_2 m c t, leaves_3 m c t, leaves_4 m c t]
  rw [leaves_5 m c t (live_5_C t h2)]
  rw [leaves_6_back m c t (idle_6_C t h2) (back_6_C t h2)]
  rw [leaves_7 m c t (live_7 t)]
  rw [leaves_8 m c t (live_8 t)]
  rw [leaves_9 m c t (live_9 t)]
  rw [PhiS_castSucc m c t, PhiS_pos m c _ _ (by omega), outsAt0_C m c t h2]
  simp only [before0_6_C m c t h2]
  unfold heldC out0_C_5 out0_C_7 out0_C_8 out0_C_9 sout0_C_0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (caseC t h2).1 (caseC t h2).2 (iblk m c 0 t) (iblk m c 1 t) (iblk m c 2 t) (iblk m c 3 t) (iblk m c 4 t) (prior m c t).2.1 (prior m c t).2.2.2.2.2.1 (prior m c t).2.2.2.2.2.2).2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, ⟨%e5, H5⟩, H6, ⟨%e7, H7⟩, ⟨%e8, H8⟩, ⟨%e9, H9⟩, ⟨%es0, HS0⟩, HS1⟩
  isplitl [HS0 HS1 Hg]
  · isplitl [HS0 HS1]
    · isplitl [HS0]
      · unfold owns; iexists _; isplitr
        swap; · iexact HS0
        ipureintro; exact View.read_writes_of_cover _ _ _ _ _ fun y => View.cover_of_tiledL (s := S1024x1024) _ S512x1024.size (by sl_kernel_rfl) y
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ fun y => View.cover_of_tiledL (s := S1024x1024) _ S1024x1024.size (by sl_kernel_rfl) y
  isplitl [H6]; · iexact H6
  isplitl [H7]
  · unfold owns; iexists _; isplitr
    swap; · iexact H7
    ipureintro; exact View.read_writes_of_cover _ _ _ _ _ fun y => View.cover_of_tiledL (s := S1x1024x256) _ S1x512x256.size (by sl_kernel_rfl) y
  isplitl [H8]
  · unfold owns; iexists _; isplitr
    swap; · iexact H8
    ipureintro; exact View.read_writes_of_cover _ _ _ _ _ fun y => View.cover_of_tiledL (s := S1x1024x256) _ S1x512x256.size (by sl_kernel_rfl) y
  unfold owns; iexists _; isplitr
  swap; · iexact H9
  ipureintro; exact View.read_writes_of_cover _ _ _ _ _ fun y => View.cover_of_tiledL (s := S1x1024x256) _ S1x512x256.size (by sl_kernel_rfl) y

end Cert.Kernel13Ideal.Gen

end
-- ==== Proof.FfnFwdFrame.lean ====
/-
The frame of the SwiGLU forward kernel: the body runs at every grid point and leaves what `outsAt0` says; so the call runs, leaves its
arguments unchanged and its semaphores at zero.
-/
module

public import proofs.«01_k».proof.Proof.FfnFwdBodyA
public import proofs.«01_k».proof.Proof.FfnFwdBodyB
public import proofs.«01_k».proof.Proof.FfnFwdBodyC

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 11 = 0
  · exact body_A m c t h0
  by_cases h2 : t.val % 11 = 10
  · exact body_C m c t h2
  · exact body_B m c t h0 h2

/-- The body the configuration names is the body as spelled above. -/
theorem defs₀_row (t : Fin cfg0.N) :
    defs₀ (F := F) .tc cfg0.body (cfg0.bodyArgs t (cfg0.slots t)) = bodyAt0 t := by
  unfold defs₀; rw [Defs.onTc_tc]

/-- The pipeline's obligation for the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The invariant after the last point gives it back. -/
theorem hout (c : Dev nD) : (dats m 0 c).Φ (Fin.last cfg0.N) ⊢ Pipeline.ΦA spec0 c :=
  Phi_out m c _ (by rw [Fin.val_last]; have : cfg0.N = 88 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: at its end every array is what the proof data says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel13Ideal.Gen

end
-- ==== Proof.FfnFwdSteps.lean ====
module

public import proofs.«01_k».proof.Proof.FfnFwdFrame
public import Idealize.ShloMosaic.Lib.Pipeline.ValueKit
public import Idealize.ShloMosaic.Lib.Pipeline.ReadBack

/-!
# The SwiGLU half-step, point by point

A grid point takes 1024 rows and 256 of the features. The first of a row tile's eleven points normalises the rows, keeps them, and starts
the sums of the half-step from zero. Every point makes its features and adds what they contribute to the sums. The last adds the sums to
the rows.
-/

@[expose] public section

set_option maxRecDepth 16384

noncomputable section

open Idealize.ShloMosaic Idealize.ShloMosaic.TcCoe Idealize.SL.Sem
open Idealize.ShloMosaic.Pipeline (Dat)

namespace Cert.Kernel13Ideal.RefValue

open Cert.Kernel13Ideal Cert.Kernel13Ideal.Gen

variable (m : (ℓ : Loc nD τ sig) → Buf (Elt Ideal) ℓ)

/-- One feature of a normalised row. -/
def up (h : FVec Ideal S1024x1024 .bf16) (w : FVec Ideal S256x1024 .bf16) (j : S1x1024x256.Idx) : EReal :=
  ∑ k : Fin 1024, h (ix2 (j 1) k) * w (ix2 (j 2) k)

/-- One gated feature, halved. -/
def gated (h : FVec Ideal S1024x1024 .bf16) (w1 w3 : FVec Ideal S256x1024 .bf16) (j : S1x1024x256.Idx) : EReal :=
  Ideal.ofBits .f32 0x3F000000#32 * (up h w1 j * Ideal.logistic (up h w1 j) * up h w3 j)

/-- What one tile of features adds to a row. -/
def part (h : FVec Ideal S1024x1024 .bf16) (w1 w3 w2 : FVec Ideal S256x1024 .bf16) (j : S1024x1024.Idx) : EReal :=
  ∑ f : Fin 256, gated h w1 w3 (ix3 0 (j 0) f) * w2 (ix2 f (j 1))

theorem a_A (c : Dev nD) (t : Fin cfg0.N) (h0 : t.val % 11 = 0) (j) :
    (outsAt0 m c t.val t.isLt).2.2.1 j = up (k0_pay3 (iblk m c 0 t) (iblk m c 1 t)) (iblk m c 2 t) j := by
  rw [outsAt0_A m c t h0]; frame_open; dsimp only [run0_A]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem b_A (c : Dev nD) (t : Fin cfg0.N) (h0 : t.val % 11 = 0) (j) :
    (outsAt0 m c t.val t.isLt).2.2.2.1 j = up (k0_pay3 (iblk m c 0 t) (iblk m c 1 t)) (iblk m c 3 t) j := by
  rw [outsAt0_A m c t h0]; frame_open; dsimp only [run0_A]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem u_A (c : Dev nD) (t : Fin cfg0.N) (h0 : t.val % 11 = 0) (j) :
    (outsAt0 m c t.val t.isLt).2.2.2.2.1 j = gated (k0_pay3 (iblk m c 0 t) (iblk m c 1 t)) (iblk m c 2 t) (iblk m c 3 t) j := by
  rw [outsAt0_A m c t h0]; frame_open; dsimp only [run0_A]; frame_open
  simp (discharger := first | decide | rfl) only [↓View.readCov_skip, ↓View.readCov_fill]
  frame_out
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem acc_A (c : Dev nD) (t : Fin cfg0.N) (h0 : t.val % 11 = 0) (j) :
    (outsAt0 m c t.val t.isLt).2.2.2.2.2.1 j = 0 + part (k0_pay3 (iblk m c 0 t) (iblk m c 1 t)) (iblk m c 2 t) (iblk m c 3 t) (iblk m c 4 t) j := by
  rw [outsAt0_A m c t h0]; frame_open; dsimp only [run0_A]; frame_open
  simp (discharger := first | decide | rfl) only [↓View.readCov_skip, ↓View.readCov_fill]
  frame_out
  refine View.canon_append_of_piecesOf (fun j => 0 + part (k0_pay3 (iblk m c 0 t) (iblk m c 1 t)) (iblk m c 2 t) (iblk m c 3 t) (iblk m c 4 t) j : Vec Ideal S1024x1024 .f32) [⟨_, _⟩] [⟨_, _⟩, ⟨_, _⟩] ⟨?_, ?_, trivial⟩ j
    (View.cover_of_tiledBy _ ![512, 1024] (by sl_kernel_rfl) j)
  all_goals
    intro x
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, part, gated, up]
    blk_point []

theorem hs_A (c : Dev nD) (t : Fin cfg0.N) (h0 : t.val % 11 = 0) : (outsAt0 m c t.val t.isLt).2.2.2.2.2.2 = k0_pay3 (iblk m c 0 t) (iblk m c 1 t) := by
  rw [outsAt0_A m c t h0]; frame_open; dsimp only [run0_A]; frame_out
  funext j; pointwise [k0_pay4, k0_pay3]

theorem h_A (c : Dev nD) (t : Fin cfg0.N) (h0 : t.val % 11 = 0) : (outsAt0 m c t.val t.isLt).2.1 = k0_pay3 (iblk m c 0 t) (iblk m c 1 t) := by
  rw [outsAt0_A m c t h0]; frame_open; dsimp only [run0_A]; frame_out

theorem a_B (c : Dev nD) (t : Fin cfg0.N) (h0 : ¬t.val % 11 = 0) (h2 : ¬t.val % 11 = 10) (j) :
    (outsAt0 m c t.val t.isLt).2.2.1 j = up (prior m c t).2.2.2.2.2.2 (iblk m c 2 t) j := by
  rw [outsAt0_B m c t h0 h2]; frame_open; dsimp only [run0_B]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem b_B (c : Dev nD) (t : Fin cfg0.N) (h0 : ¬t.val % 11 = 0) (h2 : ¬t.val % 11 = 10) (j) :
    (outsAt0 m c t.val t.isLt).2.2.2.1 j = up (prior m c t).2.2.2.2.2.2 (iblk m c 3 t) j := by
  rw [outsAt0_B m c t h0 h2]; frame_open; dsimp only [run0_B]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem u_B (c : Dev nD) (t : Fin cfg0.N) (h0 : ¬t.val % 11 = 0) (h2 : ¬t.val % 11 = 10) (j) :
    (outsAt0 m c t.val t.isLt).2.2.2.2.1 j = gated (prior m c t).2.2.2.2.2.2 (iblk m c 2 t) (iblk m c 3 t) j := by
  rw [outsAt0_B m c t h0 h2]; frame_open; dsimp only [run0_B]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem acc_B (c : Dev nD) (t : Fin cfg0.N) (h0 : ¬t.val % 11 = 0) (h2 : ¬t.val % 11 = 10) (j) :
    (outsAt0 m c t.val t.isLt).2.2.2.2.2.1 j = (prior m c t).2.2.2.2.2.1 j + part (prior m c t).2.2.2.2.2.2 (iblk m c 2 t) (iblk m c 3 t) (iblk m c 4 t) j := by
  rw [outsAt0_B m c t h0 h2]; frame_open; dsimp only [run0_B]; frame_out
  simp only [read_unread_whole]
  canon_tiles x h using (View.cover_of_tiledBy _ ![512, 1024] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, part, gated, up]
    blk_point [h0, h1]

theorem hs_B (c : Dev nD) (t : Fin cfg0.N) (h0 : ¬t.val % 11 = 0) (h2 : ¬t.val % 11 = 10) : (outsAt0 m c t.val t.isLt).2.2.2.2.2.2 = (prior m c t).2.2.2.2.2.2 := by
  rw [outsAt0_B m c t h0 h2]; dsimp only [heldB]

theorem h_B (c : Dev nD) (t : Fin cfg0.N) (h0 : ¬t.val % 11 = 0) (h2 : ¬t.val % 11 = 10) : (outsAt0 m c t.val t.isLt).2.1 = (prior m c t).2.1 := by
  rw [outsAt0_B m c t h0 h2]; dsimp only [heldB]

theorem a_C (c : Dev nD) (t : Fin cfg0.N) (h2 : t.val % 11 = 10) (j) :
    (outsAt0 m c t.val t.isLt).2.2.1 j = up (prior m c t).2.2.2.2.2.2 (iblk m c 2 t) j := by
  rw [outsAt0_C m c t h2]; frame_open; dsimp only [run0_C]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem b_C (c : Dev nD) (t : Fin cfg0.N) (h2 : t.val % 11 = 10) (j) :
    (outsAt0 m c t.val t.isLt).2.2.2.1 j = up (prior m c t).2.2.2.2.2.2 (iblk m c 3 t) j := by
  rw [outsAt0_C m c t h2]; frame_open; dsimp only [run0_C]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem u_C (c : Dev nD) (t : Fin cfg0.N) (h2 : t.val % 11 = 10) (j) :
    (outsAt0 m c t.val t.isLt).2.2.2.2.1 j = gated (prior m c t).2.2.2.2.2.2 (iblk m c 2 t) (iblk m c 3 t) j := by
  rw [outsAt0_C m c t h2]; frame_open; dsimp only [run0_C]; frame_out
  simp only [read_unread_whole]
  canon_tiles x h using (View.cover_of_tiledBy _ ![1, 512, 256] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, gated, up]
    blk_point [h0, h1, h2]

theorem acc_C (c : Dev nD) (t : Fin cfg0.N) (h2 : t.val % 11 = 10) (j) :
    (outsAt0 m c t.val t.isLt).2.2.2.2.2.1 j = (prior m c t).2.2.2.2.2.1 j + part (prior m c t).2.2.2.2.2.2 (iblk m c 2 t) (iblk m c 3 t) (iblk m c 4 t) j := by
  rw [outsAt0_C m c t h2]; frame_open; dsimp only [run0_C]; frame_out
  simp only [read_unread_whole]
  canon_tiles x h using (View.cover_of_tiledBy _ ![512, 1024] (by sl_kernel_rfl) j)
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, part, gated, up]
    blk_point [h0, h1]

theorem hs_C (c : Dev nD) (t : Fin cfg0.N) (h2 : t.val % 11 = 10) : (outsAt0 m c t.val t.isLt).2.2.2.2.2.2 = (prior m c t).2.2.2.2.2.2 := by
  rw [outsAt0_C m c t h2]; dsimp only [heldC]

theorem h_C (c : Dev nD) (t : Fin cfg0.N) (h2 : t.val % 11 = 10) : (outsAt0 m c t.val t.isLt).2.1 = (prior m c t).2.1 := by
  rw [outsAt0_C m c t h2]; dsimp only [heldC]

/-! The sums read whole after the last point's two stores are the sums that point leaves. -/

theorem y_C (c : Dev nD) (t : Fin cfg0.N) (h2 : t.val % 11 = 10) :
    (outsAt0 m c t.val t.isLt).1 = k0_pay2 (iblk m c 0 t) (outsAt0 m c t.val t.isLt).2.2.2.2.2.1 := by
  rw [outsAt0_C m c t h2]; dsimp only [heldC]; frame_open; dsimp only [run0_C]; frame_out
  refine congrArg (fun X => k0_pay2 _ X) (funext fun j => ?_)
  rw [View.readCov_eq_canon']
  refine congrArg _ (funext fun a => Fin.ext ?_)
  match a with
  | 0 => show 0 + 1 * (j 0).val = (j 0).val; omega
  | 1 => show 0 + 1 * (j 1).val = (j 1).val; omega

end Cert.Kernel13Ideal.RefValue

end
-- ==== Proof.FfnFwdBlocks.lean ====
module

public import proofs.«01_k».proof.Proof.FfnFwdSteps
public import proofs.«01_k».proof.Proof.RmsBack
public import Idealize.ShloMosaic.Lib.Pipeline.ValueKit
public import Idealize.ShloMosaic.Lib.Pipeline.ReadBack

/-!
# The SwiGLU half-step: what a point reads

A point of row tile `t / 11` and feature tile `t % 11` reads its rows of the arguments and its features of the weights. The normalised
rows that the row tile's first point makes are kept through the tile's eleven points.
-/

@[expose] public section

set_option maxRecDepth 16384

noncomputable section

open Idealize.ShloMosaic Idealize.ShloMosaic.TcCoe Idealize.SL.Sem
open Idealize.ShloMosaic.Pipeline (Dat)

namespace Cert.Kernel13Ideal.RefValue

open Cert.Kernel13Ideal Cert.Kernel13Ideal.Gen

variable (m : (ℓ : Loc nD τ sig) → Buf (Elt Ideal) ℓ)

/-- Where the blocks lie: eight row tiles, and in each the eleven tiles of features. -/
theorem idx : ∀ t : Fin cfg0.N,
    win0_0.index t = ![t.val / 11, 0] ∧ win0_1.index t = ![0, 0] ∧ win0_2.index t = ![t.val % 11, 0] ∧ win0_3.index t = ![t.val % 11, 0] ∧
    win0_4.index t = ![t.val % 11, 0] ∧ win0_5.index t = ![t.val / 11, 0] ∧ win0_6.index t = ![t.val / 11, 0] ∧
    win0_7.index t = ![t.val % 11, t.val / 11, 0] ∧ win0_8.index t = ![t.val % 11, t.val / 11, 0] ∧ win0_9.index t = ![t.val % 11, t.val / 11, 0] :=
  (by decide +kernel : ∀ t : Fin grid0.N, _)

/-- Row `a` of point `t`'s row tile. -/
def row (t : Fin cfg0.N) (a : Fin 1024) : Fin 8192 := ⟨t.val / 11 * 1024 + a.val, by have := t.isLt; have : cfg0.N = 88 := N_0; omega⟩

/-- Point `t`'s tile of features. -/
def lane (t : Fin cfg0.N) : Fin 11 := ⟨t.val % 11, Nat.mod_lt _ (by decide)⟩

/-- The feature a lane of a tile holds. -/
def feat (i : Fin 11) (q : Fin 256) : Fin 2816 := ⟨i.val * 256 + q.val, by omega⟩

theorem row_pred (t : Fin cfg0.N) (h : ¬t.val % 11 = 0) (a : Fin 1024) (hp) : row ⟨t.val - 1, hp⟩ a = row t a := by
  refine Fin.ext ?_
  show (t.val - 1) / 11 * 1024 + a.val = t.val / 11 * 1024 + a.val
  have : (t.val - 1) / 11 = t.val / 11 := by omega
  rw [this]

/-- One element of a row, divided by the row's root mean square and scaled by the gain. -/
def normed (x : FVec Ideal S8192x1024 .f32) (g : FVec Ideal S1x1024 .f32) (p : Fin 8192) (k : Fin 1024) : EReal :=
  x (ix2 p k) * Cert.Rms.R (fun i => x (ix2 p i)) * g (ix2 0 k)

/-- One feature of a row: the normalised row against the feature's weights. -/
def feature (x : FVec Ideal S8192x1024 .f32) (g : FVec Ideal S1x1024 .f32) (w : FVec Ideal S2816x1024 .bf16) (p : Fin 8192) (f : Fin 2816) : EReal :=
  ∑ k : Fin 1024, normed x g p k * w (ix2 f k)

/-- One gated feature of a row. -/
def gate (x : FVec Ideal S8192x1024 .f32) (g : FVec Ideal S1x1024 .f32) (w1 w3 : FVec Ideal S2816x1024 .bf16) (p : Fin 8192) (f : Fin 2816) : EReal :=
  feature x g w1 p f * Ideal.logistic (feature x g w1 p f) * feature x g w3 p f

/-! What the blocks hold of the arguments. -/

theorem x_at (c : Dev nD) (t : Fin cfg0.N) (p k : Fin 1024) :
    iblk m c 0 t (ix2 p k) = m ((c.tc : Thread nD τ).loc main_arg0) (ix2 (row t p) k) := by
  blk_ext [iblk, V_main_arg0, idx t, row]

theorem g_at (c : Dev nD) (t : Fin cfg0.N) (k : Fin 1024) :
    iblk m c 1 t (ix2 0 k) = m ((c.tc : Thread nD τ).loc main_arg1) (ix2 0 k) := by
  blk_ext [iblk, V_main_arg1, idx t]

theorem w1_at (c : Dev nD) (t : Fin cfg0.N) (f : Fin 256) (k : Fin 1024) :
    iblk m c 2 t (ix2 f k) = m ((c.tc : Thread nD τ).loc main_arg2) (ix2 (feat (lane t) f) k) := by
  blk_ext [iblk, V_main_arg2, idx t, feat, lane]

theorem w3_at (c : Dev nD) (t : Fin cfg0.N) (f : Fin 256) (k : Fin 1024) :
    iblk m c 3 t (ix2 f k) = m ((c.tc : Thread nD τ).loc main_arg3) (ix2 (feat (lane t) f) k) := by
  blk_ext [iblk, V_main_arg3, idx t, feat, lane]

theorem w2_at (c : Dev nD) (t : Fin cfg0.N) (f : Fin 256) (k : Fin 1024) :
    iblk m c 4 t (ix2 f k) = m ((c.tc : Thread nD τ).loc main_arg4) (ix2 (feat (lane t) f) k) := by
  blk_ext [iblk, V_main_arg4, idx t, feat, lane]

/-- What the first point of a row tile makes of a row. -/
theorem pay_norm (x : FVec Ideal S1024x1024 .f32) (g : FVec Ideal S1x1024 .f32) (p k : Fin 1024) :
    k0_pay3 (F := Ideal) x g (ix2 p k) = x (ix2 p k) * Cert.Rms.R (fun i => x (ix2 p i)) * g (ix2 0 k) := by
  pointwise [k0_pay3, Cert.Rms.R, Cert.Rms.ms]

theorem norm_at (c : Dev nD) (t : Fin cfg0.N) (p k : Fin 1024) :
    k0_pay3 (iblk m c 0 t) (iblk m c 1 t) (ix2 p k) = normed (m ((c.tc : Thread nD τ).loc main_arg0)) (m ((c.tc : Thread nD τ).loc main_arg1)) (row t p) k := by
  refine (pay_norm _ _ p k).trans (congrArg₂ (· * ·) (congrArg₂ (· * ·) ?_ (congrArg Cert.Rms.R (funext fun i => ?_))) ?_)
  · exact x_at m c t p k
  · exact x_at m c t p i
  · exact g_at m c t k

theorem norm_pred (c : Dev nD) (t : Fin cfg0.N) (h : ¬t.val % 11 = 0) (hp) :
    (k0_pay3 (iblk m c 0 ⟨t.val - 1, hp⟩) (iblk m c 1 ⟨t.val - 1, hp⟩) : FVec Ideal S1024x1024 .bf16) = k0_pay3 (iblk m c 0 t) (iblk m c 1 t) := by
  funext j
  obtain ⟨p, q, rfl⟩ : ∃ (p q : Fin 1024), j = ix2 p q := ⟨j 0, j 1, eq_ix2 j⟩
  rw [norm_at, norm_at, row_pred t h]

/-- Every point of a row tile keeps the normalised rows of the tile's first. -/
theorem keeps (c : Dev nD) : ∀ (n : ℕ) (t : Fin cfg0.N), t.val = n →
    (outsAt0 m c t.val t.isLt).2.2.2.2.2.2 = k0_pay3 (iblk m c 0 t) (iblk m c 1 t) ∧ (outsAt0 m c t.val t.isLt).2.1 = k0_pay3 (iblk m c 0 t) (iblk m c 1 t) := by
  intro n
  induction n with
  | zero =>
    intro t ht
    exact ⟨hs_A m c t (by rw [ht]), h_A m c t (by rw [ht])⟩
  | succ n ih =>
    intro t ht
    by_cases h0 : t.val % 11 = 0
    · exact ⟨hs_A m c t h0, h_A m c t h0⟩
    have hp := ih ⟨t.val - 1, lt_of_le_of_lt (Nat.sub_le _ _) t.isLt⟩ (by show t.val - 1 = n; omega)
    rw [norm_pred m c t h0] at hp
    by_cases h2 : t.val % 11 = 10
    · exact ⟨(hs_C m c t h2).trans hp.1, (h_C m c t h2).trans hp.2⟩
    · exact ⟨(hs_B m c t h0 h2).trans hp.1, (h_B m c t h0 h2).trans hp.2⟩

theorem prior_hs (c : Dev nD) (t : Fin cfg0.N) (h : ¬t.val % 11 = 0) : (prior m c t).2.2.2.2.2.2 = k0_pay3 (iblk m c 0 t) (iblk m c 1 t) :=
  ((keeps m c _ ⟨t.val - 1, lt_of_le_of_lt (Nat.sub_le _ _) t.isLt⟩ rfl).1).trans (norm_pred m c t h _)

end Cert.Kernel13Ideal.RefValue

end
-- ==== Proof.FfnFwdRef.lean ====
module

public import proofs.«01_k».proof.Proof.Gen.Reference13Ideal.Run
public import Idealize.ShloMosaic.Lib.Pipeline.ValueKit

/-!
# What the reference of the SwiGLU half-step computes

The normalised rows, the features, and the rows after the half-step.
-/

@[expose] public section

noncomputable section

open Idealize.ShloMosaic Idealize.ShloMosaic.TcCoe Idealize.SL.Sem

namespace Cert.Reference13Ideal.RefValue

open Cert.Reference13Ideal Cert.Reference13Ideal.Gen

/-- The mean square of a row, and the small constant. -/
abbrev ms (u : FVec Ideal S8192x1024 .f32) : FVec Ideal S8192x1 .f32 :=
  addf (Host.divf (broadcastInDim S8192x1 ![0] bcast_S8192_S8192x1_0 (Host.reduceAdd (mulf u u) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows. -/
abbrev hn (x0 : FVec Ideal S8192x1024 .f32) (x1 : FVec Ideal S1x1024 .f32) : FVec Ideal S8192x1024 .f32 :=
  mulf (mulf x0 (broadcastInDim S8192x1024 ![0, 1] bcast_S8192x1_S8192x1024_0_1 (Host.rsqrt (ms x0)))) (broadcastInDim S8192x1024 ![0, 1] bcast_S1x1024_S8192x1024_0_1 x1)

/-- The first product of the normalised rows. -/
abbrev pa (x0 : FVec Ideal S8192x1024 .f32) (x1 : FVec Ideal S1x1024 .f32) (x2 : FVec Ideal S2816x1024 .bf16) : FVec Ideal S8192x2816 .f32 :=
  Host.dotGeneral (φ₁ := .f32) (φ₂ := .f32) dot_S8192x1024_S1024x2816_S8192x2816_1_0_0_1_n_n none (hn x0 x1) (extf .f32 (transpose S1024x2816 [1, 0] x2 transposes_S2816x1024_S1024x2816_1_0) bitsLt_bf16_f32)

/-- The second product of the normalised rows. -/
abbrev pb (x0 : FVec Ideal S8192x1024 .f32) (x1 : FVec Ideal S1x1024 .f32) (x3 : FVec Ideal S2816x1024 .bf16) : FVec Ideal S8192x2816 .f32 :=
  Host.dotGeneral (φ₁ := .f32) (φ₂ := .f32) dot_S8192x1024_S1024x2816_S8192x2816_1_0_0_1_n_n none (hn x0 x1) (extf .f32 (transpose S1024x2816 [1, 0] x3 transposes_S2816x1024_S1024x2816_1_0) bitsLt_bf16_f32)

/-- The gated features. -/
abbrev gated (x0 : FVec Ideal S8192x1024 .f32) (x1 : FVec Ideal S1x1024 .f32) (x2 : FVec Ideal S2816x1024 .bf16) (x3 : FVec Ideal S2816x1024 .bf16) : FVec Ideal S8192x2816 .f32 :=
  mulf (mulf (pa x0 x1 x2) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (pa x0 x1 x2)))))) (pb x0 x1 x3)

/-- The rows after the half-step. -/
abbrev y (x0 : FVec Ideal S8192x1024 .f32) (x1 : FVec Ideal S1x1024 .f32) (x2 : FVec Ideal S2816x1024 .bf16) (x3 : FVec Ideal S2816x1024 .bf16) (x4 : FVec Ideal S2816x1024 .bf16) : FVec Ideal S8192x1024 .f32 :=
  addf x0 (mulf (broadcastInDim S8192x1024 ![] bcast_S_S8192x1024 (constant S_ .f32 0x3F000000#32)) (Host.dotGeneral (φ₁ := .f32) (φ₂ := .f32) dot_S8192x2816_S2816x1024_S8192x1024_1_0_0_1_n_n none (gated x0 x1 x2 x3) (extf .f32 x4 bitsLt_bf16_f32)))

/-- An array of features, by tiles of 256. -/
abbrev tile (t : FVec Ideal S8192x2816 .f32) : FVec Ideal S11x8192x256 .bf16 :=
  truncf .bf16 (transpose S11x8192x256 [1, 0, 2] (shapeCast S8192x11x256 t shapeCasts_S8192x2816_S8192x11x256) transposes_S8192x11x256_S11x8192x256_1_0_2) bitsLt_bf16_f32

/-- The gated features, halved. -/
abbrev halved (x0 : FVec Ideal S8192x1024 .f32) (x1 : FVec Ideal S1x1024 .f32) (x2 : FVec Ideal S2816x1024 .bf16) (x3 : FVec Ideal S2816x1024 .bf16) : FVec Ideal S8192x2816 .f32 :=
  mulf (broadcastInDim S8192x2816 ![] bcast_S_S8192x2816 (constant S_ .f32 0x3F000000#32)) (gated x0 x1 x2 x3)

/-- The normalised rows, rounded. -/
abbrev hb (x0 : FVec Ideal S8192x1024 .f32) (x1 : FVec Ideal S1x1024 .f32) : FVec Ideal S8192x1024 .bf16 :=
  truncf .bf16 (hn x0 x1) bitsLt_bf16_f32

variable (m : (ℓ : Loc nD τ sig) → Buf (Elt Ideal) ℓ) (ρ : Dev nD → PrngReg)

/-- The reference ends holding these results, with its arguments unchanged. -/
theorem run : θ_run (defs (F := Ideal)) (onTc (τ := τ) (main (F := Ideal))) ⟨m, fun _ => 0, ρ⟩ fun r => ∀ c : Dev nD,
    r.2.mem ((c.tc : Thread nD τ).loc main_v28) = y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = hb (m ((c.tc : Thread nD τ).loc main_arg0)) (m ((c.tc : Thread nD τ).loc main_arg1))
      ∧ r.2.mem ((c.tc : Thread nD τ).loc main_v48) = tile (pa (m ((c.tc : Thread nD τ).loc main_arg0)) (m ((c.tc : Thread nD τ).loc main_arg1)) (m ((c.tc : Thread nD τ).loc main_arg2)))
      ∧ r.2.mem ((c.tc : Thread nD τ).loc main_v49) = tile (pb (m ((c.tc : Thread nD τ).loc main_arg0)) (m ((c.tc : Thread nD τ).loc main_arg1)) (m ((c.tc : Thread nD τ).loc main_arg3)))
      ∧ r.2.mem ((c.tc : Thread nD τ).loc main_v50) = tile (halved (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2⟩) (Value.run m ρ)

end Cert.Reference13Ideal.RefValue

end
-- ==== Proof.FfnFwdFeatures.lean ====
module

public import proofs.«01_k».proof.Proof.FfnFwdBlocks
public import proofs.«01_k».proof.Proof.FfnFwdRef
public import proofs.«01_k».proof.Proof.FfnReal
public import Idealize.ShloMosaic.Lib.Pipeline.ValueKit
public import Idealize.ShloMosaic.Lib.Pipeline.ReadBack

/-!
# The SwiGLU half-step: the normalised rows and the features

Every point leaves 256 features of 1024 rows: the two products of the normalised rows, and their gate, halved.
-/

@[expose] public section

set_option maxRecDepth 16384

noncomputable section

open Idealize.ShloMosaic Idealize.ShloMosaic.TcCoe Idealize.SL.Sem
open Idealize.ShloMosaic.Pipeline (Dat)

namespace Cert.Kernel13Ideal.RefValue

open Cert.Kernel13Ideal Cert.Kernel13Ideal.Gen

variable (m : (ℓ : Loc nD τ sig) → Buf (Elt Ideal) ℓ)

theorem up1_at (c : Dev nD) (t : Fin cfg0.N) (p : Fin 1024) (q : Fin 256) :
    up (k0_pay3 (iblk m c 0 t) (iblk m c 1 t)) (iblk m c 2 t) (ix3 0 p q) = feature (m ((c.tc : Thread nD τ).loc main_arg0)) (m ((c.tc : Thread nD τ).loc main_arg1)) (m ((c.tc : Thread nD τ).loc main_arg2)) (row t p) (feat (lane t) q) := by
  unfold up feature
  refine Finset.sum_congr rfl fun k _ => congrArg₂ (· * ·) ?_ ?_
  · exact norm_at m c t p k
  · exact w1_at m c t q k

theorem up3_at (c : Dev nD) (t : Fin cfg0.N) (p : Fin 1024) (q : Fin 256) :
    up (k0_pay3 (iblk m c 0 t) (iblk m c 1 t)) (iblk m c 3 t) (ix3 0 p q) = feature (m ((c.tc : Thread nD τ).loc main_arg0)) (m ((c.tc : Thread nD τ).loc main_arg1)) (m ((c.tc : Thread nD τ).loc main_arg3)) (row t p) (feat (lane t) q) := by
  unfold up feature
  refine Finset.sum_congr rfl fun k _ => congrArg₂ (· * ·) ?_ ?_
  · exact norm_at m c t p k
  · exact w3_at m c t q k

theorem gated_at (c : Dev nD) (t : Fin cfg0.N) (p : Fin 1024) (q : Fin 256) :
    gated (k0_pay3 (iblk m c 0 t) (iblk m c 1 t)) (iblk m c 2 t) (iblk m c 3 t) (ix3 0 p q)
      = Ideal.ofBits .f32 0x3F000000#32 * gate (m ((c.tc : Thread nD τ).loc main_arg0)) (m ((c.tc : Thread nD τ).loc main_arg1)) (m ((c.tc : Thread nD τ).loc main_arg2)) (m ((c.tc : Thread nD τ).loc main_arg3)) (row t p) (feat (lane t) q) := by
  unfold gated gate
  rw [up1_at, up3_at]

/-! The reference's arrays at an index. -/

theorem ref_pa (x g w) (p : Fin 8192) (f : Fin 2816) : Cert.Reference13Ideal.RefValue.pa x g w (ix2 p f) = feature x g w p f := by
  pointwise [Cert.Reference13Ideal.RefValue.pa, feature, normed, Cert.Rms.R, Cert.Rms.ms]

theorem ref_pb (x g w) (p : Fin 8192) (f : Fin 2816) : Cert.Reference13Ideal.RefValue.pb x g w (ix2 p f) = feature x g w p f := by
  pointwise [Cert.Reference13Ideal.RefValue.pb, feature, normed, Cert.Rms.R, Cert.Rms.ms]

theorem ref_gated (x g w1 w3) (p : Fin 8192) (f : Fin 2816) : Cert.Reference13Ideal.RefValue.gated x g w1 w3 (ix2 p f) = gate x g w1 w3 p f := by
  unfold gate
  rw [Cert.Ffn.logistic_eq, ← ref_pa, ← ref_pb]; pointwise [Cert.Reference13Ideal.RefValue.gated]

theorem ref_halved (x g w1 w3) (p : Fin 8192) (f : Fin 2816) :
    Cert.Reference13Ideal.RefValue.halved x g w1 w3 (ix2 p f) = Ideal.ofBits .f32 0x3F000000#32 * gate x g w1 w3 p f := by
  rw [← ref_gated]; pointwise [Cert.Reference13Ideal.RefValue.halved]

theorem ref_tile (u) (i : Fin 11) (p : Fin 8192) (q : Fin 256) : Cert.Reference13Ideal.RefValue.tile u (ix3 i p q) = u (ix2 p (feat i q)) := by
  pointwise [Cert.Reference13Ideal.RefValue.tile, feat]

theorem ref_hb (x g) (p : Fin 8192) (k : Fin 1024) :
    Cert.Reference13Ideal.RefValue.hb x g (ix2 p k) = normed x g p k := by
  pointwise [Cert.Reference13Ideal.RefValue.hb, normed, Cert.Rms.R, Cert.Rms.ms]

/-! The features that a point leaves, whichever point it is. -/

theorem out_a (c : Dev nD) (t : Fin cfg0.N) (j) :
    (outsAt0 m c t.val t.isLt).2.2.1 j = up (k0_pay3 (iblk m c 0 t) (iblk m c 1 t)) (iblk m c 2 t) j := by
  by_cases h0 : t.val % 11 = 0
  · exact a_A m c t h0 j
  by_cases h2 : t.val % 11 = 10
  · rw [a_C m c t h2 j, prior_hs m c t h0]
  · rw [a_B m c t h0 h2 j, prior_hs m c t h0]

theorem out_b (c : Dev nD) (t : Fin cfg0.N) (j) :
    (outsAt0 m c t.val t.isLt).2.2.2.1 j = up (k0_pay3 (iblk m c 0 t) (iblk m c 1 t)) (iblk m c 3 t) j := by
  by_cases h0 : t.val % 11 = 0
  · exact b_A m c t h0 j
  by_cases h2 : t.val % 11 = 10
  · rw [b_C m c t h2 j, prior_hs m c t h0]
  · rw [b_B m c t h0 h2 j, prior_hs m c t h0]

theorem out_u (c : Dev nD) (t : Fin cfg0.N) (j) :
    (outsAt0 m c t.val t.isLt).2.2.2.2.1 j = gated (k0_pay3 (iblk m c 0 t) (iblk m c 1 t)) (iblk m c 2 t) (iblk m c 3 t) j := by
  by_cases h0 : t.val % 11 = 0
  · exact u_A m c t h0 j
  by_cases h2 : t.val % 11 = 10
  · rw [u_C m c t h2 j, prior_hs m c t h0]
  · rw [u_B m c t h0 h2 j, prior_hs m c t h0]

/-- The first product, whole. -/
theorem final_a (c : Dev nD) :
    (dats m 0 c).arrAt 7 (cfgs 0).N = Cert.Reference13Ideal.RefValue.tile (Cert.Reference13Ideal.RefValue.pa (m ((c.tc : Thread nD τ).loc main_arg0)) (m ((c.tc : Thread nD τ).loc main_arg1)) (m ((c.tc : Thread nD τ).loc main_arg2))) := by
  refine (dats m 0 c).arrAt_eq_of_covers 7 _ (by decide +kernel) fun t hf y => ?_
  blk_simp
  rw [after0_7, out_a]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_7.blk t).view.emb (ix3 0 p q) = ix3 (lane t) (row t p) q := by
    blk_ext [idx t, row, lane]
  refine Eq.trans ?_ (congrArg _ hj.symm)
  rw [ref_tile, ref_pa]
  exact up1_at m c t p q

/-- The second product, whole. -/
theorem final_b (c : Dev nD) :
    (dats m 0 c).arrAt 8 (cfgs 0).N = Cert.Reference13Ideal.RefValue.tile (Cert.Reference13Ideal.RefValue.pb (m ((c.tc : Thread nD τ).loc main_arg0)) (m ((c.tc : Thread nD τ).loc main_arg1)) (m ((c.tc : Thread nD τ).loc main_arg3))) := by
  refine (dats m 0 c).arrAt_eq_of_covers 8 _ (by decide +kernel) fun t hf y => ?_
  blk_simp
  rw [after0_8, out_b]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_8.blk t).view.emb (ix3 0 p q) = ix3 (lane t) (row t p) q := by
    blk_ext [idx t, row, lane]
  refine Eq.trans ?_ (congrArg _ hj.symm)
  rw [ref_tile, ref_pb]
  exact up3_at m c t p q

/-- The halved gated features, whole. -/
theorem final_u (c : Dev nD) :
    (dats m 0 c).arrAt 9 (cfgs 0).N = Cert.Reference13Ideal.RefValue.tile (Cert.Reference13Ideal.RefValue.halved (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 9 _ (by decide +kernel) fun t hf y => ?_
  blk_simp
  rw [after0_9, out_u]
  obtain ⟨i, p, q, rfl⟩ : ∃ (i : Fin 1) (p : Fin 1024) (q : Fin 256), y = ix3 i p q := ⟨y 0, y 1, y 2, eq_ix3 y⟩
  obtain rfl : i = 0 := Subsingleton.elim _ _
  have hj : (win0_9.blk t).view.emb (ix3 0 p q) = ix3 (lane t) (row t p) q := by
    blk_ext [idx t, row, lane]
  refine Eq.trans ?_ (congrArg _ hj.symm)
  rw [ref_tile, ref_halved]
  exact gated_at m c t p q

/-- The normalised rows, whole. -/
theorem final_h (c : Dev nD) :
    (dats m 0 c).arrAt 6 (cfgs 0).N = Cert.Reference13Ideal.RefValue.hb (m ((c.tc : Thread nD τ).loc main_arg0)) (m ((c.tc : Thread nD τ).loc main_arg1)) := by
  refine (dats m 0 c).arrAt_eq_of_covers 6 _ (by decide +kernel) fun t hf y => ?_
  blk_simp
  rw [after0_6, (keeps m c _ t rfl).2]
  obtain ⟨p, q, rfl⟩ : ∃ (p q : Fin 1024), y = ix2 p q := ⟨y 0, y 1, eq_ix2 y⟩
  have hj : (win0_6.blk t).view.emb (ix2 p q) = ix2 (row t p) q := by
    blk_ext [idx t, row]
  refine Eq.trans ?_ (congrArg _ hj.symm)
  rw [ref_hb]
  exact norm_at m c t p q

end Cert.Kernel13Ideal.RefValue

end
-- ==== Proof.FfnFwdRows.lean ====
module

public import proofs.«01_k».proof.Proof.FfnFwdFeatures
public import Idealize.ShloMosaic.Lib.Pipeline.ValueKit
public import Idealize.ShloMosaic.Lib.Pipeline.ReadBack

/-!
# The SwiGLU half-step: the rows after the half-step

Over the eleven points of a row tile the sums grow by the contribution of 256 features each. The kernel halves each gated feature, the
reference halves the sum: one half is a nonnegative real, so it goes into a sum over the extended reals.
-/

@[expose] public section

set_option maxRecDepth 16384

noncomputable section

open Idealize.ShloMosaic Idealize.ShloMosaic.TcCoe Idealize.SL.Sem
open Idealize.ShloMosaic.Pipeline (Dat)

namespace Cert.Kernel13Ideal.RefValue

open Cert.Kernel13Ideal Cert.Kernel13Ideal.Gen

variable (m : (ℓ : Loc nD τ sig) → Buf (Elt Ideal) ℓ)

/-- What point `t` adds to the sums. -/
def adds (c : Dev nD) (t : Fin cfg0.N) (j : S1024x1024.Idx) : EReal :=
  part (k0_pay3 (iblk m c 0 t) (iblk m c 1 t)) (iblk m c 2 t) (iblk m c 3 t) (iblk m c 4 t) j

theorem acc_start (c : Dev nD) (t : Fin cfg0.N) (h0 : t.val % 11 = 0) (j) :
    (outsAt0 m c t.val t.isLt).2.2.2.2.2.1 j = 0 + adds m c t j :=
  acc_A m c t h0 j

theorem acc_step (c : Dev nD) (t : Fin cfg0.N) (h0 : ¬t.val % 11 = 0) (j) :
    (outsAt0 m c t.val t.isLt).2.2.2.2.2.1 j = (prior m c t).2.2.2.2.2.1 j + adds m c t j := by
  unfold adds
  by_cases h2 : t.val % 11 = 10
  · rw [acc_C m c t h2 j, prior_hs m c t h0]
  · rw [acc_B m c t h0 h2 j, prior_hs m c t h0]

/-- One halved gated feature's part of a row. -/
def term (x : FVec Ideal S8192x1024 .f32) (g : FVec Ideal S1x1024 .f32) (w1 w3 w2 : FVec Ideal S2816x1024 .bf16) (p : Fin 8192) (q : Fin 1024) (f : Fin 2816) : EReal :=
  Ideal.ofBits .f32 0x3F000000#32 * gate x g w1 w3 p f * w2 (ix2 f q)

/-- One tile of features' contribution. -/
theorem adds_at (c : Dev nD) (t : Fin cfg0.N) (p q : Fin 1024) :
    adds m c t (ix2 p q) = ∑ f : Fin 256, term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t p) q (feat (lane t) f) := by
  unfold adds part term
  refine Finset.sum_congr rfl fun f _ => congrArg₂ (· * ·) ?_ ?_
  · exact gated_at m c t p f
  · exact w2_at m c t f q

/-- The reference's rows after the half-step. -/
theorem ref_y (x0 x1 x2 x3 x4) (p : Fin 8192) (q : Fin 1024) :
    Cert.Reference13Ideal.RefValue.y x0 x1 x2 x3 x4 (ix2 p q) = x0 (ix2 p q) + ∑ f : Fin 2816, term x0 x1 x2 x3 x4 p q f := by
  have h : Cert.Reference13Ideal.RefValue.y x0 x1 x2 x3 x4 (ix2 p q)
      = x0 (ix2 p q) + Ideal.ofBits .f32 0x3F000000#32 * ∑ f : Fin 2816, gate x0 x1 x2 x3 p f * x4 (ix2 f q) := by
    simp only [← ref_gated]
    generalize hG : Cert.Reference13Ideal.RefValue.gated x0 x1 x2 x3 = G
    unfold Cert.Reference13Ideal.RefValue.y
    rw [hG]
    pointwise []
  rw [h]
  refine congrArg (_ + ·) ?_
  unfold term
  rw [Cert.Ffn.half_eq, mul_comm, ← Cert.Rms.sum_mul_real _ _ _ (by norm_num)]
  exact Finset.sum_congr rfl fun f _ => by rw [mul_comm, mul_assoc]

/-- The sums a point leaves. -/
abbrev accAt (c : Dev nD) (t : Fin cfg0.N) : FVec Ideal S1024x1024 .f32 := (outsAt0 m c t.val t.isLt).2.2.2.2.2.1

/-- A row and its sums together. -/
def plus (x u : FVec Ideal S1024x1024 .f32) (p q : Fin 1024) : EReal := x (ix2 p q) + u (ix2 p q)

/-- At the last point of a row tile the rows and the sums together are the reference's rows after the half-step. -/
theorem y_last (c : Dev nD) (t : Fin cfg0.N) (h2 : t.val % 11 = 10) (p q : Fin 1024) :
    plus (iblk m c 0 t) (accAt m c t) p q = Cert.Reference13Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (row t p) q) := by
  rw [ref_y]
  unfold plus
  refine congrArg₂ (· + ·) (x_at m c t p q) ?_
  unfold accAt
  rw [Pipeline.eq_sum_fin_of_reset_step_apply_of_flush (fun n h => (outsAt0 m c n h).2.2.2.2.2.1) 11 (fun _ => 0) (adds m c)
      (fun t h j => acc_start m c t h j) (fun t h j => acc_step m c t h j) t h2 (ix2 p q), zero_add]
  simp only [adds_at m]
  have hr : ∀ (s : Fin 11) (hs), row (⟨11 * (t.val / 11) + s.val, hs⟩ : Fin cfg0.N) p = row t p := fun s hs => by
    refine Fin.ext ?_
    show (11 * (t.val / 11) + s.val) / 11 * 1024 + p.val = t.val / 11 * 1024 + p.val
    have : (11 * (t.val / 11) + s.val) / 11 = t.val / 11 := by omega
    rw [this]
  have hl : ∀ (s : Fin 11) (hs), lane (⟨11 * (t.val / 11) + s.val, hs⟩ : Fin cfg0.N) = s := fun s hs => by
    refine Fin.ext ?_
    show (11 * (t.val / 11) + s.val) % 11 = s.val
    omega
  simp only [hr, hl]
  refine Fin.sum_mul_add_congr fun s k hl => ?_
  rfl

/-- The rows and the sums together, at an index. -/
theorem pay_y (x u : FVec Ideal S1024x1024 .f32) (p q : Fin 1024) : k0_pay2 (F := Ideal) x u (ix2 p q) = plus x u p q := by
  pointwise [k0_pay2, plus]

/-- The rows are written back at the last point of a row tile. -/
theorem flush_last : ∀ t : Fin cfg0.N, (cfg0.win 5).flush t = true → t.val % 11 = 10 :=
  (by decide +kernel : ∀ t : Fin grid0.N, _)

/-- The rows after the half-step, whole. -/
theorem final_y (c : Dev nD) :
    (dats m 0 c).arrAt 5 (cfgs 0).N = Cert.Reference13Ideal.RefValue.y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have h2 := flush_last t hf
  blk_simp
  rw [after0_5, y_C m c t h2]
  obtain ⟨p, q, rfl⟩ : ∃ (p q : Fin 1024), y = ix2 p q := ⟨y 0, y 1, eq_ix2 y⟩
  have hj : (win0_5.blk t).view.emb (ix2 p q) = ix2 (row t p) q := by
    blk_ext [idx t, row]
  rw [pay_y]
  refine Eq.trans ?_ (congrArg _ hj.symm)
  exact y_last m c t h2 p q

end Cert.Kernel13Ideal.RefValue

end
-- ==== Proof.FfnFwdClaim.lean ====
module

public import proofs.«01_k».proof.Defs
public import proofs.«01_k».proof.Proof.Gen.Kernel13.Frame
public import proofs.«01_k».proof.Proof.Gen.Reference13Ideal.Run
public import proofs.«01_k».proof.Proof.FfnFwdRows
public import Idealize.ShloMosaic.Adequacy
public import Idealize.ShloMosaic.Init
public import Idealize.ShloMosaic.Lib.Claim

/-!
# The claims of the SwiGLU half-step

The device's program is the idealised one at the device's floats, so its frame is the same run.
-/

@[expose] public section

set_option maxRecDepth 16384

noncomputable section

namespace Cert.Proof

open Idealize.ShloMosaic Idealize.ShloMosaic.TcCoe Idealize.SL.Sem

/-- The kernel runs to its end and leaves its arguments, at the device's floats. -/
theorem frame_kernel13 : Cert.quiescent_Kernel13 := by
  have e : Cert.quiescent_Kernel13 = (∀ (m : (ℓ : Loc Cert.Kernel13Ideal.nD Cert.Kernel13Ideal.τ Cert.Kernel13Ideal.sig) → Buf (Elt Bits) ℓ)
      (g : Dev Cert.Kernel13Ideal.nD → PrngReg), True →
      θ_run (Cert.Kernel13Ideal.defs (F := Bits)) (onTc (τ := Cert.Kernel13Ideal.τ) (Cert.Kernel13Ideal.main (F := Bits))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)) := by sl_kernel_rfl
  rw [e]
  exact fun m ρ _ => Cert.Kernel13Ideal.Gen.frame (F := Bits) m ρ

/-- So does its idealisation. -/
theorem frame_kernel13_ideal : Cert.quiescent_Kernel13Ideal := fun m ρ _ => Cert.Kernel13Ideal.Gen.frame m ρ

/-- The half-step runs and leaves its arguments; it has no counters. -/
theorem frame_reference13 : Cert.quiescent_Reference13Ideal := by
  intro m ρ _
  exact (θ_run Cert.Reference13Ideal.defs _ _).mono (fun r h => ⟨fun c => (h c).2.2.2.2.2,
    sem_eq_zero_of_no_sems (by decide) r.2⟩) (Cert.Reference13Ideal.RefValue.run m ρ)

set_option maxHeartbeats 4000000 in
/-- The kernel computes the rows after the half-step, and what the half-step saves for its derivative. -/
theorem value13 : Cert.algebraic_Kernel13Ideal_Reference13Ideal := by
  pair_intro
  · run_from Cert.Kernel13Ideal.Gen.run_main m g
  · refine Idealize.ShloMosaic.θ_run_mono (Cert.Reference13Ideal.RefValue.run m' g') ?_
    intro r hr c
    obtain ⟨h0, h1, h2, h3, h4, ha⟩ := hr c
    obtain ⟨a0, a1, a2, a3, a4⟩ := hagree c
    refine ⟨h0.trans ?_, h1.trans ?_, h2.trans ?_, h3.trans ?_, h4.trans ?_, ha⟩
    · rw [a0, a1, a2, a3, a4]
      exact (Cert.Kernel13Ideal.RefValue.final_y m c).symm
    · rw [a0, a1]
      exact (Cert.Kernel13Ideal.RefValue.final_h m c).symm
    · rw [a0, a1, a2]
      exact (Cert.Kernel13Ideal.RefValue.final_a m c).symm
    · rw [a0, a1, a3]
      exact (Cert.Kernel13Ideal.RefValue.final_b m c).symm
    · rw [a0, a1, a2, a3]
      exact (Cert.Kernel13Ideal.RefValue.final_u m c).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel3.Launch
public import proofs.«01_k».proof.Proof.Gen.Kernel3Ideal.Launch
public import proofs.«01_k».proof.Proof.Gen.Reference3Ideal.Run
public import proofs.«01_k».proof.Proof.Gen.Kernel12.Launch
public import proofs.«01_k».proof.Proof.Gen.Kernel12Ideal.Launch
public import proofs.«01_k».proof.Proof.Gen.Reference12Ideal.Run
public import proofs.«01_k».proof.Proof.Gen.Kernel13.Launch
public import proofs.«01_k».proof.Proof.Gen.Kernel13Ideal.Launch
public import proofs.«01_k».proof.Proof.Gen.Reference13Ideal.Run
public import proofs.«01_k».proof.Proof.MergeClaim
public import proofs.«01_k».proof.Proof.TnClaim
public import proofs.«01_k».proof.Proof.Adam8Claim
public import proofs.«01_k».proof.Proof.Adam9Claim
public import proofs.«01_k».proof.Proof.Adam10Claim
public import proofs.«01_k».proof.Proof.Adam11Claim
public import proofs.«01_k».proof.Proof.FwdMergeClaim
public import proofs.«01_k».proof.Proof.StackClaim
public import proofs.«01_k».proof.Proof.ProjBackClaim
public import proofs.«01_k».proof.Proof.FwdProjClaim
public import proofs.«01_k».proof.Proof.FfnBackClaim
public import proofs.«01_k».proof.Proof.FfnLossClaim
public import proofs.«01_k».proof.Proof.FfnFwdClaim

/-!
# The claims, from the runs and the values of the parts
-/

@[expose] public section

noncomputable section

namespace Cert.Proof

open Idealize.ShloMosaic Idealize.SL.Sem

/-- What is claimed of every call. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel7.Gen.facts, Cert.Kernel7Ideal.Gen.facts, Cert.Reference7Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel3.Gen.facts, Cert.Kernel3Ideal.Gen.facts, Cert.Reference3Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel7.Gen.frame m ρ, fun m ρ _ => Cert.Kernel7Ideal.Gen.frame m ρ, frame_reference7,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    frame_kernel3, frame_kernel3_ideal, frame_kernel3_finite, frame_reference3, frame_reference3_finite,
    frame_kernel12, frame_kernel12_ideal, frame_reference12,
    frame_kernel13, frame_kernel13_ideal, frame_reference13,
    trivial, value,
    trivial, value2,
    trivial, value8,
    trivial, value9,
    trivial, value10,
    trivial, value11,
    trivial, value7,
    trivial, value4,
    trivial, value5,
    trivial, value6,
    trivial, value3,
    trivial, value12,
    trivial, value13⟩

end Cert.Proof

end
